-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x5120 : Shape := ⟨3, ![2, 1024, 5120]⟩
abbrev S2x1024x40 : Shape := ⟨3, ![2, 1024, 40]⟩
abbrev S2x1024 : Shape := ⟨2, ![2, 1024]⟩
abbrev S2x1024x16 : Shape := ⟨3, ![2, 1024, 16]⟩
abbrev S5120x16 : Shape := ⟨2, ![5120, 16]⟩
abbrev S5120 : Shape := ⟨1, ![5120]⟩
abbrev S2x4x5120x16 : Shape := ⟨4, ![2, 4, 5120, 16]⟩
abbrev S2x1024x1 : Shape := ⟨3, ![2, 1024, 1]⟩
abbrev S2x1024x3 : Shape := ⟨3, ![2, 1024, 3]⟩
abbrev S2x1024x5x8 : Shape := ⟨4, ![2, 1024, 5, 8]⟩
abbrev S2x5x1024x8 : Shape := ⟨4, ![2, 5, 1024, 8]⟩
abbrev S16x5120 : Shape := ⟨2, ![16, 5120]⟩
abbrev S16x5x8x128 : Shape := ⟨4, ![16, 5, 8, 128]⟩
abbrev S2x4x16x5120 : Shape := ⟨4, ![2, 4, 16, 5120]⟩
abbrev S2x4x16x5x8x128 : Shape := ⟨6, ![2, 4, 16, 5, 8, 128]⟩
abbrev S1x5120 : Shape := ⟨2, ![1, 5120]⟩
abbrev S2x128x128 : Shape := ⟨3, ![2, 128, 128]⟩
abbrev S5x8x128 : Shape := ⟨3, ![5, 8, 128]⟩
abbrev S1x256x1024 : Shape := ⟨3, ![1, 256, 1024]⟩
abbrev S1x1x256x8 : Shape := ⟨4, ![1, 1, 256, 8]⟩
abbrev S1x256x3 : Shape := ⟨3, ![1, 256, 3]⟩
abbrev S1x256x16 : Shape := ⟨3, ![1, 256, 16]⟩
abbrev S16x1x8x128 : Shape := ⟨4, ![16, 1, 8, 128]⟩
abbrev S1x1024 : Shape := ⟨2, ![1, 1024]⟩
abbrev S1x1x16x1x8x128 : Shape := ⟨6, ![1, 1, 16, 1, 8, 128]⟩
abbrev S1x32x128 : Shape := ⟨3, ![1, 32, 128]⟩
abbrev S37008x128 : Shape := ⟨2, ![37008, 128]⟩
abbrev S32768x128 : Shape := ⟨2, ![32768, 128]⟩
abbrev S4096x128 : Shape := ⟨2, ![4096, 128]⟩
abbrev S576x128 : Shape := ⟨2, ![576, 128]⟩
abbrev S2080x128 : Shape := ⟨2, ![2080, 128]⟩
abbrev S5x16x8x128 : Shape := ⟨4, ![5, 16, 8, 128]⟩
abbrev S16x8x128 : Shape := ⟨3, ![16, 8, 128]⟩
abbrev S8x128 : Shape := ⟨2, ![8, 128]⟩
abbrev S1x8x128 : Shape := ⟨3, ![1, 8, 128]⟩
abbrev S1x16x8x128 : Shape := ⟨4, ![1, 16, 8, 128]⟩
abbrev S8x16x16 : Shape := ⟨3, ![8, 16, 16]⟩
abbrev S1x32x3 : Shape := ⟨3, ![1, 32, 3]⟩
abbrev S32x3 : Shape := ⟨2, ![32, 3]⟩
abbrev S1x32x16 : Shape := ⟨3, ![1, 32, 16]⟩
abbrev S32x16 : Shape := ⟨2, ![32, 16]⟩
abbrev S32x1 : Shape := ⟨2, ![32, 1]⟩
abbrev S8x16 : Shape := ⟨2, ![8, 16]⟩
abbrev S8x1x16 : Shape := ⟨3, ![8, 1, 16]⟩
abbrev S8x16x1 : Shape := ⟨3, ![8, 16, 1]⟩
abbrev S8x16x128 : Shape := ⟨3, ![8, 16, 128]⟩
abbrev S128x128 : Shape := ⟨2, ![128, 128]⟩
abbrev S32x128 : Shape := ⟨2, ![32, 128]⟩
abbrev S1x1x32x8 : Shape := ⟨4, ![1, 1, 32, 8]⟩
abbrev S32x8 : Shape := ⟨2, ![32, 8]⟩
abbrev S1x1x1x1x8x128 : Shape := ⟨6, ![1, 1, 1, 1, 8, 128]⟩
abbrev S1x1x8x128 : Shape := ⟨4, ![1, 1, 8, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 34
  | .vmem => 52
  | .smem => 0
  | _ => 0

abbrev bufTy : (tb : Table) → Fin (tcTables nBuf tb) → BufTy
  | .hbm, ⟨0, _⟩ => ⟨S2x1024x5120, .fp8e4m3⟩
  | .hbm, ⟨1, _⟩ => ⟨S2x1024x40, .f32⟩
  | .hbm, ⟨2, _⟩ => ⟨S2x1024x5120, .fp8e4m3⟩
  | .hbm, ⟨3, _⟩ => ⟨S2x1024, .f32⟩
  | .hbm, ⟨4, _⟩ => ⟨S2x1024x16, .fp8e4m3⟩
  | .hbm, ⟨5, _⟩ => ⟨S2x1024, .f32⟩
  | .hbm, ⟨6, _⟩ => ⟨S2x1024x16, .fp8e4m3⟩
  | .hbm, ⟨7, _⟩ => ⟨S2x1024, .f32⟩
  | .hbm, ⟨8, _⟩ => ⟨S2x1024x5120, .bf16⟩
  | .hbm, ⟨9, _⟩ => ⟨S2x1024x5120, .fp8e5m2⟩
  | .hbm, ⟨10, _⟩ => ⟨S2x1024x40, .f32⟩
  | .hbm, ⟨11, _⟩ => ⟨S5120x16, .f32⟩
  | .hbm, ⟨12, _⟩ => ⟨S5120, .f32⟩
  | .hbm, ⟨13, _⟩ => ⟨S2x4x5120x16, .f32⟩
  | .hbm, ⟨14, _⟩ => ⟨S2x1024x1, .f32⟩
  | .hbm, ⟨15, _⟩ => ⟨S2x1024x1, .f32⟩
  | .hbm, ⟨16, _⟩ => ⟨S2x1024x1, .f32⟩
  | .hbm, ⟨17, _⟩ => ⟨S2x1024x3, .f32⟩
  | .hbm, ⟨18, _⟩ => ⟨S2x1024x5x8, .f32⟩
  | .hbm, ⟨19, _⟩ => ⟨S2x5x1024x8, .f32⟩
  | .hbm, ⟨20, _⟩ => ⟨S2x1024x5x8, .f32⟩
  | .hbm, ⟨21, _⟩ => ⟨S2x5x1024x8, .f32⟩
  | .hbm, ⟨22, _⟩ => ⟨S16x5120, .f32⟩
  | .hbm, ⟨23, _⟩ => ⟨S16x5x8x128, .f32⟩
  | .hbm, ⟨24, _⟩ => ⟨S2x4x16x5120, .f32⟩
  | .hbm, ⟨25, _⟩ => ⟨S2x4x16x5x8x128, .f32⟩
  | .hbm, ⟨26, _⟩ => ⟨S1x5120, .f32⟩
  | .hbm, ⟨27, _⟩ => ⟨S2x1024x5120, .bf16⟩
  | .hbm, ⟨28, _⟩ => ⟨S2x1024x5120, .bf16⟩
  | .hbm, ⟨29, _⟩ => ⟨S2x1024x5120, .bf16⟩
  | .hbm, ⟨30, _⟩ => ⟨S2x128x128, .f32⟩
  | .hbm, ⟨31, _⟩ => ⟨S2x128x128, .f32⟩
  | .hbm, ⟨32, _⟩ => ⟨S16x5x8x128, .f32⟩
  | .hbm, ⟨33, _⟩ => ⟨S5x8x128, .f32⟩
  | .local _ .vmem, ⟨0, _⟩ => ⟨S1x256x1024, .fp8e4m3⟩
  | .local _ .vmem, ⟨1, _⟩ => ⟨S1x256x1024, .fp8e4m3⟩
  | .local _ .vmem, ⟨2, _⟩ => ⟨S1x1x256x8, .f32⟩
  | .local _ .vmem, ⟨3, _⟩ => ⟨S1x1x256x8, .f32⟩
  | .local _ .vmem, ⟨4, _⟩ => ⟨S1x256x1024, .fp8e4m3⟩
  | .local _ .vmem, ⟨5, _⟩ => ⟨S1x256x1024, .fp8e4m3⟩
  | .local _ .vmem, ⟨6, _⟩ => ⟨S1x256x3, .f32⟩
  | .local _ .vmem, ⟨7, _⟩ => ⟨S1x256x3, .f32⟩
  | .local _ .vmem, ⟨8, _⟩ => ⟨S1x256x16, .fp8e4m3⟩
  | .local _ .vmem, ⟨9, _⟩ => ⟨S1x256x16, .fp8e4m3⟩
  | .local _ .vmem, ⟨10, _⟩ => ⟨S1x256x16, .fp8e4m3⟩
  | .local _ .vmem, ⟨11, _⟩ => ⟨S1x256x16, .fp8e4m3⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .fp8e5m2⟩
  | .local _ .vmem, ⟨15, _⟩ => ⟨S1x256x1024, .fp8e5m2⟩
  | .local _ .vmem, ⟨16, _⟩ => ⟨S1x1x256x8, .f32⟩
  | .local _ .vmem, ⟨17, _⟩ => ⟨S1x1x256x8, .f32⟩
  | .local _ .vmem, ⟨18, _⟩ => ⟨S16x1x8x128, .f32⟩
  | .local _ .vmem, ⟨19, _⟩ => ⟨S16x1x8x128, .f32⟩
  | .local _ .vmem, ⟨20, _⟩ => ⟨S1x1024, .f32⟩
  | .local _ .vmem, ⟨21, _⟩ => ⟨S1x1024, .f32⟩
  | .local _ .vmem, ⟨22, _⟩ => ⟨S1x1x16x1x8x128, .f32⟩
  | .local _ .vmem, ⟨23, _⟩ => ⟨S1x1x16x1x8x128, .f32⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x32x128, .f32⟩
  | .local _ .vmem, ⟨31, _⟩ => ⟨S1x32x128, .f32⟩
  | .local _ .vmem, ⟨32, _⟩ => ⟨S1x32x128, .f32⟩
  | .local _ .vmem, ⟨33, _⟩ => ⟨S1x32x128, .f32⟩
  | .local _ .vmem, ⟨34, _⟩ => ⟨S16x5x8x128, .f32⟩
  | .local _ .vmem, ⟨35, _⟩ => ⟨S5x8x128, .f32⟩
  | .local _ .vmem, ⟨36, _⟩ => ⟨S37008x128, .f32⟩
  | .local _ .vmem, ⟨37, _⟩ => ⟨S32768x128, .f32⟩
  | .local _ .vmem, ⟨38, _⟩ => ⟨S4096x128, .f32⟩
  | .local _ .vmem, ⟨39, _⟩ => ⟨S4096x128, .f32⟩
  | .local _ .vmem, ⟨40, _⟩ => ⟨S4096x128, .f32⟩
  | .local _ .vmem, ⟨41, _⟩ => ⟨S4096x128, .f32⟩
  | .local _ .vmem, ⟨42, _⟩ => ⟨S576x128, .f32⟩
  | .local _ .vmem, ⟨43, _⟩ => ⟨S2080x128, .f32⟩
  | .local _ .vmem, ⟨44, _⟩ => ⟨S2080x128, .f32⟩
  | .local _ .vmem, ⟨45, _⟩ => ⟨S2080x128, .f32⟩
  | .local _ .vmem, ⟨46, _⟩ => ⟨S2080x128, .f32⟩
  | .local _ .vmem, ⟨47, _⟩ => ⟨S2080x128, .f32⟩
  | .local _ .vmem, ⟨48, _⟩ => ⟨S2080x128, .f32⟩
  | .local _ .vmem, ⟨49, _⟩ => ⟨S2080x128, .f32⟩
  | .local _ .vmem, ⟨50, _⟩ => ⟨S2080x128, .f32⟩
  | .local _ .vmem, ⟨51, _⟩ => ⟨S5x16x8x128, .f32⟩
  | _, _ => ⟨S2x1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v13_4 : Ref sig .tc := ⟨.hbm, 31, rfl⟩
abbrev main_v13_5 : Ref sig .tc := ⟨.hbm, 32, rfl⟩
abbrev main_v13_6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_scratch9 : Ref sig .tc := ⟨.vmem, 45, rfl⟩
abbrev cc0_scratch10 : Ref sig .tc := ⟨.vmem, 46, rfl⟩
abbrev cc0_scratch11 : Ref sig .tc := ⟨.vmem, 47, rfl⟩
abbrev cc0_scratch12 : Ref sig .tc := ⟨.vmem, 48, rfl⟩
abbrev cc0_scratch13 : Ref sig .tc := ⟨.vmem, 49, rfl⟩
abbrev cc0_scratch14 : Ref sig .tc := ⟨.vmem, 50, rfl⟩
abbrev cc0_scratch15 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35

abbrev nD : Nat := 1
abbrev τ : Topo := Topo.v7x

variable {F : FTy → Type} [FloatOps F]

abbrev grid0 : Pipeline.Grid := ⟨3, ![2, 4, 5], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (i : grid0.Coords) : Fin 4 → Nat :=
  let c0_410 : Index := 0#32
  let arg2 : BitVec 32 := BitVec.ofNat 32 (i 2).val
  let v364 : Index := Scalar.indexCast arg2
  let c0_411 : Index := 0#32
  let c0_412 : Index := 0#32
  ![0, v364.toNat, 0, 0]
def k0_off2 (i : grid0.Coords) : Fin 3 → Nat :=
  let arg2 : BitVec 32 := BitVec.ofNat 32 (i 2).val
  let v369 : Index := Scalar.indexCast arg2
  let c0_414 : Index := 0#32
  let c0_415 : Index := 0#32
  ![v369.toNat, 0, 0]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off3 (i : grid0.Coords) : Fin 4 → Nat :=
  let arg2 : BitVec 32 := BitVec.ofNat 32 (i 2).val
  let v364 : Index := Scalar.indexCast arg2
  let c0_410 : Index := 0#32
  let c0_411 : Index := 0#32
  let c0_412 : Index := 0#32
  ![v364.toNat, 0, 0, 0]
def k0_cond3 (i : grid0.Coords) : BitVec 1 :=
  let arg2 : BitVec 32 := BitVec.ofNat 32 (i 2).val
  let c0_i32_4 : BitVec 32 := 0#32
  let v8 : BitVec 1 := Scalar.cmpi .eq arg2 c0_i32_4
  let v9 : BitVec 32 := Scalar.extui v8
  let c0_i32_5 : BitVec 32 := 0#32
  let v10 : BitVec 1 := Scalar.cmpi .ne v9 c0_i32_5
  v10

@[reducible] def k0_t1_loop : Scf.Loop 32 :=
  let c0_i32_410 : BitVec 32 := 0#32
  let c8_i32_411 : BitVec 32 := 8#32
  let v366 : BitVec 32 := Scalar.addi c0_i32_410 c8_i32_411
  let c1_i32_412 : BitVec 32 := 1#32
  ⟨c0_i32_410, v366, c1_i32_412⟩
def k0_mult1 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  v375
def k0_off4 (k0_t1 : Fin k0_t1_loop.trips) : Fin 3 → Nat :=
  let c0_419 : Index := 0#32
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let v377 : Index := Scalar.indexCast v376
  let c0_420 : Index := 0#32
  ![0, v377.toNat, 0]
def k0_off5 (k0_t1 : Fin k0_t1_loop.trips) : Fin 3 → Nat :=
  let c0_421 : Index := 0#32
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let v380 : Index := Scalar.indexCast v376
  let c0_422 : Index := 0#32
  ![0, v380.toNat, 0]
def k0_mult2 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let c0_i32_425 : BitVec 32 := 0#32
  let v398 : BitVec 32 := Scalar.addi v376 c0_i32_425
  let c16_i32 : BitVec 32 := 16#32
  let v399 : BitVec 32 := Scalar.muli v398 c16_i32
  v399
def k0_off6 (k0_t1 : Fin k0_t1_loop.trips) (c0_i32_425 : BitVec 32) : Fin 2 → Nat :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let v398 : BitVec 32 := Scalar.addi v376 c0_i32_425
  let c16_i32 : BitVec 32 := 16#32
  let v399 : BitVec 32 := Scalar.muli v398 c16_i32
  let v400 : BitVec 32 := v399
  let v401 : Index := Scalar.indexCast v400
  let c0_426 : Index := 0#32
  ![v401.toNat, 0]
def k0_mult3 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let c8_i32_429 : BitVec 32 := 8#32
  let v416 : BitVec 32 := Scalar.addi v376 c8_i32_429
  let c16_i32_430 : BitVec 32 := 16#32
  let v417 : BitVec 32 := Scalar.muli v416 c16_i32_430
  v417
def k0_mult4 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let c16_i32_434 : BitVec 32 := 16#32
  let v434 : BitVec 32 := Scalar.addi v376 c16_i32_434
  let c16_i32_435 : BitVec 32 := 16#32
  let v435 : BitVec 32 := Scalar.muli v434 c16_i32_435
  v435
def k0_mult5 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let c24_i32 : BitVec 32 := 24#32
  let v452 : BitVec 32 := Scalar.addi v376 c24_i32
  let c16_i32_439 : BitVec 32 := 16#32
  let v453 : BitVec 32 := Scalar.muli v452 c16_i32_439
  v453
def k0_mult6 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let c0_i32_445 : BitVec 32 := 0#32
  let v477 : BitVec 32 := Scalar.addi v376 c0_i32_445
  let c16_i32_446 : BitVec 32 := 16#32
  let v478 : BitVec 32 := Scalar.muli v477 c16_i32_446
  v478
def k0_mult7 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let c8_i32_450 : BitVec 32 := 8#32
  let v495 : BitVec 32 := Scalar.addi v376 c8_i32_450
  let c16_i32_451 : BitVec 32 := 16#32
  let v496 : BitVec 32 := Scalar.muli v495 c16_i32_451
  v496
def k0_mult8 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let c16_i32_455 : BitVec 32 := 16#32
  let v513 : BitVec 32 := Scalar.addi v376 c16_i32_455
  let c16_i32_456 : BitVec 32 := 16#32
  let v514 : BitVec 32 := Scalar.muli v513 c16_i32_456
  v514
def k0_mult9 (k0_t1 : Fin k0_t1_loop.trips) : BitVec 32 :=
  let c0_i32_410 : BitVec 32 := 0#32
  let c1_i32_412 : BitVec 32 := 1#32
  let arg38 : BitVec 32 := Scf.iv c0_i32_410 c1_i32_412 k0_t1
  let c32_i32 : BitVec 32 := 32#32
  let v375 : BitVec 32 := Scalar.muli arg38 c32_i32
  let v376 : BitVec 32 := v375
  let c24_i32_460 : BitVec 32 := 24#32
  let v531 : BitVec 32 := Scalar.addi v376 c24_i32_460
  let c16_i32_461 : BitVec 32 := 16#32
  let v532 : BitVec 32 := Scalar.muli v531 c16_i32_461
  v532
@[reducible] def k0_t2_loop : Scf.Loop 32 :=
  let c0_i32_6 : BitVec 32 := 0#32
  let c8_i32 : BitVec 32 := 8#32
  let v11 : BitVec 32 := Scalar.addi c0_i32_6 c8_i32
  let c1_i32 : BitVec 32 := 1#32
  ⟨c0_i32_6, v11, c1_i32⟩
def k0_mult10 (k0_t2 : Fin k0_t2_loop.trips) : BitVec 32 :=
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  v363
def k0_off7 (k0_t2 : Fin k0_t2_loop.trips) : Fin 3 → Nat :=
  let c0_410 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v365 : Index := Scalar.indexCast v364
  let c0_411 : Index := 0#32
  ![0, v365.toNat, 0]
def k0_off8 (k0_t2 : Fin k0_t2_loop.trips) : Fin 4 → Nat :=
  let c0_412 : Index := 0#32
  let c0_413 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v371 : Index := Scalar.indexCast v364
  let c0_414 : Index := 0#32
  ![0, 0, v371.toNat, 0]
def k0_off9 (k0_t2 : Fin k0_t2_loop.trips) : Fin 3 → Nat :=
  let c0_419 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v378 : Index := Scalar.indexCast v364
  let c0_420 : Index := 0#32
  ![0, v378.toNat, 0]
def k0_off10 (k0_t2 : Fin k0_t2_loop.trips) (c0_i32_418 : BitVec 32) : Fin 2 → Nat :=
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v377 : BitVec 32 := Scalar.addi c0_i32_418 v364
  let v430 : Index := Scalar.indexCast v377
  let c0_436 : Index := 0#32
  ![v430.toNat, 0]
def k0_off11 (k0_t2 : Fin k0_t2_loop.trips) : Fin 3 → Nat :=
  let c0_443 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v460 : Index := Scalar.indexCast v364
  let c128 : Index := 128#32
  ![0, v460.toNat, 128]
def k0_off12 (k0_t2 : Fin k0_t2_loop.trips) : Fin 3 → Nat :=
  let c0_467 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v542 : Index := Scalar.indexCast v364
  let c256 : Index := 256#32
  ![0, v542.toNat, 256]
def k0_off13 (k0_t2 : Fin k0_t2_loop.trips) : Fin 3 → Nat :=
  let c0_491 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v624 : Index := Scalar.indexCast v364
  let c384 : Index := 384#32
  ![0, v624.toNat, 384]
def k0_off14 (k0_t2 : Fin k0_t2_loop.trips) : Fin 3 → Nat :=
  let c0_515 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v706 : Index := Scalar.indexCast v364
  let c512 : Index := 512#32
  ![0, v706.toNat, 512]
def k0_off15 (k0_t2 : Fin k0_t2_loop.trips) : Fin 3 → Nat :=
  let c0_539 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v788 : Index := Scalar.indexCast v364
  let c640 : Index := 640#32
  ![0, v788.toNat, 640]
def k0_off16 (k0_t2 : Fin k0_t2_loop.trips) : Fin 3 → Nat :=
  let c0_563 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v870 : Index := Scalar.indexCast v364
  let c768 : Index := 768#32
  ![0, v870.toNat, 768]
def k0_off17 (k0_t2 : Fin k0_t2_loop.trips) : Fin 3 → Nat :=
  let c0_587 : Index := 0#32
  let c0_i32_6 : BitVec 32 := 0#32
  let c1_i32 : BitVec 32 := 1#32
  let arg38 : BitVec 32 := Scf.iv c0_i32_6 c1_i32 k0_t2
  let c32_i32 : BitVec 32 := 32#32
  let v363 : BitVec 32 := Scalar.muli arg38 c32_i32
  let v364 : BitVec 32 := v363
  let v952 : Index := Scalar.indexCast v364
  let c896 : Index := 896#32
  ![0, v952.toNat, 896]
def k0_off18 (i : grid0.Coords) : Fin 3 → Nat :=
  let arg2 : BitVec 32 := BitVec.ofNat 32 (i 2).val
  let v124 : Index := Scalar.indexCast arg2
  let c0_202 : Index := 0#32
  let c0_203 : Index := 0#32
  ![v124.toNat, 0, 0]
@[reducible] def k0_t3_loop : Scf.Loop 32 :=
  let c0_i32_204 : BitVec 32 := 0#32
  let c64_i32 : BitVec 32 := 64#32
  let v127 : BitVec 32 := Scalar.addi c0_i32_204 c64_i32
  let c1_i32_205 : BitVec 32 := 1#32
  ⟨c0_i32_204, v127, c1_i32_205⟩
def k0_off19 (k0_t3 : Fin k0_t3_loop.trips) (c0_i32_411 : BitVec 32) : Fin 2 → Nat :=
  let c0_i32_204 : BitVec 32 := 0#32
  let c1_i32_205 : BitVec 32 := 1#32
  let arg38 : BitVec 32 := Scf.iv c0_i32_204 c1_i32_205 k0_t3
  let c4_i32_410 : BitVec 32 := 4#32
  let v363 : BitVec 32 := Scalar.muli arg38 c4_i32_410
  let v364 : BitVec 32 := Scalar.addi v363 c0_i32_411
  let v365 : Index := Scalar.indexCast v364
  let c0_412 : Index := 0#32
  ![v365.toNat, 0]
def k0_off20 (k0_t3 : Fin k0_t3_loop.trips) (c0_i32_411 : BitVec 32) (c0_i32_420 : BitVec 32) : Fin 2 → Nat :=
  let c0_i32_204 : BitVec 32 := 0#32
  let c1_i32_205 : BitVec 32 := 1#32
  let arg38 : BitVec 32 := Scf.iv c0_i32_204 c1_i32_205 k0_t3
  let c4_i32_410 : BitVec 32 := 4#32
  let v363 : BitVec 32 := Scalar.muli arg38 c4_i32_410
  let v364 : BitVec 32 := Scalar.addi v363 c0_i32_411
  let c16_i32 : BitVec 32 := 16#32
  let v382 : BitVec 32 := Scalar.muli v364 c16_i32
  let v383 : BitVec 32 := Scalar.addi v382 c0_i32_420
  let v384 : Index := Scalar.indexCast v383
  let c0_421 : Index := 0#32
  ![v384.toNat, 0]
def k0_off21 (k0_t3 : Fin k0_t3_loop.trips) (c0_i32_411 : BitVec 32) (c0_i32_425 : BitVec 32) : Fin 2 → Nat :=
  let c0_i32_204 : BitVec 32 := 0#32
  let c1_i32_205 : BitVec 32 := 1#32
  let arg38 : BitVec 32 := Scf.iv c0_i32_204 c1_i32_205 k0_t3
  let c4_i32_410 : BitVec 32 := 4#32
  let v363 : BitVec 32 := Scalar.muli arg38 c4_i32_410
  let v364 : BitVec 32 := Scalar.addi v363 c0_i32_411
  let c128_i32 : BitVec 32 := 128#32
  let v394 : BitVec 32 := Scalar.muli v364 c128_i32
  let v395 : BitVec 32 := Scalar.addi v394 c0_i32_425
  let v396 : Index := Scalar.indexCast v395
  let c0_426 : Index := 0#32
  ![v396.toNat, 0]
def k0_off22 (k0_t3 : Fin k0_t3_loop.trips) (c0_i32_411 : BitVec 32) (c0_i32_427 : BitVec 32) : Fin 2 → Nat :=
  let c0_i32_204 : BitVec 32 := 0#32
  let c1_i32_205 : BitVec 32 := 1#32
  let arg38 : BitVec 32 := Scf.iv c0_i32_204 c1_i32_205 k0_t3
  let c4_i32_410 : BitVec 32 := 4#32
  let v363 : BitVec 32 := Scalar.muli arg38 c4_i32_410
  let v364 : BitVec 32 := Scalar.addi v363 c0_i32_411
  let c1_i32_415 : BitVec 32 := 1#32
  let v374 : BitVec 32 := Scalar.addi v364 c1_i32_415
  let c144_i32 : BitVec 32 := 144#32
  let v375 : BitVec 32 := Scalar.muli v374 c144_i32
  let v400 : BitVec 32 := Scalar.addi v375 c0_i32_427
  let v401 : Index := Scalar.indexCast v400
  let c0_428 : Index := 0#32
  ![v401.toNat, 0]
def k0_off23 (k0_t3 : Fin k0_t3_loop.trips) (c0_i32_411 : BitVec 32) (c0_i32_634 : BitVec 32) : Fin 2 → Nat :=
  let c0_i32_204 : BitVec 32 := 0#32
  let c1_i32_205 : BitVec 32 := 1#32
  let arg38 : BitVec 32 := Scf.iv c0_i32_204 c1_i32_205 k0_t3
  let c4_i32_410 : BitVec 32 := 4#32
  let v363 : BitVec 32 := Scalar.muli arg38 c4_i32_410
  let v364 : BitVec 32 := Scalar.addi v363 c0_i32_411
  let c16_i32_633 : BitVec 32 := 16#32
  let v891 : BitVec 32 := Scalar.muli v364 c16_i32_633
  let v892 : BitVec 32 := Scalar.addi v891 c0_i32_634
  let v893 : Index := Scalar.indexCast v892
  let c0_635 : Index := 0#32
  ![v893.toNat, 0]
def k0_off24 (k0_t3 : Fin k0_t3_loop.trips) (c0_i32_411 : BitVec 32) (c0_i32_636 : BitVec 32) (c0_i32_637 : BitVec 32) : Fin 2 → Nat :=
  let c0_i32_204 : BitVec 32 := 0#32
  let c1_i32_205 : BitVec 32 := 1#32
  let arg38 : BitVec 32 := Scf.iv c0_i32_204 c1_i32_205 k0_t3
  let c4_i32_410 : BitVec 32 := 4#32
  let v363 : BitVec 32 := Scalar.muli arg38 c4_i32_410
  let v364 : BitVec 32 := Scalar.addi v363 c0_i32_411
  let c1_i32_415 : BitVec 32 := 1#32
  let v374 : BitVec 32 := Scalar.addi v364 c1_i32_415
  let c144_i32 : BitVec 32 := 144#32
  let v375 : BitVec 32 := Scalar.muli v374 c144_i32
  let v895 : BitVec 32 := Scalar.addi v375 c0_i32_636
  let v896 : BitVec 32 := Scalar.addi v895 c0_i32_637
  let v897 : Index := Scalar.indexCast v896
  let c0_638 : Index := 0#32
  ![v897.toNat, 0]
def k0_off25 (k0_t3 : Fin k0_t3_loop.trips) (c0_i32_639 : BitVec 32) (c0_i32_411 : BitVec 32) : Fin 2 → Nat :=
  let c0_i32_204 : BitVec 32 := 0#32
  let c1_i32_205 : BitVec 32 := 1#32
  let arg38 : BitVec 32 := Scf.iv c0_i32_204 c1_i32_205 k0_t3
  let c4_i32_410 : BitVec 32 := 4#32
  let v363 : BitVec 32 := Scalar.muli arg38 c4_i32_410
  let v364 : BitVec 32 := Scalar.addi v363 c0_i32_411
  let v899 : BitVec 32 := Scalar.addi c0_i32_639 v364
  let v900 : Index := Scalar.indexCast v899
  let c0_640 : Index := 0#32
  ![v900.toNat, 0]
def k0_off26 (i : grid0.Coords) : Fin 4 → Nat :=
  let arg2 : BitVec 32 := BitVec.ofNat 32 (i 2).val
  let v133 : Index := Scalar.indexCast arg2
  let c0_209 : Index := 0#32
  let c0_210 : Index := 0#32
  let c0_211 : Index := 0#32
  ![v133.toNat, 0, 0, 0]
def k0_off27 (i : grid0.Coords) : Fin 4 → Nat :=
  let arg2 : BitVec 32 := BitVec.ofNat 32 (i 2).val
  let v136 : Index := Scalar.indexCast arg2
  let c1_212 : Index := 1#32
  let c0_213 : Index := 0#32
  let c0_214 : Index := 0#32
  ![v136.toNat, 1, 0, 0]
def k0_off28 (i : grid0.Coords) : Fin 4 → Nat :=
  let arg2 : BitVec 32 := BitVec.ofNat 32 (i 2).val
  let v139 : Index := Scalar.indexCast arg2
  let c2_215 : Index := 2#32
  let c0_216 : Index := 0#32
  let c0_217 : Index := 0#32
  ![v139.toNat, 2, 0, 0]
def k0_off29 (i : grid0.Coords) : Fin 4 → Nat :=
  let arg2 : BitVec 32 := BitVec.ofNat 32 (i 2).val
  let v142 : Index := Scalar.indexCast arg2
  let c3_218 : Index := 3#32
  let c0_219 : Index := 0#32
  let c0_220 : Index := 0#32
  ![v142.toNat, 3, 0, 0]
def k0_off30 (i : grid0.Coords) : Fin 4 → Nat :=
  let arg2 : BitVec 32 := BitVec.ofNat 32 (i 2).val
  let v145 : Index := Scalar.indexCast arg2
  let c4_221 : Index := 4#32
  let c0_222 : Index := 0#32
  let c0_223 : Index := 0#32
  ![v145.toNat, 4, 0, 0]
def k0_off31 (i : grid0.Coords) : Fin 4 → Nat :=
  let arg2 : BitVec 32 := BitVec.ofNat 32 (i 2).val
  let v148 : Index := Scalar.indexCast arg2
  let c5_224 : Index := 5#32
  let c0_225 : Index := 0#32
  let c0_226 : Index := 0#32
  ![v148.toNat, 5, 0, 0]
def k0_off32 (i : grid0.Coords) : Fin 4 → Nat :=
  let arg2 : BitVec 32 := BitVec.ofNat 32 (i 2).val
  let v151 : Index := Scalar.indexCast arg2
  let c6_227 : Index := 6#32
  let c0_228 : Index := 0#32
  let c0_229 : Index := 0#32
  ![v151.toNat, 6, 0, 0]
def k0_off33 (i : grid0.Coords) : Fin 4 → Nat :=
  let arg2 : BitVec 32 := BitVec.ofNat 32 (i 2).val
  let v154 : Index := Scalar.indexCast arg2
  let c7_230 : Index := 7#32
  let c0_231 : Index := 0#32
  let c0_232 : Index := 0#32
  ![v154.toNat, 7, 0, 0]
def k0_off34 (i : grid0.Coords) : Fin 4 → Nat :=
  let arg2 : BitVec 32 := BitVec.ofNat 32 (i 2).val
  let v157 : Index := Scalar.indexCast arg2
  let c8_233 : Index := 8#32
  let c0_234 : Index := 0#32
  let c0_235 : Index := 0#32
  ![v157.toNat, 8, 0, 0]
def k0_off35 (i : grid0.Coords) : Fin 4 → Nat :=
  let arg2 : BitVec 32 := BitVec.ofNat 32 (i 2).val
  let v160 : Index := Scalar.indexCast arg2
  let c9_236 : Index := 9#32
  let c0_237 : Index := 0#32
  let c0_238 : Index := 0#32
  ![v160.toNat, 9, 0, 0]
def k0_off36 (i : grid0.Coords) : Fin 4 → Nat :=
  let arg2 : BitVec 32 := BitVec.ofNat 32 (i 2).val
  let v163 : Index := Scalar.indexCast arg2
  let c10_239 : Index := 10#32
  let c0_240 : Index := 0#32
  let c0_241 : Index := 0#32
  ![v163.toNat, 10, 0, 0]
def k0_off37 (i : grid0.Coords) : Fin 4 → Nat :=
  let arg2 : BitVec 32 := BitVec.ofNat 32 (i 2).val
  let v166 : Index := Scalar.indexCast arg2
  let c11_242 : Index := 11#32
  let c0_243 : Index := 0#32
  let c0_244 : Index := 0#32
  ![v166.toNat, 11, 0, 0]
def k0_off38 (i : grid0.Coords) : Fin 4 → Nat :=
  let arg2 : BitVec 32 := BitVec.ofNat 32 (i 2).val
  let v169 : Index := Scalar.indexCast arg2
  let c12_245 : Index := 12#32
  let c0_246 : Index := 0#32
  let c0_247 : Index := 0#32
  ![v169.toNat, 12, 0, 0]
def k0_off39 (i : grid0.Coords) : Fin 4 → Nat :=
  let arg2 : BitVec 32 := BitVec.ofNat 32 (i 2).val
  let v172 : Index := Scalar.indexCast arg2
  let c13_248 : Index := 13#32
  let c0_249 : Index := 0#32
  let c0_250 : Index := 0#32
  ![v172.toNat, 13, 0, 0]
def k0_off40 (i : grid0.Coords) : Fin 4 → Nat :=
  let arg2 : BitVec 32 := BitVec.ofNat 32 (i 2).val
  let v175 : Index := Scalar.indexCast arg2
  let c14_251 : Index := 14#32
  let c0_252 : Index := 0#32
  let c0_253 : Index := 0#32
  ![v175.toNat, 14, 0, 0]
def k0_off41 (i : grid0.Coords) : Fin 4 → Nat :=
  let arg2 : BitVec 32 := BitVec.ofNat 32 (i 2).val
  let v178 : Index := Scalar.indexCast arg2
  let c15_254 : Index := 15#32
  let c0_255 : Index := 0#32
  let c0_256 : Index := 0#32
  ![v178.toNat, 15, 0, 0]
def k0_off42 (i : grid0.Coords) : Fin 4 → Nat :=
  let c0_257 : Index := 0#32
  let arg2 : BitVec 32 := BitVec.ofNat 32 (i 2).val
  let v181 : Index := Scalar.indexCast arg2
  let c0_258 : Index := 0#32
  let c0_259 : Index := 0#32
  ![0, v181.toNat, 0, 0]
def k0_off43 (i : grid0.Coords) : Fin 4 → Nat :=
  let c1_260 : Index := 1#32
  let arg2 : BitVec 32 := BitVec.ofNat 32 (i 2).val
  let v184 : Index := Scalar.indexCast arg2
  let c0_261 : Index := 0#32
  let c0_262 : Index := 0#32
  ![1, v184.toNat, 0, 0]
def k0_off44 (i : grid0.Coords) : Fin 4 → Nat :=
  let c2_263 : Index := 2#32
  let arg2 : BitVec 32 := BitVec.ofNat 32 (i 2).val
  let v187 : Index := Scalar.indexCast arg2
  let c0_264 : Index := 0#32
  let c0_265 : Index := 0#32
  ![2, v187.toNat, 0, 0]
def k0_off45 (i : grid0.Coords) : Fin 4 → Nat :=
  let c3_266 : Index := 3#32
  let arg2 : BitVec 32 := BitVec.ofNat 32 (i 2).val
  let v190 : Index := Scalar.indexCast arg2
  let c0_267 : Index := 0#32
  let c0_268 : Index := 0#32
  ![3, v190.toNat, 0, 0]
def k0_off46 (i : grid0.Coords) : Fin 4 → Nat :=
  let c4_269 : Index := 4#32
  let arg2 : BitVec 32 := BitVec.ofNat 32 (i 2).val
  let v193 : Index := Scalar.indexCast arg2
  let c0_270 : Index := 0#32
  let c0_271 : Index := 0#32
  ![4, v193.toNat, 0, 0]
def k0_off47 (i : grid0.Coords) : Fin 4 → Nat :=
  let c5_272 : Index := 5#32
  let arg2 : BitVec 32 := BitVec.ofNat 32 (i 2).val
  let v196 : Index := Scalar.indexCast arg2
  let c0_273 : Index := 0#32
  let c0_274 : Index := 0#32
  ![5, v196.toNat, 0, 0]
def k0_off48 (i : grid0.Coords) : Fin 4 → Nat :=
  let c6_275 : Index := 6#32
  let arg2 : BitVec 32 := BitVec.ofNat 32 (i 2).val
  let v199 : Index := Scalar.indexCast arg2
  let c0_276 : Index := 0#32
  let c0_277 : Index := 0#32
  ![6, v199.toNat, 0, 0]
def k0_off49 (i : grid0.Coords) : Fin 4 → Nat :=
  let c7_278 : Index := 7#32
  let arg2 : BitVec 32 := BitVec.ofNat 32 (i 2).val
  let v202 : Index := Scalar.indexCast arg2
  let c0_279 : Index := 0#32
  let c0_280 : Index := 0#32
  ![7, v202.toNat, 0, 0]
def k0_off50 (i : grid0.Coords) : Fin 4 → Nat :=
  let c8_281 : Index := 8#32
  let arg2 : BitVec 32 := BitVec.ofNat 32 (i 2).val
  let v205 : Index := Scalar.indexCast arg2
  let c0_282 : Index := 0#32
  let c0_283 : Index := 0#32
  ![8, v205.toNat, 0, 0]
def k0_off51 (i : grid0.Coords) : Fin 4 → Nat :=
  let c9_284 : Index := 9#32
  let arg2 : BitVec 32 := BitVec.ofNat 32 (i 2).val
  let v208 : Index := Scalar.indexCast arg2
  let c0_285 : Index := 0#32
  let c0_286 : Index := 0#32
  ![9, v208.toNat, 0, 0]
def k0_off52 (i : grid0.Coords) : Fin 4 → Nat :=
  let c10_287 : Index := 10#32
  let arg2 : BitVec 32 := BitVec.ofNat 32 (i 2).val
  let v211 : Index := Scalar.indexCast arg2
  let c0_288 : Index := 0#32
  let c0_289 : Index := 0#32
  ![10, v211.toNat, 0, 0]
def k0_off53 (i : grid0.Coords) : Fin 4 → Nat :=
  let c11_290 : Index := 11#32
  let arg2 : BitVec 32 := BitVec.ofNat 32 (i 2).val
  let v214 : Index := Scalar.indexCast arg2
  let c0_291 : Index := 0#32
  let c0_292 : Index := 0#32
  ![11, v214.toNat, 0, 0]
def k0_off54 (i : grid0.Coords) : Fin 4 → Nat :=
  let c12_293 : Index := 12#32
  let arg2 : BitVec 32 := BitVec.ofNat 32 (i 2).val
  let v217 : Index := Scalar.indexCast arg2
  let c0_294 : Index := 0#32
  let c0_295 : Index := 0#32
  ![12, v217.toNat, 0, 0]
def k0_off55 (i : grid0.Coords) : Fin 4 → Nat :=
  let c13_296 : Index := 13#32
  let arg2 : BitVec 32 := BitVec.ofNat 32 (i 2).val
  let v220 : Index := Scalar.indexCast arg2
  let c0_297 : Index := 0#32
  let c0_298 : Index := 0#32
  ![13, v220.toNat, 0, 0]
def k0_off56 (i : grid0.Coords) : Fin 4 → Nat :=
  let c14_299 : Index := 14#32
  let arg2 : BitVec 32 := BitVec.ofNat 32 (i 2).val
  let v223 : Index := Scalar.indexCast arg2
  let c0_300 : Index := 0#32
  let c0_301 : Index := 0#32
  ![14, v223.toNat, 0, 0]
def k0_off57 (i : grid0.Coords) : Fin 4 → Nat :=
  let c15_302 : Index := 15#32
  let arg2 : BitVec 32 := BitVec.ofNat 32 (i 2).val
  let v226 : Index := Scalar.indexCast arg2
  let c0_303 : Index := 0#32
  let c0_304 : Index := 0#32
  ![15, v226.toNat, 0, 0]
@[reducible] def k0_t4_loop : Scf.Loop 32 :=
  let c0_i32_305 : BitVec 32 := 0#32
  let c64_i32_306 : BitVec 32 := 64#32
  let v229 : BitVec 32 := Scalar.addi c0_i32_305 c64_i32_306
  let c1_i32_307 : BitVec 32 := 1#32
  ⟨c0_i32_305, v229, c1_i32_307⟩
def k0_off58 (k0_t4 : Fin k0_t4_loop.trips) (c0_i32_411 : BitVec 32) : Fin 2 → Nat :=
  let c255_i32 : BitVec 32 := 255#32
  let c0_i32_305 : BitVec 32 := 0#32
  let c1_i32_307 : BitVec 32 := 1#32
  let arg38 : BitVec 32 := Scf.iv c0_i32_305 c1_i32_307 k0_t4
  let c4_i32_410 : BitVec 32 := 4#32
  let v363 : BitVec 32 := Scalar.muli arg38 c4_i32_410
  let v364 : BitVec 32 := Scalar.addi v363 c0_i32_411
  let v365 : BitVec 32 := Scalar.subi c255_i32 v364
  let v366 : Index := Scalar.indexCast v365
  let c0_412 : Index := 0#32
  ![v366.toNat, 0]
def k0_off59 (k0_t4 : Fin k0_t4_loop.trips) (c0_i32_411 : BitVec 32) (c0_i32_415 : BitVec 32) : Fin 2 → Nat :=
  let c255_i32 : BitVec 32 := 255#32
  let c0_i32_305 : BitVec 32 := 0#32
  let c1_i32_307 : BitVec 32 := 1#32
  let arg38 : BitVec 32 := Scf.iv c0_i32_305 c1_i32_307 k0_t4
  let c4_i32_410 : BitVec 32 := 4#32
  let v363 : BitVec 32 := Scalar.muli arg38 c4_i32_410
  let v364 : BitVec 32 := Scalar.addi v363 c0_i32_411
  let v365 : BitVec 32 := Scalar.subi c255_i32 v364
  let c16_i32 : BitVec 32 := 16#32
  let v373 : BitVec 32 := Scalar.muli v365 c16_i32
  let v374 : BitVec 32 := Scalar.addi v373 c0_i32_415
  let v375 : Index := Scalar.indexCast v374
  let c0_416 : Index := 0#32
  ![v375.toNat, 0]
def k0_off60 (k0_t4 : Fin k0_t4_loop.trips) (c0_i32_411 : BitVec 32) (c0_i32_420 : BitVec 32) : Fin 2 → Nat :=
  let c255_i32 : BitVec 32 := 255#32
  let c0_i32_305 : BitVec 32 := 0#32
  let c1_i32_307 : BitVec 32 := 1#32
  let arg38 : BitVec 32 := Scf.iv c0_i32_305 c1_i32_307 k0_t4
  let c4_i32_410 : BitVec 32 := 4#32
  let v363 : BitVec 32 := Scalar.muli arg38 c4_i32_410
  let v364 : BitVec 32 := Scalar.addi v363 c0_i32_411
  let v365 : BitVec 32 := Scalar.subi c255_i32 v364
  let c128_i32 : BitVec 32 := 128#32
  let v381 : BitVec 32 := Scalar.muli v365 c128_i32
  let v382 : BitVec 32 := Scalar.addi v381 c0_i32_420
  let v383 : Index := Scalar.indexCast v382
  let c0_421 : Index := 0#32
  ![v383.toNat, 0]
def k0_off61 (k0_t4 : Fin k0_t4_loop.trips) (c0_i32_411 : BitVec 32) (c0_i32_422 : BitVec 32) : Fin 2 → Nat :=
  let c255_i32 : BitVec 32 := 255#32
  let c0_i32_305 : BitVec 32 := 0#32
  let c1_i32_307 : BitVec 32 := 1#32
  let arg38 : BitVec 32 := Scf.iv c0_i32_305 c1_i32_307 k0_t4
  let c4_i32_410 : BitVec 32 := 4#32
  let v363 : BitVec 32 := Scalar.muli arg38 c4_i32_410
  let v364 : BitVec 32 := Scalar.addi v363 c0_i32_411
  let v365 : BitVec 32 := Scalar.subi c255_i32 v364
  let c144_i32 : BitVec 32 := 144#32
  let v385 : BitVec 32 := Scalar.muli v365 c144_i32
  let v386 : BitVec 32 := Scalar.addi v385 c0_i32_422
  let v387 : Index := Scalar.indexCast v386
  let c0_423 : Index := 0#32
  ![v387.toNat, 0]
def k0_off62 (k0_t4 : Fin k0_t4_loop.trips) (c0_i32_411 : BitVec 32) (c0_i32_666 : BitVec 32) : Fin 2 → Nat :=
  let c255_i32 : BitVec 32 := 255#32
  let c0_i32_305 : BitVec 32 := 0#32
  let c1_i32_307 : BitVec 32 := 1#32
  let arg38 : BitVec 32 := Scf.iv c0_i32_305 c1_i32_307 k0_t4
  let c4_i32_410 : BitVec 32 := 4#32
  let v363 : BitVec 32 := Scalar.muli arg38 c4_i32_410
  let v364 : BitVec 32 := Scalar.addi v363 c0_i32_411
  let v365 : BitVec 32 := Scalar.subi c255_i32 v364
  let c16_i32_665 : BitVec 32 := 16#32
  let v923 : BitVec 32 := Scalar.muli v365 c16_i32_665
  let v924 : BitVec 32 := Scalar.addi v923 c0_i32_666
  let v925 : Index := Scalar.indexCast v924
  let c0_667 : Index := 0#32
  ![v925.toNat, 0]
@[reducible] def k0_t5_loop : Scf.Loop 32 :=
  let c0_i32_405 : BitVec 32 := 0#32
  let c8_i32_406 : BitVec 32 := 8#32
  let v359 : BitVec 32 := Scalar.addi c0_i32_405 c8_i32_406
  let c1_i32_407 : BitVec 32 := 1#32
  ⟨c0_i32_405, v359, c1_i32_407⟩
def k0_mult11 (k0_t5 : Fin k0_t5_loop.trips) : BitVec 32 :=
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  v363
def k0_off63 (k0_t5 : Fin k0_t5_loop.trips) (c0_i32_410 : BitVec 32) : Fin 2 → Nat :=
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v365 : BitVec 32 := Scalar.addi c0_i32_410 v364
  let v368 : Index := Scalar.indexCast v365
  let c0_413 : Index := 0#32
  ![v368.toNat, 0]
def k0_off64 (k0_t5 : Fin k0_t5_loop.trips) : Fin 3 → Nat :=
  let c0_417 : Index := 0#32
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v381 : Index := Scalar.indexCast v364
  let c0_418 : Index := 0#32
  ![0, v381.toNat, 0]
def k0_off65 (k0_t5 : Fin k0_t5_loop.trips) : Fin 3 → Nat :=
  let c0_432 : Index := 0#32
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v426 : Index := Scalar.indexCast v364
  let c128_433 : Index := 128#32
  ![0, v426.toNat, 128]
def k0_off66 (k0_t5 : Fin k0_t5_loop.trips) : Fin 3 → Nat :=
  let c0_447 : Index := 0#32
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v471 : Index := Scalar.indexCast v364
  let c256_448 : Index := 256#32
  ![0, v471.toNat, 256]
def k0_off67 (k0_t5 : Fin k0_t5_loop.trips) : Fin 3 → Nat :=
  let c0_462 : Index := 0#32
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v516 : Index := Scalar.indexCast v364
  let c384_463 : Index := 384#32
  ![0, v516.toNat, 384]
def k0_off68 (k0_t5 : Fin k0_t5_loop.trips) : Fin 3 → Nat :=
  let c0_477 : Index := 0#32
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v561 : Index := Scalar.indexCast v364
  let c512_478 : Index := 512#32
  ![0, v561.toNat, 512]
def k0_off69 (k0_t5 : Fin k0_t5_loop.trips) : Fin 3 → Nat :=
  let c0_492 : Index := 0#32
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v606 : Index := Scalar.indexCast v364
  let c640_493 : Index := 640#32
  ![0, v606.toNat, 640]
def k0_off70 (k0_t5 : Fin k0_t5_loop.trips) : Fin 3 → Nat :=
  let c0_507 : Index := 0#32
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v651 : Index := Scalar.indexCast v364
  let c768_508 : Index := 768#32
  ![0, v651.toNat, 768]
def k0_off71 (k0_t5 : Fin k0_t5_loop.trips) : Fin 3 → Nat :=
  let c0_522 : Index := 0#32
  let c0_i32_405 : BitVec 32 := 0#32
  let c1_i32_407 : BitVec 32 := 1#32
  let arg38 : BitVec 32 := Scf.iv c0_i32_405 c1_i32_407 k0_t5
  let c32_i32 : BitVec 32 := 32#32
  let v363 : BitVec 32 := Scalar.muli arg38 c32_i32
  let v364 : BitVec 32 := v363
  let v696 : Index := Scalar.indexCast v364
  let c896_523 : Index := 896#32
  ![0, v696.toNat, 896]
def k0_cond4 (i : grid0.Coords) : BitVec 1 :=
  let arg2 : BitVec 32 := BitVec.ofNat 32 (i 2).val
  let c4_i32 : BitVec 32 := 4#32
  let v360 : BitVec 1 := Scalar.cmpi .eq arg2 c4_i32
  let v361 : BitVec 32 := Scalar.extui v360
  let c0_i32_409 : BitVec 32 := 0#32
  let v362 : BitVec 1 := Scalar.cmpi .ne v361 c0_i32_409
  v362

@[reducible] def k0_t6_loop : Scf.Loop 32 :=
  let c0_i32_410 : BitVec 32 := 0#32
  let c32_i32 : BitVec 32 := 32#32
  let v363 : BitVec 32 := Scalar.addi c0_i32_410 c32_i32
  let c1_i32_411 : BitVec 32 := 1#32
  ⟨c0_i32_410, v363, c1_i32_411⟩
def k0_mult12 (k0_t6 : Fin k0_t6_loop.trips) : BitVec 32 :=
  let c0_i32_410 : BitVec 32 := 0#32
  let c1_i32_411 : BitVec 32 := 1#32
  let arg38 : BitVec 32 := Scf.iv c0_i32_410 c1_i32_411 k0_t6
  let c128_i32 : BitVec 32 := 128#32
  let v364 : BitVec 32 := Scalar.muli arg38 c128_i32
  v364
def k0_off72 (k0_t6 : Fin k0_t6_loop.trips) : Fin 2 → Nat :=
  let c0_i32_410 : BitVec 32 := 0#32
  let c1_i32_411 : BitVec 32 := 1#32
  let arg38 : BitVec 32 := Scf.iv c0_i32_410 c1_i32_411 k0_t6
  let c128_i32 : BitVec 32 := 128#32
  let v364 : BitVec 32 := Scalar.muli arg38 c128_i32
  let v365 : BitVec 32 := v364
  let v366 : Index := Scalar.indexCast v365
  let c0_413 : Index := 0#32
  ![v366.toNat, 0]
def k0_off73 (k0_t6 : Fin k0_t6_loop.trips) : Fin 3 → Nat :=
  let c0_414 : Index := 0#32
  let c0_i32_410 : BitVec 32 := 0#32
  let c1_i32_411 : BitVec 32 := 1#32
  let arg38 : BitVec 32 := Scf.iv c0_i32_410 c1_i32_411 k0_t6
  let v371 : Index := Scalar.indexCast arg38
  let c0_415 : Index := 0#32
  ![0, v371.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  ![arg0.toNat, v0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  let c0_i32_0 : BitVec 32 := 0#32
  ![arg0.toNat, arg2.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  ![arg0.toNat, v0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  ![arg0.toNat, v0.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  ![arg0.toNat, v0.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  let c0_i32_0 : BitVec 32 := 0#32
  ![arg0.toNat, arg2.toNat, v0.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_11 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, arg2.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  ![arg0.toNat, v0.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  ![arg0.toNat, v0.toNat, arg2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  ![arg0.toNat, v0.toNat, arg2.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x16 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x16 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S16x1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1x16x1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x32x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1x32x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 1 → Memref sig .tc .vmem S16x5x8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]

abbrev stage0_18 : Fin 1 → Memref sig .tc .vmem S5x8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x1024x5120 : Shape := ⟨3, ![2, 1024, 5120]⟩
abbrev S2x1024x40 : Shape := ⟨3, ![2, 1024, 40]⟩
abbrev S2x1024 : Shape := ⟨2, ![2, 1024]⟩
abbrev S2x1024x16 : Shape := ⟨3, ![2, 1024, 16]⟩
abbrev S5120x16 : Shape := ⟨2, ![5120, 16]⟩
abbrev S5120 : Shape := ⟨1, ![5120]⟩
abbrev S2x4x5120x16 : Shape := ⟨4, ![2, 4, 5120, 16]⟩
abbrev S16x5120 : Shape := ⟨2, ![16, 5120]⟩
abbrev S1x5120 : Shape := ⟨2, ![1, 5120]⟩
abbrev S2x4x16x5120 : Shape := ⟨4, ![2, 4, 16, 5120]⟩
abbrev S2x128x128 : Shape := ⟨3, ![2, 128, 128]⟩
abbrev S16x5x8x128 : Shape := ⟨4, ![16, 5, 8, 128]⟩
abbrev S5x8x128 : Shape := ⟨3, ![5, 8, 128]⟩
abbrev S256x2x16x5120 : Shape := ⟨4, ![256, 2, 16, 5120]⟩
abbrev S2x1024x40x128 : Shape := ⟨4, ![2, 1024, 40, 128]⟩
abbrev S2x1024x40x1 : Shape := ⟨4, ![2, 1024, 40, 1]⟩
abbrev S2x1024x1 : Shape := ⟨3, ![2, 1024, 1]⟩
abbrev S1024x5120 : Shape := ⟨2, ![1024, 5120]⟩
abbrev S2x16x5120 : Shape := ⟨3, ![2, 16, 5120]⟩
abbrev S2x1x16x5120 : Shape := ⟨4, ![2, 1, 16, 5120]⟩
abbrev S2x1x5120 : Shape := ⟨3, ![2, 1, 5120]⟩
abbrev S2x5120 : Shape := ⟨2, ![2, 5120]⟩
abbrev S1x16x5120 : Shape := ⟨3, ![1, 16, 5120]⟩
abbrev S2x1x16 : Shape := ⟨3, ![2, 1, 16]⟩
abbrev S2x16 : Shape := ⟨2, ![2, 16]⟩
abbrev S2x16x1 : Shape := ⟨3, ![2, 16, 1]⟩
abbrev S1x2x16x5120 : Shape := ⟨4, ![1, 2, 16, 5120]⟩

abbrev nBuf : Space → Nat
  | .hbm => 24
  | .vmem => 34
  | .smem => 0
  | _ => 0

abbrev bufTy : (tb : Table) → Fin (tcTables nBuf tb) → BufTy
  | .hbm, ⟨0, _⟩ => ⟨S2x1024x5120, .fp8e4m3⟩
  | .hbm, ⟨1, _⟩ => ⟨S2x1024x40, .f32⟩
  | .hbm, ⟨2, _⟩ => ⟨S2x1024x5120, .fp8e4m3⟩
  | .hbm, ⟨3, _⟩ => ⟨S2x1024, .f32⟩
  | .hbm, ⟨4, _⟩ => ⟨S2x1024x16, .fp8e4m3⟩
  | .hbm, ⟨5, _⟩ => ⟨S2x1024, .f32⟩
  | .hbm, ⟨6, _⟩ => ⟨S2x1024x16, .fp8e4m3⟩
  | .hbm, ⟨7, _⟩ => ⟨S2x1024, .f32⟩
  | .hbm, ⟨8, _⟩ => ⟨S2x1024x5120, .bf16⟩
  | .hbm, ⟨9, _⟩ => ⟨S2x1024x5120, .fp8e5m2⟩
  | .hbm, ⟨10, _⟩ => ⟨S2x1024x40, .f32⟩
  | .hbm, ⟨11, _⟩ => ⟨S5120x16, .f32⟩
  | .hbm, ⟨12, _⟩ => ⟨S5120, .f32⟩
  | .hbm, ⟨13, _⟩ => ⟨S2x4x5120x16, .f32⟩
  | .hbm, ⟨14, _⟩ => ⟨S16x5120, .f32⟩
  | .hbm, ⟨15, _⟩ => ⟨S1x5120, .f32⟩
  | .hbm, ⟨16, _⟩ => ⟨S2x4x16x5120, .f32⟩
  | .hbm, ⟨17, _⟩ => ⟨S2x1024x5120, .bf16⟩
  | .hbm, ⟨18, _⟩ => ⟨S2x1024x5120, .bf16⟩
  | .hbm, ⟨19, _⟩ => ⟨S2x1024x5120, .bf16⟩
  | .hbm, ⟨20, _⟩ => ⟨S2x128x128, .f32⟩
  | .hbm, ⟨21, _⟩ => ⟨S2x128x128, .f32⟩
  | .hbm, ⟨22, _⟩ => ⟨S16x5x8x128, .f32⟩
  | .hbm, ⟨23, _⟩ => ⟨S5x8x128, .f32⟩
  | .local _ .vmem, ⟨0, _⟩ => ⟨S2x1024x5120, .fp8e4m3⟩
  | .local _ .vmem, ⟨1, _⟩ => ⟨S2x1024x40, .f32⟩
  | .local _ .vmem, ⟨2, _⟩ => ⟨S2x1024x5120, .fp8e4m3⟩
  | .local _ .vmem, ⟨3, _⟩ => ⟨S2x1024, .f32⟩
  | .local _ .vmem, ⟨4, _⟩ => ⟨S2x1024x16, .fp8e4m3⟩
  | .local _ .vmem, ⟨5, _⟩ => ⟨S2x1024, .f32⟩
  | .local _ .vmem, ⟨6, _⟩ => ⟨S2x1024x16, .fp8e4m3⟩
  | .local _ .vmem, ⟨7, _⟩ => ⟨S2x1024, .f32⟩
  | .local _ .vmem, ⟨8, _⟩ => ⟨S2x1024x5120, .bf16⟩
  | .local _ .vmem, ⟨9, _⟩ => ⟨S2x1024x5120, .fp8e5m2⟩
  | .local _ .vmem, ⟨10, _⟩ => ⟨S2x1024x40, .f32⟩
  | .local _ .vmem, ⟨11, _⟩ => ⟨S16x5120, .f32⟩
  | .local _ .vmem, ⟨12, _⟩ => ⟨S1x5120, .f32⟩
  | .local _ .vmem, ⟨13, _⟩ => ⟨S2x4x16x5120, .f32⟩
  | .local _ .vmem, ⟨14, _⟩ => ⟨S2x1024x5120, .bf16⟩
  | .local _ .vmem, ⟨15, _⟩ => ⟨S2x1024x5120, .bf16⟩
  | .local _ .vmem, ⟨16, _⟩ => ⟨S2x1024x5120, .bf16⟩
  | .local _ .vmem, ⟨17, _⟩ => ⟨S2x128x128, .f32⟩
  | .local _ .vmem, ⟨18, _⟩ => ⟨S2x128x128, .f32⟩
  | .local _ .vmem, ⟨19, _⟩ => ⟨S16x5x8x128, .f32⟩
  | .local _ .vmem, ⟨20, _⟩ => ⟨S5x8x128, .f32⟩
  | .local _ .vmem, ⟨21, _⟩ => ⟨S2x1024x5120, .f32⟩
  | .local _ .vmem, ⟨22, _⟩ => ⟨S2x1024x5120, .f32⟩
  | .local _ .vmem, ⟨23, _⟩ => ⟨S2x1024x5120, .f32⟩
  | .local _ .vmem, ⟨24, _⟩ => ⟨S2x1024x16, .f32⟩
  | .local _ .vmem, ⟨25, _⟩ => ⟨S2x1024x16, .f32⟩
  | .local _ .vmem, ⟨26, _⟩ => ⟨S2x1024x5120, .f32⟩
  | .local _ .vmem, ⟨27, _⟩ => ⟨S2x1024x5120, .f32⟩
  | .local _ .vmem, ⟨28, _⟩ => ⟨S256x2x16x5120, .f32⟩
  | .local _ .vmem, ⟨29, _⟩ => ⟨S2x1024x5120, .f32⟩
  | .local _ .vmem, ⟨30, _⟩ => ⟨S2x1024x5120, .f32⟩
  | .local _ .vmem, ⟨31, _⟩ => ⟨S2x1024x5120, .f32⟩
  | .local _ .vmem, ⟨32, _⟩ => ⟨S2x1024x16, .f32⟩
  | .local _ .vmem, ⟨33, _⟩ => ⟨S2x1024x16, .f32⟩
  | _, _ => ⟨S2x1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4_i32 : BitVec 32 := 4#32
  let v89 : BitVec 32 := Scalar.addi c0_i32 c4_i32
  let c1_i32 : BitVec 32 := 1#32
  ⟨c0_i32, v89, c1_i32⟩
def k0_off1 (k0_t1 : Fin k0_t1_loop.trips) : Fin 4 → Nat :=
  let c0_95 : Index := 0#32
  let c3_i32 : BitVec 32 := 3#32
  let c0_i32 : BitVec 32 := 0#32
  let c1_i32 : BitVec 32 := 1#32
  let arg34 : BitVec 32 := Scf.iv c0_i32 c1_i32 k0_t1
  let v108 : BitVec 32 := Scalar.subi c3_i32 arg34
  let v109 : Index := Scalar.indexCast v108
  let c0_96 : Index := 0#32
  let c0_97 : Index := 0#32
  ![0, v109.toNat, 0, 0]
@[reducible] def k0_t2_loop : Scf.Loop 32 :=
  let c0_i32_98 : BitVec 32 := 0#32
  let c256_i32 : BitVec 32 := 256#32
  let v112 : BitVec 32 := Scalar.addi c0_i32_98 c256_i32
  let c1_i32_99 : BitVec 32 := 1#32
  ⟨c0_i32_98, v112, c1_i32_99⟩
def k0_off2 (k0_t1 : Fin k0_t1_loop.trips) (k0_t2 : Fin k0_t2_loop.trips) : Fin 3 → Nat :=
  let c0_106 : Index := 0#32
  let c3_i32 : BitVec 32 := 3#32
  let c0_i32 : BitVec 32 := 0#32
  let c1_i32 : BitVec 32 := 1#32
  let arg34 : BitVec 32 := Scf.iv c0_i32 c1_i32 k0_t1
  let v108 : BitVec 32 := Scalar.subi c3_i32 arg34
  let c256_i32_105 : BitVec 32 := 256#32
  let v116 : BitVec 32 := Scalar.muli v108 c256_i32_105
  let c0_i32_98 : BitVec 32 := 0#32
  let c1_i32_99 : BitVec 32 := 1#32
  let arg37 : BitVec 32 := Scf.iv c0_i32_98 c1_i32_99 k0_t2
  let v117 : BitVec 32 := Scalar.addi v116 arg37
  let v118 : Index := Scalar.indexCast v117
  let c0_107 : Index := 0#32
  ![0, v118.toNat, 0]
def k0_off3 (k0_t1 : Fin k0_t1_loop.trips) (k0_t2 : Fin k0_t2_loop.trips) : Fin 3 → Nat :=
  let c0_114 : Index := 0#32
  let c3_i32 : BitVec 32 := 3#32
  let c0_i32 : BitVec 32 := 0#32
  let c1_i32 : BitVec 32 := 1#32
  let arg34 : BitVec 32 := Scf.iv c0_i32 c1_i32 k0_t1
  let v108 : BitVec 32 := Scalar.subi c3_i32 arg34
  let c256_i32_105 : BitVec 32 := 256#32
  let v116 : BitVec 32 := Scalar.muli v108 c256_i32_105
  let c0_i32_98 : BitVec 32 := 0#32
  let c1_i32_99 : BitVec 32 := 1#32
  let arg37 : BitVec 32 := Scf.iv c0_i32_98 c1_i32_99 k0_t2
  let v117 : BitVec 32 := Scalar.addi v116 arg37
  let v138 : Index := Scalar.indexCast v117
  let c0_115 : Index := 0#32
  ![0, v138.toNat, 0]
def k0_off4 (k0_t2 : Fin k0_t2_loop.trips) : Fin 4 → Nat :=
  let c0_i32_98 : BitVec 32 := 0#32
  let c1_i32_99 : BitVec 32 := 1#32
  let arg37 : BitVec 32 := Scf.iv c0_i32_98 c1_i32_99 k0_t2
  let v146 : Index := Scalar.indexCast arg37
  let c0_116 : Index := 0#32
  let c0_117 : Index := 0#32
  let c0_118 : Index := 0#32
  ![v146.toNat, 0, 0, 0]
@[reducible] def k0_t3_loop : Scf.Loop 32 :=
  let c0_i32_101 : BitVec 32 := 0#32
  let c256_i32_102 : BitVec 32 := 256#32
  let v114 : BitVec 32 := Scalar.addi c0_i32_101 c256_i32_102
  let c1_i32_103 : BitVec 32 := 1#32
  ⟨c0_i32_101, v114, c1_i32_103⟩
def k0_off5 (k0_t1 : Fin k0_t1_loop.trips) (k0_t3 : Fin k0_t3_loop.trips) : Fin 3 → Nat :=
  let c0_106 : Index := 0#32
  let c3_i32 : BitVec 32 := 3#32
  let c0_i32 : BitVec 32 := 0#32
  let c1_i32 : BitVec 32 := 1#32
  let arg34 : BitVec 32 := Scf.iv c0_i32 c1_i32 k0_t1
  let v108 : BitVec 32 := Scalar.subi c3_i32 arg34
  let c256_i32_105 : BitVec 32 := 256#32
  let v117 : BitVec 32 := Scalar.muli v108 c256_i32_105
  let c255_i32 : BitVec 32 := 255#32
  let c0_i32_101 : BitVec 32 := 0#32
  let c1_i32_103 : BitVec 32 := 1#32
  let arg37 : BitVec 32 := Scf.iv c0_i32_101 c1_i32_103 k0_t3
  let v116 : BitVec 32 := Scalar.subi c255_i32 arg37
  let v118 : BitVec 32 := Scalar.addi v117 v116
  let v119 : Index := Scalar.indexCast v118
  let c0_107 : Index := 0#32
  ![0, v119.toNat, 0]
def k0_off6 (k0_t1 : Fin k0_t1_loop.trips) (k0_t3 : Fin k0_t3_loop.trips) : Fin 3 → Nat :=
  let c0_112 : Index := 0#32
  let c3_i32 : BitVec 32 := 3#32
  let c0_i32 : BitVec 32 := 0#32
  let c1_i32 : BitVec 32 := 1#32
  let arg34 : BitVec 32 := Scf.iv c0_i32 c1_i32 k0_t1
  let v108 : BitVec 32 := Scalar.subi c3_i32 arg34
  let c256_i32_105 : BitVec 32 := 256#32
  let v117 : BitVec 32 := Scalar.muli v108 c256_i32_105
  let c255_i32 : BitVec 32 := 255#32
  let c0_i32_101 : BitVec 32 := 0#32
  let c1_i32_103 : BitVec 32 := 1#32
  let arg37 : BitVec 32 := Scf.iv c0_i32_101 c1_i32_103 k0_t3
  let v116 : BitVec 32 := Scalar.subi c255_i32 arg37
  let v118 : BitVec 32 := Scalar.addi v117 v116
  let v129 : Index := Scalar.indexCast v118
  let c0_113 : Index := 0#32
  ![0, v129.toNat, 0]
def k0_off7 (k0_t3 : Fin k0_t3_loop.trips) : Fin 4 → Nat :=
  let c255_i32 : BitVec 32 := 255#32
  let c0_i32_101 : BitVec 32 := 0#32
  let c1_i32_103 : BitVec 32 := 1#32
  let arg37 : BitVec 32 := Scf.iv c0_i32_101 c1_i32_103 k0_t3
  let v116 : BitVec 32 := Scalar.subi c255_i32 arg37
  let v144 : Index := Scalar.indexCast v116
  let c0_117 : Index := 0#32
  let c0_118 : Index := 0#32
  let c0_119 : Index := 0#32
  ![v144.toNat, 0, 0, 0]
abbrev stage0_0 : Fin 1 → Memref sig .tc .vmem S2x1024x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x16 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x16 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x5120 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x5120 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x4x16x5120 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024x5120 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024x5120 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024x5120 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16x5x8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S5x8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Proof.Cmd.lean ====
/- A small language of straight-line stores and loads, counted loops and branches over a fixed family of buffers:
   what such a program is as a printed program (`Cmd.toProg`), what it does to the buffers' contents as a plain
   function (`Cmd.run`), and the one theorem that joins the two: whoever owns the buffers may run the program, and
   owns them afterwards at the contents the function says (`Cmd.sound`). Everything a certificate says about values
   is then about functions. -/
module

public import Idealize.ShloMosaic.Lib.Memref
public import Idealize.ShloMosaic.Lib.Scf
public import Idealize.ShloMosaic.Lib.Tactic

@[expose] public section

noncomputable section

namespace Cert.Proof

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

/-- Contents after an unmasked store of `v` through the rectangle `r`. -/
def put {s : Shape} {β : Type} (r : Rect s) (v : r.shape.Idx → β) (X : s.Idx → β) : s.Idx → β := fun p =>
  if h : ∃ j, r.emb j = p then v h.choose else X p

theorem put_emb {s : Shape} {β : Type} (r : Rect s) (v : r.shape.Idx → β) (X : s.Idx → β) (j : r.shape.Idx) :
    put r v X (r.emb j) = v j := by
  have h : ∃ j', r.emb j' = r.emb j := ⟨j, rfl⟩
  unfold put
  rw [dif_pos h]
  exact congrArg v (r.emb.injective h.choose_spec)

theorem put_of_not {s : Shape} {β : Type} (r : Rect s) (v : r.shape.Idx → β) (X : s.Idx → β) (p : s.Idx)
    (h : ∀ j, r.emb j ≠ p) : put r v X p = X p := by
  unfold put
  rw [dif_neg (fun ⟨j, hj⟩ => h j hj)]

section Lang

variable {nD : Nat} {τ : Topo} {sig : RefSig} {Λ : Labels} {B : Type} {shp : B → Shape} {elt : B → EltTy}

/-- Programs over the buffers `Mr`, yielding an `α`. -/
inductive Cmd (Val : EltTy → Type) (Mr : ∀ b, Memref sig .tc .vmem (shp b) (elt b)) : Type → Type 1 where
  | ret {α : Type} (a : α) : Cmd Val Mr α
  | load {α : Type} (b : B) (r : LoadRect (shp b)) (h : 0 < r.shape.numel)
      (k : (r.shape.Idx → Val (elt b)) → Cmd Val Mr α) : Cmd Val Mr α
  | store {α : Type} (b : B) (r : Rect (shp b)) (w : r.shape.Idx → Val (elt b))
      (h : ((Mr b).access r).Stores Finset.univ) (k : Cmd Val Mr α) : Cmd Val Mr α
  | bind {α β : Type} (m : Cmd Val Mr β) (k : β → Cmd Val Mr α) : Cmd Val Mr α
  | loop {α : Type} (l : Scf.Loop 32) (h : l.OK) (init : α) (body : Fin l.trips → α → Cmd Val Mr α) : Cmd Val Mr α
  | ite {α : Type} (c : Prop) (d : Decidable c) (t : c → Cmd Val Mr α) (e : ¬ c → Cmd Val Mr α) : Cmd Val Mr α

namespace Cmd

variable {Val : EltTy → Type} {Mr : ∀ b, Memref sig .tc .vmem (shp b) (elt b)}

/-- The program as the printed language has it. -/
def toProg (nD : Nat) (τ : Topo) (Λ : Labels) : {α : Type} → Cmd Val Mr α → Prog (TpuEff nD τ sig Val Λ .tc) α
  | _, .ret a => .ret a
  | _, .load b r h k => .op (.load (Mr b) r (View.loadsAt_vmem h)) fun v => toProg nD τ Λ (k v)
  | _, .store b r w h k => .op (.store (Mr b) r w Finset.univ h (.inl rfl)) fun _ => toProg nD τ Λ k
  | _, .bind m k => (toProg nD τ Λ m).bind fun v => toProg nD τ Λ (k v)
  | _, .loop l h init body => Scf.Loop.for l h init fun t a => toProg nD τ Λ (body t a)
  | _, .ite c d t e => @dite _ c d (fun h => toProg nD τ Λ (t h)) (fun h => toProg nD τ Λ (e h))

/-- The buffers' contents. -/
abbrev St (Val : EltTy → Type) (shp : B → Shape) (elt : B → EltTy) : Type := (b : B) → (shp b).Idx → Val (elt b)

/-- The trips of a loop, in order, over a state. -/
def iter {α S : Type} {n : Nat} (f : Fin n → α → S → α × S) : List (Fin n) → α × S → α × S
  | [], x => x
  | k :: ks, x => iter f ks (f k x.1 x.2)

variable [DecidableEq B]

/-- What the program yields and leaves. -/
def run : {α : Type} → Cmd Val Mr α → St Val shp elt → α × St Val shp elt
  | _, .ret a, σ => (a, σ)
  | _, .load b r _ k, σ => run (k fun j => σ b (r.idx j)) σ
  | _, .store b r w _ k, σ => run k (Function.update σ b (put r w (σ b)))
  | _, .bind m k, σ => run (k (run m σ).1) (run m σ).2
  | _, .loop l _ init body, σ => iter (fun t a s => run (body t a) s) (List.finRange l.trips) (init, σ)
  | _, .ite c d t e, σ => @dite _ c d (fun h => run (t h) σ) (fun h => run (e h) σ)

end Cmd

end Lang

section Sound

variable {nD : Nat} {τ : Topo} {sig : RefSig} {Λ : Labels} {B : Type} {shp : B → Shape} {elt : B → EltTy} [DecidableEq B]
variable {Ix : Type} [DecidableEq Ix] {Val : EltTy → Type} {Name : Type} [DecidableEq Name] {U : Type} [URA U] {Lvl : Type}
local notation "𝕄" => MT nD τ sig Ix Val Name U Lvl

variable (c : Dev nD) (Mr : ∀ b, Memref sig .tc .vmem (shp b) (elt b))

/-- Owning the buffers of a list at the contents `σ`. -/
def ownL (σ : Cmd.St Val shp elt) : List B → sProp 𝕄
  | [] => emp
  | b :: L => iprop(owns (c : Thread nD τ) (Mr b) fullShare (σ b) ∗ ownL σ L)

theorem ownL_congr (σ σ' : Cmd.St Val shp elt) : ∀ L : List B, (∀ b ∈ L, σ b = σ' b) →
    (ownL c Mr σ L : sProp 𝕄) ⊢ ownL c Mr σ' L
  | [], _ => .rfl
  | b :: L, h => by
    simp only [ownL]
    rw [h b List.mem_cons_self]
    exact sep_mono .rfl (ownL_congr σ σ' L fun b' hb' => h b' (List.mem_cons_of_mem _ hb'))

/-- One buffer taken out, to be put back at any contents. -/
theorem ownL_focus (σ : Cmd.St Val shp elt) (b : B) : ∀ L : List B, L.Nodup → b ∈ L →
    (ownL c Mr σ L : sProp 𝕄) ⊢ iprop(owns (c : Thread nD τ) (Mr b) fullShare (σ b)
      ∗ ∀ X, (owns (c : Thread nD τ) (Mr b) fullShare X -∗ ownL c Mr (Function.update σ b X) L))
  | [], _, h => absurd h List.not_mem_nil
  | b' :: L, hnd, h => by
    have hnd' := List.nodup_cons.mp hnd
    by_cases hb : b = b'
    · subst hb
      simp only [ownL]
      iintro ⟨H, HL⟩
      isplitl [H]; · iexact H
      iintro %X HX
      isplitl [HX]
      · rw [Function.update_self]; iexact HX
      · iapply (ownL_congr c Mr σ (Function.update σ b X) L (fun b'' hb'' => by
          rw [Function.update_of_ne]; rintro rfl; exact hnd'.1 hb''))
        iexact HL
    · have hL : b ∈ L := by
        rcases List.mem_cons.mp h with h | h
        · exact absurd h hb
        · exact h
      simp only [ownL]
      iintro ⟨H, HL⟩
      ihave HL' := (ownL_focus σ b L hnd'.2 hL) $$ HL
      icases HL' with ⟨Hb, HK⟩
      isplitl [Hb]; · iexact Hb
      iintro %X HX
      isplitl [H]
      · rw [Function.update_of_ne (Ne.symm hb)]; iexact H
      · iapply HK; iexact HX

variable [Preorder Lvl] {defs : Defs nD τ sig Val Λ} (𝒱 : Variants) (bd : Option 𝒱.V) {Γ : PendingWaitsCtx sig Ix} (E : Set Name)

theorem wp_load_own (L : List B) (hnd : L.Nodup) (hall : ∀ b, b ∈ L) (σ : Cmd.St Val shp elt) (b : B) (r : LoadRect (shp b))
    (h : (Mr b).view.LoadsAt r) {α : Type} (k : (r.shape.Idx → Val (elt b)) → Prog (TpuEff nD τ sig Val Λ .tc) α) (Q : α → sProp 𝕄)
    (hk : (ownL c Mr σ L : sProp 𝕄) ⊢ wp frame (wpE' defs 𝒱 (c : Thread nD τ) bd Γ) E (k fun j => σ b (r.idx j)) Q) :
    (ownL c Mr σ L : sProp 𝕄) ⊢ wp frame (wpE' defs 𝒱 (c : Thread nD τ) bd Γ) E (.op (.load (Mr b) r h) k) Q := by
  refine (ownL_focus c Mr σ b L hnd (hall b)).trans ?_
  unfold owns
  iintro ⟨⟨%f, %hf, H⟩, HK⟩
  iapply (wp_load 𝒱 (c : Thread nD τ) bd E (m := Mr b) (r := r) (hl := h) (S := (Mr b).view.set) (q := fullShare) (f := f)
    (by rw [← View.setOn_univ]; exact Finset.map_subset_map.mpr (Finset.subset_univ _))) $$ H
  iintro H
  ihave HO := HK $$ %(σ b) [H]
  · iexists f; isplitr; · ipureintro; exact hf
    iexact H
  rw [Function.update_eq_self, show (Mr b).view.readAt Val r f = fun j => σ b (r.idx j) from by
    funext j; rw [View.readAt_apply, hf]]
  iapply hk; iexact HO

theorem wp_store_own (L : List B) (hnd : L.Nodup) (hall : ∀ b, b ∈ L) (σ : Cmd.St Val shp elt) (b : B) (r : Rect (shp b))
    (w : r.shape.Idx → Val (elt b)) (h : ((Mr b).access r).Stores Finset.univ) (hm)
    {α : Type} (k : PUnit → Prog (TpuEff nD τ sig Val Λ .tc) α) (Q : α → sProp 𝕄)
    (hk : (ownL c Mr (Function.update σ b (put r w (σ b))) L : sProp 𝕄) ⊢ wp frame (wpE' defs 𝒱 (c : Thread nD τ) bd Γ) E (k ⟨⟩) Q) :
    (ownL c Mr σ L : sProp 𝕄) ⊢ wp frame (wpE' defs 𝒱 (c : Thread nD τ) bd Γ) E (.op (.store (Mr b) r w Finset.univ h hm) k) Q := by
  refine (ownL_focus c Mr σ b L hnd (hall b)).trans ?_
  unfold owns
  iintro ⟨⟨%f, %hf, H⟩, HK⟩
  iapply (wp_store 𝒱 (c : Thread nD τ) bd E (m := Mr b) (r := r) (hx := h) (hm := hm) (S := (Mr b).view.set) (f := f)
    (by rw [View.setOn_univ]; exact (Mr b).view.set_slice_subset r)) $$ H
  iintro H
  ihave HO := HK $$ %(put r w (σ b)) [H]
  · iexists (((Mr b).access r).write Val f w Finset.univ); isplitr
    · ipureintro
      funext p
      by_cases hp : ∃ j, r.emb j = p
      · obtain ⟨j, rfl⟩ := hp
        rw [put_emb]
        exact View.read_slice_write_emb r f w (Finset.mem_univ j)
      · rw [put_of_not r w _ p (fun j hj => hp ⟨j, hj⟩), ← hf]
        exact View.read_slice_write_of_not_mem r f w _ (fun hm => hp (by
          obtain ⟨j, -, hj⟩ := Finset.mem_map.mp hm; exact ⟨j, hj⟩))
    · iexact H
  iapply hk; iexact HO

/-- Whoever owns the buffers may run the program, and owns them afterwards at the contents `Cmd.run` says. -/
theorem Cmd.sound (L : List B) (hnd : L.Nodup) (hall : ∀ b, b ∈ L) : ∀ {α : Type} (p : Cmd Val Mr α) (σ : Cmd.St Val shp elt)
    (Q : α → sProp 𝕄), ((ownL c Mr (p.run σ).2 L : sProp 𝕄) ⊢ Q (p.run σ).1) →
    (ownL c Mr σ L : sProp 𝕄) ⊢ wp frame (wpE' defs 𝒱 (c : Thread nD τ) bd Γ) E (p.toProg nD τ Λ) Q := by
  intro α p
  induction p with
  | ret a => intro σ Q h; exact h.trans (le_wp_ret _ _ _ a Q)
  | load b r hr k ih => intro σ Q h; exact wp_load_own c Mr 𝒱 bd E L hnd hall σ b r _ _ Q (ih _ σ Q h)
  | store b r w hs k ih => intro σ Q h; exact wp_store_own c Mr 𝒱 bd E L hnd hall σ b r w hs _ _ Q (ih _ Q h)
  | bind m k ihm ihk =>
    intro σ Q h
    show _ ⊢ wp _ _ _ ((m.toProg nD τ Λ) >>= _) Q
    rw [wp_bind]
    exact ihm σ _ (ihk _ _ Q h)
  | loop l hl init body ih =>
    intro σ Q h
    show _ ⊢ wp _ _ _ (Scf.for _ _ _ hl init _) Q
    rw [Scf.for_eq]
    simp only [Cmd.run] at h
    revert h
    generalize List.finRange l.trips = ks
    intro h
    induction ks generalizing init σ with
    | nil => exact h.trans (le_wp_ret _ _ _ init Q)
    | cons k ks ihk =>
      rw [Scf.forFrom_cons, wp_bind]
      exact ih k init σ _ (ihk _ _ h)
  | ite cnd d t e iht ihe =>
    intro σ Q h
    by_cases hc : cnd
    · simp only [Cmd.toProg, Cmd.run, dif_pos hc] at h ⊢; exact iht hc σ Q h
    · simp only [Cmd.toProg, Cmd.run, dif_neg hc] at h ⊢; exact ihe hc σ Q h

end Sound

end Cert.Proof

end
-- ==== Proof.BodyBits.lean ====
/- The kernel's body written as a structured program over its 35 buffers (`Cmd`), one definition per loop of the
   source, and the fact that the printed body is this program. -/
module

public import proofs.«01_k».proof.Proof.Cmd
public import proofs.«01_k».proof.Proof.Gen.Kernel.Skeleton
public import Idealize.ShloMosaic.Lib.Pipeline.Regions

@[expose] public section

set_option maxRecDepth 65536

noncomputable section

namespace Cert.Kernel.Body

open Idealize.ShloMosaic Idealize.SL.Sem Cert.Proof Cert.Kernel Cert.Kernel.Gen

/-- The buffers of the body: twelve inputs, seven outputs, sixteen scratch buffers. -/
inductive Bf
  | x | xs | dt | tok | b | c | z | dy | dys | a | d | h0
  | dx | ddt | dz | db | dc | da | dd
  | hS | aS | bb | cb | dbacc | dcacc | ghS | del | u | gy | gz | sdt | y | ghb | ddS | adj
  deriving DecidableEq

/-- Their shapes -/
def shp : Bf → Shape
  | .x => S1x256x1024 | .xs => S1x1x256x8 | .dt => S1x256x1024 | .tok => S1x256x3 | .b => S1x256x16 | .c => S1x256x16
  | .z => S1x256x1024 | .dy => S1x256x1024 | .dys => S1x1x256x8 | .a => S16x1x8x128 | .d => S1x1024
  | .h0 => S1x1x16x1x8x128 | .dx => S1x256x1024 | .ddt => S1x256x1024 | .dz => S1x256x1024 | .db => S1x32x128
  | .dc => S1x32x128 | .da => S16x5x8x128 | .dd => S5x8x128 | .hS => S37008x128 | .aS => S32768x128
  | .bb => S4096x128 | .cb => S4096x128 | .dbacc => S4096x128 | .dcacc => S4096x128 | .ghS => S576x128
  | .del => S2080x128 | .u => S2080x128 | .gy => S2080x128 | .gz => S2080x128 | .sdt => S2080x128 | .y => S2080x128
  | .ghb => S2080x128 | .ddS => S2080x128 | .adj => S5x16x8x128

/-- and element types. -/
def elt : Bf → EltTy
  | .x => .fp8e4m3 | .dt => .fp8e4m3 | .b => .fp8e4m3 | .c => .fp8e4m3 | .z => .bf16 | .dy => .fp8e5m2
  | .dx => .bf16 | .ddt => .bf16 | .dz => .bf16 | _ => .f32

variable {F : FTy → Type} [FloatOps F]
variable (M : ∀ b : Bf, Memref sig .tc .vmem (shp b) (elt b))

/-- One tile. -/
abbrev V (F : FTy → Type) [FloatOps F] : Type := FVec F S8x128 .f32

abbrev C (α : Type) : Type 1 := Cmd (Elt F) M α

/-- A list of commands in order, their results collected. -/
def mapL {ι α : Type} (f : ι → C (F := F) M α) : List ι → C (F := F) M (List α)
  | [] => .ret []
  | i :: is => .bind (f i) fun a => .bind (mapL f is) fun ys => .ret (a :: ys)

/-- A list of commands in order, an accumulator threaded through. -/
def foldL {ι α : Type} (f : ι → α → C (F := F) M α) : List ι → α → C (F := F) M α
  | [], a => .ret a
  | i :: is, a => .bind (f i a) fun a' => foldL f is a'

/-- The 16 states, the 8 lanes of a group, the 4 steps of an unrolled trip, the 2 groups. -/
def L16 : List (Fin 16) := [⟨0, by decide⟩, ⟨1, by decide⟩, ⟨2, by decide⟩, ⟨3, by decide⟩, ⟨4, by decide⟩,
  ⟨5, by decide⟩, ⟨6, by decide⟩, ⟨7, by decide⟩, ⟨8, by decide⟩, ⟨9, by decide⟩, ⟨10, by decide⟩, ⟨11, by decide⟩,
  ⟨12, by decide⟩, ⟨13, by decide⟩, ⟨14, by decide⟩, ⟨15, by decide⟩]
def L8 : List (Fin 8) := [⟨0, by decide⟩, ⟨1, by decide⟩, ⟨2, by decide⟩, ⟨3, by decide⟩, ⟨4, by decide⟩,
  ⟨5, by decide⟩, ⟨6, by decide⟩, ⟨7, by decide⟩]
def L4 : List (Fin 4) := [⟨0, by decide⟩, ⟨1, by decide⟩, ⟨2, by decide⟩, ⟨3, by decide⟩]
def L2 : List (Fin 2) := [⟨0, by decide⟩, ⟨1, by decide⟩]

/-- Element `n` of a list, or the default. -/
def nth {α : Type} : List α → Nat → α → α
  | [], _, d => d
  | a :: _, 0, _ => a
  | _ :: l, n + 1, d => nth l n d

/-- A sum in the list's order. -/
def sum1 : List (V F) → V F
  | [] => broadcast S8x128 (Scalar.ofBits .f32 0x00000000#32)
  | a :: l => l.foldl addf a

/-- The tile of a one-row vector. -/
abbrev bc8 (v : FVec F S1x128 .f32) : V F := broadcastTo S8x128 v broadcasts_S1x128_S8x128

/-- A tile as stored. -/
abbrev st8 (v : V F) : V F := shapeCast S8x128 v shapeCasts_S8x128_S8x128

/-- The strided rows of step `4 t + j` in a slab. -/
abbrev r19 (t : Fin k0_t3_loop.trips) (j : Fin 4) : LoadRect S2080x128 :=
  ⟨k0_off19 t (BitVec.ofNat 32 j.val), S8x128.size, ![260, 1], (k0_off19_inb t j)⟩
abbrev r20 (t : Fin k0_t3_loop.trips) (j : Fin 4) (n : Fin 16) : Rect S4096x128 :=
  Rect.unit (s := S4096x128) (k0_off20 t (BitVec.ofNat 32 j.val) (BitVec.ofNat 32 n.val)) S1x128.size (k0_off20_inb t j n)
abbrev r21 (t : Fin k0_t3_loop.trips) (j : Fin 4) (n : Fin 16) : Rect S32768x128 :=
  Rect.unit (s := S32768x128) (k0_off21 t (BitVec.ofNat 32 j.val) (BitVec.ofNat 32 (8 * n.val))) S8x128.size (k0_off21_inb t j n)
abbrev r22 (t : Fin k0_t3_loop.trips) (j : Fin 4) (n : Fin 16) : Rect S37008x128 :=
  Rect.unit (s := S37008x128) (k0_off22 t (BitVec.ofNat 32 j.val) (BitVec.ofNat 32 (9 * n.val))) S8x128.size (k0_off22_inb t j n)
abbrev r23 (t : Fin k0_t3_loop.trips) (j : Fin 4) (g : Fin 2) : Rect S4096x128 :=
  Rect.unit (s := S4096x128) (k0_off23 t (BitVec.ofNat 32 j.val) (BitVec.ofNat 32 (8 * g.val))) S8x128.size (k0_off23_inb t j g)
abbrev r24 (t : Fin k0_t3_loop.trips) (j : Fin 4) (g : Fin 2) (k : Fin 8) : LoadRect S37008x128 :=
  ⟨k0_off24 t (BitVec.ofNat 32 j.val) (BitVec.ofNat 32 (72 * g.val)) (BitVec.ofNat 32 k.val), S8x128.size, ![9, 1], (k0_off24_inb t j g k)⟩
abbrev r25 (t : Fin k0_t3_loop.trips) (j : Fin 4) (k : Fin 8) : Rect S2080x128 :=
  Rect.unit (s := S2080x128) (k0_off25 t (BitVec.ofNat 32 (260 * k.val)) (BitVec.ofNat 32 j.val)) S1x128.size (k0_off25_inb t k j)

theorem inbA (n : Fin 16) : ∀ a, (![n.val, 0, 0, 0] : Fin 4 → Nat) a + S1x1x8x128.size a ≤ S16x1x8x128.size a := by
  intro a; fin_cases n <;> fin_cases a <;> decide

abbrev rA (n : Fin 16) : Rect S16x1x8x128 := Rect.unit (s := S16x1x8x128) ![n.val, 0, 0, 0] S1x1x8x128.size (inbA n)

/-- `exp2 (delta * (A * log2 e))`. -/
abbrev aOf (delta : V F) (av : FVec F S1x1x8x128 .f32) : V F :=
  exp2 (mulf delta (mulf (shapeCast S8x128 av shapeCasts_S1x1x8x128_S8x128) (broadcast S8x128 (Scalar.ofBits .f32 0x3FB8AA3B#32))))

/-- State `n` of one forward step: the new state and its contribution to `y`. -/
def fwdRow (t : Fin k0_t3_loop.trips) (j : Fin 4) (delta bu : V F) (h : Nat → V F) (n : Fin 16) : C (F := F) M (V F × V F) :=
  .load .a (rA n).toLoadRect h_S1x1x8x128 fun av =>
  .load .bb (r20 t j n).toLoadRect h_S1x128 fun bbv =>
  .load .cb (r20 t j n).toLoadRect h_S1x128 fun cbv =>
  .load .aS (r21 t j n).toLoadRect h_S8x128 fun _ =>
  .store .aS (r21 t j n) (st8 (aOf delta av)) (View.stores_vmem_bits_univ h_S8x128 rfl) <|
  .load .hS (r22 t j n).toLoadRect h_S8x128 fun _ =>
  .store .hS (r22 t j n) (st8 (addf (mulf (aOf delta av) (h n.val)) (mulf bu (bc8 bbv)))) (View.stores_vmem_bits_univ h_S8x128 rfl) <|
  .ret (addf (mulf (aOf delta av) (h n.val)) (mulf bu (bc8 bbv)), mulf (bc8 cbv) (addf (mulf (aOf delta av) (h n.val)) (mulf bu (bc8 bbv))))

/-- Group `g` of a forward step's contribution to `dC`. -/
def fwdDc (t : Fin k0_t3_loop.trips) (j : Fin 4) (g : Fin 2) : C (F := F) M Unit :=
  .load .dcacc (r23 t j g).toLoadRect h_S8x128 fun acc0 =>
  .bind (foldL M (fun k acc => .load .hS (r24 t j g k) h_S8x128 fun hk =>
      .load .gy (r25 t j k).toLoadRect h_S1x128 fun gyr => .ret (addf acc (mulf hk (bc8 gyr)))) L8 acc0) fun acc =>
  .load .dcacc (r23 t j g).toLoadRect h_S8x128 fun _ =>
  .store .dcacc (r23 t j g) (st8 acc) (View.stores_vmem_bits_univ h_S8x128 rfl) (.ret ())

/-- One forward step. -/
def fwdStep (t : Fin k0_t3_loop.trips) (j : Fin 4) (s : (Nat → V F) × V F) : C (F := F) M ((Nat → V F) × V F) :=
  .load .del (r19 t j) h_S8x128 fun delta =>
  .load .u (r19 t j) h_S8x128 fun u =>
  .load .gy (r19 t j) h_S8x128 fun gy =>
  .bind (mapL M (fwdRow M t j delta (mulf delta u) s.1) L16) fun rs =>
  .load .y (r19 t j) h_S8x128 fun _ =>
  .store .y ⟨r19 t j, spos_260_1⟩ (st8 (sum1 (rs.map Prod.snd))) (View.stores_vmem_bits_univ h_S8x128 rfl) <|
  .bind (mapL M (fwdDc M t j) L2) fun _ =>
  .ret (fun n => nth (rs.map Prod.fst) n (s.1 n), addf s.2 (mulf gy u))

/-- Sixteen tiles and one more. -/
abbrev Tup17 (F : FTy → Type) [FloatOps F] : Type :=
  V F × V F × V F × V F × V F × V F × V F × V F × V F × V F × V F × V F × V F × V F × V F × V F × V F

def un17 (p : Tup17 F) : (Nat → V F) × V F :=
  (fun n => nth [p.1, p.2.1, p.2.2.1, p.2.2.2.1, p.2.2.2.2.1, p.2.2.2.2.2.1, p.2.2.2.2.2.2.1, p.2.2.2.2.2.2.2.1, p.2.2.2.2.2.2.2.2.1,
    p.2.2.2.2.2.2.2.2.2.1, p.2.2.2.2.2.2.2.2.2.2.1, p.2.2.2.2.2.2.2.2.2.2.2.1, p.2.2.2.2.2.2.2.2.2.2.2.2.1,
    p.2.2.2.2.2.2.2.2.2.2.2.2.2.1, p.2.2.2.2.2.2.2.2.2.2.2.2.2.2.1, p.2.2.2.2.2.2.2.2.2.2.2.2.2.2.2.1] n p.1,
    p.2.2.2.2.2.2.2.2.2.2.2.2.2.2.2.2)

def mk17 (s : (Nat → V F) × V F) : Tup17 F :=
  (s.1 0, s.1 1, s.1 2, s.1 3, s.1 4, s.1 5, s.1 6, s.1 7, s.1 8, s.1 9, s.1 10, s.1 11, s.1 12, s.1 13, s.1 14, s.1 15, s.2)

/-- One trip of the forward loop. -/
def t3 (t : Fin k0_t3_loop.trips) (p : Tup17 F) : C (F := F) M (Tup17 F) :=
  .bind (foldL M (fwdStep M t) L4 (un17 p)) fun s => .ret (mk17 s)

/-- The rows of backward step `255 - (4 t + j)`. -/
abbrev r58 (t : Fin k0_t4_loop.trips) (j : Fin 4) : LoadRect S2080x128 :=
  ⟨k0_off58 t (BitVec.ofNat 32 j.val), S8x128.size, ![260, 1], (k0_off58_inb t j)⟩
abbrev r59 (t : Fin k0_t4_loop.trips) (j : Fin 4) (n : Fin 16) : Rect S4096x128 :=
  Rect.unit (s := S4096x128) (k0_off59 t (BitVec.ofNat 32 j.val) (BitVec.ofNat 32 n.val)) S1x128.size (k0_off59_inb t j n)
abbrev r60 (t : Fin k0_t4_loop.trips) (j : Fin 4) (n : Fin 16) : Rect S32768x128 :=
  Rect.unit (s := S32768x128) (k0_off60 t (BitVec.ofNat 32 j.val) (BitVec.ofNat 32 (8 * n.val))) S8x128.size (k0_off60_inb t j n)
abbrev r61 (t : Fin k0_t4_loop.trips) (j : Fin 4) (n : Fin 16) : Rect S37008x128 :=
  Rect.unit (s := S37008x128) (k0_off61 t (BitVec.ofNat 32 j.val) (BitVec.ofNat 32 (9 * n.val))) S8x128.size (k0_off61_inb t j n)
abbrev r62 (t : Fin k0_t4_loop.trips) (j : Fin 4) (g : Fin 2) : Rect S4096x128 :=
  Rect.unit (s := S4096x128) (k0_off62 t (BitVec.ofNat 32 j.val) (BitVec.ofNat 32 (8 * g.val))) S8x128.size (k0_off62_inb t j g)

theorem inbG (j : Fin 4) (n : Fin 16) : ∀ a, (![144 * j.val + 9 * n.val, 0] : Fin 2 → Nat) a + S8x128.size a ≤ S576x128.size a := by
  intro a; fin_cases j <;> fin_cases n <;> fin_cases a <;> decide

theorem inbH (j : Fin 4) (g : Fin 2) (k : Fin 8) : ∀ a, S8x128.size a = 0 ∨
    (![144 * j.val + 72 * g.val + k.val, 0] : Fin 2 → Nat) a + (![9, 1] : Fin 2 → Nat) a * (S8x128.size a - 1) < S576x128.size a := by
  intro a; fin_cases j <;> fin_cases g <;> fin_cases k <;> fin_cases a <;> decide

/-- Where step `j` of a trip keeps state `n`'s products, -/
abbrev rG (j : Fin 4) (n : Fin 16) : Rect S576x128 := Rect.unit (s := S576x128) ![144 * j.val + 9 * n.val, 0] S8x128.size (inbG j n)
/-- and the eight states of a group at sublane `k`. -/
abbrev rH (j : Fin 4) (g : Fin 2) (k : Fin 8) : LoadRect S576x128 :=
  ⟨![144 * j.val + 72 * g.val + k.val, 0], S8x128.size, ![9, 1], inbH j g k⟩

/-- State `n` of one backward step: the new adjoint, the new `dA`, and the contributions to `ddelta` and `Σ gh b`. -/
def bwdRow (t : Fin k0_t4_loop.trips) (j : Fin 4) (delta bu gy : V F) (adj da : Nat → V F) (n : Fin 16) :
    C (F := F) M ((V F × V F) × (V F × V F)) :=
  .load .bb (r59 t j n).toLoadRect h_S1x128 fun bbv =>
  .load .cb (r59 t j n).toLoadRect h_S1x128 fun cbv =>
  .load .aS (r60 t j n).toLoadRect h_S8x128 fun a =>
  .load .hS (r61 t j n).toLoadRect h_S8x128 fun hp =>
  .load .a (rA n).toLoadRect h_S1x1x8x128 fun av =>
  .load .ghS (rG j n).toLoadRect h_S8x128 fun _ =>
  .store .ghS (rG j n) (st8 (mulf (addf (mulf gy (bc8 cbv)) (adj n.val)) bu)) (View.stores_vmem_bits_univ h_S8x128 rfl) <|
  .ret ((mulf a (addf (mulf gy (bc8 cbv)) (adj n.val)),
      addf (da n.val) (mulf (mulf (mulf a (addf (mulf gy (bc8 cbv)) (adj n.val))) hp) delta)),
    (mulf (mulf (mulf a (addf (mulf gy (bc8 cbv)) (adj n.val))) hp) (shapeCast S8x128 av shapeCasts_S1x1x8x128_S8x128),
      mulf (addf (mulf gy (bc8 cbv)) (adj n.val)) (bc8 bbv)))

/-- Group `g` of a backward step's contribution to `dB`. -/
def bwdDb (t : Fin k0_t4_loop.trips) (j : Fin 4) (g : Fin 2) : C (F := F) M Unit :=
  .load .dbacc (r62 t j g).toLoadRect h_S8x128 fun acc0 =>
  .bind (foldL M (fun k acc => .load .ghS (rH j g k) h_S8x128 fun hk => .ret (addf acc hk)) L8 acc0) fun acc =>
  .load .dbacc (r62 t j g).toLoadRect h_S8x128 fun _ =>
  .store .dbacc (r62 t j g) (st8 acc) (View.stores_vmem_bits_univ h_S8x128 rfl) (.ret ())

/-- One backward step. -/
def bwdStep (t : Fin k0_t4_loop.trips) (j : Fin 4) (s : (Nat → V F) × (Nat → V F)) : C (F := F) M ((Nat → V F) × (Nat → V F)) :=
  .load .del (r58 t j) h_S8x128 fun delta =>
  .load .u (r58 t j) h_S8x128 fun u =>
  .load .gy (r58 t j) h_S8x128 fun gy =>
  .bind (mapL M (bwdRow M t j delta (mulf delta u) gy s.1 s.2) L16) fun rs =>
  .load .ghb (r58 t j) h_S8x128 fun _ =>
  .store .ghb ⟨r58 t j, spos_260_1⟩ (st8 (sum1 (rs.map fun r => r.2.2))) (View.stores_vmem_bits_univ h_S8x128 rfl) <|
  .load .ddS (r58 t j) h_S8x128 fun _ =>
  .store .ddS ⟨r58 t j, spos_260_1⟩ (st8 (sum1 (rs.map fun r => r.2.1))) (View.stores_vmem_bits_univ h_S8x128 rfl) <|
  .bind (mapL M (bwdDb M t j) L2) fun _ =>
  .ret (fun n => nth (rs.map fun r => r.1.1) n (s.1 n), fun n => nth (rs.map fun r => r.1.2) n (s.2 n))

/-- Thirty-two tiles. -/
abbrev Tup32 (F : FTy → Type) [FloatOps F] : Type :=
  V F × V F × V F × V F × V F × V F × V F × V F × V F × V F × V F × V F × V F × V F × V F × V F × V F × V F × V F × V F × V F × V F × V F × V F × V F × V F × V F × V F × V F × V F × V F × V F

def un32 (p : Tup32 F) : (Nat → V F) × (Nat → V F) :=
  (fun n => nth [p.1, p.2.1, p.2.2.1, p.2.2.2.1, p.2.2.2.2.1, p.2.2.2.2.2.1, p.2.2.2.2.2.2.1, p.2.2.2.2.2.2.2.1, p.2.2.2.2.2.2.2.2.1, p.2.2.2.2.2.2.2.2.2.1, p.2.2.2.2.2.2.2.2.2.2.1, p.2.2.2.2.2.2.2.2.2.2.2.1, p.2.2.2.2.2.2.2.2.2.2.2.2.1, p.2.2.2.2.2.2.2.2.2.2.2.2.2.1, p.2.2.2.2.2.2.2.2.2.2.2.2.2.2.1, p.2.2.2.2.2.2.2.2.2.2.2.2.2.2.2.1] n p.1,
   fun n => nth [p.2.2.2.2.2.2.2.2.2.2.2.2.2.2.2.2.1, p.2.2.2.2.2.2.2.2.2.2.2.2.2.2.2.2.2.1, p.2.2.2.2.2.2.2.2.2.2.2.2.2.2.2.2.2.2.1, p.2.2.2.2.2.2.2.2.2.2.2.2.2.2.2.2.2.2.2.1, p.2.2.2.2.2.2.2.2.2.2.2.2.2.2.2.2.2.2.2.2.1, p.2.2.2.2.2.2.2.2.2.2.2.2.2.2.2.2.2.2.2.2.2.1, p.2.2.2.2.2.2.2.2.2.2.2.2.2.2.2.2.2.2.2.2.2.2.1, p.2.2.2.2.2.2.2.2.2.2.2.2.2.2.2.2.2.2.2.2.2.2.2.1, p.2.2.2.2.2.2.2.2.2.2.2.2.2.2.2.2.2.2.2.2.2.2.2.2.1, p.2.2.2.2.2.2.2.2.2.2.2.2.2.2.2.2.2.2.2.2.2.2.2.2.2.1, p.2.2.2.2.2.2.2.2.2.2.2.2.2.2.2.2.2.2.2.2.2.2.2.2.2.2.1, p.2.2.2.2.2.2.2.2.2.2.2.2.2.2.2.2.2.2.2.2.2.2.2.2.2.2.2.1, p.2.2.2.2.2.2.2.2.2.2.2.2.2.2.2.2.2.2.2.2.2.2.2.2.2.2.2.2.1, p.2.2.2.2.2.2.2.2.2.2.2.2.2.2.2.2.2.2.2.2.2.2.2.2.2.2.2.2.2.1, p.2.2.2.2.2.2.2.2.2.2.2.2.2.2.2.2.2.2.2.2.2.2.2.2.2.2.2.2.2.2.1, p.2.2.2.2.2.2.2.2.2.2.2.2.2.2.2.2.2.2.2.2.2.2.2.2.2.2.2.2.2.2.2] n p.1)

def mk32 (s : (Nat → V F) × (Nat → V F)) : Tup32 F :=
  (s.1 0, s.1 1, s.1 2, s.1 3, s.1 4, s.1 5, s.1 6, s.1 7, s.1 8, s.1 9, s.1 10, s.1 11, s.1 12, s.1 13, s.1 14, s.1 15, s.2 0, s.2 1, s.2 2, s.2 3, s.2 4, s.2 5, s.2 6, s.2 7, s.2 8, s.2 9, s.2 10, s.2 11, s.2 12, s.2 13, s.2 14, s.2 15)

/-- One trip of the backward loop. -/
def t4 (t : Fin k0_t4_loop.trips) (p : Tup32 F) : C (F := F) M (Tup32 F) :=
  .bind (foldL M (bwdStep M t) L4 (un32 p)) fun s => .ret (mk32 s)

/-! ## Spreading B and C over the lanes -/

/-- The diagonal mask. -/
def eye16 : IVec S8x16x16 1 := cmpi .eq (iota .tc S8x16x16 32 [1] iota_S8x16x16_d1_w32) (iota .tc S8x16x16 32 [2] iota_S8x16x16_d2_w32)

theorem slq (q : Fin 4) : S32x16.Slices ![8 * q.val, 0] S8x16 :=
  match q with
  | ⟨0, _⟩ => slices_S32x16_o0_0_S8x16 | ⟨1, _⟩ => slices_S32x16_o8_0_S8x16
  | ⟨2, _⟩ => slices_S32x16_o16_0_S8x16 | ⟨3, _⟩ => slices_S32x16_o24_0_S8x16

/-- Eight rows of sixteen, each entry spread along a row of its own. -/
def spread (q : Fin 4) (v : FVec F S32x16 .f32) : FVec F S128x128 .f32 :=
  shapeCast S128x128 (shapeCast S128x128 (broadcastTo S8x16x128 (shapeCast S8x16x1 (shapeCast S8x16x1
    (multiReduction .add [2] S8x16 (select eye16 (broadcastTo S8x16x16 (shapeCast S8x1x16 (shapeCast S8x1x16
      (extractStridedSlice S8x16 ![8 * q.val, 0] v (slq q)) shapeCasts_S8x16_S8x1x16) shapeCasts_S8x1x16_S8x1x16)
      broadcasts_S8x1x16_S8x16x16) (broadcast S8x16x16 (Scalar.ofBits .f32 0x00000000#32))) 0x00000000#32
      reduces_S8x16x16_S8x16 (.inl rfl) rfl) shapeCasts_S8x16_S8x16x1) shapeCasts_S8x16x1_S8x16x1)
    broadcasts_S8x16x1_S8x16x128) shapeCasts_S8x16x128_S128x128) shapeCasts_S128x128_S128x128

/-- Codes times the token's scale, `B`'s -/
def bVal (tk : FVec F S1x32x3 .f32) (v : FVec F S1x32x16 .fp8e4m3) : FVec F S32x16 .f32 :=
  mulf (extf .f32 (shapeCast S32x16 v shapeCasts_S1x32x16_S32x16) bitsLt_fp8e4m3_f32)
    (broadcastTo S32x16 (extractStridedSlice S32x1 ![0, 1] (shapeCast S32x3 tk shapeCasts_S1x32x3_S32x3) slices_S32x3_o0_1_S32x1)
      broadcasts_S32x1_S32x16)
/-- and `C`'s. -/
def cVal (tk : FVec F S1x32x3 .f32) (v : FVec F S1x32x16 .fp8e4m3) : FVec F S32x16 .f32 :=
  mulf (extf .f32 (shapeCast S32x16 v shapeCasts_S1x32x16_S32x16) bitsLt_fp8e4m3_f32)
    (broadcastTo S32x16 (extractStridedSlice S32x1 ![0, 2] (shapeCast S32x3 tk shapeCasts_S1x32x3_S32x3) slices_S32x3_o0_2_S32x1)
      broadcasts_S32x1_S32x16)

abbrev r6 (i : grid0.Coords) (h : k0_cond3 i = 1#1) (t : Fin k0_t1_loop.trips) (q : Fin 4) : Rect S4096x128 :=
  Rect.unit (s := S4096x128) (k0_off6 t (BitVec.ofNat 32 (8 * q.val))) S128x128.size (k0_off6_inb i t h q)

/-- One trip of the spreading loop. -/
def t1 (i : grid0.Coords) (h : k0_cond3 i = 1#1) (t : Fin k0_t1_loop.trips) (_ : Unit) : C (F := F) M Unit :=
  .load .tok (Rect.unit (s := S1x256x3) (k0_off4 t) S1x32x3.size (k0_off4_inb i t h)).toLoadRect h_S1x32x3 fun tk =>
  .load .b (Rect.unit (s := S1x256x16) (k0_off5 t) S1x32x16.size (k0_off5_inb i t h)).toLoadRect h_S1x32x16 fun bv =>
  .bind (mapL M (fun q : Fin 4 => .load .bb (r6 i h t q).toLoadRect h_S128x128 fun _ =>
    .store .bb (r6 i h t q) (spread q (bVal tk bv)) (View.stores_vmem_bits_univ h_S128x128 rfl) (.ret ())) L4) fun _ =>
  .load .c (Rect.unit (s := S1x256x16) (k0_off5 t) S1x32x16.size (k0_off5_inb i t h)).toLoadRect h_S1x32x16 fun cv =>
  .bind (mapL M (fun q : Fin 4 => .load .cb (r6 i h t q).toLoadRect h_S128x128 fun _ =>
    .store .cb (r6 i h t q) (spread q (cVal tk cv)) (View.stores_vmem_bits_univ h_S128x128 rfl) (.ret ())) L4) fun _ =>
  .ret ()

/-! ## The pointwise quantities -/

theorem slx (k : Fin 8) : S32x8.Slices ![0, k.val] S32x1 :=
  match k with
  | ⟨0, _⟩ => slices_S32x8_o0_0_S32x1 | ⟨1, _⟩ => slices_S32x8_o0_1_S32x1
  | ⟨2, _⟩ => slices_S32x8_o0_2_S32x1 | ⟨3, _⟩ => slices_S32x8_o0_3_S32x1
  | ⟨4, _⟩ => slices_S32x8_o0_4_S32x1 | ⟨5, _⟩ => slices_S32x8_o0_5_S32x1
  | ⟨6, _⟩ => slices_S32x8_o0_6_S32x1 | ⟨7, _⟩ => slices_S32x8_o0_7_S32x1

/-- A slab of 32 rows. -/
abbrev W (F : FTy → Type) [FloatOps F] : Type := FVec F S32x128 .f32

abbrev one32 : W F := broadcast S32x128 (Scalar.ofBits .f32 0x3F800000#32)
abbrev zero32 : W F := broadcast S32x128 (Scalar.ofBits .f32 0x00000000#32)
abbrev st32 (v : W F) : W F := shapeCast S32x128 v shapeCasts_S32x128_S32x128

def uVal (k : Fin 8) (xs : FVec F S1x1x32x8 .f32) (x : FVec F S1x32x128 .fp8e4m3) : W F :=
  mulf (extf .f32 (shapeCast S32x128 x shapeCasts_S1x32x128_S32x128) bitsLt_fp8e4m3_f32)
    (broadcastTo S32x128 (extractStridedSlice S32x1 ![0, k.val] (shapeCast S32x8 xs shapeCasts_S1x1x32x8_S32x8) (slx k)) broadcasts_S32x1_S32x128)
def dyVal (k : Fin 8) (xs : FVec F S1x1x32x8 .f32) (x : FVec F S1x32x128 .fp8e5m2) : W F :=
  mulf (extf .f32 (shapeCast S32x128 x shapeCasts_S1x32x128_S32x128) bitsLt_fp8e5m2_f32)
    (broadcastTo S32x128 (extractStridedSlice S32x1 ![0, k.val] (shapeCast S32x8 xs shapeCasts_S1x1x32x8_S32x8) (slx k)) broadcasts_S32x1_S32x128)
def dtVal (tk : FVec F S1x32x3 .f32) (x : FVec F S1x32x128 .fp8e4m3) : W F :=
  mulf (extf .f32 (shapeCast S32x128 x shapeCasts_S1x32x128_S32x128) bitsLt_fp8e4m3_f32)
    (broadcastTo S32x128 (shapeCast S32x1 (extractStridedSlice S32x1 ![0, 0] (shapeCast S32x3 tk shapeCasts_S1x32x3_S32x3)
      slices_S32x3_o0_0_S32x1) shapeCasts_S32x1_S32x1) broadcasts_S32x1_S32x128)
def zVal (x : FVec F S1x32x128 .bf16) : W F :=
  extf .f32 (shapeCast S32x128 x shapeCasts_S1x32x128_S32x128) bitsLt_bf16_f32

/-- `e = exp (-|dt|)`, `w = 1 + e`, softplus, its derivative, and the logistic function of `z`. -/
def eVal (dt : W F) : W F := exp (subf zero32 (absf dt))
def wVal (dt : W F) : W F := addf one32 (eVal dt)
def delVal (dt : W F) : W F := addf (maximumf dt zero32)
  (select (cmpf .oeq (wVal dt) one32) (eVal dt) (mulf (log (wVal dt)) (divf (eVal dt) (subf (wVal dt) one32))))
def sdtVal (dt : W F) : W F := divf (select (cmpf .oge dt zero32) one32 (eVal dt)) (wVal dt)
def szVal (z : W F) : W F := divf one32 (addf one32 (exp (subf zero32 z)))
def gyVal (dy z : W F) : W F := mulf dy (mulf z (szVal z))
def gzVal (dy z : W F) : W F := mulf (mulf dy (szVal z)) (addf one32 (mulf z (subf one32 (szVal z))))

abbrev r10 (t : Fin k0_t2_loop.trips) (k : Fin 8) : Rect S2080x128 :=
  Rect.unit (s := S2080x128) (k0_off10 t (BitVec.ofNat 32 (260 * k.val))) S32x128.size (k0_off10_inb t k)

theorem inbX (t : Fin k0_t2_loop.trips) (k : Fin 8) :
    ∀ a, (![0, k0_off9 t 1, 128 * k.val] : Fin 3 → Nat) a + S1x32x128.size a ≤ S1x256x1024.size a := by
  have h := k0_off9_inb t 1
  have hk := k.isLt
  intro a; fin_cases a
  · exact Nat.le_refl 1
  · exact h
  · show 128 * k.val + 128 ≤ 1024; omega

abbrev rX (t : Fin k0_t2_loop.trips) (k : Fin 8) : Rect S1x256x1024 :=
  Rect.unit (s := S1x256x1024) ![0, k0_off9 t 1, 128 * k.val] S1x32x128.size (inbX t k)

/-- Sublane `k` of a trip. -/
def preRow (t : Fin k0_t2_loop.trips) (tk : FVec F S1x32x3 .f32) (xs dys : FVec F S1x1x32x8 .f32) (k : Fin 8) : C (F := F) M Unit :=
  .load .x (rX t k).toLoadRect h_S1x32x128 fun x =>
  .load .dy (rX t k).toLoadRect h_S1x32x128 fun dy =>
  .load .dt (rX t k).toLoadRect h_S1x32x128 fun dt =>
  .load .z (rX t k).toLoadRect h_S1x32x128 fun z =>
  .load .del (r10 t k).toLoadRect h_S32x128 fun _ =>
  .store .del (r10 t k) (st32 (delVal (dtVal tk dt))) (View.stores_vmem_bits_univ h_S32x128 rfl) <|
  .load .u (r10 t k).toLoadRect h_S32x128 fun _ =>
  .store .u (r10 t k) (st32 (uVal k xs x)) (View.stores_vmem_bits_univ h_S32x128 rfl) <|
  .load .gy (r10 t k).toLoadRect h_S32x128 fun _ =>
  .store .gy (r10 t k) (st32 (gyVal (dyVal k dys dy) (zVal z))) (View.stores_vmem_bits_univ h_S32x128 rfl) <|
  .load .gz (r10 t k).toLoadRect h_S32x128 fun _ =>
  .store .gz (r10 t k) (st32 (gzVal (dyVal k dys dy) (zVal z))) (View.stores_vmem_bits_univ h_S32x128 rfl) <|
  .load .sdt (r10 t k).toLoadRect h_S32x128 fun _ =>
  .store .sdt (r10 t k) (st32 (sdtVal (dtVal tk dt))) (View.stores_vmem_bits_univ h_S32x128 rfl) (.ret ())

/-- One trip of the pointwise loop. -/
def t2 (t : Fin k0_t2_loop.trips) (_ : Unit) : C (F := F) M Unit :=
  .load .tok (Rect.unit (s := S1x256x3) (k0_off7 t) S1x32x3.size (k0_off7_inb t)).toLoadRect h_S1x32x3 fun tk =>
  .load .xs (Rect.unit (s := S1x1x256x8) (k0_off8 t) S1x1x32x8.size (k0_off8_inb t)).toLoadRect h_S1x1x32x8 fun xs =>
  .load .dys (Rect.unit (s := S1x1x256x8) (k0_off8 t) S1x1x32x8.size (k0_off8_inb t)).toLoadRect h_S1x1x32x8 fun dys =>
  .bind (mapL M (preRow M t tk xs dys) L8) fun _ => .ret ()

/-! ## The results of a chunk -/

abbrev r63 (t : Fin k0_t5_loop.trips) (k : Fin 8) : Rect S2080x128 :=
  Rect.unit (s := S2080x128) (k0_off63 t (BitVec.ofNat 32 (260 * k.val))) S32x128.size (k0_off63_inb t k)

theorem inbY (t : Fin k0_t5_loop.trips) (k : Fin 8) :
    ∀ a, (![0, k0_off64 t 1, 128 * k.val] : Fin 3 → Nat) a + S1x32x128.size a ≤ S1x256x1024.size a := by
  have h := k0_off64_inb t 1
  have hk := k.isLt
  intro a; fin_cases a
  · exact Nat.le_refl 1
  · exact h
  · show 128 * k.val + 128 ≤ 1024; omega

abbrev rY (t : Fin k0_t5_loop.trips) (k : Fin 8) : Rect S1x256x1024 :=
  Rect.unit (s := S1x256x1024) ![0, k0_off64 t 1, 128 * k.val] S1x32x128.size (inbY t k)

theorem packY (t : Fin k0_t5_loop.trips) (k : Fin 8) : (rY t k).PackedRows (EltTy.packing .bf16) :=
  match k with
  | ⟨0, _⟩ => k0_off64_packedbf16 t | ⟨1, _⟩ => k0_off65_packedbf16 t | ⟨2, _⟩ => k0_off66_packedbf16 t
  | ⟨3, _⟩ => k0_off67_packedbf16 t | ⟨4, _⟩ => k0_off68_packedbf16 t | ⟨5, _⟩ => k0_off69_packedbf16 t
  | ⟨6, _⟩ => k0_off70_packedbf16 t | ⟨7, _⟩ => k0_off71_packedbf16 t

theorem inbD (k : Fin 8) : ∀ a, (![0, 128 * k.val] : Fin 2 → Nat) a + S1x128.size a ≤ S1x1024.size a := by
  intro a; fin_cases k <;> fin_cases a <;> decide

/-- A slab as a bf16 result. -/
abbrev out32 (v : W F) : FVec F S1x32x128 .bf16 := shapeCast S1x32x128 (truncf .bf16 v bitsLt_bf16_f32) shapeCasts_S32x128_S1x32x128
/-- One row for all 32. -/
abbrev dRow (d : FVec F S1x128 .f32) : W F := broadcastTo S32x128 (shapeCast S1x128 d shapeCasts_S1x128_S1x128) broadcasts_S1x128_S32x128

variable (hM : ∀ b, (M b).IsWhole)

/-- Sublane `k` of a trip. -/
def postRow (t : Fin k0_t5_loop.trips) (k : Fin 8) : C (F := F) M Unit :=
  .load .d (Rect.unit (s := S1x1024) ![0, 128 * k.val] S1x128.size (inbD k)).toLoadRect h_S1x128 fun d =>
  .load .u (r63 t k).toLoadRect h_S32x128 fun u =>
  .load .ghb (r63 t k).toLoadRect h_S32x128 fun ghb =>
  .load .gy (r63 t k).toLoadRect h_S32x128 fun gy =>
  .load .del (r63 t k).toLoadRect h_S32x128 fun del =>
  .load .dx (rY t k).toLoadRect h_S1x32x128 fun _ =>
  .store .dx (rY t k) (out32 (addf (mulf gy (dRow d)) (mulf del ghb)))
    (View.stores_vmem h_S1x32x128 ((hM .dx).storeExact_slice rfl _ (packY t k)) (fun _ => rfl)) <|
  .load .ddS (r63 t k).toLoadRect h_S32x128 fun dd =>
  .load .sdt (r63 t k).toLoadRect h_S32x128 fun sdt =>
  .load .ddt (rY t k).toLoadRect h_S1x32x128 fun _ =>
  .store .ddt (rY t k) (out32 (mulf (addf dd (mulf u ghb)) sdt))
    (View.stores_vmem h_S1x32x128 ((hM .ddt).storeExact_slice rfl _ (packY t k)) (fun _ => rfl)) <|
  .load .gz (r63 t k).toLoadRect h_S32x128 fun gz =>
  .load .y (r63 t k).toLoadRect h_S32x128 fun y =>
  .load .dz (rY t k).toLoadRect h_S1x32x128 fun _ =>
  .store .dz (rY t k) (out32 (mulf gz (addf y (mulf (dRow d) u))))
    (View.stores_vmem h_S1x32x128 ((hM .dz).storeExact_slice rfl _ (packY t k)) (fun _ => rfl)) (.ret ())

/-- One trip of the loop that writes `dx`, `ddt` and `dz`. -/
def t5 (t : Fin k0_t5_loop.trips) (_ : Unit) : C (F := F) M Unit :=
  .bind (mapL M (postRow M hM t) L8) fun _ => .ret ()

/-- The sums of 128 rows. -/
def laneSum (v : FVec F S128x128 .f32) : FVec F S1x1x128 .f32 :=
  shapeCast S1x1x128 (shapeCast S1x128 (multiReduction .add [0] S128 (transpose S128x128 [1, 0] v transposes_S128x128_p1_0_S128x128)
    0x00000000#32 reduces_S128x128_S128 (.inl rfl) rfl) shapeCasts_S128_S1x128) shapeCasts_S1x128_S1x1x128

/-- One trip of the loop that writes `dB` and `dC`. -/
def t6 (i : grid0.Coords) (h : k0_cond4 i = 1#1) (t : Fin k0_t6_loop.trips) (_ : Unit) : C (F := F) M Unit :=
  .load .dbacc (Rect.unit (s := S4096x128) (k0_off72 t) S128x128.size (k0_off72_inb i t h)).toLoadRect h_S128x128 fun v =>
  .load .db (Rect.unit (s := S1x32x128) (k0_off73 t) S1x1x128.size (k0_off73_inb i t h)).toLoadRect h_S1x1x128 fun _ =>
  .store .db (Rect.unit (s := S1x32x128) (k0_off73 t) S1x1x128.size (k0_off73_inb i t h)) (laneSum v) (View.stores_vmem_bits_univ h_S1x1x128 rfl) <|
  .load .dcacc (Rect.unit (s := S4096x128) (k0_off72 t) S128x128.size (k0_off72_inb i t h)).toLoadRect h_S128x128 fun v =>
  .load .dc (Rect.unit (s := S1x32x128) (k0_off73 t) S1x1x128.size (k0_off73_inb i t h)).toLoadRect h_S1x1x128 fun _ =>
  .store .dc (Rect.unit (s := S1x32x128) (k0_off73 t) S1x1x128.size (k0_off73_inb i t h)) (laneSum v) (View.stores_vmem_bits_univ h_S1x1x128 rfl) (.ret ())

/-! ## The whole body -/

theorem inb0 (n : Fin 16) : ∀ a, (![0, 0, n.val, 0, 0, 0] : Fin 6 → Nat) a + S1x1x1x1x8x128.size a ≤ S1x1x16x1x8x128.size a := by
  intro a; fin_cases n <;> fin_cases a <;> decide
theorem inbZ (n : Fin 16) : ∀ a, (![9 * n.val, 0] : Fin 2 → Nat) a + S8x128.size a ≤ S37008x128.size a := by
  intro a; fin_cases n <;> fin_cases a <;> decide
theorem inbAdj (i : grid0.Coords) (n : Fin 16) :
    ∀ a, (![k0_off26 i 0, n.val, 0, 0] : Fin 4 → Nat) a + S1x1x8x128.size a ≤ S5x16x8x128.size a := by
  have h := k0_off26_inb i 0
  have hn := n.isLt
  intro a; fin_cases a
  · exact h
  · show n.val + 1 ≤ 16; omega
  · exact Nat.le_refl 8
  · exact Nat.le_refl 128
theorem inbDa (i : grid0.Coords) (n : Fin 16) :
    ∀ a, (![n.val, k0_off42 i 1, 0, 0] : Fin 4 → Nat) a + S1x1x8x128.size a ≤ S16x5x8x128.size a := by
  have h := k0_off42_inb i 1
  have hn := n.isLt
  intro a; fin_cases a
  · show n.val + 1 ≤ 16; omega
  · exact h
  · exact Nat.le_refl 8
  · exact Nat.le_refl 128

abbrev r0 (n : Fin 16) : Rect S1x1x16x1x8x128 := Rect.unit (s := S1x1x16x1x8x128) ![0, 0, n.val, 0, 0, 0] S1x1x1x1x8x128.size (inb0 n)
abbrev rZ (n : Fin 16) : Rect S37008x128 := Rect.unit (s := S37008x128) ![9 * n.val, 0] S8x128.size (inbZ n)
abbrev rAdj (i : grid0.Coords) (n : Fin 16) : Rect S5x16x8x128 := Rect.unit (s := S5x16x8x128) ![k0_off26 i 0, n.val, 0, 0] S1x1x8x128.size (inbAdj i n)
abbrev rDa (i : grid0.Coords) (n : Fin 16) : Rect S16x5x8x128 := Rect.unit (s := S16x5x8x128) ![n.val, k0_off42 i 1, 0, 0] S1x1x8x128.size (inbDa i n)
abbrev rDd (i : grid0.Coords) : Rect S5x8x128 := Rect.unit (s := S5x8x128) (k0_off18 i) S1x8x128.size (k0_off18_inb i)

/-- The first block of states. -/
def hInit (n : Fin 16) : C (F := F) M Unit :=
  .load .h0 (r0 n).toLoadRect h_S1x1x1x1x8x128 fun v =>
  .load .hS (rZ n).toLoadRect h_S8x128 fun _ =>
  .store .hS (rZ n) (st8 (shapeCast S8x128 v shapeCasts_S1x1x1x1x8x128_S8x128)) (View.stores_vmem_bits_univ h_S8x128 rfl) (.ret ())

def hLoad (n : Fin 16) : C (F := F) M (V F) :=
  .load .h0 (r0 n).toLoadRect h_S1x1x1x1x8x128 fun v => .ret (shapeCast S8x128 v shapeCasts_S1x1x1x1x8x128_S8x128)
def adjLoad (i : grid0.Coords) (n : Fin 16) : C (F := F) M (V F) :=
  .load .adj (rAdj i n).toLoadRect h_S1x1x8x128 fun v => .ret (shapeCast S8x128 v shapeCasts_S1x1x8x128_S8x128)
def daLoad (i : grid0.Coords) (n : Fin 16) : C (F := F) M (V F) :=
  .load .da (rDa i n).toLoadRect h_S1x1x8x128 fun v => .ret (shapeCast S8x128 v shapeCasts_S1x1x8x128_S8x128)
/-- State `n`'s adjoint and `dA`, written back. -/
def saveRow (i : grid0.Coords) (s : (Nat → V F) × (Nat → V F)) (n : Fin 16) : C (F := F) M Unit :=
  .load .adj (rAdj i n).toLoadRect h_S1x1x8x128 fun _ =>
  .store .adj (rAdj i n) (shapeCast S1x1x8x128 (s.1 n.val) shapeCasts_S8x128_S1x1x8x128) (View.stores_vmem_bits_univ h_S1x1x8x128 rfl) <|
  .load .da (rDa i n).toLoadRect h_S1x1x8x128 fun _ =>
  .store .da (rDa i n) (shapeCast S1x1x8x128 (s.2 n.val) shapeCasts_S8x128_S1x1x8x128) (View.stores_vmem_bits_univ h_S1x1x8x128 rfl) (.ret ())

/-- Zeros where a sum starts. -/
def zero1 (i : grid0.Coords) (h : k0_cond1 i = 1#1) : C (F := F) M PUnit :=
  .load .da (Rect.unit (s := S16x5x8x128) (k0_off1 i) S16x1x8x128.size (k0_off1_inb i h)).toLoadRect h_S16x1x8x128 fun _ =>
  .store .da (Rect.unit (s := S16x5x8x128) (k0_off1 i) S16x1x8x128.size (k0_off1_inb i h))
    (shapeCast S16x1x8x128 (broadcast S16x8x128 (Scalar.ofBits .f32 0x00000000#32)) shapeCasts_S16x8x128_S16x1x8x128) (View.stores_vmem_bits_univ h_S16x1x8x128 rfl) <|
  .load .dd (Rect.unit (s := S5x8x128) (k0_off2 i) S1x8x128.size (k0_off2_inb i h)).toLoadRect h_S1x8x128 fun _ =>
  .store .dd (Rect.unit (s := S5x8x128) (k0_off2 i) S1x8x128.size (k0_off2_inb i h))
    (shapeCast S1x8x128 (broadcast S8x128 (Scalar.ofBits .f32 0x00000000#32)) shapeCasts_S8x128_S1x8x128) (View.stores_vmem_bits_univ h_S1x8x128 rfl) (.ret ⟨⟩)
def zero2 (i : grid0.Coords) (h : k0_cond2 i = 1#1) : C (F := F) M PUnit :=
  .load .adj (Rect.unit (s := S5x16x8x128) (k0_off3 i) S1x16x8x128.size (k0_off3_inb i h)).toLoadRect h_S1x16x8x128 fun _ =>
  .store .adj (Rect.unit (s := S5x16x8x128) (k0_off3 i) S1x16x8x128.size (k0_off3_inb i h))
    (shapeCast S1x16x8x128 (broadcast S16x8x128 (Scalar.ofBits .f32 0x00000000#32)) shapeCasts_S16x8x128_S1x16x8x128) (View.stores_vmem_bits_univ h_S1x16x8x128 rfl) (.ret ⟨⟩)
/-- A batch element's chunk begins: `B`, `C` spread, the sums for `dB` and `dC` at zero; `rest` follows. -/
def first3 (i : grid0.Coords) (h : k0_cond3 i = 1#1) {α : Type} (rest : C (F := F) M α) : C (F := F) M α :=
  .bind (.loop k0_t1_loop (k0_t1_ok i h) () (t1 M i h)) fun _ =>
  .load .dbacc (Rect.unit (s := S4096x128) ![0, 0] S4096x128.size inb_S4096x128_S4096x128_0_0).toLoadRect h_S4096x128 fun _ =>
  .store .dbacc (Rect.unit (s := S4096x128) ![0, 0] S4096x128.size inb_S4096x128_S4096x128_0_0)
    (shapeCast S4096x128 (broadcast S4096x128 (Scalar.ofBits .f32 0x00000000#32)) shapeCasts_S4096x128_S4096x128) (View.stores_vmem_bits_univ h_S4096x128 rfl) <|
  .load .dcacc (Rect.unit (s := S4096x128) ![0, 0] S4096x128.size inb_S4096x128_S4096x128_0_0).toLoadRect h_S4096x128 fun _ =>
  .store .dcacc (Rect.unit (s := S4096x128) ![0, 0] S4096x128.size inb_S4096x128_S4096x128_0_0)
    (shapeCast S4096x128 (broadcast S4096x128 (Scalar.ofBits .f32 0x00000000#32)) shapeCasts_S4096x128_S4096x128) (View.stores_vmem_bits_univ h_S4096x128 rfl) rest

/-- What precedes the forward loop: `B` and `C` spread and sums at zero, where a sum starts, -/
def head4 (i : grid0.Coords) : C (F := F) M (BitVec 32) :=
  .bind (.loop k0_t2_loop k0_t2_ok () (t2 M)) fun _ =>
  .bind (mapL M (hInit M) [⟨0, by decide⟩, ⟨1, by decide⟩]) fun _ => .ret (BitVec.ofNat 32 (i 2).val)
/-- then the pointwise quantities and the first states. -/
def head (i : grid0.Coords) : C (F := F) M (BitVec 32) :=
  .ite (k0_cond1 i = 1#1) inferInstance (fun h => .bind (zero1 M i h) fun _ =>
  .ite (k0_cond2 i = 1#1) inferInstance (fun h => .bind (zero2 M i h) fun _ =>
    .ite (k0_cond3 i = 1#1) inferInstance (fun h => first3 M i h (head4 M i)) fun _ =>
      head4 M i) fun _ =>
    .ite (k0_cond3 i = 1#1) inferInstance (fun h => first3 M i h (head4 M i)) fun _ =>
      head4 M i) fun _ =>
  .ite (k0_cond2 i = 1#1) inferInstance (fun h => .bind (zero2 M i h) fun _ =>
    .ite (k0_cond3 i = 1#1) inferInstance (fun h => first3 M i h (head4 M i)) fun _ =>
      head4 M i) fun _ =>
    .ite (k0_cond3 i = 1#1) inferInstance (fun h => first3 M i h (head4 M i)) fun _ =>
      head4 M i

/-- Three tiles, -/
abbrev Trip (F : FTy → Type) [FloatOps F] : Type := Σ' (_ : V F) (_ : V F), V F

/-- The forward loop, the states loaded before it, `dD` written after it, the first adjoints. -/
def fwd (i : grid0.Coords) (hs : List (V F)) : C (F := F) M (Trip F) :=
  .bind (mapL M (hLoad M) [⟨13, by decide⟩, ⟨14, by decide⟩, ⟨15, by decide⟩]) fun hs' =>
  .load .dd (rDd i).toLoadRect h_S1x8x128 fun dd =>
  .bind (.loop k0_t3_loop k0_t3_ok (mk17 (fun n => nth (hs ++ hs') n (sum1 []), shapeCast S8x128 dd shapeCasts_S1x8x128_S8x128)) (t3 M)) fun p =>
  .load .dd (rDd i).toLoadRect h_S1x8x128 fun _ =>
  .store .dd (rDd i) (shapeCast S1x8x128 (un17 p).2 shapeCasts_S8x128_S1x8x128) (View.stores_vmem_bits_univ h_S1x8x128 rfl) <|
  .bind (adjLoad M i ⟨0, by decide⟩) fun a0 => .bind (adjLoad M i ⟨1, by decide⟩) fun a1 => .bind (adjLoad M i ⟨2, by decide⟩) fun a2 =>
  .ret ⟨a0, a1, a2⟩

/-- thirty-two. -/
abbrev Sig32 (F : FTy → Type) [FloatOps F] : Type :=
  Σ' (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F), V F

def sigOf (p : Tup32 F) : Sig32 F := ⟨p.1, p.2.1, p.2.2.1, p.2.2.2.1, p.2.2.2.2.1, p.2.2.2.2.2.1, p.2.2.2.2.2.2.1, p.2.2.2.2.2.2.2.1, p.2.2.2.2.2.2.2.2.1, p.2.2.2.2.2.2.2.2.2.1, p.2.2.2.2.2.2.2.2.2.2.1, p.2.2.2.2.2.2.2.2.2.2.2.1, p.2.2.2.2.2.2.2.2.2.2.2.2.1, p.2.2.2.2.2.2.2.2.2.2.2.2.2.1, p.2.2.2.2.2.2.2.2.2.2.2.2.2.2.1, p.2.2.2.2.2.2.2.2.2.2.2.2.2.2.2.1, p.2.2.2.2.2.2.2.2.2.2.2.2.2.2.2.2.1, p.2.2.2.2.2.2.2.2.2.2.2.2.2.2.2.2.2.1, p.2.2.2.2.2.2.2.2.2.2.2.2.2.2.2.2.2.2.1, p.2.2.2.2.2.2.2.2.2.2.2.2.2.2.2.2.2.2.2.1, p.2.2.2.2.2.2.2.2.2.2.2.2.2.2.2.2.2.2.2.2.1, p.2.2.2.2.2.2.2.2.2.2.2.2.2.2.2.2.2.2.2.2.2.1, p.2.2.2.2.2.2.2.2.2.2.2.2.2.2.2.2.2.2.2.2.2.2.1, p.2.2.2.2.2.2.2.2.2.2.2.2.2.2.2.2.2.2.2.2.2.2.2.1, p.2.2.2.2.2.2.2.2.2.2.2.2.2.2.2.2.2.2.2.2.2.2.2.2.1, p.2.2.2.2.2.2.2.2.2.2.2.2.2.2.2.2.2.2.2.2.2.2.2.2.2.1, p.2.2.2.2.2.2.2.2.2.2.2.2.2.2.2.2.2.2.2.2.2.2.2.2.2.2.1, p.2.2.2.2.2.2.2.2.2.2.2.2.2.2.2.2.2.2.2.2.2.2.2.2.2.2.2.1, p.2.2.2.2.2.2.2.2.2.2.2.2.2.2.2.2.2.2.2.2.2.2.2.2.2.2.2.2.1, p.2.2.2.2.2.2.2.2.2.2.2.2.2.2.2.2.2.2.2.2.2.2.2.2.2.2.2.2.2.1, p.2.2.2.2.2.2.2.2.2.2.2.2.2.2.2.2.2.2.2.2.2.2.2.2.2.2.2.2.2.2.1, p.2.2.2.2.2.2.2.2.2.2.2.2.2.2.2.2.2.2.2.2.2.2.2.2.2.2.2.2.2.2.2⟩
def unSig (p : Sig32 F) : (Nat → V F) × (Nat → V F) :=
  (fun n => nth [p.1, p.2.1, p.2.2.1, p.2.2.2.1, p.2.2.2.2.1, p.2.2.2.2.2.1, p.2.2.2.2.2.2.1, p.2.2.2.2.2.2.2.1, p.2.2.2.2.2.2.2.2.1, p.2.2.2.2.2.2.2.2.2.1, p.2.2.2.2.2.2.2.2.2.2.1, p.2.2.2.2.2.2.2.2.2.2.2.1, p.2.2.2.2.2.2.2.2.2.2.2.2.1, p.2.2.2.2.2.2.2.2.2.2.2.2.2.1, p.2.2.2.2.2.2.2.2.2.2.2.2.2.2.1, p.2.2.2.2.2.2.2.2.2.2.2.2.2.2.2.1] n p.1,
   fun n => nth [p.2.2.2.2.2.2.2.2.2.2.2.2.2.2.2.2.1, p.2.2.2.2.2.2.2.2.2.2.2.2.2.2.2.2.2.1, p.2.2.2.2.2.2.2.2.2.2.2.2.2.2.2.2.2.2.1, p.2.2.2.2.2.2.2.2.2.2.2.2.2.2.2.2.2.2.2.1, p.2.2.2.2.2.2.2.2.2.2.2.2.2.2.2.2.2.2.2.2.1, p.2.2.2.2.2.2.2.2.2.2.2.2.2.2.2.2.2.2.2.2.2.1, p.2.2.2.2.2.2.2.2.2.2.2.2.2.2.2.2.2.2.2.2.2.2.1, p.2.2.2.2.2.2.2.2.2.2.2.2.2.2.2.2.2.2.2.2.2.2.2.1, p.2.2.2.2.2.2.2.2.2.2.2.2.2.2.2.2.2.2.2.2.2.2.2.2.1, p.2.2.2.2.2.2.2.2.2.2.2.2.2.2.2.2.2.2.2.2.2.2.2.2.2.1, p.2.2.2.2.2.2.2.2.2.2.2.2.2.2.2.2.2.2.2.2.2.2.2.2.2.2.1, p.2.2.2.2.2.2.2.2.2.2.2.2.2.2.2.2.2.2.2.2.2.2.2.2.2.2.2.1, p.2.2.2.2.2.2.2.2.2.2.2.2.2.2.2.2.2.2.2.2.2.2.2.2.2.2.2.2.1, p.2.2.2.2.2.2.2.2.2.2.2.2.2.2.2.2.2.2.2.2.2.2.2.2.2.2.2.2.2.1, p.2.2.2.2.2.2.2.2.2.2.2.2.2.2.2.2.2.2.2.2.2.2.2.2.2.2.2.2.2.2.1, p.2.2.2.2.2.2.2.2.2.2.2.2.2.2.2.2.2.2.2.2.2.2.2.2.2.2.2.2.2.2.2] n p.1)

/-- The backward loop, the last sums loaded before it. -/
def bwd (i : grid0.Coords) (adj da : List (V F)) : C (F := F) M (Sig32 F) :=
  .bind (mapL M (daLoad M i) [⟨7, by decide⟩, ⟨8, by decide⟩, ⟨9, by decide⟩, ⟨10, by decide⟩, ⟨11, by decide⟩,
    ⟨12, by decide⟩, ⟨13, by decide⟩, ⟨14, by decide⟩, ⟨15, by decide⟩]) fun da' =>
  .bind (.loop k0_t4_loop k0_t4_ok (mk32 (fun n => nth adj n (sum1 []), fun n => nth (da ++ da') n (sum1 []))) (t4 M)) fun p =>
  .ret (sigOf p)

/-- The body. -/
def body (i : grid0.Coords) : C (F := F) M PUnit :=
  .bind (head M i) fun _ =>
  .bind (mapL M (hInit M) [⟨2, by decide⟩, ⟨3, by decide⟩, ⟨4, by decide⟩, ⟨5, by decide⟩, ⟨6, by decide⟩,
    ⟨7, by decide⟩, ⟨8, by decide⟩, ⟨9, by decide⟩, ⟨10, by decide⟩, ⟨11, by decide⟩, ⟨12, by decide⟩, ⟨13, by decide⟩,
    ⟨14, by decide⟩, ⟨15, by decide⟩]) fun _ =>
  .bind (mapL M (hLoad M) [⟨0, by decide⟩, ⟨1, by decide⟩, ⟨2, by decide⟩, ⟨3, by decide⟩, ⟨4, by decide⟩, ⟨5, by decide⟩, ⟨6, by decide⟩,
    ⟨7, by decide⟩, ⟨8, by decide⟩, ⟨9, by decide⟩, ⟨10, by decide⟩, ⟨11, by decide⟩, ⟨12, by decide⟩]) fun hs =>
  .bind (fwd M i hs) fun a3 =>
  .bind (mapL M (adjLoad M i) [⟨3, by decide⟩, ⟨4, by decide⟩, ⟨5, by decide⟩, ⟨6, by decide⟩,
    ⟨7, by decide⟩, ⟨8, by decide⟩, ⟨9, by decide⟩, ⟨10, by decide⟩, ⟨11, by decide⟩, ⟨12, by decide⟩, ⟨13, by decide⟩,
    ⟨14, by decide⟩, ⟨15, by decide⟩]) fun adjs =>
  .bind (mapL M (daLoad M i) [⟨0, by decide⟩, ⟨1, by decide⟩, ⟨2, by decide⟩, ⟨3, by decide⟩, ⟨4, by decide⟩, ⟨5, by decide⟩, ⟨6, by decide⟩]) fun ds =>
  .bind (bwd M i (a3.1 :: a3.2.1 :: a3.2.2 :: adjs) ds) fun p =>
  .bind (mapL M (saveRow M i (unSig p)) L16) fun _ =>
  .bind (.loop k0_t5_loop k0_t5_ok () (t5 M hM)) fun _ =>
  .ite (k0_cond4 i = 1#1) inferInstance (fun h => .bind (.loop k0_t6_loop (k0_t6_ok i h) () (t6 M i h)) fun _ => .ret PUnit.unit) fun _ => .ret PUnit.unit

set_option maxHeartbeats 4000000 in
/-- The printed forward trip is `t3`, -/
theorem t3_eq (i : grid0.Coords) (arg2 : BitVec 32) (v93 v95 v97 v99 v101 v103 v105 v107 v109 v111 v113 v115 v117 : V F) (t : Fin k0_t3_loop.trips) (p : Tup17 F) :
    k0_t3_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) arg2 v93 v95 v97 v99 v101 v103 v105 v107 v109 v111 v113 v115 v117 t p = (t3 (F := F) M t p).toProg nD τ Λ₀ := by
  chain_rfl

set_option maxHeartbeats 4000000 in
/-- the backward trip `t4`, -/
theorem t4_eq (i : grid0.Coords) (arg2 : BitVec 32) (v135 v138 v141 v144 v147 v150 v153 v156 v159 v162 v165 v168 v171 v174 v177 v180 v183 v186 v189 v192 v195 v198 v201 : V F) (t : Fin k0_t4_loop.trips) (p : Tup32 F) :
    k0_t4_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) arg2 v135 v138 v141 v144 v147 v150 v153 v156 v159 v162 v165 v168 v171 v174 v177 v180 v183 v186 v189 v192 v195 v198 v201 t p = (t4 (F := F) M t p).toProg nD τ Λ₀ := by
  chain_rfl

set_option maxHeartbeats 4000000 in
/-- the spreading trip `t1`, -/
theorem t1_eq (i : grid0.Coords) (h : k0_cond3 i = 1#1) (t : Fin k0_t1_loop.trips) :
    k0_t1_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) h t () = (t1 (F := F) M i h t ()).toProg nD τ Λ₀ := by
  chain_rfl

set_option maxHeartbeats 4000000 in
/-- the pointwise trip `t2`, -/
theorem t2_eq (i : grid0.Coords) (t : Fin k0_t2_loop.trips) :
    k0_t2_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) t () = (t2 (F := F) M t ()).toProg nD τ Λ₀ := by
  chain_rfl

set_option maxHeartbeats 4000000 in
/-- the trip that writes the results `t5`, -/
theorem t5_eq (i : grid0.Coords) (t : Fin k0_t5_loop.trips) :
    k0_t5_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) t () = (t5 (F := F) M hM t ()).toProg nD τ Λ₀ := by
  chain_rfl

set_option maxHeartbeats 4000000 in
/-- the last trip `t6`, -/
theorem t6_eq (i : grid0.Coords) (h : k0_cond4 i = 1#1) (t : Fin k0_t6_loop.trips) :
    k0_t6_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) h t () = (t6 (F := F) M i h t ()).toProg nD τ Λ₀ := by
  chain_rfl

set_option maxHeartbeats 4000000 in
/-- and the printed body `body`. -/
theorem body_eq (i : grid0.Coords) :
    cc0__scan_kernel_skel i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) = (body (F := F) M hM i).toProg nD τ Λ₀ := by
  chain_rfl

end Cert.Kernel.Body
-- ==== Proof.RunBits.lean ====
/- The kernel run through its pipeline. A plan says, of each grid point, what the scratch holds before it and what the
   body may leave in each window; from a plan whose every step is right follows that the kernel ends with every array
   as the plan says. -/
module

public import proofs.«01_k».proof.Proof.BodyBits
public import proofs.«01_k».proof.Proof.Gen.Kernel.Frame
public import Idealize.ShloMosaic.Lib.Pipeline.ArrRel

@[expose] public section

set_option maxRecDepth 65536

noncomputable section

namespace Cert.Kernel.Body

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Cert.Proof Cert.Kernel Cert.Kernel.Gen
open Idealize.ShloMosaic.Pipeline (RDat)

variable {F : FTy → Type} [FloatOps F]

local notation "𝕄" => MT nD τ sig Unit (Elt F) ℕ (UR sig nD τ) ℕ

/-- The buffers of point `t`. -/
def Mt (t : Fin cfg0.N) : ∀ b : Bf, Memref sig .tc .vmem (shp b) (elt b)
  | .x => win0_0.stage (cfg0.slots t 0)
  | .xs => win0_1.stage (cfg0.slots t 1)
  | .dt => win0_2.stage (cfg0.slots t 2)
  | .tok => win0_3.stage (cfg0.slots t 3)
  | .b => win0_4.stage (cfg0.slots t 4)
  | .c => win0_5.stage (cfg0.slots t 5)
  | .z => win0_6.stage (cfg0.slots t 6)
  | .dy => win0_7.stage (cfg0.slots t 7)
  | .dys => win0_8.stage (cfg0.slots t 8)
  | .a => win0_9.stage (cfg0.slots t 9)
  | .d => win0_10.stage (cfg0.slots t 10)
  | .h0 => win0_11.stage (cfg0.slots t 11)
  | .dx => win0_12.stage (cfg0.slots t 12)
  | .ddt => win0_13.stage (cfg0.slots t 13)
  | .dz => win0_14.stage (cfg0.slots t 14)
  | .db => win0_15.stage (cfg0.slots t 15)
  | .dc => win0_16.stage (cfg0.slots t 16)
  | .da => win0_17.stage (cfg0.slots t 17)
  | .dd => win0_18.stage (cfg0.slots t 18)
  | .hS => Memref.whole cc0_scratch0
  | .aS => Memref.whole cc0_scratch1
  | .bb => Memref.whole cc0_scratch2
  | .cb => Memref.whole cc0_scratch3
  | .dbacc => Memref.whole cc0_scratch4
  | .dcacc => Memref.whole cc0_scratch5
  | .ghS => Memref.whole cc0_scratch6
  | .del => Memref.whole cc0_scratch7
  | .u => Memref.whole cc0_scratch8
  | .gy => Memref.whole cc0_scratch9
  | .gz => Memref.whole cc0_scratch10
  | .sdt => Memref.whole cc0_scratch11
  | .y => Memref.whole cc0_scratch12
  | .ghb => Memref.whole cc0_scratch13
  | .ddS => Memref.whole cc0_scratch14
  | .adj => Memref.whole cc0_scratch15

theorem hMt (t : Fin cfg0.N) : ∀ b : Bf, (Mt t b).IsWhole
  | .x => hstage0_0 ((cfg0.slots t 0).cast nbuf0_0)
  | .xs => hstage0_1 ((cfg0.slots t 1).cast nbuf0_1)
  | .dt => hstage0_2 ((cfg0.slots t 2).cast nbuf0_2)
  | .tok => hstage0_3 ((cfg0.slots t 3).cast nbuf0_3)
  | .b => hstage0_4 ((cfg0.slots t 4).cast nbuf0_4)
  | .c => hstage0_5 ((cfg0.slots t 5).cast nbuf0_5)
  | .z => hstage0_6 ((cfg0.slots t 6).cast nbuf0_6)
  | .dy => hstage0_7 ((cfg0.slots t 7).cast nbuf0_7)
  | .dys => hstage0_8 ((cfg0.slots t 8).cast nbuf0_8)
  | .a => hstage0_9 ((cfg0.slots t 9).cast nbuf0_9)
  | .d => hstage0_10 ((cfg0.slots t 10).cast nbuf0_10)
  | .h0 => hstage0_11 ((cfg0.slots t 11).cast nbuf0_11)
  | .dx => hstage0_12 ((cfg0.slots t 12).cast nbuf0_12)
  | .ddt => hstage0_13 ((cfg0.slots t 13).cast nbuf0_13)
  | .dz => hstage0_14 ((cfg0.slots t 14).cast nbuf0_14)
  | .db => hstage0_15 ((cfg0.slots t 15).cast nbuf0_15)
  | .dc => hstage0_16 ((cfg0.slots t 16).cast nbuf0_16)
  | .da => hstage0_17 ((cfg0.slots t 17).cast nbuf0_17)
  | .dd => hstage0_18 ((cfg0.slots t 18).cast nbuf0_18)
  | .hS => Memref.isWhole_whole _
  | .aS => Memref.isWhole_whole _
  | .bb => Memref.isWhole_whole _
  | .cb => Memref.isWhole_whole _
  | .dbacc => Memref.isWhole_whole _
  | .dcacc => Memref.isWhole_whole _
  | .ghS => Memref.isWhole_whole _
  | .del => Memref.isWhole_whole _
  | .u => Memref.isWhole_whole _
  | .gy => Memref.isWhole_whole _
  | .gz => Memref.isWhole_whole _
  | .sdt => Memref.isWhole_whole _
  | .y => Memref.isWhole_whole _
  | .ghb => Memref.isWhole_whole _
  | .ddS => Memref.isWhole_whole _
  | .adj => Memref.isWhole_whole _

/-- All the buffers. -/
def bufs : List Bf := [.x, .xs, .dt, .tok, .b, .c, .z, .dy, .dys, .a, .d, .h0, .dx, .ddt, .dz, .db, .dc, .da, .dd, .hS, .aS, .bb, .cb, .dbacc, .dcacc, .ghS, .del, .u, .gy, .gz, .sdt, .y, .ghb, .ddS, .adj]

theorem bufs_nodup : bufs.Nodup := by decide
theorem mem_bufs : ∀ b, b ∈ bufs := by intro b; cases b <;> decide

/-- The buffers' contents. -/
abbrev St (F : FTy → Type) [FloatOps F] : Type := Cmd.St (Elt F) shp elt

/-- The windows' contents -/
abbrev WY (F : FTy → Type) [FloatOps F] : Type := (w : Fin 19) → ((spec0 w).block.Idx → Elt F (spec0 w).elt)

/-- with the scratch of `σ`, -/
def mix (Y : WY F) (σ : St F) : St F
  | .x => Y 0
  | .xs => Y 1
  | .dt => Y 2
  | .tok => Y 3
  | .b => Y 4
  | .c => Y 5
  | .z => Y 6
  | .dy => Y 7
  | .dys => Y 8
  | .a => Y 9
  | .d => Y 10
  | .h0 => Y 11
  | .dx => Y 12
  | .ddt => Y 13
  | .dz => Y 14
  | .db => Y 15
  | .dc => Y 16
  | .da => Y 17
  | .dd => Y 18
  | .hS => σ .hS
  | .aS => σ .aS
  | .bb => σ .bb
  | .cb => σ .cb
  | .dbacc => σ .dbacc
  | .dcacc => σ .dcacc
  | .ghS => σ .ghS
  | .del => σ .del
  | .u => σ .u
  | .gy => σ .gy
  | .gz => σ .gz
  | .sdt => σ .sdt
  | .y => σ .y
  | .ghb => σ .ghb
  | .ddS => σ .ddS
  | .adj => σ .adj

/-- and the windows of `σ`. -/
def wins (σ : St F) : WY F
  | 0 => σ .x
  | 1 => σ .xs
  | 2 => σ .dt
  | 3 => σ .tok
  | 4 => σ .b
  | 5 => σ .c
  | 6 => σ .z
  | 7 => σ .dy
  | 8 => σ .dys
  | 9 => σ .a
  | 10 => σ .d
  | 11 => σ .h0
  | 12 => σ .dx
  | 13 => σ .ddt
  | 14 => σ .dz
  | 15 => σ .db
  | 16 => σ .dc
  | 17 => σ .da
  | 18 => σ .dd
  | ⟨_ + 19, h⟩ => absurd h (Nat.not_lt.2 (Nat.le_add_left _ _))

/-- What the body at `t` makes of the buffers. -/
def stepAt (t : Fin cfg0.N) (σ : St F) : St F := ((body (F := F) (Mt t) (hMt t) (grid0.coords t)).run σ).2

variable (m : (ℓ : Loc nD τ sig) → Buf (Elt F) ℓ) (ρ : Dev nD → PrngReg)

/-- A plan: what the scratch holds before each point, what the body may leave in each window. -/
structure Plan where
  Inv : Dev nD → ℕ → St F → Prop
  after : Dev nD → (w : Fin 19) → Fin cfg0.N → (Y X : (spec0 w).block.Idx → Elt F (spec0 w).elt) → Prop

/-- The scratch, owned. -/
def ownS (c : Dev nD) (σ : St F) : sProp 𝕄 :=
  iprop(owns (c : Thread nD τ) (Memref.whole cc0_scratch0) fullShare (σ .hS)
    ∗ owns (c : Thread nD τ) (Memref.whole cc0_scratch1) fullShare (σ .aS)
    ∗ owns (c : Thread nD τ) (Memref.whole cc0_scratch2) fullShare (σ .bb)
    ∗ owns (c : Thread nD τ) (Memref.whole cc0_scratch3) fullShare (σ .cb)
    ∗ owns (c : Thread nD τ) (Memref.whole cc0_scratch4) fullShare (σ .dbacc)
    ∗ owns (c : Thread nD τ) (Memref.whole cc0_scratch5) fullShare (σ .dcacc)
    ∗ owns (c : Thread nD τ) (Memref.whole cc0_scratch6) fullShare (σ .ghS)
    ∗ owns (c : Thread nD τ) (Memref.whole cc0_scratch7) fullShare (σ .del)
    ∗ owns (c : Thread nD τ) (Memref.whole cc0_scratch8) fullShare (σ .u)
    ∗ owns (c : Thread nD τ) (Memref.whole cc0_scratch9) fullShare (σ .gy)
    ∗ owns (c : Thread nD τ) (Memref.whole cc0_scratch10) fullShare (σ .gz)
    ∗ owns (c : Thread nD τ) (Memref.whole cc0_scratch11) fullShare (σ .sdt)
    ∗ owns (c : Thread nD τ) (Memref.whole cc0_scratch12) fullShare (σ .y)
    ∗ owns (c : Thread nD τ) (Memref.whole cc0_scratch13) fullShare (σ .ghb)
    ∗ owns (c : Thread nD τ) (Memref.whole cc0_scratch14) fullShare (σ .ddS)
    ∗ owns (c : Thread nD τ) (Memref.whole cc0_scratch15) fullShare (σ .adj))

variable {m} in
/-- The plan as the pipeline's proof data. -/
def Plan.rdat (m : (ℓ : Loc nD τ sig) → Buf (Elt F) ℓ) (P : Plan (F := F)) (c : Dev nD) : RDat τ (Elt F) Unit ℕ (UR sig nD τ) ℕ cfg0 c where
  A w := Gen.V m c (Pipeline.arrRef spec0 w)
  after w t Y X := P.after c w t Y X
  Φ t := iprop((∃ σ, ⌜P.Inv c t.val σ⌝ ∗ ownS c σ) ∗ ∃ r, prngReg c r)
  q _ := fullShare
  owed _ := 0

/-- Every step of the plan is right. -/
structure Plan.Ok (P : Plan (F := F)) : Prop where
  start : ∀ c σ, P.Inv c 0 σ
  step : ∀ c (t : Fin cfg0.N) (Y : WY F), (∀ w, (P.rdat m c).Finds w t (Y w)) → ∀ σ, P.Inv c t.val σ →
    P.Inv c (t.val + 1) (stepAt t (mix Y σ)) ∧ ∀ w, P.after c w t (Y w) (wins (stepAt t (mix Y σ)) w)

theorem defs₀_row (t : Fin cfg0.N) : defs₀ (F := F) .tc cfg0.body (cfg0.bodyArgs t (cfg0.slots t)) = bodyAt0 t := by
  unfold defs₀; rw [Defs.onTc_tc]

theorem bodyAt_eq (t : Fin cfg0.N) : bodyAt0 (F := F) t = (body (F := F) (Mt t) (hMt t) (grid0.coords t)).toProg nD τ Λ₀ := by
  unfold bodyAt0
  rw [cc0__scan_kernel_eq_skeleton]
  exact body_eq (Mt t) (hMt t) (grid0.coords t)

/-- The windows, owned. -/
def ownW (c : Dev nD) (t : Fin cfg0.N) (Y : WY F) : sProp 𝕄 :=
  iprop(owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5)
    ∗ owns (c : Thread nD τ) (win0_6.stage (cfg0.slots t 6)) fullShare (Y 6)
    ∗ owns (c : Thread nD τ) (win0_7.stage (cfg0.slots t 7)) fullShare (Y 7)
    ∗ owns (c : Thread nD τ) (win0_8.stage (cfg0.slots t 8)) fullShare (Y 8)
    ∗ owns (c : Thread nD τ) (win0_9.stage (cfg0.slots t 9)) fullShare (Y 9)
    ∗ owns (c : Thread nD τ) (win0_10.stage (cfg0.slots t 10)) fullShare (Y 10)
    ∗ owns (c : Thread nD τ) (win0_11.stage (cfg0.slots t 11)) fullShare (Y 11)
    ∗ owns (c : Thread nD τ) (win0_12.stage (cfg0.slots t 12)) fullShare (Y 12)
    ∗ owns (c : Thread nD τ) (win0_13.stage (cfg0.slots t 13)) fullShare (Y 13)
    ∗ owns (c : Thread nD τ) (win0_14.stage (cfg0.slots t 14)) fullShare (Y 14)
    ∗ owns (c : Thread nD τ) (win0_15.stage (cfg0.slots t 15)) fullShare (Y 15)
    ∗ owns (c : Thread nD τ) (win0_16.stage (cfg0.slots t 16)) fullShare (Y 16)
    ∗ owns (c : Thread nD τ) (win0_17.stage (cfg0.slots t 17)) fullShare (Y 17)
    ∗ owns (c : Thread nD τ) (win0_18.stage (cfg0.slots t 18)) fullShare (Y 18))

theorem ownL_of (c : Dev nD) (t : Fin cfg0.N) (Y : WY F) (σ : St F) :
    iprop(ownW c t Y ∗ ownS c σ) ⊢ (ownL c (Mt t) (mix Y σ) bufs : sProp 𝕄) := by
  unfold ownW ownS bufs
  simp only [ownL, Mt, mix]
  iintro ⟨⟨W0, W1, W2, W3, W4, W5, W6, W7, W8, W9, W10, W11, W12, W13, W14, W15, W16, W17, W18⟩, ⟨S0, S1, S2, S3, S4, S5, S6, S7, S8, S9, S10, S11, S12, S13, S14, S15⟩⟩
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [W17]; · iexact W17
  isplitl [W18]; · iexact W18
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iempintro

theorem ownL_to (c : Dev nD) (t : Fin cfg0.N) (σ : St F) :
    (ownL c (Mt t) σ bufs : sProp 𝕄) ⊢ iprop(ownW c t (wins σ) ∗ ownS c σ) := by
  unfold ownW ownS bufs
  simp only [ownL, Mt, wins]
  iintro ⟨W0, W1, W2, W3, W4, W5, W6, W7, W8, W9, W10, W11, W12, W13, W14, W15, W16, W17, W18, S0, S1, S2, S3, S4, S5, S6, S7, S8, S9, S10, S11, S12, S13, S14, S15, -⟩
  isplitl [W0 W1 W2 W3 W4 W5 W6 W7 W8 W9 W10 W11 W12 W13 W14 W15 W16 W17 W18]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [W17]; · iexact W17
    iexact W18
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact S15

variable {m} in
/-- One run of the body. -/
theorem sound_body {P : Plan (F := F)} (hP : P.Ok m) (c : Dev nD) (t : Fin cfg0.N) (Y : WY F) (hY : ∀ w, (P.rdat m c).Finds w t (Y w)) :
    iprop((P.rdat m c).Φ t.castSucc ∗ (P.rdat m c).owesAt () t.castSucc ∗ ownW c t Y)
      ⊢ wp frame (wpE (defs₀ (F := F)) Variants.none (c : Thread nD τ) none) Set.univ (bodyAt0 t) fun _ =>
        iprop((P.rdat m c).Φ t.succ ∗ (P.rdat m c).owesAt () t.succ ∗ ∃ X : WY F, ⌜∀ w, P.after c w t (Y w) (X w)⌝ ∗ ownW c t X) := by
  rw [bodyAt_eq]
  show iprop(((∃ σ, ⌜P.Inv c t.val σ⌝ ∗ ownS c σ) ∗ ∃ r, prngReg c r) ∗ _ ∗ _) ⊢ _
  iintro ⟨⟨⟨%σ, %hI, HS⟩, Hp⟩, HO, HW⟩
  obtain ⟨hI', hA⟩ := hP.step c t Y hY σ hI
  have key : iprop((ownL c (Mt t) (mix Y σ) bufs) ∗ ((∃ r, prngReg c r) ∗ (P.rdat m c).owesAt () t.castSucc))
      ⊢ wp frame (wpE (defs₀ (F := F)) Variants.none (c : Thread nD τ) none) Set.univ
          ((body (F := F) (Mt t) (hMt t) (grid0.coords t)).toProg nD τ Λ₀) fun _ =>
          iprop((ownL c (Mt t) (stepAt t (mix Y σ)) bufs) ∗ ((∃ r, prngReg c r) ∗ (P.rdat m c).owesAt () t.castSucc)) :=
    (sep_mono (Cmd.sound c (Mt t) Variants.none none Set.univ bufs bufs_nodup mem_bufs
      (body (F := F) (Mt t) (hMt t) (grid0.coords t)) (mix Y σ) (fun _ => ownL c (Mt t) (stepAt t (mix Y σ)) bufs) .rfl) .rfl).trans
      (wp_frame_r _ _ _)
  have key2 := key.trans (wp_mono _ _ _ (Q' := fun _ =>
        iprop((P.rdat m c).Φ t.succ ∗ (P.rdat m c).owesAt () t.succ ∗ ∃ X : WY F, ⌜∀ w, P.after c w t (Y w) (X w)⌝ ∗ ownW c t X)) fun _ => by
    refine (sep_mono (ownL_to c t _) .rfl).trans ?_
    show _ ⊢ iprop(((∃ σ, ⌜P.Inv c (t.val + 1) σ⌝ ∗ ownS c σ) ∗ ∃ r, prngReg c r) ∗ (P.rdat m c).owesAt () t.castSucc ∗ _)
    iintro ⟨⟨HW, HS⟩, Hp, HO⟩
    isplitl [HS Hp]
    · isplitl [HS]
      · iexists (stepAt t (mix Y σ)); isplitr
        · ipureintro; exact hI'
        · iexact HS
      · iexact Hp
    isplitl [HO]; · iexact HO
    iexists (wins (stepAt t (mix Y σ))); isplitr
    · ipureintro; exact hA
    · iexact HW)
  iapply key2
  isplitl [HW HS]
  · iapply (ownL_of c t Y σ)
    isplitl [HW]; · iexact HW
    iexact HS
  isplitl [Hp]; · iexact Hp
  iexact HO

variable {m} in
/-- The library's body obligation. -/
theorem body_obligation {P : Plan (F := F)} (hP : P.Ok m) (c : Dev nD) :
    (P.rdat m c).BodyObligation (defs₀ (F := F)) Variants.none () Set.univ := fun t Y hY => by
  rw [bigSep_W0, bigSep_W0, defs₀_row]
  refine triple_restated (sound_body hP c t Y hY) rfl .rfl fun _ => ?_
  refine sep_mono .rfl (sep_mono .rfl ?_)
  unfold ownW
  iintro ⟨%X, %hX, W0, W1, W2, W3, W4, W5, W6, W7, W8, W9, W10, W11, W12, W13, W14, W15, W16, W17, W18⟩
  isplitl [W0]
  · iexists (X 0); isplitr
    · ipureintro; exact hX 0
    · iexact W0
  isplitl [W1]
  · iexists (X 1); isplitr
    · ipureintro; exact hX 1
    · iexact W1
  isplitl [W2]
  · iexists (X 2); isplitr
    · ipureintro; exact hX 2
    · iexact W2
  isplitl [W3]
  · iexists (X 3); isplitr
    · ipureintro; exact hX 3
    · iexact W3
  isplitl [W4]
  · iexists (X 4); isplitr
    · ipureintro; exact hX 4
    · iexact W4
  isplitl [W5]
  · iexists (X 5); isplitr
    · ipureintro; exact hX 5
    · iexact W5
  isplitl [W6]
  · iexists (X 6); isplitr
    · ipureintro; exact hX 6
    · iexact W6
  isplitl [W7]
  · iexists (X 7); isplitr
    · ipureintro; exact hX 7
    · iexact W7
  isplitl [W8]
  · iexists (X 8); isplitr
    · ipureintro; exact hX 8
    · iexact W8
  isplitl [W9]
  · iexists (X 9); isplitr
    · ipureintro; exact hX 9
    · iexact W9
  isplitl [W10]
  · iexists (X 10); isplitr
    · ipureintro; exact hX 10
    · iexact W10
  isplitl [W11]
  · iexists (X 11); isplitr
    · ipureintro; exact hX 11
    · iexact W11
  isplitl [W12]
  · iexists (X 12); isplitr
    · ipureintro; exact hX 12
    · iexact W12
  isplitl [W13]
  · iexists (X 13); isplitr
    · ipureintro; exact hX 13
    · iexact W13
  isplitl [W14]
  · iexists (X 14); isplitr
    · ipureintro; exact hX 14
    · iexact W14
  isplitl [W15]
  · iexists (X 15); isplitr
    · ipureintro; exact hX 15
    · iexact W15
  isplitl [W16]
  · iexists (X 16); isplitr
    · ipureintro; exact hX 16
    · iexact W16
  isplitl [W17]
  · iexists (X 17); isplitr
    · ipureintro; exact hX 17
    · iexact W17
  iexists (X 18); isplitr; · ipureintro; exact hX 18
  iexact W18

variable {m} in
set_option backward.isDefEq.respectTransparency.types false in
theorem hin {P : Plan (F := F)} (hP : P.Ok m) (c : Dev nD) : Pipeline.ΦA spec0 c ⊢ (P.rdat m c).Φ 0 := by
  unfold Pipeline.ΦA
  rw [scopedRest0_eq]
  show _ ⊢ iprop((∃ σ, ⌜P.Inv c 0 σ⌝ ∗ ownS c σ) ∗ ∃ r, prngReg c r)
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩⟩, Hp⟩
  isplitr [Hp]; swap; · iexact Hp
  iexists (fun b => match b with
    | .x => fun _ => Classical.choice (inferInstance : Nonempty (Elt F (elt .x)))
    | .xs => fun _ => Classical.choice (inferInstance : Nonempty (Elt F (elt .xs)))
    | .dt => fun _ => Classical.choice (inferInstance : Nonempty (Elt F (elt .dt)))
    | .tok => fun _ => Classical.choice (inferInstance : Nonempty (Elt F (elt .tok)))
    | .b => fun _ => Classical.choice (inferInstance : Nonempty (Elt F (elt .b)))
    | .c => fun _ => Classical.choice (inferInstance : Nonempty (Elt F (elt .c)))
    | .z => fun _ => Classical.choice (inferInstance : Nonempty (Elt F (elt .z)))
    | .dy => fun _ => Classical.choice (inferInstance : Nonempty (Elt F (elt .dy)))
    | .dys => fun _ => Classical.choice (inferInstance : Nonempty (Elt F (elt .dys)))
    | .a => fun _ => Classical.choice (inferInstance : Nonempty (Elt F (elt .a)))
    | .d => fun _ => Classical.choice (inferInstance : Nonempty (Elt F (elt .d)))
    | .h0 => fun _ => Classical.choice (inferInstance : Nonempty (Elt F (elt .h0)))
    | .dx => fun _ => Classical.choice (inferInstance : Nonempty (Elt F (elt .dx)))
    | .ddt => fun _ => Classical.choice (inferInstance : Nonempty (Elt F (elt .ddt)))
    | .dz => fun _ => Classical.choice (inferInstance : Nonempty (Elt F (elt .dz)))
    | .db => fun _ => Classical.choice (inferInstance : Nonempty (Elt F (elt .db)))
    | .dc => fun _ => Classical.choice (inferInstance : Nonempty (Elt F (elt .dc)))
    | .da => fun _ => Classical.choice (inferInstance : Nonempty (Elt F (elt .da)))
    | .dd => fun _ => Classical.choice (inferInstance : Nonempty (Elt F (elt .dd)))
    | .hS => f0
    | .aS => f1
    | .bb => f2
    | .cb => f3
    | .dbacc => f4
    | .dcacc => f5
    | .ghS => f6
    | .del => f7
    | .u => f8
    | .gy => f9
    | .gz => f10
    | .sdt => f11
    | .y => f12
    | .ghb => f13
    | .ddS => f14
    | .adj => f15 : St F)
  isplitr; · ipureintro; exact hP.start c _
  unfold ownS
  simp only [owns_whole]
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact S15

variable {m} in
set_option backward.isDefEq.respectTransparency.types false in
theorem hout {P : Plan (F := F)} (c : Dev nD) : (P.rdat m c).Φ (Fin.last cfg0.N) ⊢ Pipeline.ΦA spec0 c := by
  unfold Pipeline.ΦA
  rw [scopedRest0_eq]
  show iprop((∃ σ, ⌜P.Inv c _ σ⌝ ∗ ownS c σ) ∗ ∃ r, prngReg c r) ⊢ _
  unfold ownS
  simp only [owns_whole]
  iintro ⟨⟨%σ, %hI, S0, S1, S2, S3, S4, S5, S6, S7, S8, S9, S10, S11, S12, S13, S14, S15⟩, Hp⟩
  isplitr [Hp]; swap; · iexact Hp
  isplitl [S0]; · iexists (σ .hS); iexact S0
  isplitl [S1]; · iexists (σ .aS); iexact S1
  isplitl [S2]; · iexists (σ .bb); iexact S2
  isplitl [S3]; · iexists (σ .cb); iexact S3
  isplitl [S4]; · iexists (σ .dbacc); iexact S4
  isplitl [S5]; · iexists (σ .dcacc); iexact S5
  isplitl [S6]; · iexists (σ .ghS); iexact S6
  isplitl [S7]; · iexists (σ .del); iexact S7
  isplitl [S8]; · iexists (σ .u); iexact S8
  isplitl [S9]; · iexists (σ .gy); iexact S9
  isplitl [S10]; · iexists (σ .gz); iexact S10
  isplitl [S11]; · iexists (σ .sdt); iexact S11
  isplitl [S12]; · iexists (σ .y); iexact S12
  isplitl [S13]; · iexists (σ .ghb); iexact S13
  isplitl [S14]; · iexists (σ .ddS); iexact S14
  iexists (σ .adj); iexact S15

variable {m} in
set_option backward.isDefEq.respectTransparency.types false in
/-- THE RUN: every execution ends, with the arrays as the plan says and every semaphore at zero. -/
theorem run_main {P : Plan (F := F)} (hP : P.Ok m) :
    θ_run defs (onTc (τ := τ) (main (F := F))) (s₀ m ρ)
      (fun r => RDat.FramePost cfg0 (P.rdat m) (Gen.V m) r ∧ r.2.sem = fun _ => 0) :=
  Pipeline.RDat.θ_run_frame_track cfgs (0 : Fin 1) launch0 defs₀ Variants.none (P.rdat m) m ρ main
    (hbody := fun c => body_obligation hP c) (hshare := fun c w => by show (if _ then _ else _) = _; exact ite_self _) (howed := fun _ _ => rfl)
    (V := Gen.V m) (hmain := hmain m Variants.none) (hA := fun _ _ => rfl)
    (hin := fun c => hin hP c) (hout := fun c => hout c) (Q' := _) (hQ' := fun _ h => h)

end Cert.Kernel.Body
-- ==== Proof.FrameBits.lean ====
/- The kernel runs and keeps its arguments: the pipeline run (RunBits.lean) at the plan that asks nothing. -/
module

public import proofs.«01_k».proof.Proof.RunBits

@[expose] public section

set_option maxRecDepth 65536

noncomputable section

namespace Cert.Kernel.Body

open Idealize.ShloMosaic Idealize.ShloMosaic.TcCoe Idealize.SL Idealize.SL.Sem
open Cert.Proof Cert.Kernel Cert.Kernel.Gen
open Idealize.ShloMosaic.Pipeline (RDat)

variable {F : FTy → Type} [FloatOps F]
variable (m : (ℓ : Loc nD τ sig) → Buf (Elt F) ℓ) (ρ : Dev nD → PrngReg)

variable {m} in
/-- Whatever the plan, the arguments stand. -/
theorem kept {P : Plan (F := F)} {r} (h : RDat.FramePost cfg0 (P.rdat m) (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(RDat.FramePost.arr_in h c 0 rfl).trans (Gen.V_main_arg0 m c),
   ((h c).2 main_arg1 (Pipeline.mem_restRefs_of main_arg1 (by decide) (by decide))).trans (Gen.V_main_arg1 m c),
   (RDat.FramePost.arr_in h c 2 rfl).trans (Gen.V_main_arg2 m c),
   ((h c).2 main_arg3 (Pipeline.mem_restRefs_of main_arg3 (by decide) (by decide))).trans (Gen.V_main_arg3 m c),
   (RDat.FramePost.arr_in h c 4 rfl).trans (Gen.V_main_arg4 m c),
   ((h c).2 main_arg5 (Pipeline.mem_restRefs_of main_arg5 (by decide) (by decide))).trans (Gen.V_main_arg5 m c),
   (RDat.FramePost.arr_in h c 5 rfl).trans (Gen.V_main_arg6 m c),
   ((h c).2 main_arg7 (Pipeline.mem_restRefs_of main_arg7 (by decide) (by decide))).trans (Gen.V_main_arg7 m c),
   (RDat.FramePost.arr_in h c 6 rfl).trans (Gen.V_main_arg8 m c),
   (RDat.FramePost.arr_in h c 7 rfl).trans (Gen.V_main_arg9 m c),
   ((h c).2 main_arg10 (Pipeline.mem_restRefs_of main_arg10 (by decide) (by decide))).trans (Gen.V_main_arg10 m c),
   ((h c).2 main_arg11 (Pipeline.mem_restRefs_of main_arg11 (by decide) (by decide))).trans (Gen.V_main_arg11 m c),
   ((h c).2 main_arg12 (Pipeline.mem_restRefs_of main_arg12 (by decide) (by decide))).trans (Gen.V_main_arg12 m c),
   ((h c).2 main_arg13 (Pipeline.mem_restRefs_of main_arg13 (by decide) (by decide))).trans (Gen.V_main_arg13 m c)⟩

/-- The plan that asks nothing. -/
def Plan.any : Plan (F := F) where
  Inv _ _ _ := True
  after _ _ _ _ _ := True

/-- The frame. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
    ∧ r.2.sem = fun _ => 0) :=
  (θ_run defs _ _).mono (fun _ h => ⟨fun c => kept h.1 c, h.2⟩)
    (run_main ρ (m := m) (P := Plan.any) ⟨fun _ _ => trivial, fun _ _ _ _ _ _ => ⟨trivial, fun _ => trivial⟩⟩)

end Cert.Kernel.Body
-- ==== Proof.BodyIdeal.lean ====
/- The kernel's body written as a structured program over its 35 buffers (`Cmd`), one definition per loop of the
   source, and the fact that the printed body is this program. -/
module

public import proofs.«01_k».proof.Proof.Cmd
public import proofs.«01_k».proof.Proof.Gen.KernelIdeal.Skeleton
public import Idealize.ShloMosaic.Lib.Pipeline.Regions

@[expose] public section

set_option maxRecDepth 65536

noncomputable section

namespace Cert.KernelIdeal.Body

open Idealize.ShloMosaic Idealize.SL.Sem Cert.Proof Cert.KernelIdeal Cert.KernelIdeal.Gen

/-- The buffers of the body: twelve inputs, seven outputs, sixteen scratch buffers. -/
inductive Bf
  | x | xs | dt | tok | b | c | z | dy | dys | a | d | h0
  | dx | ddt | dz | db | dc | da | dd
  | hS | aS | bb | cb | dbacc | dcacc | ghS | del | u | gy | gz | sdt | y | ghb | ddS | adj
  deriving DecidableEq

/-- Their shapes -/
def shp : Bf → Shape
  | .x => S1x256x1024 | .xs => S1x1x256x8 | .dt => S1x256x1024 | .tok => S1x256x3 | .b => S1x256x16 | .c => S1x256x16
  | .z => S1x256x1024 | .dy => S1x256x1024 | .dys => S1x1x256x8 | .a => S16x1x8x128 | .d => S1x1024
  | .h0 => S1x1x16x1x8x128 | .dx => S1x256x1024 | .ddt => S1x256x1024 | .dz => S1x256x1024 | .db => S1x32x128
  | .dc => S1x32x128 | .da => S16x5x8x128 | .dd => S5x8x128 | .hS => S37008x128 | .aS => S32768x128
  | .bb => S4096x128 | .cb => S4096x128 | .dbacc => S4096x128 | .dcacc => S4096x128 | .ghS => S576x128
  | .del => S2080x128 | .u => S2080x128 | .gy => S2080x128 | .gz => S2080x128 | .sdt => S2080x128 | .y => S2080x128
  | .ghb => S2080x128 | .ddS => S2080x128 | .adj => S5x16x8x128

/-- and element types. -/
def elt : Bf → EltTy
  | .x => .fp8e4m3 | .dt => .fp8e4m3 | .b => .fp8e4m3 | .c => .fp8e4m3 | .z => .bf16 | .dy => .fp8e5m2
  | .dx => .bf16 | .ddt => .bf16 | .dz => .bf16 | _ => .f32

variable {F : FTy → Type} [FloatOps F] [Named F]
variable (M : ∀ b : Bf, Memref sig .tc .vmem (shp b) (elt b))

/-- One tile. -/
abbrev V (F : FTy → Type) [FloatOps F] : Type := FVec F S8x128 .f32

abbrev C (α : Type) : Type 1 := Cmd (Elt F) M α

/-- A list of commands in order, their results collected. -/
def mapL {ι α : Type} (f : ι → C (F := F) M α) : List ι → C (F := F) M (List α)
  | [] => .ret []
  | i :: is => .bind (f i) fun a => .bind (mapL f is) fun ys => .ret (a :: ys)

/-- A list of commands in order, an accumulator threaded through. -/
def foldL {ι α : Type} (f : ι → α → C (F := F) M α) : List ι → α → C (F := F) M α
  | [], a => .ret a
  | i :: is, a => .bind (f i a) fun a' => foldL f is a'

/-- The 16 states, the 8 lanes of a group, the 4 steps of an unrolled trip, the 2 groups. -/
def L16 : List (Fin 16) := [⟨0, by decide⟩, ⟨1, by decide⟩, ⟨2, by decide⟩, ⟨3, by decide⟩, ⟨4, by decide⟩,
  ⟨5, by decide⟩, ⟨6, by decide⟩, ⟨7, by decide⟩, ⟨8, by decide⟩, ⟨9, by decide⟩, ⟨10, by decide⟩, ⟨11, by decide⟩,
  ⟨12, by decide⟩, ⟨13, by decide⟩, ⟨14, by decide⟩, ⟨15, by decide⟩]
def L8 : List (Fin 8) := [⟨0, by decide⟩, ⟨1, by decide⟩, ⟨2, by decide⟩, ⟨3, by decide⟩, ⟨4, by decide⟩,
  ⟨5, by decide⟩, ⟨6, by decide⟩, ⟨7, by decide⟩]
def L4 : List (Fin 4) := [⟨0, by decide⟩, ⟨1, by decide⟩, ⟨2, by decide⟩, ⟨3, by decide⟩]
def L2 : List (Fin 2) := [⟨0, by decide⟩, ⟨1, by decide⟩]

/-- Element `n` of a list, or the default. -/
def nth {α : Type} : List α → Nat → α → α
  | [], _, d => d
  | a :: _, 0, _ => a
  | _ :: l, n + 1, d => nth l n d

/-- A sum in the list's order. -/
def sum1 : List (V F) → V F
  | [] => broadcast S8x128 (Scalar.ofBits .f32 0x00000000#32)
  | a :: l => l.foldl addf a

/-- The tile of a one-row vector. -/
abbrev bc8 (v : FVec F S1x128 .f32) : V F := broadcastTo S8x128 v broadcasts_S1x128_S8x128

/-- A tile as stored. -/
abbrev st8 (v : V F) : V F := shapeCast S8x128 v shapeCasts_S8x128_S8x128

/-- The strided rows of step `4 t + j` in a slab. -/
abbrev r19 (t : Fin k0_t3_loop.trips) (j : Fin 4) : LoadRect S2080x128 :=
  ⟨k0_off19 t (BitVec.ofNat 32 j.val), S8x128.size, ![260, 1], (k0_off19_inb t j)⟩
abbrev r20 (t : Fin k0_t3_loop.trips) (j : Fin 4) (n : Fin 16) : Rect S4096x128 :=
  Rect.unit (s := S4096x128) (k0_off20 t (BitVec.ofNat 32 j.val) (BitVec.ofNat 32 n.val)) S1x128.size (k0_off20_inb t j n)
abbrev r21 (t : Fin k0_t3_loop.trips) (j : Fin 4) (n : Fin 16) : Rect S32768x128 :=
  Rect.unit (s := S32768x128) (k0_off21 t (BitVec.ofNat 32 j.val) (BitVec.ofNat 32 (8 * n.val))) S8x128.size (k0_off21_inb t j n)
abbrev r22 (t : Fin k0_t3_loop.trips) (j : Fin 4) (n : Fin 16) : Rect S37008x128 :=
  Rect.unit (s := S37008x128) (k0_off22 t (BitVec.ofNat 32 j.val) (BitVec.ofNat 32 (9 * n.val))) S8x128.size (k0_off22_inb t j n)
abbrev r23 (t : Fin k0_t3_loop.trips) (j : Fin 4) (g : Fin 2) : Rect S4096x128 :=
  Rect.unit (s := S4096x128) (k0_off23 t (BitVec.ofNat 32 j.val) (BitVec.ofNat 32 (8 * g.val))) S8x128.size (k0_off23_inb t j g)
abbrev r24 (t : Fin k0_t3_loop.trips) (j : Fin 4) (g : Fin 2) (k : Fin 8) : LoadRect S37008x128 :=
  ⟨k0_off24 t (BitVec.ofNat 32 j.val) (BitVec.ofNat 32 (72 * g.val)) (BitVec.ofNat 32 k.val), S8x128.size, ![9, 1], (k0_off24_inb t j g k)⟩
abbrev r25 (t : Fin k0_t3_loop.trips) (j : Fin 4) (k : Fin 8) : Rect S2080x128 :=
  Rect.unit (s := S2080x128) (k0_off25 t (BitVec.ofNat 32 (260 * k.val)) (BitVec.ofNat 32 j.val)) S1x128.size (k0_off25_inb t k j)

theorem inbA (n : Fin 16) : ∀ a, (![n.val, 0, 0, 0] : Fin 4 → Nat) a + S1x1x8x128.size a ≤ S16x1x8x128.size a := by
  intro a; fin_cases n <;> fin_cases a <;> decide

abbrev rA (n : Fin 16) : Rect S16x1x8x128 := Rect.unit (s := S16x1x8x128) ![n.val, 0, 0, 0] S1x1x8x128.size (inbA n)

/-- `exp2 (delta * (A * log2 e))`. -/
abbrev aOf (delta : V F) (av : FVec F S1x1x8x128 .f32) : V F :=
  exp2 (mulf delta (mulf (shapeCast S8x128 av shapeCasts_S1x1x8x128_S8x128) (broadcast S8x128 (Named.named κ "log2e" 0x3FB8AA3B#32))))

/-- State `n` of one forward step: the new state and its contribution to `y`. -/
def fwdRow (t : Fin k0_t3_loop.trips) (j : Fin 4) (delta bu : V F) (h : Nat → V F) (n : Fin 16) : C (F := F) M (V F × V F) :=
  .load .a (rA n).toLoadRect h_S1x1x8x128 fun av =>
  .load .bb (r20 t j n).toLoadRect h_S1x128 fun bbv =>
  .load .cb (r20 t j n).toLoadRect h_S1x128 fun cbv =>
  .load .aS (r21 t j n).toLoadRect h_S8x128 fun _ =>
  .store .aS (r21 t j n) (st8 (aOf delta av)) (View.stores_vmem_bits_univ h_S8x128 rfl) <|
  .load .hS (r22 t j n).toLoadRect h_S8x128 fun _ =>
  .store .hS (r22 t j n) (st8 (addf (mulf (aOf delta av) (h n.val)) (mulf bu (bc8 bbv)))) (View.stores_vmem_bits_univ h_S8x128 rfl) <|
  .ret (addf (mulf (aOf delta av) (h n.val)) (mulf bu (bc8 bbv)), mulf (bc8 cbv) (addf (mulf (aOf delta av) (h n.val)) (mulf bu (bc8 bbv))))

/-- Group `g` of a forward step's contribution to `dC`. -/
def fwdDc (t : Fin k0_t3_loop.trips) (j : Fin 4) (g : Fin 2) : C (F := F) M Unit :=
  .load .dcacc (r23 t j g).toLoadRect h_S8x128 fun acc0 =>
  .bind (foldL M (fun k acc => .load .hS (r24 t j g k) h_S8x128 fun hk =>
      .load .gy (r25 t j k).toLoadRect h_S1x128 fun gyr => .ret (addf acc (mulf hk (bc8 gyr)))) L8 acc0) fun acc =>
  .load .dcacc (r23 t j g).toLoadRect h_S8x128 fun _ =>
  .store .dcacc (r23 t j g) (st8 acc) (View.stores_vmem_bits_univ h_S8x128 rfl) (.ret ())

/-- One forward step. -/
def fwdStep (t : Fin k0_t3_loop.trips) (j : Fin 4) (s : (Nat → V F) × V F) : C (F := F) M ((Nat → V F) × V F) :=
  .load .del (r19 t j) h_S8x128 fun delta =>
  .load .u (r19 t j) h_S8x128 fun u =>
  .load .gy (r19 t j) h_S8x128 fun gy =>
  .bind (mapL M (fwdRow M t j delta (mulf delta u) s.1) L16) fun rs =>
  .load .y (r19 t j) h_S8x128 fun _ =>
  .store .y ⟨r19 t j, spos_260_1⟩ (st8 (sum1 (rs.map Prod.snd))) (View.stores_vmem_bits_univ h_S8x128 rfl) <|
  .bind (mapL M (fwdDc M t j) L2) fun _ =>
  .ret (fun n => nth (rs.map Prod.fst) n (s.1 n), addf s.2 (mulf gy u))

/-- Sixteen tiles and one more. -/
abbrev Tup17 (F : FTy → Type) [FloatOps F] : Type :=
  V F × V F × V F × V F × V F × V F × V F × V F × V F × V F × V F × V F × V F × V F × V F × V F × V F

def un17 (p : Tup17 F) : (Nat → V F) × V F :=
  (fun n => nth [p.1, p.2.1, p.2.2.1, p.2.2.2.1, p.2.2.2.2.1, p.2.2.2.2.2.1, p.2.2.2.2.2.2.1, p.2.2.2.2.2.2.2.1, p.2.2.2.2.2.2.2.2.1,
    p.2.2.2.2.2.2.2.2.2.1, p.2.2.2.2.2.2.2.2.2.2.1, p.2.2.2.2.2.2.2.2.2.2.2.1, p.2.2.2.2.2.2.2.2.2.2.2.2.1,
    p.2.2.2.2.2.2.2.2.2.2.2.2.2.1, p.2.2.2.2.2.2.2.2.2.2.2.2.2.2.1, p.2.2.2.2.2.2.2.2.2.2.2.2.2.2.2.1] n p.1,
    p.2.2.2.2.2.2.2.2.2.2.2.2.2.2.2.2)

def mk17 (s : (Nat → V F) × V F) : Tup17 F :=
  (s.1 0, s.1 1, s.1 2, s.1 3, s.1 4, s.1 5, s.1 6, s.1 7, s.1 8, s.1 9, s.1 10, s.1 11, s.1 12, s.1 13, s.1 14, s.1 15, s.2)

/-- One trip of the forward loop. -/
def t3 (t : Fin k0_t3_loop.trips) (p : Tup17 F) : C (F := F) M (Tup17 F) :=
  .bind (foldL M (fwdStep M t) L4 (un17 p)) fun s => .ret (mk17 s)

/-- The rows of backward step `255 - (4 t + j)`. -/
abbrev r58 (t : Fin k0_t4_loop.trips) (j : Fin 4) : LoadRect S2080x128 :=
  ⟨k0_off58 t (BitVec.ofNat 32 j.val), S8x128.size, ![260, 1], (k0_off58_inb t j)⟩
abbrev r59 (t : Fin k0_t4_loop.trips) (j : Fin 4) (n : Fin 16) : Rect S4096x128 :=
  Rect.unit (s := S4096x128) (k0_off59 t (BitVec.ofNat 32 j.val) (BitVec.ofNat 32 n.val)) S1x128.size (k0_off59_inb t j n)
abbrev r60 (t : Fin k0_t4_loop.trips) (j : Fin 4) (n : Fin 16) : Rect S32768x128 :=
  Rect.unit (s := S32768x128) (k0_off60 t (BitVec.ofNat 32 j.val) (BitVec.ofNat 32 (8 * n.val))) S8x128.size (k0_off60_inb t j n)
abbrev r61 (t : Fin k0_t4_loop.trips) (j : Fin 4) (n : Fin 16) : Rect S37008x128 :=
  Rect.unit (s := S37008x128) (k0_off61 t (BitVec.ofNat 32 j.val) (BitVec.ofNat 32 (9 * n.val))) S8x128.size (k0_off61_inb t j n)
abbrev r62 (t : Fin k0_t4_loop.trips) (j : Fin 4) (g : Fin 2) : Rect S4096x128 :=
  Rect.unit (s := S4096x128) (k0_off62 t (BitVec.ofNat 32 j.val) (BitVec.ofNat 32 (8 * g.val))) S8x128.size (k0_off62_inb t j g)

theorem inbG (j : Fin 4) (n : Fin 16) : ∀ a, (![144 * j.val + 9 * n.val, 0] : Fin 2 → Nat) a + S8x128.size a ≤ S576x128.size a := by
  intro a; fin_cases j <;> fin_cases n <;> fin_cases a <;> decide

theorem inbH (j : Fin 4) (g : Fin 2) (k : Fin 8) : ∀ a, S8x128.size a = 0 ∨
    (![144 * j.val + 72 * g.val + k.val, 0] : Fin 2 → Nat) a + (![9, 1] : Fin 2 → Nat) a * (S8x128.size a - 1) < S576x128.size a := by
  intro a; fin_cases j <;> fin_cases g <;> fin_cases k <;> fin_cases a <;> decide

/-- Where step `j` of a trip keeps state `n`'s products, -/
abbrev rG (j : Fin 4) (n : Fin 16) : Rect S576x128 := Rect.unit (s := S576x128) ![144 * j.val + 9 * n.val, 0] S8x128.size (inbG j n)
/-- and the eight states of a group at sublane `k`. -/
abbrev rH (j : Fin 4) (g : Fin 2) (k : Fin 8) : LoadRect S576x128 :=
  ⟨![144 * j.val + 72 * g.val + k.val, 0], S8x128.size, ![9, 1], inbH j g k⟩

/-- State `n` of one backward step: the new adjoint, the new `dA`, and the contributions to `ddelta` and `Σ gh b`. -/
def bwdRow (t : Fin k0_t4_loop.trips) (j : Fin 4) (delta bu gy : V F) (adj da : Nat → V F) (n : Fin 16) :
    C (F := F) M ((V F × V F) × (V F × V F)) :=
  .load .bb (r59 t j n).toLoadRect h_S1x128 fun bbv =>
  .load .cb (r59 t j n).toLoadRect h_S1x128 fun cbv =>
  .load .aS (r60 t j n).toLoadRect h_S8x128 fun a =>
  .load .hS (r61 t j n).toLoadRect h_S8x128 fun hp =>
  .load .a (rA n).toLoadRect h_S1x1x8x128 fun av =>
  .load .ghS (rG j n).toLoadRect h_S8x128 fun _ =>
  .store .ghS (rG j n) (st8 (mulf (addf (mulf gy (bc8 cbv)) (adj n.val)) bu)) (View.stores_vmem_bits_univ h_S8x128 rfl) <|
  .ret ((mulf a (addf (mulf gy (bc8 cbv)) (adj n.val)),
      addf (da n.val) (mulf (mulf (mulf a (addf (mulf gy (bc8 cbv)) (adj n.val))) hp) delta)),
    (mulf (mulf (mulf a (addf (mulf gy (bc8 cbv)) (adj n.val))) hp) (shapeCast S8x128 av shapeCasts_S1x1x8x128_S8x128),
      mulf (addf (mulf gy (bc8 cbv)) (adj n.val)) (bc8 bbv)))

/-- Group `g` of a backward step's contribution to `dB`. -/
def bwdDb (t : Fin k0_t4_loop.trips) (j : Fin 4) (g : Fin 2) : C (F := F) M Unit :=
  .load .dbacc (r62 t j g).toLoadRect h_S8x128 fun acc0 =>
  .bind (foldL M (fun k acc => .load .ghS (rH j g k) h_S8x128 fun hk => .ret (addf acc hk)) L8 acc0) fun acc =>
  .load .dbacc (r62 t j g).toLoadRect h_S8x128 fun _ =>
  .store .dbacc (r62 t j g) (st8 acc) (View.stores_vmem_bits_univ h_S8x128 rfl) (.ret ())

/-- One backward step. -/
def bwdStep (t : Fin k0_t4_loop.trips) (j : Fin 4) (s : (Nat → V F) × (Nat → V F)) : C (F := F) M ((Nat → V F) × (Nat → V F)) :=
  .load .del (r58 t j) h_S8x128 fun delta =>
  .load .u (r58 t j) h_S8x128 fun u =>
  .load .gy (r58 t j) h_S8x128 fun gy =>
  .bind (mapL M (bwdRow M t j delta (mulf delta u) gy s.1 s.2) L16) fun rs =>
  .load .ghb (r58 t j) h_S8x128 fun _ =>
  .store .ghb ⟨r58 t j, spos_260_1⟩ (st8 (sum1 (rs.map fun r => r.2.2))) (View.stores_vmem_bits_univ h_S8x128 rfl) <|
  .load .ddS (r58 t j) h_S8x128 fun _ =>
  .store .ddS ⟨r58 t j, spos_260_1⟩ (st8 (sum1 (rs.map fun r => r.2.1))) (View.stores_vmem_bits_univ h_S8x128 rfl) <|
  .bind (mapL M (bwdDb M t j) L2) fun _ =>
  .ret (fun n => nth (rs.map fun r => r.1.1) n (s.1 n), fun n => nth (rs.map fun r => r.1.2) n (s.2 n))

/-- Thirty-two tiles. -/
abbrev Tup32 (F : FTy → Type) [FloatOps F] : Type :=
  V F × V F × V F × V F × V F × V F × V F × V F × V F × V F × V F × V F × V F × V F × V F × V F × V F × V F × V F × V F × V F × V F × V F × V F × V F × V F × V F × V F × V F × V F × V F × V F

def un32 (p : Tup32 F) : (Nat → V F) × (Nat → V F) :=
  (fun n => nth [p.1, p.2.1, p.2.2.1, p.2.2.2.1, p.2.2.2.2.1, p.2.2.2.2.2.1, p.2.2.2.2.2.2.1, p.2.2.2.2.2.2.2.1, p.2.2.2.2.2.2.2.2.1, p.2.2.2.2.2.2.2.2.2.1, p.2.2.2.2.2.2.2.2.2.2.1, p.2.2.2.2.2.2.2.2.2.2.2.1, p.2.2.2.2.2.2.2.2.2.2.2.2.1, p.2.2.2.2.2.2.2.2.2.2.2.2.2.1, p.2.2.2.2.2.2.2.2.2.2.2.2.2.2.1, p.2.2.2.2.2.2.2.2.2.2.2.2.2.2.2.1] n p.1,
   fun n => nth [p.2.2.2.2.2.2.2.2.2.2.2.2.2.2.2.2.1, p.2.2.2.2.2.2.2.2.2.2.2.2.2.2.2.2.2.1, p.2.2.2.2.2.2.2.2.2.2.2.2.2.2.2.2.2.2.1, p.2.2.2.2.2.2.2.2.2.2.2.2.2.2.2.2.2.2.2.1, p.2.2.2.2.2.2.2.2.2.2.2.2.2.2.2.2.2.2.2.2.1, p.2.2.2.2.2.2.2.2.2.2.2.2.2.2.2.2.2.2.2.2.2.1, p.2.2.2.2.2.2.2.2.2.2.2.2.2.2.2.2.2.2.2.2.2.2.1, p.2.2.2.2.2.2.2.2.2.2.2.2.2.2.2.2.2.2.2.2.2.2.2.1, p.2.2.2.2.2.2.2.2.2.2.2.2.2.2.2.2.2.2.2.2.2.2.2.2.1, p.2.2.2.2.2.2.2.2.2.2.2.2.2.2.2.2.2.2.2.2.2.2.2.2.2.1, p.2.2.2.2.2.2.2.2.2.2.2.2.2.2.2.2.2.2.2.2.2.2.2.2.2.2.1, p.2.2.2.2.2.2.2.2.2.2.2.2.2.2.2.2.2.2.2.2.2.2.2.2.2.2.2.1, p.2.2.2.2.2.2.2.2.2.2.2.2.2.2.2.2.2.2.2.2.2.2.2.2.2.2.2.2.1, p.2.2.2.2.2.2.2.2.2.2.2.2.2.2.2.2.2.2.2.2.2.2.2.2.2.2.2.2.2.1, p.2.2.2.2.2.2.2.2.2.2.2.2.2.2.2.2.2.2.2.2.2.2.2.2.2.2.2.2.2.2.1, p.2.2.2.2.2.2.2.2.2.2.2.2.2.2.2.2.2.2.2.2.2.2.2.2.2.2.2.2.2.2.2] n p.1)

def mk32 (s : (Nat → V F) × (Nat → V F)) : Tup32 F :=
  (s.1 0, s.1 1, s.1 2, s.1 3, s.1 4, s.1 5, s.1 6, s.1 7, s.1 8, s.1 9, s.1 10, s.1 11, s.1 12, s.1 13, s.1 14, s.1 15, s.2 0, s.2 1, s.2 2, s.2 3, s.2 4, s.2 5, s.2 6, s.2 7, s.2 8, s.2 9, s.2 10, s.2 11, s.2 12, s.2 13, s.2 14, s.2 15)

/-- One trip of the backward loop. -/
def t4 (t : Fin k0_t4_loop.trips) (p : Tup32 F) : C (F := F) M (Tup32 F) :=
  .bind (foldL M (bwdStep M t) L4 (un32 p)) fun s => .ret (mk32 s)

/-! ## Spreading B and C over the lanes -/

/-- The diagonal mask. -/
def eye16 : IVec S8x16x16 1 := cmpi .eq (iota .tc S8x16x16 32 [1] iota_S8x16x16_d1_w32) (iota .tc S8x16x16 32 [2] iota_S8x16x16_d2_w32)

theorem slq (q : Fin 4) : S32x16.Slices ![8 * q.val, 0] S8x16 :=
  match q with
  | ⟨0, _⟩ => slices_S32x16_o0_0_S8x16 | ⟨1, _⟩ => slices_S32x16_o8_0_S8x16
  | ⟨2, _⟩ => slices_S32x16_o16_0_S8x16 | ⟨3, _⟩ => slices_S32x16_o24_0_S8x16

/-- Eight rows of sixteen, each entry spread along a row of its own. -/
def spread (q : Fin 4) (v : FVec F S32x16 .f32) : FVec F S128x128 .f32 :=
  shapeCast S128x128 (shapeCast S128x128 (broadcastTo S8x16x128 (shapeCast S8x16x1 (shapeCast S8x16x1
    (multiReduction .add [2] S8x16 (select eye16 (broadcastTo S8x16x16 (shapeCast S8x1x16 (shapeCast S8x1x16
      (extractStridedSlice S8x16 ![8 * q.val, 0] v (slq q)) shapeCasts_S8x16_S8x1x16) shapeCasts_S8x1x16_S8x1x16)
      broadcasts_S8x1x16_S8x16x16) (broadcast S8x16x16 (Scalar.ofBits .f32 0x00000000#32))) 0x00000000#32
      reduces_S8x16x16_S8x16 (.inl rfl) rfl) shapeCasts_S8x16_S8x16x1) shapeCasts_S8x16x1_S8x16x1)
    broadcasts_S8x16x1_S8x16x128) shapeCasts_S8x16x128_S128x128) shapeCasts_S128x128_S128x128

/-- Codes times the token's scale, `B`'s -/
def bVal (tk : FVec F S1x32x3 .f32) (v : FVec F S1x32x16 .fp8e4m3) : FVec F S32x16 .f32 :=
  mulf (extf .f32 (shapeCast S32x16 v shapeCasts_S1x32x16_S32x16) bitsLt_fp8e4m3_f32)
    (broadcastTo S32x16 (extractStridedSlice S32x1 ![0, 1] (shapeCast S32x3 tk shapeCasts_S1x32x3_S32x3) slices_S32x3_o0_1_S32x1)
      broadcasts_S32x1_S32x16)
/-- and `C`'s. -/
def cVal (tk : FVec F S1x32x3 .f32) (v : FVec F S1x32x16 .fp8e4m3) : FVec F S32x16 .f32 :=
  mulf (extf .f32 (shapeCast S32x16 v shapeCasts_S1x32x16_S32x16) bitsLt_fp8e4m3_f32)
    (broadcastTo S32x16 (extractStridedSlice S32x1 ![0, 2] (shapeCast S32x3 tk shapeCasts_S1x32x3_S32x3) slices_S32x3_o0_2_S32x1)
      broadcasts_S32x1_S32x16)

abbrev r6 (i : grid0.Coords) (h : k0_cond3 i = 1#1) (t : Fin k0_t1_loop.trips) (q : Fin 4) : Rect S4096x128 :=
  Rect.unit (s := S4096x128) (k0_off6 t (BitVec.ofNat 32 (8 * q.val))) S128x128.size (k0_off6_inb i t h q)

/-- One trip of the spreading loop. -/
def t1 (i : grid0.Coords) (h : k0_cond3 i = 1#1) (t : Fin k0_t1_loop.trips) (_ : Unit) : C (F := F) M Unit :=
  .load .tok (Rect.unit (s := S1x256x3) (k0_off4 t) S1x32x3.size (k0_off4_inb i t h)).toLoadRect h_S1x32x3 fun tk =>
  .load .b (Rect.unit (s := S1x256x16) (k0_off5 t) S1x32x16.size (k0_off5_inb i t h)).toLoadRect h_S1x32x16 fun bv =>
  .bind (mapL M (fun q : Fin 4 => .load .bb (r6 i h t q).toLoadRect h_S128x128 fun _ =>
    .store .bb (r6 i h t q) (spread q (bVal tk bv)) (View.stores_vmem_bits_univ h_S128x128 rfl) (.ret ())) L4) fun _ =>
  .load .c (Rect.unit (s := S1x256x16) (k0_off5 t) S1x32x16.size (k0_off5_inb i t h)).toLoadRect h_S1x32x16 fun cv =>
  .bind (mapL M (fun q : Fin 4 => .load .cb (r6 i h t q).toLoadRect h_S128x128 fun _ =>
    .store .cb (r6 i h t q) (spread q (cVal tk cv)) (View.stores_vmem_bits_univ h_S128x128 rfl) (.ret ())) L4) fun _ =>
  .ret ()

/-! ## The pointwise quantities -/

theorem slx (k : Fin 8) : S32x8.Slices ![0, k.val] S32x1 :=
  match k with
  | ⟨0, _⟩ => slices_S32x8_o0_0_S32x1 | ⟨1, _⟩ => slices_S32x8_o0_1_S32x1
  | ⟨2, _⟩ => slices_S32x8_o0_2_S32x1 | ⟨3, _⟩ => slices_S32x8_o0_3_S32x1
  | ⟨4, _⟩ => slices_S32x8_o0_4_S32x1 | ⟨5, _⟩ => slices_S32x8_o0_5_S32x1
  | ⟨6, _⟩ => slices_S32x8_o0_6_S32x1 | ⟨7, _⟩ => slices_S32x8_o0_7_S32x1

/-- A slab of 32 rows. -/
abbrev W (F : FTy → Type) [FloatOps F] : Type := FVec F S32x128 .f32

abbrev one32 : W F := broadcast S32x128 (Scalar.ofBits .f32 0x3F800000#32)
abbrev zero32 : W F := broadcast S32x128 (Scalar.ofBits .f32 0x00000000#32)
abbrev st32 (v : W F) : W F := shapeCast S32x128 v shapeCasts_S32x128_S32x128

def uVal (k : Fin 8) (xs : FVec F S1x1x32x8 .f32) (x : FVec F S1x32x128 .fp8e4m3) : W F :=
  mulf (extf .f32 (shapeCast S32x128 x shapeCasts_S1x32x128_S32x128) bitsLt_fp8e4m3_f32)
    (broadcastTo S32x128 (extractStridedSlice S32x1 ![0, k.val] (shapeCast S32x8 xs shapeCasts_S1x1x32x8_S32x8) (slx k)) broadcasts_S32x1_S32x128)
def dyVal (k : Fin 8) (xs : FVec F S1x1x32x8 .f32) (x : FVec F S1x32x128 .fp8e5m2) : W F :=
  mulf (extf .f32 (shapeCast S32x128 x shapeCasts_S1x32x128_S32x128) bitsLt_fp8e5m2_f32)
    (broadcastTo S32x128 (extractStridedSlice S32x1 ![0, k.val] (shapeCast S32x8 xs shapeCasts_S1x1x32x8_S32x8) (slx k)) broadcasts_S32x1_S32x128)
def dtVal (tk : FVec F S1x32x3 .f32) (x : FVec F S1x32x128 .fp8e4m3) : W F :=
  mulf (extf .f32 (shapeCast S32x128 x shapeCasts_S1x32x128_S32x128) bitsLt_fp8e4m3_f32)
    (broadcastTo S32x128 (shapeCast S32x1 (extractStridedSlice S32x1 ![0, 0] (shapeCast S32x3 tk shapeCasts_S1x32x3_S32x3)
      slices_S32x3_o0_0_S32x1) shapeCasts_S32x1_S32x1) broadcasts_S32x1_S32x128)
def zVal (x : FVec F S1x32x128 .bf16) : W F :=
  extf .f32 (shapeCast S32x128 x shapeCasts_S1x32x128_S32x128) bitsLt_bf16_f32

/-- `e = exp (-|dt|)`, `w = 1 + e`, softplus, its derivative, and the logistic function of `z`. -/
def eVal (dt : W F) : W F := exp (subf zero32 (absf dt))
def wVal (dt : W F) : W F := addf one32 (eVal dt)
def delVal (dt : W F) : W F := addf (maximumf dt zero32)
  (select (cmpf .oeq (wVal dt) one32) (eVal dt) (mulf (log (wVal dt)) (divf (eVal dt) (subf (wVal dt) one32))))
def sdtVal (dt : W F) : W F := divf (select (cmpf .oge dt zero32) one32 (eVal dt)) (wVal dt)
def szVal (z : W F) : W F := divf one32 (addf one32 (exp (subf zero32 z)))
def gyVal (dy z : W F) : W F := mulf dy (mulf z (szVal z))
def gzVal (dy z : W F) : W F := mulf (mulf dy (szVal z)) (addf one32 (mulf z (subf one32 (szVal z))))

abbrev r10 (t : Fin k0_t2_loop.trips) (k : Fin 8) : Rect S2080x128 :=
  Rect.unit (s := S2080x128) (k0_off10 t (BitVec.ofNat 32 (260 * k.val))) S32x128.size (k0_off10_inb t k)

theorem inbX (t : Fin k0_t2_loop.trips) (k : Fin 8) :
    ∀ a, (![0, k0_off9 t 1, 128 * k.val] : Fin 3 → Nat) a + S1x32x128.size a ≤ S1x256x1024.size a := by
  have h := k0_off9_inb t 1
  have hk := k.isLt
  intro a; fin_cases a
  · exact Nat.le_refl 1
  · exact h
  · show 128 * k.val + 128 ≤ 1024; omega

abbrev rX (t : Fin k0_t2_loop.trips) (k : Fin 8) : Rect S1x256x1024 :=
  Rect.unit (s := S1x256x1024) ![0, k0_off9 t 1, 128 * k.val] S1x32x128.size (inbX t k)

/-- Sublane `k` of a trip. -/
def preRow (t : Fin k0_t2_loop.trips) (tk : FVec F S1x32x3 .f32) (xs dys : FVec F S1x1x32x8 .f32) (k : Fin 8) : C (F := F) M Unit :=
  .load .x (rX t k).toLoadRect h_S1x32x128 fun x =>
  .load .dy (rX t k).toLoadRect h_S1x32x128 fun dy =>
  .load .dt (rX t k).toLoadRect h_S1x32x128 fun dt =>
  .load .z (rX t k).toLoadRect h_S1x32x128 fun z =>
  .load .del (r10 t k).toLoadRect h_S32x128 fun _ =>
  .store .del (r10 t k) (st32 (delVal (dtVal tk dt))) (View.stores_vmem_bits_univ h_S32x128 rfl) <|
  .load .u (r10 t k).toLoadRect h_S32x128 fun _ =>
  .store .u (r10 t k) (st32 (uVal k xs x)) (View.stores_vmem_bits_univ h_S32x128 rfl) <|
  .load .gy (r10 t k).toLoadRect h_S32x128 fun _ =>
  .store .gy (r10 t k) (st32 (gyVal (dyVal k dys dy) (zVal z))) (View.stores_vmem_bits_univ h_S32x128 rfl) <|
  .load .gz (r10 t k).toLoadRect h_S32x128 fun _ =>
  .store .gz (r10 t k) (st32 (gzVal (dyVal k dys dy) (zVal z))) (View.stores_vmem_bits_univ h_S32x128 rfl) <|
  .load .sdt (r10 t k).toLoadRect h_S32x128 fun _ =>
  .store .sdt (r10 t k) (st32 (sdtVal (dtVal tk dt))) (View.stores_vmem_bits_univ h_S32x128 rfl) (.ret ())

/-- One trip of the pointwise loop. -/
def t2 (t : Fin k0_t2_loop.trips) (_ : Unit) : C (F := F) M Unit :=
  .load .tok (Rect.unit (s := S1x256x3) (k0_off7 t) S1x32x3.size (k0_off7_inb t)).toLoadRect h_S1x32x3 fun tk =>
  .load .xs (Rect.unit (s := S1x1x256x8) (k0_off8 t) S1x1x32x8.size (k0_off8_inb t)).toLoadRect h_S1x1x32x8 fun xs =>
  .load .dys (Rect.unit (s := S1x1x256x8) (k0_off8 t) S1x1x32x8.size (k0_off8_inb t)).toLoadRect h_S1x1x32x8 fun dys =>
  .bind (mapL M (preRow M t tk xs dys) L8) fun _ => .ret ()

/-! ## The results of a chunk -/

abbrev r63 (t : Fin k0_t5_loop.trips) (k : Fin 8) : Rect S2080x128 :=
  Rect.unit (s := S2080x128) (k0_off63 t (BitVec.ofNat 32 (260 * k.val))) S32x128.size (k0_off63_inb t k)

theorem inbY (t : Fin k0_t5_loop.trips) (k : Fin 8) :
    ∀ a, (![0, k0_off64 t 1, 128 * k.val] : Fin 3 → Nat) a + S1x32x128.size a ≤ S1x256x1024.size a := by
  have h := k0_off64_inb t 1
  have hk := k.isLt
  intro a; fin_cases a
  · exact Nat.le_refl 1
  · exact h
  · show 128 * k.val + 128 ≤ 1024; omega

abbrev rY (t : Fin k0_t5_loop.trips) (k : Fin 8) : Rect S1x256x1024 :=
  Rect.unit (s := S1x256x1024) ![0, k0_off64 t 1, 128 * k.val] S1x32x128.size (inbY t k)

theorem packY (t : Fin k0_t5_loop.trips) (k : Fin 8) : (rY t k).PackedRows (EltTy.packing .bf16) :=
  match k with
  | ⟨0, _⟩ => k0_off64_packedbf16 t | ⟨1, _⟩ => k0_off65_packedbf16 t | ⟨2, _⟩ => k0_off66_packedbf16 t
  | ⟨3, _⟩ => k0_off67_packedbf16 t | ⟨4, _⟩ => k0_off68_packedbf16 t | ⟨5, _⟩ => k0_off69_packedbf16 t
  | ⟨6, _⟩ => k0_off70_packedbf16 t | ⟨7, _⟩ => k0_off71_packedbf16 t

theorem inbD (k : Fin 8) : ∀ a, (![0, 128 * k.val] : Fin 2 → Nat) a + S1x128.size a ≤ S1x1024.size a := by
  intro a; fin_cases k <;> fin_cases a <;> decide

/-- A slab as a bf16 result. -/
abbrev out32 (v : W F) : FVec F S1x32x128 .bf16 := shapeCast S1x32x128 (truncf .bf16 v bitsLt_bf16_f32) shapeCasts_S32x128_S1x32x128
/-- One row for all 32. -/
abbrev dRow (d : FVec F S1x128 .f32) : W F := broadcastTo S32x128 (shapeCast S1x128 d shapeCasts_S1x128_S1x128) broadcasts_S1x128_S32x128

variable (hM : ∀ b, (M b).IsWhole)

/-- Sublane `k` of a trip. -/
def postRow (t : Fin k0_t5_loop.trips) (k : Fin 8) : C (F := F) M Unit :=
  .load .d (Rect.unit (s := S1x1024) ![0, 128 * k.val] S1x128.size (inbD k)).toLoadRect h_S1x128 fun d =>
  .load .u (r63 t k).toLoadRect h_S32x128 fun u =>
  .load .ghb (r63 t k).toLoadRect h_S32x128 fun ghb =>
  .load .gy (r63 t k).toLoadRect h_S32x128 fun gy =>
  .load .del (r63 t k).toLoadRect h_S32x128 fun del =>
  .load .dx (rY t k).toLoadRect h_S1x32x128 fun _ =>
  .store .dx (rY t k) (out32 (addf (mulf gy (dRow d)) (mulf del ghb)))
    (View.stores_vmem h_S1x32x128 ((hM .dx).storeExact_slice rfl _ (packY t k)) (fun _ => rfl)) <|
  .load .ddS (r63 t k).toLoadRect h_S32x128 fun dd =>
  .load .sdt (r63 t k).toLoadRect h_S32x128 fun sdt =>
  .load .ddt (rY t k).toLoadRect h_S1x32x128 fun _ =>
  .store .ddt (rY t k) (out32 (mulf (addf dd (mulf u ghb)) sdt))
    (View.stores_vmem h_S1x32x128 ((hM .ddt).storeExact_slice rfl _ (packY t k)) (fun _ => rfl)) <|
  .load .gz (r63 t k).toLoadRect h_S32x128 fun gz =>
  .load .y (r63 t k).toLoadRect h_S32x128 fun y =>
  .load .dz (rY t k).toLoadRect h_S1x32x128 fun _ =>
  .store .dz (rY t k) (out32 (mulf gz (addf y (mulf (dRow d) u))))
    (View.stores_vmem h_S1x32x128 ((hM .dz).storeExact_slice rfl _ (packY t k)) (fun _ => rfl)) (.ret ())

/-- One trip of the loop that writes `dx`, `ddt` and `dz`. -/
def t5 (t : Fin k0_t5_loop.trips) (_ : Unit) : C (F := F) M Unit :=
  .bind (mapL M (postRow M hM t) L8) fun _ => .ret ()

/-- The sums of 128 rows. -/
def laneSum (v : FVec F S128x128 .f32) : FVec F S1x1x128 .f32 :=
  shapeCast S1x1x128 (shapeCast S1x128 (multiReduction .add [0] S128 (transpose S128x128 [1, 0] v transposes_S128x128_p1_0_S128x128)
    0x00000000#32 reduces_S128x128_S128 (.inl rfl) rfl) shapeCasts_S128_S1x128) shapeCasts_S1x128_S1x1x128

/-- One trip of the loop that writes `dB` and `dC`. -/
def t6 (i : grid0.Coords) (h : k0_cond4 i = 1#1) (t : Fin k0_t6_loop.trips) (_ : Unit) : C (F := F) M Unit :=
  .load .dbacc (Rect.unit (s := S4096x128) (k0_off72 t) S128x128.size (k0_off72_inb i t h)).toLoadRect h_S128x128 fun v =>
  .load .db (Rect.unit (s := S1x32x128) (k0_off73 t) S1x1x128.size (k0_off73_inb i t h)).toLoadRect h_S1x1x128 fun _ =>
  .store .db (Rect.unit (s := S1x32x128) (k0_off73 t) S1x1x128.size (k0_off73_inb i t h)) (laneSum v) (View.stores_vmem_bits_univ h_S1x1x128 rfl) <|
  .load .dcacc (Rect.unit (s := S4096x128) (k0_off72 t) S128x128.size (k0_off72_inb i t h)).toLoadRect h_S128x128 fun v =>
  .load .dc (Rect.unit (s := S1x32x128) (k0_off73 t) S1x1x128.size (k0_off73_inb i t h)).toLoadRect h_S1x1x128 fun _ =>
  .store .dc (Rect.unit (s := S1x32x128) (k0_off73 t) S1x1x128.size (k0_off73_inb i t h)) (laneSum v) (View.stores_vmem_bits_univ h_S1x1x128 rfl) (.ret ())

/-! ## The whole body -/

theorem inb0 (n : Fin 16) : ∀ a, (![0, 0, n.val, 0, 0, 0] : Fin 6 → Nat) a + S1x1x1x1x8x128.size a ≤ S1x1x16x1x8x128.size a := by
  intro a; fin_cases n <;> fin_cases a <;> decide
theorem inbZ (n : Fin 16) : ∀ a, (![9 * n.val, 0] : Fin 2 → Nat) a + S8x128.size a ≤ S37008x128.size a := by
  intro a; fin_cases n <;> fin_cases a <;> decide
theorem inbAdj (i : grid0.Coords) (n : Fin 16) :
    ∀ a, (![k0_off26 i 0, n.val, 0, 0] : Fin 4 → Nat) a + S1x1x8x128.size a ≤ S5x16x8x128.size a := by
  have h := k0_off26_inb i 0
  have hn := n.isLt
  intro a; fin_cases a
  · exact h
  · show n.val + 1 ≤ 16; omega
  · exact Nat.le_refl 8
  · exact Nat.le_refl 128
theorem inbDa (i : grid0.Coords) (n : Fin 16) :
    ∀ a, (![n.val, k0_off42 i 1, 0, 0] : Fin 4 → Nat) a + S1x1x8x128.size a ≤ S16x5x8x128.size a := by
  have h := k0_off42_inb i 1
  have hn := n.isLt
  intro a; fin_cases a
  · show n.val + 1 ≤ 16; omega
  · exact h
  · exact Nat.le_refl 8
  · exact Nat.le_refl 128

abbrev r0 (n : Fin 16) : Rect S1x1x16x1x8x128 := Rect.unit (s := S1x1x16x1x8x128) ![0, 0, n.val, 0, 0, 0] S1x1x1x1x8x128.size (inb0 n)
abbrev rZ (n : Fin 16) : Rect S37008x128 := Rect.unit (s := S37008x128) ![9 * n.val, 0] S8x128.size (inbZ n)
abbrev rAdj (i : grid0.Coords) (n : Fin 16) : Rect S5x16x8x128 := Rect.unit (s := S5x16x8x128) ![k0_off26 i 0, n.val, 0, 0] S1x1x8x128.size (inbAdj i n)
abbrev rDa (i : grid0.Coords) (n : Fin 16) : Rect S16x5x8x128 := Rect.unit (s := S16x5x8x128) ![n.val, k0_off42 i 1, 0, 0] S1x1x8x128.size (inbDa i n)
abbrev rDd (i : grid0.Coords) : Rect S5x8x128 := Rect.unit (s := S5x8x128) (k0_off18 i) S1x8x128.size (k0_off18_inb i)

/-- The first block of states. -/
def hInit (n : Fin 16) : C (F := F) M Unit :=
  .load .h0 (r0 n).toLoadRect h_S1x1x1x1x8x128 fun v =>
  .load .hS (rZ n).toLoadRect h_S8x128 fun _ =>
  .store .hS (rZ n) (st8 (shapeCast S8x128 v shapeCasts_S1x1x1x1x8x128_S8x128)) (View.stores_vmem_bits_univ h_S8x128 rfl) (.ret ())

def hLoad (n : Fin 16) : C (F := F) M (V F) :=
  .load .h0 (r0 n).toLoadRect h_S1x1x1x1x8x128 fun v => .ret (shapeCast S8x128 v shapeCasts_S1x1x1x1x8x128_S8x128)
def adjLoad (i : grid0.Coords) (n : Fin 16) : C (F := F) M (V F) :=
  .load .adj (rAdj i n).toLoadRect h_S1x1x8x128 fun v => .ret (shapeCast S8x128 v shapeCasts_S1x1x8x128_S8x128)
def daLoad (i : grid0.Coords) (n : Fin 16) : C (F := F) M (V F) :=
  .load .da (rDa i n).toLoadRect h_S1x1x8x128 fun v => .ret (shapeCast S8x128 v shapeCasts_S1x1x8x128_S8x128)
/-- State `n`'s adjoint and `dA`, written back. -/
def saveRow (i : grid0.Coords) (s : (Nat → V F) × (Nat → V F)) (n : Fin 16) : C (F := F) M Unit :=
  .load .adj (rAdj i n).toLoadRect h_S1x1x8x128 fun _ =>
  .store .adj (rAdj i n) (shapeCast S1x1x8x128 (s.1 n.val) shapeCasts_S8x128_S1x1x8x128) (View.stores_vmem_bits_univ h_S1x1x8x128 rfl) <|
  .load .da (rDa i n).toLoadRect h_S1x1x8x128 fun _ =>
  .store .da (rDa i n) (shapeCast S1x1x8x128 (s.2 n.val) shapeCasts_S8x128_S1x1x8x128) (View.stores_vmem_bits_univ h_S1x1x8x128 rfl) (.ret ())

/-- Zeros where a sum starts. -/
def zero1 (i : grid0.Coords) (h : k0_cond1 i = 1#1) : C (F := F) M PUnit :=
  .load .da (Rect.unit (s := S16x5x8x128) (k0_off1 i) S16x1x8x128.size (k0_off1_inb i h)).toLoadRect h_S16x1x8x128 fun _ =>
  .store .da (Rect.unit (s := S16x5x8x128) (k0_off1 i) S16x1x8x128.size (k0_off1_inb i h))
    (shapeCast S16x1x8x128 (broadcast S16x8x128 (Scalar.ofBits .f32 0x00000000#32)) shapeCasts_S16x8x128_S16x1x8x128) (View.stores_vmem_bits_univ h_S16x1x8x128 rfl) <|
  .load .dd (Rect.unit (s := S5x8x128) (k0_off2 i) S1x8x128.size (k0_off2_inb i h)).toLoadRect h_S1x8x128 fun _ =>
  .store .dd (Rect.unit (s := S5x8x128) (k0_off2 i) S1x8x128.size (k0_off2_inb i h))
    (shapeCast S1x8x128 (broadcast S8x128 (Scalar.ofBits .f32 0x00000000#32)) shapeCasts_S8x128_S1x8x128) (View.stores_vmem_bits_univ h_S1x8x128 rfl) (.ret ⟨⟩)
def zero2 (i : grid0.Coords) (h : k0_cond2 i = 1#1) : C (F := F) M PUnit :=
  .load .adj (Rect.unit (s := S5x16x8x128) (k0_off3 i) S1x16x8x128.size (k0_off3_inb i h)).toLoadRect h_S1x16x8x128 fun _ =>
  .store .adj (Rect.unit (s := S5x16x8x128) (k0_off3 i) S1x16x8x128.size (k0_off3_inb i h))
    (shapeCast S1x16x8x128 (broadcast S16x8x128 (Scalar.ofBits .f32 0x00000000#32)) shapeCasts_S16x8x128_S1x16x8x128) (View.stores_vmem_bits_univ h_S1x16x8x128 rfl) (.ret ⟨⟩)
/-- A batch element's chunk begins: `B`, `C` spread, the sums for `dB` and `dC` at zero; `rest` follows. -/
def first3 (i : grid0.Coords) (h : k0_cond3 i = 1#1) {α : Type} (rest : C (F := F) M α) : C (F := F) M α :=
  .bind (.loop k0_t1_loop (k0_t1_ok i h) () (t1 M i h)) fun _ =>
  .load .dbacc (Rect.unit (s := S4096x128) ![0, 0] S4096x128.size inb_S4096x128_S4096x128_0_0).toLoadRect h_S4096x128 fun _ =>
  .store .dbacc (Rect.unit (s := S4096x128) ![0, 0] S4096x128.size inb_S4096x128_S4096x128_0_0)
    (shapeCast S4096x128 (broadcast S4096x128 (Scalar.ofBits .f32 0x00000000#32)) shapeCasts_S4096x128_S4096x128) (View.stores_vmem_bits_univ h_S4096x128 rfl) <|
  .load .dcacc (Rect.unit (s := S4096x128) ![0, 0] S4096x128.size inb_S4096x128_S4096x128_0_0).toLoadRect h_S4096x128 fun _ =>
  .store .dcacc (Rect.unit (s := S4096x128) ![0, 0] S4096x128.size inb_S4096x128_S4096x128_0_0)
    (shapeCast S4096x128 (broadcast S4096x128 (Scalar.ofBits .f32 0x00000000#32)) shapeCasts_S4096x128_S4096x128) (View.stores_vmem_bits_univ h_S4096x128 rfl) rest

/-- What precedes the forward loop: `B` and `C` spread and sums at zero, where a sum starts, -/
def head4 (i : grid0.Coords) : C (F := F) M (BitVec 32) :=
  .bind (.loop k0_t2_loop k0_t2_ok () (t2 M)) fun _ =>
  .bind (mapL M (hInit M) [⟨0, by decide⟩, ⟨1, by decide⟩]) fun _ => .ret (BitVec.ofNat 32 (i 2).val)
/-- then the pointwise quantities and the first states. -/
def head (i : grid0.Coords) : C (F := F) M (BitVec 32) :=
  .ite (k0_cond1 i = 1#1) inferInstance (fun h => .bind (zero1 M i h) fun _ =>
  .ite (k0_cond2 i = 1#1) inferInstance (fun h => .bind (zero2 M i h) fun _ =>
    .ite (k0_cond3 i = 1#1) inferInstance (fun h => first3 M i h (head4 M i)) fun _ =>
      head4 M i) fun _ =>
    .ite (k0_cond3 i = 1#1) inferInstance (fun h => first3 M i h (head4 M i)) fun _ =>
      head4 M i) fun _ =>
  .ite (k0_cond2 i = 1#1) inferInstance (fun h => .bind (zero2 M i h) fun _ =>
    .ite (k0_cond3 i = 1#1) inferInstance (fun h => first3 M i h (head4 M i)) fun _ =>
      head4 M i) fun _ =>
    .ite (k0_cond3 i = 1#1) inferInstance (fun h => first3 M i h (head4 M i)) fun _ =>
      head4 M i

/-- Three tiles, -/
abbrev Trip (F : FTy → Type) [FloatOps F] : Type := Σ' (_ : V F) (_ : V F), V F

/-- The forward loop, the states loaded before it, `dD` written after it, the first adjoints. -/
def fwd (i : grid0.Coords) (hs : List (V F)) : C (F := F) M (Trip F) :=
  .bind (mapL M (hLoad M) [⟨13, by decide⟩, ⟨14, by decide⟩, ⟨15, by decide⟩]) fun hs' =>
  .load .dd (rDd i).toLoadRect h_S1x8x128 fun dd =>
  .bind (.loop k0_t3_loop k0_t3_ok (mk17 (fun n => nth (hs ++ hs') n (sum1 []), shapeCast S8x128 dd shapeCasts_S1x8x128_S8x128)) (t3 M)) fun p =>
  .load .dd (rDd i).toLoadRect h_S1x8x128 fun _ =>
  .store .dd (rDd i) (shapeCast S1x8x128 (un17 p).2 shapeCasts_S8x128_S1x8x128) (View.stores_vmem_bits_univ h_S1x8x128 rfl) <|
  .bind (adjLoad M i ⟨0, by decide⟩) fun a0 => .bind (adjLoad M i ⟨1, by decide⟩) fun a1 => .bind (adjLoad M i ⟨2, by decide⟩) fun a2 =>
  .ret ⟨a0, a1, a2⟩

/-- thirty-two. -/
abbrev Sig32 (F : FTy → Type) [FloatOps F] : Type :=
  Σ' (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F) (_ : V F), V F

def sigOf (p : Tup32 F) : Sig32 F := ⟨p.1, p.2.1, p.2.2.1, p.2.2.2.1, p.2.2.2.2.1, p.2.2.2.2.2.1, p.2.2.2.2.2.2.1, p.2.2.2.2.2.2.2.1, p.2.2.2.2.2.2.2.2.1, p.2.2.2.2.2.2.2.2.2.1, p.2.2.2.2.2.2.2.2.2.2.1, p.2.2.2.2.2.2.2.2.2.2.2.1, p.2.2.2.2.2.2.2.2.2.2.2.2.1, p.2.2.2.2.2.2.2.2.2.2.2.2.2.1, p.2.2.2.2.2.2.2.2.2.2.2.2.2.2.1, p.2.2.2.2.2.2.2.2.2.2.2.2.2.2.2.1, p.2.2.2.2.2.2.2.2.2.2.2.2.2.2.2.2.1, p.2.2.2.2.2.2.2.2.2.2.2.2.2.2.2.2.2.1, p.2.2.2.2.2.2.2.2.2.2.2.2.2.2.2.2.2.2.1, p.2.2.2.2.2.2.2.2.2.2.2.2.2.2.2.2.2.2.2.1, p.2.2.2.2.2.2.2.2.2.2.2.2.2.2.2.2.2.2.2.2.1, p.2.2.2.2.2.2.2.2.2.2.2.2.2.2.2.2.2.2.2.2.2.1, p.2.2.2.2.2.2.2.2.2.2.2.2.2.2.2.2.2.2.2.2.2.2.1, p.2.2.2.2.2.2.2.2.2.2.2.2.2.2.2.2.2.2.2.2.2.2.2.1, p.2.2.2.2.2.2.2.2.2.2.2.2.2.2.2.2.2.2.2.2.2.2.2.2.1, p.2.2.2.2.2.2.2.2.2.2.2.2.2.2.2.2.2.2.2.2.2.2.2.2.2.1, p.2.2.2.2.2.2.2.2.2.2.2.2.2.2.2.2.2.2.2.2.2.2.2.2.2.2.1, p.2.2.2.2.2.2.2.2.2.2.2.2.2.2.2.2.2.2.2.2.2.2.2.2.2.2.2.1, p.2.2.2.2.2.2.2.2.2.2.2.2.2.2.2.2.2.2.2.2.2.2.2.2.2.2.2.2.1, p.2.2.2.2.2.2.2.2.2.2.2.2.2.2.2.2.2.2.2.2.2.2.2.2.2.2.2.2.2.1, p.2.2.2.2.2.2.2.2.2.2.2.2.2.2.2.2.2.2.2.2.2.2.2.2.2.2.2.2.2.2.1, p.2.2.2.2.2.2.2.2.2.2.2.2.2.2.2.2.2.2.2.2.2.2.2.2.2.2.2.2.2.2.2⟩
def unSig (p : Sig32 F) : (Nat → V F) × (Nat → V F) :=
  (fun n => nth [p.1, p.2.1, p.2.2.1, p.2.2.2.1, p.2.2.2.2.1, p.2.2.2.2.2.1, p.2.2.2.2.2.2.1, p.2.2.2.2.2.2.2.1, p.2.2.2.2.2.2.2.2.1, p.2.2.2.2.2.2.2.2.2.1, p.2.2.2.2.2.2.2.2.2.2.1, p.2.2.2.2.2.2.2.2.2.2.2.1, p.2.2.2.2.2.2.2.2.2.2.2.2.1, p.2.2.2.2.2.2.2.2.2.2.2.2.2.1, p.2.2.2.2.2.2.2.2.2.2.2.2.2.2.1, p.2.2.2.2.2.2.2.2.2.2.2.2.2.2.2.1] n p.1,
   fun n => nth [p.2.2.2.2.2.2.2.2.2.2.2.2.2.2.2.2.1, p.2.2.2.2.2.2.2.2.2.2.2.2.2.2.2.2.2.1, p.2.2.2.2.2.2.2.2.2.2.2.2.2.2.2.2.2.2.1, p.2.2.2.2.2.2.2.2.2.2.2.2.2.2.2.2.2.2.2.1, p.2.2.2.2.2.2.2.2.2.2.2.2.2.2.2.2.2.2.2.2.1, p.2.2.2.2.2.2.2.2.2.2.2.2.2.2.2.2.2.2.2.2.2.1, p.2.2.2.2.2.2.2.2.2.2.2.2.2.2.2.2.2.2.2.2.2.2.1, p.2.2.2.2.2.2.2.2.2.2.2.2.2.2.2.2.2.2.2.2.2.2.2.1, p.2.2.2.2.2.2.2.2.2.2.2.2.2.2.2.2.2.2.2.2.2.2.2.2.1, p.2.2.2.2.2.2.2.2.2.2.2.2.2.2.2.2.2.2.2.2.2.2.2.2.2.1, p.2.2.2.2.2.2.2.2.2.2.2.2.2.2.2.2.2.2.2.2.2.2.2.2.2.2.1, p.2.2.2.2.2.2.2.2.2.2.2.2.2.2.2.2.2.2.2.2.2.2.2.2.2.2.2.1, p.2.2.2.2.2.2.2.2.2.2.2.2.2.2.2.2.2.2.2.2.2.2.2.2.2.2.2.2.1, p.2.2.2.2.2.2.2.2.2.2.2.2.2.2.2.2.2.2.2.2.2.2.2.2.2.2.2.2.2.1, p.2.2.2.2.2.2.2.2.2.2.2.2.2.2.2.2.2.2.2.2.2.2.2.2.2.2.2.2.2.2.1, p.2.2.2.2.2.2.2.2.2.2.2.2.2.2.2.2.2.2.2.2.2.2.2.2.2.2.2.2.2.2.2] n p.1)

/-- The backward loop, the last sums loaded before it. -/
def bwd (i : grid0.Coords) (adj da : List (V F)) : C (F := F) M (Sig32 F) :=
  .bind (mapL M (daLoad M i) [⟨7, by decide⟩, ⟨8, by decide⟩, ⟨9, by decide⟩, ⟨10, by decide⟩, ⟨11, by decide⟩,
    ⟨12, by decide⟩, ⟨13, by decide⟩, ⟨14, by decide⟩, ⟨15, by decide⟩]) fun da' =>
  .bind (.loop k0_t4_loop k0_t4_ok (mk32 (fun n => nth adj n (sum1 []), fun n => nth (da ++ da') n (sum1 []))) (t4 M)) fun p =>
  .ret (sigOf p)

/-- The body. -/
def body (i : grid0.Coords) : C (F := F) M PUnit :=
  .bind (head M i) fun _ =>
  .bind (mapL M (hInit M) [⟨2, by decide⟩, ⟨3, by decide⟩, ⟨4, by decide⟩, ⟨5, by decide⟩, ⟨6, by decide⟩,
    ⟨7, by decide⟩, ⟨8, by decide⟩, ⟨9, by decide⟩, ⟨10, by decide⟩, ⟨11, by decide⟩, ⟨12, by decide⟩, ⟨13, by decide⟩,
    ⟨14, by decide⟩, ⟨15, by decide⟩]) fun _ =>
  .bind (mapL M (hLoad M) [⟨0, by decide⟩, ⟨1, by decide⟩, ⟨2, by decide⟩, ⟨3, by decide⟩, ⟨4, by decide⟩, ⟨5, by decide⟩, ⟨6, by decide⟩,
    ⟨7, by decide⟩, ⟨8, by decide⟩, ⟨9, by decide⟩, ⟨10, by decide⟩, ⟨11, by decide⟩, ⟨12, by decide⟩]) fun hs =>
  .bind (fwd M i hs) fun a3 =>
  .bind (mapL M (adjLoad M i) [⟨3, by decide⟩, ⟨4, by decide⟩, ⟨5, by decide⟩, ⟨6, by decide⟩,
    ⟨7, by decide⟩, ⟨8, by decide⟩, ⟨9, by decide⟩, ⟨10, by decide⟩, ⟨11, by decide⟩, ⟨12, by decide⟩, ⟨13, by decide⟩,
    ⟨14, by decide⟩, ⟨15, by decide⟩]) fun adjs =>
  .bind (mapL M (daLoad M i) [⟨0, by decide⟩, ⟨1, by decide⟩, ⟨2, by decide⟩, ⟨3, by decide⟩, ⟨4, by decide⟩, ⟨5, by decide⟩, ⟨6, by decide⟩]) fun ds =>
  .bind (bwd M i (a3.1 :: a3.2.1 :: a3.2.2 :: adjs) ds) fun p =>
  .bind (mapL M (saveRow M i (unSig p)) L16) fun _ =>
  .bind (.loop k0_t5_loop k0_t5_ok () (t5 M hM)) fun _ =>
  .ite (k0_cond4 i = 1#1) inferInstance (fun h => .bind (.loop k0_t6_loop (k0_t6_ok i h) () (t6 M i h)) fun _ => .ret PUnit.unit) fun _ => .ret PUnit.unit

set_option maxHeartbeats 4000000 in
/-- The printed forward trip is `t3`, -/
theorem t3_eq (i : grid0.Coords) (arg2 : BitVec 32) (v93 v95 v97 v99 v101 v103 v105 v107 v109 v111 v113 v115 v117 : V F) (t : Fin k0_t3_loop.trips) (p : Tup17 F) :
    k0_t3_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) arg2 v93 v95 v97 v99 v101 v103 v105 v107 v109 v111 v113 v115 v117 t p = (t3 (F := F) M t p).toProg nD τ Λ₀ := by
  chain_rfl

set_option maxHeartbeats 4000000 in
/-- the backward trip `t4`, -/
theorem t4_eq (i : grid0.Coords) (arg2 : BitVec 32) (v135 v138 v141 v144 v147 v150 v153 v156 v159 v162 v165 v168 v171 v174 v177 v180 v183 v186 v189 v192 v195 v198 v201 : V F) (t : Fin k0_t4_loop.trips) (p : Tup32 F) :
    k0_t4_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) arg2 v135 v138 v141 v144 v147 v150 v153 v156 v159 v162 v165 v168 v171 v174 v177 v180 v183 v186 v189 v192 v195 v198 v201 t p = (t4 (F := F) M t p).toProg nD τ Λ₀ := by
  chain_rfl

set_option maxHeartbeats 4000000 in
/-- the spreading trip `t1`, -/
theorem t1_eq (i : grid0.Coords) (h : k0_cond3 i = 1#1) (t : Fin k0_t1_loop.trips) :
    k0_t1_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) h t () = (t1 (F := F) M i h t ()).toProg nD τ Λ₀ := by
  chain_rfl

set_option maxHeartbeats 4000000 in
/-- the pointwise trip `t2`, -/
theorem t2_eq (i : grid0.Coords) (t : Fin k0_t2_loop.trips) :
    k0_t2_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) t () = (t2 (F := F) M t ()).toProg nD τ Λ₀ := by
  chain_rfl

set_option maxHeartbeats 4000000 in
/-- the trip that writes the results `t5`, -/
theorem t5_eq (i : grid0.Coords) (t : Fin k0_t5_loop.trips) :
    k0_t5_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) t () = (t5 (F := F) M hM t ()).toProg nD τ Λ₀ := by
  chain_rfl

set_option maxHeartbeats 4000000 in
/-- the last trip `t6`, -/
theorem t6_eq (i : grid0.Coords) (h : k0_cond4 i = 1#1) (t : Fin k0_t6_loop.trips) :
    k0_t6_body i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) h t () = (t6 (F := F) M i h t ()).toProg nD τ Λ₀ := by
  chain_rfl

set_option maxHeartbeats 4000000 in
/-- and the printed body `body`. -/
theorem body_eq (i : grid0.Coords) :
    cc0__scan_kernel_skel i (M .x) (hM .x) (M .xs) (hM .xs) (M .dt) (hM .dt) (M .tok) (hM .tok) (M .b) (hM .b) (M .c) (hM .c)
      (M .z) (hM .z) (M .dy) (hM .dy) (M .dys) (hM .dys) (M .a) (hM .a) (M .d) (hM .d) (M .h0) (hM .h0) (M .dx) (hM .dx)
      (M .ddt) (hM .ddt) (M .dz) (hM .dz) (M .db) (hM .db) (M .dc) (hM .dc) (M .da) (hM .da) (M .dd) (hM .dd) (M .hS)
      (hM .hS) (M .aS) (hM .aS) (M .bb) (hM .bb) (M .cb) (hM .cb) (M .dbacc) (hM .dbacc) (M .dcacc) (hM .dcacc) (M .ghS)
      (hM .ghS) (M .del) (hM .del) (M .u) (hM .u) (M .gy) (hM .gy) (M .gz) (hM .gz) (M .sdt) (hM .sdt) (M .y) (hM .y)
      (M .ghb) (hM .ghb) (M .ddS) (hM .ddS) (M .adj) (hM .adj) = (body (F := F) M hM i).toProg nD τ Λ₀ := by
  chain_rfl

end Cert.KernelIdeal.Body
-- ==== Proof.RunIdeal.lean ====
/- The kernel run through its pipeline. A plan says, of each grid point, what the scratch holds before it and what the
   body may leave in each window; from a plan whose every step is right follows that the kernel ends with every array
   as the plan says. -/
module

public import proofs.«01_k».proof.Proof.BodyIdeal
public import proofs.«01_k».proof.Proof.Gen.KernelIdeal.Frame
public import Idealize.ShloMosaic.Lib.Pipeline.ArrRel

@[expose] public section

set_option maxRecDepth 65536

noncomputable section

namespace Cert.KernelIdeal.Body

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Cert.Proof Cert.KernelIdeal Cert.KernelIdeal.Gen
open Idealize.ShloMosaic.Pipeline (RDat)

variable {F : FTy → Type} [FloatOps F] [Named F]

local notation "𝕄" => MT nD τ sig Unit (Elt F) ℕ (UR sig nD τ) ℕ

/-- The buffers of point `t`. -/
def Mt (t : Fin cfg0.N) : ∀ b : Bf, Memref sig .tc .vmem (shp b) (elt b)
  | .x => win0_0.stage (cfg0.slots t 0)
  | .xs => win0_1.stage (cfg0.slots t 1)
  | .dt => win0_2.stage (cfg0.slots t 2)
  | .tok => win0_3.stage (cfg0.slots t 3)
  | .b => win0_4.stage (cfg0.slots t 4)
  | .c => win0_5.stage (cfg0.slots t 5)
  | .z => win0_6.stage (cfg0.slots t 6)
  | .dy => win0_7.stage (cfg0.slots t 7)
  | .dys => win0_8.stage (cfg0.slots t 8)
  | .a => win0_9.stage (cfg0.slots t 9)
  | .d => win0_10.stage (cfg0.slots t 10)
  | .h0 => win0_11.stage (cfg0.slots t 11)
  | .dx => win0_12.stage (cfg0.slots t 12)
  | .ddt => win0_13.stage (cfg0.slots t 13)
  | .dz => win0_14.stage (cfg0.slots t 14)
  | .db => win0_15.stage (cfg0.slots t 15)
  | .dc => win0_16.stage (cfg0.slots t 16)
  | .da => win0_17.stage (cfg0.slots t 17)
  | .dd => win0_18.stage (cfg0.slots t 18)
  | .hS => Memref.whole cc0_scratch0
  | .aS => Memref.whole cc0_scratch1
  | .bb => Memref.whole cc0_scratch2
  | .cb => Memref.whole cc0_scratch3
  | .dbacc => Memref.whole cc0_scratch4
  | .dcacc => Memref.whole cc0_scratch5
  | .ghS => Memref.whole cc0_scratch6
  | .del => Memref.whole cc0_scratch7
  | .u => Memref.whole cc0_scratch8
  | .gy => Memref.whole cc0_scratch9
  | .gz => Memref.whole cc0_scratch10
  | .sdt => Memref.whole cc0_scratch11
  | .y => Memref.whole cc0_scratch12
  | .ghb => Memref.whole cc0_scratch13
  | .ddS => Memref.whole cc0_scratch14
  | .adj => Memref.whole cc0_scratch15

theorem hMt (t : Fin cfg0.N) : ∀ b : Bf, (Mt t b).IsWhole
  | .x => hstage0_0 ((cfg0.slots t 0).cast nbuf0_0)
  | .xs => hstage0_1 ((cfg0.slots t 1).cast nbuf0_1)
  | .dt => hstage0_2 ((cfg0.slots t 2).cast nbuf0_2)
  | .tok => hstage0_3 ((cfg0.slots t 3).cast nbuf0_3)
  | .b => hstage0_4 ((cfg0.slots t 4).cast nbuf0_4)
  | .c => hstage0_5 ((cfg0.slots t 5).cast nbuf0_5)
  | .z => hstage0_6 ((cfg0.slots t 6).cast nbuf0_6)
  | .dy => hstage0_7 ((cfg0.slots t 7).cast nbuf0_7)
  | .dys => hstage0_8 ((cfg0.slots t 8).cast nbuf0_8)
  | .a => hstage0_9 ((cfg0.slots t 9).cast nbuf0_9)
  | .d => hstage0_10 ((cfg0.slots t 10).cast nbuf0_10)
  | .h0 => hstage0_11 ((cfg0.slots t 11).cast nbuf0_11)
  | .dx => hstage0_12 ((cfg0.slots t 12).cast nbuf0_12)
  | .ddt => hstage0_13 ((cfg0.slots t 13).cast nbuf0_13)
  | .dz => hstage0_14 ((cfg0.slots t 14).cast nbuf0_14)
  | .db => hstage0_15 ((cfg0.slots t 15).cast nbuf0_15)
  | .dc => hstage0_16 ((cfg0.slots t 16).cast nbuf0_16)
  | .da => hstage0_17 ((cfg0.slots t 17).cast nbuf0_17)
  | .dd => hstage0_18 ((cfg0.slots t 18).cast nbuf0_18)
  | .hS => Memref.isWhole_whole _
  | .aS => Memref.isWhole_whole _
  | .bb => Memref.isWhole_whole _
  | .cb => Memref.isWhole_whole _
  | .dbacc => Memref.isWhole_whole _
  | .dcacc => Memref.isWhole_whole _
  | .ghS => Memref.isWhole_whole _
  | .del => Memref.isWhole_whole _
  | .u => Memref.isWhole_whole _
  | .gy => Memref.isWhole_whole _
  | .gz => Memref.isWhole_whole _
  | .sdt => Memref.isWhole_whole _
  | .y => Memref.isWhole_whole _
  | .ghb => Memref.isWhole_whole _
  | .ddS => Memref.isWhole_whole _
  | .adj => Memref.isWhole_whole _

/-- All the buffers. -/
def bufs : List Bf := [.x, .xs, .dt, .tok, .b, .c, .z, .dy, .dys, .a, .d, .h0, .dx, .ddt, .dz, .db, .dc, .da, .dd, .hS, .aS, .bb, .cb, .dbacc, .dcacc, .ghS, .del, .u, .gy, .gz, .sdt, .y, .ghb, .ddS, .adj]

theorem bufs_nodup : bufs.Nodup := by decide
theorem mem_bufs : ∀ b, b ∈ bufs := by intro b; cases b <;> decide

/-- The buffers' contents. -/
abbrev St (F : FTy → Type) [FloatOps F] : Type := Cmd.St (Elt F) shp elt

/-- The windows' contents -/
abbrev WY (F : FTy → Type) [FloatOps F] : Type := (w : Fin 19) → ((spec0 w).block.Idx → Elt F (spec0 w).elt)

/-- with the scratch of `σ`, -/
def mix (Y : WY F) (σ : St F) : St F
  | .x => Y 0
  | .xs => Y 1
  | .dt => Y 2
  | .tok => Y 3
  | .b => Y 4
  | .c => Y 5
  | .z => Y 6
  | .dy => Y 7
  | .dys => Y 8
  | .a => Y 9
  | .d => Y 10
  | .h0 => Y 11
  | .dx => Y 12
  | .ddt => Y 13
  | .dz => Y 14
  | .db => Y 15
  | .dc => Y 16
  | .da => Y 17
  | .dd => Y 18
  | .hS => σ .hS
  | .aS => σ .aS
  | .bb => σ .bb
  | .cb => σ .cb
  | .dbacc => σ .dbacc
  | .dcacc => σ .dcacc
  | .ghS => σ .ghS
  | .del => σ .del
  | .u => σ .u
  | .gy => σ .gy
  | .gz => σ .gz
  | .sdt => σ .sdt
  | .y => σ .y
  | .ghb => σ .ghb
  | .ddS => σ .ddS
  | .adj => σ .adj

/-- and the windows of `σ`. -/
def wins (σ : St F) : WY F
  | 0 => σ .x
  | 1 => σ .xs
  | 2 => σ .dt
  | 3 => σ .tok
  | 4 => σ .b
  | 5 => σ .c
  | 6 => σ .z
  | 7 => σ .dy
  | 8 => σ .dys
  | 9 => σ .a
  | 10 => σ .d
  | 11 => σ .h0
  | 12 => σ .dx
  | 13 => σ .ddt
  | 14 => σ .dz
  | 15 => σ .db
  | 16 => σ .dc
  | 17 => σ .da
  | 18 => σ .dd
  | ⟨_ + 19, h⟩ => absurd h (Nat.not_lt.2 (Nat.le_add_left _ _))

/-- What the body at `t` makes of the buffers. -/
def stepAt (t : Fin cfg0.N) (σ : St F) : St F := ((body (F := F) (Mt t) (hMt t) (grid0.coords t)).run σ).2

variable (m : (ℓ : Loc nD τ sig) → Buf (Elt F) ℓ) (ρ : Dev nD → PrngReg)

/-- A plan: what the scratch holds before each point, what the body may leave in each window. -/
structure Plan where
  Inv : Dev nD → ℕ → St F → Prop
  after : Dev nD → (w : Fin 19) → Fin cfg0.N → (Y X : (spec0 w).block.Idx → Elt F (spec0 w).elt) → Prop

/-- The scratch, owned. -/
def ownS (c : Dev nD) (σ : St F) : sProp 𝕄 :=
  iprop(owns (c : Thread nD τ) (Memref.whole cc0_scratch0) fullShare (σ .hS)
    ∗ owns (c : Thread nD τ) (Memref.whole cc0_scratch1) fullShare (σ .aS)
    ∗ owns (c : Thread nD τ) (Memref.whole cc0_scratch2) fullShare (σ .bb)
    ∗ owns (c : Thread nD τ) (Memref.whole cc0_scratch3) fullShare (σ .cb)
    ∗ owns (c : Thread nD τ) (Memref.whole cc0_scratch4) fullShare (σ .dbacc)
    ∗ owns (c : Thread nD τ) (Memref.whole cc0_scratch5) fullShare (σ .dcacc)
    ∗ owns (c : Thread nD τ) (Memref.whole cc0_scratch6) fullShare (σ .ghS)
    ∗ owns (c : Thread nD τ) (Memref.whole cc0_scratch7) fullShare (σ .del)
    ∗ owns (c : Thread nD τ) (Memref.whole cc0_scratch8) fullShare (σ .u)
    ∗ owns (c : Thread nD τ) (Memref.whole cc0_scratch9) fullShare (σ .gy)
    ∗ owns (c : Thread nD τ) (Memref.whole cc0_scratch10) fullShare (σ .gz)
    ∗ owns (c : Thread nD τ) (Memref.whole cc0_scratch11) fullShare (σ .sdt)
    ∗ owns (c : Thread nD τ) (Memref.whole cc0_scratch12) fullShare (σ .y)
    ∗ owns (c : Thread nD τ) (Memref.whole cc0_scratch13) fullShare (σ .ghb)
    ∗ owns (c : Thread nD τ) (Memref.whole cc0_scratch14) fullShare (σ .ddS)
    ∗ owns (c : Thread nD τ) (Memref.whole cc0_scratch15) fullShare (σ .adj))

variable {m} in
/-- The plan as the pipeline's proof data. -/
def Plan.rdat (m : (ℓ : Loc nD τ sig) → Buf (Elt F) ℓ) (P : Plan (F := F)) (c : Dev nD) : RDat τ (Elt F) Unit ℕ (UR sig nD τ) ℕ cfg0 c where
  A w := Gen.V m c (Pipeline.arrRef spec0 w)
  after w t Y X := P.after c w t Y X
  Φ t := iprop((∃ σ, ⌜P.Inv c t.val σ⌝ ∗ ownS c σ) ∗ ∃ r, prngReg c r)
  q _ := fullShare
  owed _ := 0

/-- Every step of the plan is right. -/
structure Plan.Ok (P : Plan (F := F)) : Prop where
  start : ∀ c σ, P.Inv c 0 σ
  step : ∀ c (t : Fin cfg0.N) (Y : WY F), (∀ w, (P.rdat m c).Finds w t (Y w)) → ∀ σ, P.Inv c t.val σ →
    P.Inv c (t.val + 1) (stepAt t (mix Y σ)) ∧ ∀ w, P.after c w t (Y w) (wins (stepAt t (mix Y σ)) w)

theorem defs₀_row (t : Fin cfg0.N) : defs₀ (F := F) .tc cfg0.body (cfg0.bodyArgs t (cfg0.slots t)) = bodyAt0 t := by
  unfold defs₀; rw [Defs.onTc_tc]

theorem bodyAt_eq (t : Fin cfg0.N) : bodyAt0 (F := F) t = (body (F := F) (Mt t) (hMt t) (grid0.coords t)).toProg nD τ Λ₀ := by
  unfold bodyAt0
  rw [cc0__scan_kernel_eq_skeleton]
  exact body_eq (Mt t) (hMt t) (grid0.coords t)

/-- The windows, owned. -/
def ownW (c : Dev nD) (t : Fin cfg0.N) (Y : WY F) : sProp 𝕄 :=
  iprop(owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5)
    ∗ owns (c : Thread nD τ) (win0_6.stage (cfg0.slots t 6)) fullShare (Y 6)
    ∗ owns (c : Thread nD τ) (win0_7.stage (cfg0.slots t 7)) fullShare (Y 7)
    ∗ owns (c : Thread nD τ) (win0_8.stage (cfg0.slots t 8)) fullShare (Y 8)
    ∗ owns (c : Thread nD τ) (win0_9.stage (cfg0.slots t 9)) fullShare (Y 9)
    ∗ owns (c : Thread nD τ) (win0_10.stage (cfg0.slots t 10)) fullShare (Y 10)
    ∗ owns (c : Thread nD τ) (win0_11.stage (cfg0.slots t 11)) fullShare (Y 11)
    ∗ owns (c : Thread nD τ) (win0_12.stage (cfg0.slots t 12)) fullShare (Y 12)
    ∗ owns (c : Thread nD τ) (win0_13.stage (cfg0.slots t 13)) fullShare (Y 13)
    ∗ owns (c : Thread nD τ) (win0_14.stage (cfg0.slots t 14)) fullShare (Y 14)
    ∗ owns (c : Thread nD τ) (win0_15.stage (cfg0.slots t 15)) fullShare (Y 15)
    ∗ owns (c : Thread nD τ) (win0_16.stage (cfg0.slots t 16)) fullShare (Y 16)
    ∗ owns (c : Thread nD τ) (win0_17.stage (cfg0.slots t 17)) fullShare (Y 17)
    ∗ owns (c : Thread nD τ) (win0_18.stage (cfg0.slots t 18)) fullShare (Y 18))

theorem ownL_of (c : Dev nD) (t : Fin cfg0.N) (Y : WY F) (σ : St F) :
    iprop(ownW c t Y ∗ ownS c σ) ⊢ (ownL c (Mt t) (mix Y σ) bufs : sProp 𝕄) := by
  unfold ownW ownS bufs
  simp only [ownL, Mt, mix]
  iintro ⟨⟨W0, W1, W2, W3, W4, W5, W6, W7, W8, W9, W10, W11, W12, W13, W14, W15, W16, W17, W18⟩, ⟨S0, S1, S2, S3, S4, S5, S6, S7, S8, S9, S10, S11, S12, S13, S14, S15⟩⟩
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [W17]; · iexact W17
  isplitl [W18]; · iexact W18
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  iempintro

theorem ownL_to (c : Dev nD) (t : Fin cfg0.N) (σ : St F) :
    (ownL c (Mt t) σ bufs : sProp 𝕄) ⊢ iprop(ownW c t (wins σ) ∗ ownS c σ) := by
  unfold ownW ownS bufs
  simp only [ownL, Mt, wins]
  iintro ⟨W0, W1, W2, W3, W4, W5, W6, W7, W8, W9, W10, W11, W12, W13, W14, W15, W16, W17, W18, S0, S1, S2, S3, S4, S5, S6, S7, S8, S9, S10, S11, S12, S13, S14, S15, -⟩
  isplitl [W0 W1 W2 W3 W4 W5 W6 W7 W8 W9 W10 W11 W12 W13 W14 W15 W16 W17 W18]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [W17]; · iexact W17
    iexact W18
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact S15

variable {m} in
/-- One run of the body. -/
theorem sound_body {P : Plan (F := F)} (hP : P.Ok m) (c : Dev nD) (t : Fin cfg0.N) (Y : WY F) (hY : ∀ w, (P.rdat m c).Finds w t (Y w)) :
    iprop((P.rdat m c).Φ t.castSucc ∗ (P.rdat m c).owesAt () t.castSucc ∗ ownW c t Y)
      ⊢ wp frame (wpE (defs₀ (F := F)) Variants.none (c : Thread nD τ) none) Set.univ (bodyAt0 t) fun _ =>
        iprop((P.rdat m c).Φ t.succ ∗ (P.rdat m c).owesAt () t.succ ∗ ∃ X : WY F, ⌜∀ w, P.after c w t (Y w) (X w)⌝ ∗ ownW c t X) := by
  rw [bodyAt_eq]
  show iprop(((∃ σ, ⌜P.Inv c t.val σ⌝ ∗ ownS c σ) ∗ ∃ r, prngReg c r) ∗ _ ∗ _) ⊢ _
  iintro ⟨⟨⟨%σ, %hI, HS⟩, Hp⟩, HO, HW⟩
  obtain ⟨hI', hA⟩ := hP.step c t Y hY σ hI
  have key : iprop((ownL c (Mt t) (mix Y σ) bufs) ∗ ((∃ r, prngReg c r) ∗ (P.rdat m c).owesAt () t.castSucc))
      ⊢ wp frame (wpE (defs₀ (F := F)) Variants.none (c : Thread nD τ) none) Set.univ
          ((body (F := F) (Mt t) (hMt t) (grid0.coords t)).toProg nD τ Λ₀) fun _ =>
          iprop((ownL c (Mt t) (stepAt t (mix Y σ)) bufs) ∗ ((∃ r, prngReg c r) ∗ (P.rdat m c).owesAt () t.castSucc)) :=
    (sep_mono (Cmd.sound c (Mt t) Variants.none none Set.univ bufs bufs_nodup mem_bufs
      (body (F := F) (Mt t) (hMt t) (grid0.coords t)) (mix Y σ) (fun _ => ownL c (Mt t) (stepAt t (mix Y σ)) bufs) .rfl) .rfl).trans
      (wp_frame_r _ _ _)
  have key2 := key.trans (wp_mono _ _ _ (Q' := fun _ =>
        iprop((P.rdat m c).Φ t.succ ∗ (P.rdat m c).owesAt () t.succ ∗ ∃ X : WY F, ⌜∀ w, P.after c w t (Y w) (X w)⌝ ∗ ownW c t X)) fun _ => by
    refine (sep_mono (ownL_to c t _) .rfl).trans ?_
    show _ ⊢ iprop(((∃ σ, ⌜P.Inv c (t.val + 1) σ⌝ ∗ ownS c σ) ∗ ∃ r, prngReg c r) ∗ (P.rdat m c).owesAt () t.castSucc ∗ _)
    iintro ⟨⟨HW, HS⟩, Hp, HO⟩
    isplitl [HS Hp]
    · isplitl [HS]
      · iexists (stepAt t (mix Y σ)); isplitr
        · ipureintro; exact hI'
        · iexact HS
      · iexact Hp
    isplitl [HO]; · iexact HO
    iexists (wins (stepAt t (mix Y σ))); isplitr
    · ipureintro; exact hA
    · iexact HW)
  iapply key2
  isplitl [HW HS]
  · iapply (ownL_of c t Y σ)
    isplitl [HW]; · iexact HW
    iexact HS
  isplitl [Hp]; · iexact Hp
  iexact HO

variable {m} in
/-- The library's body obligation. -/
theorem body_obligation {P : Plan (F := F)} (hP : P.Ok m) (c : Dev nD) :
    (P.rdat m c).BodyObligation (defs₀ (F := F)) Variants.none () Set.univ := fun t Y hY => by
  rw [bigSep_W0, bigSep_W0, defs₀_row]
  refine triple_restated (sound_body hP c t Y hY) rfl .rfl fun _ => ?_
  refine sep_mono .rfl (sep_mono .rfl ?_)
  unfold ownW
  iintro ⟨%X, %hX, W0, W1, W2, W3, W4, W5, W6, W7, W8, W9, W10, W11, W12, W13, W14, W15, W16, W17, W18⟩
  isplitl [W0]
  · iexists (X 0); isplitr
    · ipureintro; exact hX 0
    · iexact W0
  isplitl [W1]
  · iexists (X 1); isplitr
    · ipureintro; exact hX 1
    · iexact W1
  isplitl [W2]
  · iexists (X 2); isplitr
    · ipureintro; exact hX 2
    · iexact W2
  isplitl [W3]
  · iexists (X 3); isplitr
    · ipureintro; exact hX 3
    · iexact W3
  isplitl [W4]
  · iexists (X 4); isplitr
    · ipureintro; exact hX 4
    · iexact W4
  isplitl [W5]
  · iexists (X 5); isplitr
    · ipureintro; exact hX 5
    · iexact W5
  isplitl [W6]
  · iexists (X 6); isplitr
    · ipureintro; exact hX 6
    · iexact W6
  isplitl [W7]
  · iexists (X 7); isplitr
    · ipureintro; exact hX 7
    · iexact W7
  isplitl [W8]
  · iexists (X 8); isplitr
    · ipureintro; exact hX 8
    · iexact W8
  isplitl [W9]
  · iexists (X 9); isplitr
    · ipureintro; exact hX 9
    · iexact W9
  isplitl [W10]
  · iexists (X 10); isplitr
    · ipureintro; exact hX 10
    · iexact W10
  isplitl [W11]
  · iexists (X 11); isplitr
    · ipureintro; exact hX 11
    · iexact W11
  isplitl [W12]
  · iexists (X 12); isplitr
    · ipureintro; exact hX 12
    · iexact W12
  isplitl [W13]
  · iexists (X 13); isplitr
    · ipureintro; exact hX 13
    · iexact W13
  isplitl [W14]
  · iexists (X 14); isplitr
    · ipureintro; exact hX 14
    · iexact W14
  isplitl [W15]
  · iexists (X 15); isplitr
    · ipureintro; exact hX 15
    · iexact W15
  isplitl [W16]
  · iexists (X 16); isplitr
    · ipureintro; exact hX 16
    · iexact W16
  isplitl [W17]
  · iexists (X 17); isplitr
    · ipureintro; exact hX 17
    · iexact W17
  iexists (X 18); isplitr; · ipureintro; exact hX 18
  iexact W18

variable {m} in
set_option backward.isDefEq.respectTransparency.types false in
theorem hin {P : Plan (F := F)} (hP : P.Ok m) (c : Dev nD) : Pipeline.ΦA spec0 c ⊢ (P.rdat m c).Φ 0 := by
  unfold Pipeline.ΦA
  rw [scopedRest0_eq]
  show _ ⊢ iprop((∃ σ, ⌜P.Inv c 0 σ⌝ ∗ ownS c σ) ∗ ∃ r, prngReg c r)
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩⟩, Hp⟩
  isplitr [Hp]; swap; · iexact Hp
  iexists (fun b => match b with
    | .x => fun _ => Classical.choice (inferInstance : Nonempty (Elt F (elt .x)))
    | .xs => fun _ => Classical.choice (inferInstance : Nonempty (Elt F (elt .xs)))
    | .dt => fun _ => Classical.choice (inferInstance : Nonempty (Elt F (elt .dt)))
    | .tok => fun _ => Classical.choice (inferInstance : Nonempty (Elt F (elt .tok)))
    | .b => fun _ => Classical.choice (inferInstance : Nonempty (Elt F (elt .b)))
    | .c => fun _ => Classical.choice (inferInstance : Nonempty (Elt F (elt .c)))
    | .z => fun _ => Classical.choice (inferInstance : Nonempty (Elt F (elt .z)))
    | .dy => fun _ => Classical.choice (inferInstance : Nonempty (Elt F (elt .dy)))
    | .dys => fun _ => Classical.choice (inferInstance : Nonempty (Elt F (elt .dys)))
    | .a => fun _ => Classical.choice (inferInstance : Nonempty (Elt F (elt .a)))
    | .d => fun _ => Classical.choice (inferInstance : Nonempty (Elt F (elt .d)))
    | .h0 => fun _ => Classical.choice (inferInstance : Nonempty (Elt F (elt .h0)))
    | .dx => fun _ => Classical.choice (inferInstance : Nonempty (Elt F (elt .dx)))
    | .ddt => fun _ => Classical.choice (inferInstance : Nonempty (Elt F (elt .ddt)))
    | .dz => fun _ => Classical.choice (inferInstance : Nonempty (Elt F (elt .dz)))
    | .db => fun _ => Classical.choice (inferInstance : Nonempty (Elt F (elt .db)))
    | .dc => fun _ => Classical.choice (inferInstance : Nonempty (Elt F (elt .dc)))
    | .da => fun _ => Classical.choice (inferInstance : Nonempty (Elt F (elt .da)))
    | .dd => fun _ => Classical.choice (inferInstance : Nonempty (Elt F (elt .dd)))
    | .hS => f0
    | .aS => f1
    | .bb => f2
    | .cb => f3
    | .dbacc => f4
    | .dcacc => f5
    | .ghS => f6
    | .del => f7
    | .u => f8
    | .gy => f9
    | .gz => f10
    | .sdt => f11
    | .y => f12
    | .ghb => f13
    | .ddS => f14
    | .adj => f15 : St F)
  isplitr; · ipureintro; exact hP.start c _
  unfold ownS
  simp only [owns_whole]
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact S15

variable {m} in
set_option backward.isDefEq.respectTransparency.types false in
theorem hout {P : Plan (F := F)} (c : Dev nD) : (P.rdat m c).Φ (Fin.last cfg0.N) ⊢ Pipeline.ΦA spec0 c := by
  unfold Pipeline.ΦA
  rw [scopedRest0_eq]
  show iprop((∃ σ, ⌜P.Inv c _ σ⌝ ∗ ownS c σ) ∗ ∃ r, prngReg c r) ⊢ _
  unfold ownS
  simp only [owns_whole]
  iintro ⟨⟨%σ, %hI, S0, S1, S2, S3, S4, S5, S6, S7, S8, S9, S10, S11, S12, S13, S14, S15⟩, Hp⟩
  isplitr [Hp]; swap; · iexact Hp
  isplitl [S0]; · iexists (σ .hS); iexact S0
  isplitl [S1]; · iexists (σ .aS); iexact S1
  isplitl [S2]; · iexists (σ .bb); iexact S2
  isplitl [S3]; · iexists (σ .cb); iexact S3
  isplitl [S4]; · iexists (σ .dbacc); iexact S4
  isplitl [S5]; · iexists (σ .dcacc); iexact S5
  isplitl [S6]; · iexists (σ .ghS); iexact S6
  isplitl [S7]; · iexists (σ .del); iexact S7
  isplitl [S8]; · iexists (σ .u); iexact S8
  isplitl [S9]; · iexists (σ .gy); iexact S9
  isplitl [S10]; · iexists (σ .gz); iexact S10
  isplitl [S11]; · iexists (σ .sdt); iexact S11
  isplitl [S12]; · iexists (σ .y); iexact S12
  isplitl [S13]; · iexists (σ .ghb); iexact S13
  isplitl [S14]; · iexists (σ .ddS); iexact S14
  iexists (σ .adj); iexact S15

variable {m} in
set_option backward.isDefEq.respectTransparency.types false in
/-- THE RUN: every execution ends, with the arrays as the plan says and every semaphore at zero. -/
theorem run_main {P : Plan (F := F)} (hP : P.Ok m) :
    θ_run defs (onTc (τ := τ) (main (F := F))) (s₀ m ρ)
      (fun r => RDat.FramePost cfg0 (P.rdat m) (Gen.V m) r ∧ r.2.sem = fun _ => 0) :=
  Pipeline.RDat.θ_run_frame_track cfgs (0 : Fin 1) launch0 defs₀ Variants.none (P.rdat m) m ρ main
    (hbody := fun c => body_obligation hP c) (hshare := fun c w => by show (if _ then _ else _) = _; exact ite_self _) (howed := fun _ _ => rfl)
    (V := Gen.V m) (hmain := hmain m Variants.none) (hA := fun _ _ => rfl)
    (hin := fun c => hin hP c) (hout := fun c => hout c) (Q' := _) (hQ' := fun _ h => h)

end Cert.KernelIdeal.Body
-- ==== Proof.FrameIdeal.lean ====
/- The kernel runs and keeps its arguments: the pipeline run (RunIdeal.lean) at the plan that asks nothing. -/
module

public import proofs.«01_k».proof.Proof.RunIdeal

@[expose] public section

set_option maxRecDepth 65536

noncomputable section

namespace Cert.KernelIdeal.Body

open Idealize.ShloMosaic Idealize.ShloMosaic.TcCoe Idealize.SL Idealize.SL.Sem
open Cert.Proof Cert.KernelIdeal Cert.KernelIdeal.Gen
open Idealize.ShloMosaic.Pipeline (RDat)

variable {F : FTy → Type} [FloatOps F] [Named F]
variable (m : (ℓ : Loc nD τ sig) → Buf (Elt F) ℓ) (ρ : Dev nD → PrngReg)

variable {m} in
/-- Whatever the plan, the arguments stand. -/
theorem kept {P : Plan (F := F)} {r} (h : RDat.FramePost cfg0 (P.rdat m) (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(RDat.FramePost.arr_in h c 0 rfl).trans (Gen.V_main_arg0 m c),
   ((h c).2 main_arg1 (Pipeline.mem_restRefs_of main_arg1 (by decide) (by decide))).trans (Gen.V_main_arg1 m c),
   (RDat.FramePost.arr_in h c 2 rfl).trans (Gen.V_main_arg2 m c),
   ((h c).2 main_arg3 (Pipeline.mem_restRefs_of main_arg3 (by decide) (by decide))).trans (Gen.V_main_arg3 m c),
   (RDat.FramePost.arr_in h c 4 rfl).trans (Gen.V_main_arg4 m c),
   ((h c).2 main_arg5 (Pipeline.mem_restRefs_of main_arg5 (by decide) (by decide))).trans (Gen.V_main_arg5 m c),
   (RDat.FramePost.arr_in h c 5 rfl).trans (Gen.V_main_arg6 m c),
   ((h c).2 main_arg7 (Pipeline.mem_restRefs_of main_arg7 (by decide) (by decide))).trans (Gen.V_main_arg7 m c),
   (RDat.FramePost.arr_in h c 6 rfl).trans (Gen.V_main_arg8 m c),
   (RDat.FramePost.arr_in h c 7 rfl).trans (Gen.V_main_arg9 m c),
   ((h c).2 main_arg10 (Pipeline.mem_restRefs_of main_arg10 (by decide) (by decide))).trans (Gen.V_main_arg10 m c),
   ((h c).2 main_arg11 (Pipeline.mem_restRefs_of main_arg11 (by decide) (by decide))).trans (Gen.V_main_arg11 m c),
   ((h c).2 main_arg12 (Pipeline.mem_restRefs_of main_arg12 (by decide) (by decide))).trans (Gen.V_main_arg12 m c),
   ((h c).2 main_arg13 (Pipeline.mem_restRefs_of main_arg13 (by decide) (by decide))).trans (Gen.V_main_arg13 m c)⟩

/-- The plan that asks nothing. -/
def Plan.any : Plan (F := F) where
  Inv _ _ _ := True
  after _ _ _ _ _ := True

/-- The frame. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
    ∧ r.2.sem = fun _ => 0) :=
  (θ_run defs _ _).mono (fun _ h => ⟨fun c => kept h.1 c, h.2⟩)
    (run_main ρ (m := m) (P := Plan.any) ⟨fun _ _ => trivial, fun _ _ _ _ _ _ => ⟨trivial, fun _ => trivial⟩⟩)

end Cert.KernelIdeal.Body
-- ==== Proof.RefBody.lean ====
/- The reference's body written as a structured program over its 34 buffers (`Cmd`), and the fact that the printed body
   is this program. -/
module

public import proofs.«01_k».proof.Proof.Cmd
public import proofs.«01_k».proof.Proof.Gen.ReferenceIdeal.Skeleton
public import Idealize.ShloMosaic.Lib.Pipeline.Regions

@[expose] public section

set_option maxRecDepth 65536

noncomputable section

namespace Cert.ReferenceIdeal.Body

open Idealize.ShloMosaic Idealize.SL.Sem Cert.Proof Cert.ReferenceIdeal Cert.ReferenceIdeal.Gen

/-- The buffers of the body: fourteen inputs, seven outputs, thirteen scratch buffers. -/
inductive Bf
  | x | xs | dt | dts | b | bs | c | cs | z | dy | dys | a | d | ck | dx | ddt | dz | db | dc | da | dd
  | uS | delS | sdtS | bmS | cmS | gyS | gzS | ahS | dxS | ddtS | dzS | dbS | dcS
  deriving DecidableEq

/-- Their shapes -/
def shp : Bf → Shape
  | .x => S2x1024x5120
  | .xs => S2x1024x40
  | .dt => S2x1024x5120
  | .dts => S2x1024
  | .b => S2x1024x16
  | .bs => S2x1024
  | .c => S2x1024x16
  | .cs => S2x1024
  | .z => S2x1024x5120
  | .dy => S2x1024x5120
  | .dys => S2x1024x40
  | .a => S16x5120
  | .d => S1x5120
  | .ck => S2x4x16x5120
  | .dx => S2x1024x5120
  | .ddt => S2x1024x5120
  | .dz => S2x1024x5120
  | .db => S2x128x128
  | .dc => S2x128x128
  | .da => S16x5x8x128
  | .dd => S5x8x128
  | .uS => S2x1024x5120
  | .delS => S2x1024x5120
  | .sdtS => S2x1024x5120
  | .bmS => S2x1024x16
  | .cmS => S2x1024x16
  | .gyS => S2x1024x5120
  | .gzS => S2x1024x5120
  | .ahS => S256x2x16x5120
  | .dxS => S2x1024x5120
  | .ddtS => S2x1024x5120
  | .dzS => S2x1024x5120
  | .dbS => S2x1024x16
  | .dcS => S2x1024x16

/-- and element types. -/
def elt : Bf → EltTy
  | .x => .fp8e4m3
  | .xs => .f32
  | .dt => .fp8e4m3
  | .dts => .f32
  | .b => .fp8e4m3
  | .bs => .f32
  | .c => .fp8e4m3
  | .cs => .f32
  | .z => .bf16
  | .dy => .fp8e5m2
  | .dys => .f32
  | .a => .f32
  | .d => .f32
  | .ck => .f32
  | .dx => .bf16
  | .ddt => .bf16
  | .dz => .bf16
  | .db => .f32
  | .dc => .f32
  | .da => .f32
  | .dd => .f32
  | .uS => .f32
  | .delS => .f32
  | .sdtS => .f32
  | .bmS => .f32
  | .cmS => .f32
  | .gyS => .f32
  | .gzS => .f32
  | .ahS => .f32
  | .dxS => .f32
  | .ddtS => .f32
  | .dzS => .f32
  | .dbS => .f32
  | .dcS => .f32

variable {F : FTy → Type} [FloatOps F]
variable (M : ∀ b : Bf, Memref sig .tc .vmem (shp b) (elt b)) (hM : ∀ b, (M b).IsWhole)

abbrev C (α : Type) : Type 1 := Cmd (Elt F) M α

/-- All of a buffer of this shape. -/
abbrev wS2x1024x5120 : Rect S2x1024x5120 := Rect.unit (s := S2x1024x5120) ![0, 0, 0] S2x1024x5120.size inb_S2x1024x5120_S2x1024x5120_0_0_0
/-- All of a buffer of this shape. -/
abbrev wS2x1024x40 : Rect S2x1024x40 := Rect.unit (s := S2x1024x40) ![0, 0, 0] S2x1024x40.size inb_S2x1024x40_S2x1024x40_0_0_0
/-- All of a buffer of this shape. -/
abbrev wS2x1024 : Rect S2x1024 := Rect.unit (s := S2x1024) ![0, 0] S2x1024.size inb_S2x1024_S2x1024_0_0
/-- All of a buffer of this shape. -/
abbrev wS2x1024x16 : Rect S2x1024x16 := Rect.unit (s := S2x1024x16) ![0, 0, 0] S2x1024x16.size inb_S2x1024x16_S2x1024x16_0_0_0
/-- All of a buffer of this shape. -/
abbrev wS16x5120 : Rect S16x5120 := Rect.unit (s := S16x5120) ![0, 0] S16x5120.size inb_S16x5120_S16x5120_0_0
/-- All of a buffer of this shape. -/
abbrev wS1x5120 : Rect S1x5120 := Rect.unit (s := S1x5120) ![0, 0] S1x5120.size inb_S1x5120_S1x5120_0_0
/-- All of a buffer of this shape. -/
abbrev wS2x128x128 : Rect S2x128x128 := Rect.unit (s := S2x128x128) ![0, 0, 0] S2x128x128.size inb_S2x128x128_S2x128x128_0_0_0
/-- All of a buffer of this shape. -/
abbrev wS16x5x8x128 : Rect S16x5x8x128 := Rect.unit (s := S16x5x8x128) ![0, 0, 0, 0] S16x5x8x128.size inb_S16x5x8x128_S16x5x8x128_0_0_0_0
/-- All of a buffer of this shape. -/
abbrev wS5x8x128 : Rect S5x8x128 := Rect.unit (s := S5x8x128) ![0, 0, 0] S5x8x128.size inb_S5x8x128_S5x8x128_0_0_0
/-- The rows one trip reads or writes. -/
abbrev r1 (k0_t1 : Fin k0_t1_loop.trips) : Rect S2x4x16x5120 := Rect.unit (s := S2x4x16x5120) (k0_off1 k0_t1) S2x1x16x5120.size (k0_off1_inb k0_t1)
/-- The rows one trip reads or writes. -/
abbrev r2 (k0_t1 : Fin k0_t1_loop.trips) (k0_t2 : Fin k0_t2_loop.trips) : Rect S2x1024x5120 := Rect.unit (s := S2x1024x5120) (k0_off2 k0_t1 k0_t2) S2x1x5120.size (k0_off2_inb k0_t1 k0_t2)
/-- The rows one trip reads or writes. -/
abbrev r3 (k0_t1 : Fin k0_t1_loop.trips) (k0_t2 : Fin k0_t2_loop.trips) : Rect S2x1024x16 := Rect.unit (s := S2x1024x16) (k0_off3 k0_t1 k0_t2) S2x1x16.size (k0_off3_inb k0_t1 k0_t2)
/-- The rows one trip reads or writes. -/
abbrev r4 (k0_t2 : Fin k0_t2_loop.trips) : Rect S256x2x16x5120 := Rect.unit (s := S256x2x16x5120) (k0_off4 k0_t2) S1x2x16x5120.size (k0_off4_inb k0_t2)
/-- The rows one trip reads or writes. -/
abbrev r5 (k0_t1 : Fin k0_t1_loop.trips) (k0_t3 : Fin k0_t3_loop.trips) : Rect S2x1024x5120 := Rect.unit (s := S2x1024x5120) (k0_off5 k0_t1 k0_t3) S2x1x5120.size (k0_off5_inb k0_t1 k0_t3)
/-- The rows one trip reads or writes. -/
abbrev r6 (k0_t1 : Fin k0_t1_loop.trips) (k0_t3 : Fin k0_t3_loop.trips) : Rect S2x1024x16 := Rect.unit (s := S2x1024x16) (k0_off6 k0_t1 k0_t3) S2x1x16.size (k0_off6_inb k0_t1 k0_t3)
/-- The rows one trip reads or writes. -/
abbrev r7 (k0_t3 : Fin k0_t3_loop.trips) : Rect S256x2x16x5120 := Rect.unit (s := S256x2x16x5120) (k0_off7 k0_t3) S1x2x16x5120.size (k0_off7_inb k0_t3)

/-- One forward step. -/
def fwd (q : Fin k0_t1_loop.trips) (t : Fin k0_t2_loop.trips) (h : FVec F S2x16x5120 .f32) : C (F := F) M (FVec F S2x16x5120 .f32) :=
  .load .delS (r2 q t).toLoadRect h_S2x1x5120 fun v119 =>
  .load .uS (r2 q t).toLoadRect h_S2x1x5120 fun v122 =>
  .load .gyS (r2 q t).toLoadRect h_S2x1x5120 fun v125 =>
  .load .a (wS16x5120).toLoadRect h_S16x5120 fun v128 =>
  .load .bmS (r3 q t).toLoadRect h_S2x1x16 fun v139 =>
  .load .ahS (r4 t).toLoadRect h_S1x2x16x5120 fun _ =>
  .store .ahS (r4 t) (k0_pay9 h v119 v128) (View.stores_vmem_bits_univ h_S1x2x16x5120 rfl) <|
  .load .dcS (r3 q t).toLoadRect h_S2x1x16 fun _ =>
  .store .dcS (r3 q t) (k0_pay35 (k0_pay10 h v119 v122 v125 v128 v139)) (View.stores_vmem_bits_univ h_S2x1x16 rfl) <|
  .load .gzS (r2 q t).toLoadRect h_S2x1x5120 fun v159 =>
  .load .cmS (r3 q t).toLoadRect h_S2x1x16 fun v162 =>
  .load .d (wS1x5120).toLoadRect h_S1x5120 fun v168 =>
  .load .dzS (r2 q t).toLoadRect h_S2x1x5120 fun _ =>
  .store .dzS (r2 q t) (k0_pay36 (k0_pay6 v122) (k0_pay8 h v119 v122 v128 v139) v159 v162 v168) (View.stores_vmem_bits_univ h_S2x1x5120 rfl) <|
  .ret (k0_pay8 h v119 v122 v128 v139)

/-- One backward step. -/
def bwd (q : Fin k0_t1_loop.trips) (t : Fin k0_t3_loop.trips) (p : FVec F S2x16x5120 .f32 × FVec F S16x5120 .f32) :
    C (F := F) M (FVec F S2x16x5120 .f32 × FVec F S16x5120 .f32) :=
  .load .delS (r5 q t).toLoadRect h_S2x1x5120 fun v120 =>
  .load .uS (r5 q t).toLoadRect h_S2x1x5120 fun v123 =>
  .load .gyS (r5 q t).toLoadRect h_S2x1x5120 fun v126 =>
  .load .cmS (r6 q t).toLoadRect h_S2x1x16 fun v130 =>
  .load .bmS (r6 q t).toLoadRect h_S2x1x16 fun v138 =>
  .load .ahS (r7 t).toLoadRect h_S1x2x16x5120 fun v145 =>
  .load .d (wS1x5120).toLoadRect h_S1x5120 fun v148 =>
  .load .dxS (r5 q t).toLoadRect h_S2x1x5120 fun _ =>
  .store .dxS (r5 q t) (k0_pay37 (k0_pay17 p.1 v120 v126 v130 v138 v148)) (View.stores_vmem_bits_univ h_S2x1x5120 rfl) <|
  .load .a (wS16x5120).toLoadRect h_S16x5120 fun v158 =>
  .load .sdtS (r5 q t).toLoadRect h_S2x1x5120 fun v167 =>
  .load .ddtS (r5 q t).toLoadRect h_S2x1x5120 fun _ =>
  .store .ddtS (r5 q t) (k0_pay38 (k0_pay12 v123) (k0_pay15 p.1 v126 v130 v138) (k0_pay16 p.1 v126 v130 v145) v158 v167) (View.stores_vmem_bits_univ h_S2x1x5120 rfl) <|
  .load .dbS (r6 q t).toLoadRect h_S2x1x16 fun _ =>
  .store .dbS (r6 q t) (k0_pay39 (k0_pay11 v120) (k0_pay12 v123) (k0_pay14 p.1 v126 v130)) (View.stores_vmem_bits_univ h_S2x1x16 rfl) <|
  .load .a (wS16x5120).toLoadRect h_S16x5120 fun v189 =>
  .ret (k0_pay41 (k0_pay11 v120) (k0_pay14 p.1 v126 v130) v189, k0_pay40 p.2 (k0_pay11 v120) (k0_pay16 p.1 v126 v130 v145))

/-- One chunk. -/
def chunk (q : Fin k0_t1_loop.trips) (p : FVec F S2x16x5120 .f32 × FVec F S16x5120 .f32) :
    C (F := F) M (FVec F S2x16x5120 .f32 × FVec F S16x5120 .f32) :=
  .load .ck (r1 q).toLoadRect h_S2x1x16x5120 fun v110 =>
  .bind (.loop k0_t2_loop k0_t2_ok (k0_pay34 v110) (fwd M q)) fun _ =>
  .bind (.loop k0_t3_loop k0_t3_ok p (bwd M q)) fun r => .ret (r.1, r.2)

/-- The quantities that do not depend on the state. -/
def pre (k : C (F := F) M PUnit) : C (F := F) M PUnit :=
  .load .x (wS2x1024x5120).toLoadRect h_S2x1024x5120 fun v0 =>
  .load .xs (wS2x1024x40).toLoadRect h_S2x1024x40 fun v1 =>
  .load .dt (wS2x1024x5120).toLoadRect h_S2x1024x5120 fun v8 =>
  .load .dts (wS2x1024).toLoadRect h_S2x1024 fun v9 =>
  .load .dy (wS2x1024x5120).toLoadRect h_S2x1024x5120 fun v14 =>
  .load .dys (wS2x1024x40).toLoadRect h_S2x1024x40 fun v15 =>
  .load .z (wS2x1024x5120).toLoadRect h_S2x1024x5120 fun v22 =>
  .load .uS (wS2x1024x5120).toLoadRect h_S2x1024x5120 fun _ =>
  .store .uS (wS2x1024x5120) (k0_pay24 v0 v1) (View.stores_vmem_bits_univ h_S2x1024x5120 rfl) <|
  .load .b (wS2x1024x16).toLoadRect h_S2x1024x16 fun v30 =>
  .load .bs (wS2x1024).toLoadRect h_S2x1024 fun v31 =>
  .load .bmS (wS2x1024x16).toLoadRect h_S2x1024x16 fun _ =>
  .store .bmS (wS2x1024x16) (k0_pay25 v30 v31) (View.stores_vmem_bits_univ h_S2x1024x16 rfl) <|
  .load .c (wS2x1024x16).toLoadRect h_S2x1024x16 fun v39 =>
  .load .cs (wS2x1024).toLoadRect h_S2x1024 fun v40 =>
  .load .cmS (wS2x1024x16).toLoadRect h_S2x1024x16 fun _ =>
  .store .cmS (wS2x1024x16) (k0_pay26 v39 v40) (View.stores_vmem_bits_univ h_S2x1024x16 rfl) <|
  .load .delS (wS2x1024x5120).toLoadRect h_S2x1024x5120 fun _ =>
  .store .delS (wS2x1024x5120) (k0_pay27 (k0_pay19 v8 v9)) (View.stores_vmem_bits_univ h_S2x1024x5120 rfl) <|
  .load .sdtS (wS2x1024x5120).toLoadRect h_S2x1024x5120 fun _ =>
  .store .sdtS (wS2x1024x5120) (k0_pay28 (k0_pay19 v8 v9)) (View.stores_vmem_bits_univ h_S2x1024x5120 rfl) <|
  .load .gyS (wS2x1024x5120).toLoadRect h_S2x1024x5120 fun _ =>
  .store .gyS (wS2x1024x5120) (k0_pay29 (k0_pay23 v14 v15 v22)) (View.stores_vmem_bits_univ h_S2x1024x5120 rfl) <|
  .load .gzS (wS2x1024x5120).toLoadRect h_S2x1024x5120 fun _ =>
  .store .gzS (wS2x1024x5120) (k0_pay30 (k0_pay20 v14 v15) (k0_pay21 v22) (k0_pay22 v22)) (View.stores_vmem_bits_univ h_S2x1024x5120 rfl) <|
  .load .dd (wS5x8x128).toLoadRect h_S5x8x128 fun _ =>
  .store .dd (wS5x8x128) (k0_pay31 (k0_pay18 v0 v1) (k0_pay23 v14 v15 v22)) (View.stores_vmem_bits_univ h_S5x8x128 rfl) <|
  k

/-- The first result written, the second rounded. -/
def mid (da : FVec F S16x5120 .f32) : C (F := F) M (Σ' (_ : FVec F S16x5120 .f32), FVec F S2x1024x5120 .bf16) :=
  .load .dxS (wS2x1024x5120).toLoadRect h_S2x1024x5120 fun v91 =>
  .load .dx (wS2x1024x5120).toLoadRect h_S2x1024x5120 fun _ =>
  .store .dx (wS2x1024x5120) (k0_pay42 v91) (View.stores_vmem h_S2x1024x5120 ((hM .dx).storeExact_slice rfl _ packedbf16_S2x1024x5120_S2x1024x5120_0_0_0) (fun _ => rfl)) <|
  .load .ddtS (wS2x1024x5120).toLoadRect h_S2x1024x5120 fun v94 =>
  .ret ⟨da, k0_pay43 v94⟩

/-- The other results written. -/
def post (da : FVec F S16x5120 .f32) (ddt : FVec F S2x1024x5120 .bf16) : C (F := F) M PUnit :=
  .load .ddt (wS2x1024x5120).toLoadRect h_S2x1024x5120 fun _ =>
  .store .ddt (wS2x1024x5120) (ddt) (View.stores_vmem h_S2x1024x5120 ((hM .ddt).storeExact_slice rfl _ packedbf16_S2x1024x5120_S2x1024x5120_0_0_0) (fun _ => rfl)) <|
  .load .dzS (wS2x1024x5120).toLoadRect h_S2x1024x5120 fun v97 =>
  .load .dz (wS2x1024x5120).toLoadRect h_S2x1024x5120 fun _ =>
  .store .dz (wS2x1024x5120) (k0_pay1 v97) (View.stores_vmem h_S2x1024x5120 ((hM .dz).storeExact_slice rfl _ packedbf16_S2x1024x5120_S2x1024x5120_0_0_0) (fun _ => rfl)) <|
  .load .dbS (wS2x1024x16).toLoadRect h_S2x1024x16 fun v100 =>
  .load .db (wS2x128x128).toLoadRect h_S2x128x128 fun _ =>
  .store .db (wS2x128x128) (k0_pay2 v100) (View.stores_vmem_bits_univ h_S2x128x128 rfl) <|
  .load .dcS (wS2x1024x16).toLoadRect h_S2x1024x16 fun v103 =>
  .load .dc (wS2x128x128).toLoadRect h_S2x128x128 fun _ =>
  .store .dc (wS2x128x128) (k0_pay3 v103) (View.stores_vmem_bits_univ h_S2x128x128 rfl) <|
  .load .da (wS16x5x8x128).toLoadRect h_S16x5x8x128 fun _ =>
  .store .da (wS16x5x8x128) (k0_pay4 da) (View.stores_vmem_bits_univ h_S16x5x8x128 rfl) <|
  .ret PUnit.unit

/-- The body. -/
def body : C (F := F) M PUnit :=
  pre M <| .bind (.bind (.loop k0_t1_loop k0_t1_ok (k0_pay32 (F := F), k0_pay33 (F := F)) (chunk M)) fun p => mid M hM p.2)
    fun r => post M hM r.1 r.2

set_option maxHeartbeats 4000000 in
/-- The printed forward trip is `fwd`, -/
theorem fwd_eq (v7 v21 v23 v24 v26 v68 : FVec F S2x1024x5120 .f32) (q : Fin k0_t1_loop.trips) (w : BitVec 32) (t : Fin k0_t2_loop.trips) (h : FVec F S2x16x5120 .f32) :
    k0_t2_body (M .x) (hM .x) (M .xs) (hM .xs) (M .dt) (hM .dt) (M .dts) (hM .dts) (M .b) (hM .b) (M .bs) (hM .bs)
      (M .c) (hM .c) (M .cs) (hM .cs) (M .z) (hM .z) (M .dy) (hM .dy) (M .dys) (hM .dys) (M .a) (hM .a)
      (M .d) (hM .d) (M .ck) (hM .ck) (M .dx) (hM .dx) (M .ddt) (hM .ddt) (M .dz) (hM .dz) (M .db) (hM .db)
      (M .dc) (hM .dc) (M .da) (hM .da) (M .dd) (hM .dd) (M .uS) (hM .uS) (M .delS) (hM .delS) (M .sdtS) (hM .sdtS)
      (M .bmS) (hM .bmS) (M .cmS) (hM .cmS) (M .gyS) (hM .gyS) (M .gzS) (hM .gzS) (M .ahS) (hM .ahS) (M .dxS) (hM .dxS)
      (M .ddtS) (hM .ddtS) (M .dzS) (hM .dzS) (M .dbS) (hM .dbS) (M .dcS) (hM .dcS)
      v7 v21 v23 v24 v26 v68 q w t h = (fwd (F := F) M q t h).toProg nD τ Λ₀ := by
  chain_rfl

set_option maxHeartbeats 4000000 in
/-- the backward trip `bwd`, -/
theorem bwd_eq (v7 v21 v23 v24 v26 v68 : FVec F S2x1024x5120 .f32) (q : Fin k0_t1_loop.trips) (w : BitVec 32) (t : Fin k0_t3_loop.trips) (p : FVec F S2x16x5120 .f32 × FVec F S16x5120 .f32) :
    k0_t3_body (M .x) (hM .x) (M .xs) (hM .xs) (M .dt) (hM .dt) (M .dts) (hM .dts) (M .b) (hM .b) (M .bs) (hM .bs)
      (M .c) (hM .c) (M .cs) (hM .cs) (M .z) (hM .z) (M .dy) (hM .dy) (M .dys) (hM .dys) (M .a) (hM .a)
      (M .d) (hM .d) (M .ck) (hM .ck) (M .dx) (hM .dx) (M .ddt) (hM .ddt) (M .dz) (hM .dz) (M .db) (hM .db)
      (M .dc) (hM .dc) (M .da) (hM .da) (M .dd) (hM .dd) (M .uS) (hM .uS) (M .delS) (hM .delS) (M .sdtS) (hM .sdtS)
      (M .bmS) (hM .bmS) (M .cmS) (hM .cmS) (M .gyS) (hM .gyS) (M .gzS) (hM .gzS) (M .ahS) (hM .ahS) (M .dxS) (hM .dxS)
      (M .ddtS) (hM .ddtS) (M .dzS) (hM .dzS) (M .dbS) (hM .dbS) (M .dcS) (hM .dcS)
      v7 v21 v23 v24 v26 v68 q w t p = (bwd (F := F) M q t p).toProg nD τ Λ₀ := by
  chain_rfl

set_option maxHeartbeats 4000000 in
/-- the chunk `chunk`, -/
theorem chunk_eq (v7 v21 v23 v24 v26 v68 : FVec F S2x1024x5120 .f32) (q : Fin k0_t1_loop.trips) (p : FVec F S2x16x5120 .f32 × FVec F S16x5120 .f32) :
    k0_t1_body (M .x) (hM .x) (M .xs) (hM .xs) (M .dt) (hM .dt) (M .dts) (hM .dts) (M .b) (hM .b) (M .bs) (hM .bs)
      (M .c) (hM .c) (M .cs) (hM .cs) (M .z) (hM .z) (M .dy) (hM .dy) (M .dys) (hM .dys) (M .a) (hM .a)
      (M .d) (hM .d) (M .ck) (hM .ck) (M .dx) (hM .dx) (M .ddt) (hM .ddt) (M .dz) (hM .dz) (M .db) (hM .db)
      (M .dc) (hM .dc) (M .da) (hM .da) (M .dd) (hM .dd) (M .uS) (hM .uS) (M .delS) (hM .delS) (M .sdtS) (hM .sdtS)
      (M .bmS) (hM .bmS) (M .cmS) (hM .cmS) (M .gyS) (hM .gyS) (M .gzS) (hM .gzS) (M .ahS) (hM .ahS) (M .dxS) (hM .dxS)
      (M .ddtS) (hM .ddtS) (M .dzS) (hM .dzS) (M .dbS) (hM .dbS) (M .dcS) (hM .dcS)
      v7 v21 v23 v24 v26 v68 q p = (chunk (F := F) M q p).toProg nD τ Λ₀ := by
  chain_rfl

set_option maxHeartbeats 4000000 in
/-- and the printed body `body`. -/
theorem body_eq :
    cc0__reference_body_skel (M .x) (hM .x) (M .xs) (hM .xs) (M .dt) (hM .dt) (M .dts) (hM .dts) (M .b) (hM .b) (M .bs) (hM .bs)
      (M .c) (hM .c) (M .cs) (hM .cs) (M .z) (hM .z) (M .dy) (hM .dy) (M .dys) (hM .dys) (M .a) (hM .a)
      (M .d) (hM .d) (M .ck) (hM .ck) (M .dx) (hM .dx) (M .ddt) (hM .ddt) (M .dz) (hM .dz) (M .db) (hM .db)
      (M .dc) (hM .dc) (M .da) (hM .da) (M .dd) (hM .dd) (M .uS) (hM .uS) (M .delS) (hM .delS) (M .sdtS) (hM .sdtS)
      (M .bmS) (hM .bmS) (M .cmS) (hM .cmS) (M .gyS) (hM .gyS) (M .gzS) (hM .gzS) (M .ahS) (hM .ahS) (M .dxS) (hM .dxS)
      (M .ddtS) (hM .ddtS) (M .dzS) (hM .dzS) (M .dbS) (hM .dbS) (M .dcS) (hM .dcS) = (body (F := F) M hM).toProg nD τ Λ₀ := by
  chain_rfl

end Cert.ReferenceIdeal.Body
-- ==== Proof.RefRun.lean ====
/- The reference run through its pipeline. A plan says, of each grid point, what the scratch holds before it and what the
   body may leave in each window; from a plan whose every step is right follows that the reference ends with every array
   as the plan says. -/
module

public import proofs.«01_k».proof.Proof.RefBody
public import proofs.«01_k».proof.Proof.Gen.ReferenceIdeal.Frame
public import Idealize.ShloMosaic.Lib.Pipeline.ArrRel

@[expose] public section

set_option maxRecDepth 65536

noncomputable section

namespace Cert.ReferenceIdeal.Body

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Cert.Proof Cert.ReferenceIdeal Cert.ReferenceIdeal.Gen
open Idealize.ShloMosaic.Pipeline (RDat)

variable {F : FTy → Type} [FloatOps F]

local notation "𝕄" => MT nD τ sig Unit (Elt F) ℕ (UR sig nD τ) ℕ

/-- The buffers of point `t`. -/
def Mt (t : Fin cfg0.N) : ∀ b : Bf, Memref sig .tc .vmem (shp b) (elt b)
  | .x => win0_0.stage (cfg0.slots t 0)
  | .xs => win0_1.stage (cfg0.slots t 1)
  | .dt => win0_2.stage (cfg0.slots t 2)
  | .dts => win0_3.stage (cfg0.slots t 3)
  | .b => win0_4.stage (cfg0.slots t 4)
  | .bs => win0_5.stage (cfg0.slots t 5)
  | .c => win0_6.stage (cfg0.slots t 6)
  | .cs => win0_7.stage (cfg0.slots t 7)
  | .z => win0_8.stage (cfg0.slots t 8)
  | .dy => win0_9.stage (cfg0.slots t 9)
  | .dys => win0_10.stage (cfg0.slots t 10)
  | .a => win0_11.stage (cfg0.slots t 11)
  | .d => win0_12.stage (cfg0.slots t 12)
  | .ck => win0_13.stage (cfg0.slots t 13)
  | .dx => win0_14.stage (cfg0.slots t 14)
  | .ddt => win0_15.stage (cfg0.slots t 15)
  | .dz => win0_16.stage (cfg0.slots t 16)
  | .db => win0_17.stage (cfg0.slots t 17)
  | .dc => win0_18.stage (cfg0.slots t 18)
  | .da => win0_19.stage (cfg0.slots t 19)
  | .dd => win0_20.stage (cfg0.slots t 20)
  | .uS => Memref.whole cc0_scratch0
  | .delS => Memref.whole cc0_scratch1
  | .sdtS => Memref.whole cc0_scratch2
  | .bmS => Memref.whole cc0_scratch3
  | .cmS => Memref.whole cc0_scratch4
  | .gyS => Memref.whole cc0_scratch5
  | .gzS => Memref.whole cc0_scratch6
  | .ahS => Memref.whole cc0_scratch7
  | .dxS => Memref.whole cc0_scratch8
  | .ddtS => Memref.whole cc0_scratch9
  | .dzS => Memref.whole cc0_scratch10
  | .dbS => Memref.whole cc0_scratch11
  | .dcS => Memref.whole cc0_scratch12

theorem hMt (t : Fin cfg0.N) : ∀ b : Bf, (Mt t b).IsWhole
  | .x => hstage0_0 0
  | .xs => hstage0_1 0
  | .dt => hstage0_2 0
  | .dts => hstage0_3 0
  | .b => hstage0_4 0
  | .bs => hstage0_5 0
  | .c => hstage0_6 0
  | .cs => hstage0_7 0
  | .z => hstage0_8 0
  | .dy => hstage0_9 0
  | .dys => hstage0_10 0
  | .a => hstage0_11 0
  | .d => hstage0_12 0
  | .ck => hstage0_13 0
  | .dx => hstage0_14 0
  | .ddt => hstage0_15 0
  | .dz => hstage0_16 0
  | .db => hstage0_17 0
  | .dc => hstage0_18 0
  | .da => hstage0_19 0
  | .dd => hstage0_20 0
  | .uS => Memref.isWhole_whole _
  | .delS => Memref.isWhole_whole _
  | .sdtS => Memref.isWhole_whole _
  | .bmS => Memref.isWhole_whole _
  | .cmS => Memref.isWhole_whole _
  | .gyS => Memref.isWhole_whole _
  | .gzS => Memref.isWhole_whole _
  | .ahS => Memref.isWhole_whole _
  | .dxS => Memref.isWhole_whole _
  | .ddtS => Memref.isWhole_whole _
  | .dzS => Memref.isWhole_whole _
  | .dbS => Memref.isWhole_whole _
  | .dcS => Memref.isWhole_whole _

/-- All the buffers. -/
def bufs : List Bf := [.x, .xs, .dt, .dts, .b, .bs, .c, .cs, .z, .dy, .dys, .a, .d, .ck, .dx, .ddt, .dz, .db, .dc, .da, .dd, .uS, .delS, .sdtS, .bmS, .cmS, .gyS, .gzS, .ahS, .dxS, .ddtS, .dzS, .dbS, .dcS]

theorem bufs_nodup : bufs.Nodup := by decide
theorem mem_bufs : ∀ b, b ∈ bufs := by intro b; cases b <;> decide

/-- The buffers' contents. -/
abbrev St (F : FTy → Type) [FloatOps F] : Type := Cmd.St (Elt F) shp elt

/-- The windows' contents -/
abbrev WY (F : FTy → Type) [FloatOps F] : Type := (w : Fin 21) → ((spec0 w).block.Idx → Elt F (spec0 w).elt)

/-- with the scratch of `σ`, -/
def mix (Y : WY F) (σ : St F) : St F
  | .x => Y 0
  | .xs => Y 1
  | .dt => Y 2
  | .dts => Y 3
  | .b => Y 4
  | .bs => Y 5
  | .c => Y 6
  | .cs => Y 7
  | .z => Y 8
  | .dy => Y 9
  | .dys => Y 10
  | .a => Y 11
  | .d => Y 12
  | .ck => Y 13
  | .dx => Y 14
  | .ddt => Y 15
  | .dz => Y 16
  | .db => Y 17
  | .dc => Y 18
  | .da => Y 19
  | .dd => Y 20
  | .uS => σ .uS
  | .delS => σ .delS
  | .sdtS => σ .sdtS
  | .bmS => σ .bmS
  | .cmS => σ .cmS
  | .gyS => σ .gyS
  | .gzS => σ .gzS
  | .ahS => σ .ahS
  | .dxS => σ .dxS
  | .ddtS => σ .ddtS
  | .dzS => σ .dzS
  | .dbS => σ .dbS
  | .dcS => σ .dcS

/-- and the windows of `σ`. -/
def wins (σ : St F) : WY F
  | 0 => σ .x
  | 1 => σ .xs
  | 2 => σ .dt
  | 3 => σ .dts
  | 4 => σ .b
  | 5 => σ .bs
  | 6 => σ .c
  | 7 => σ .cs
  | 8 => σ .z
  | 9 => σ .dy
  | 10 => σ .dys
  | 11 => σ .a
  | 12 => σ .d
  | 13 => σ .ck
  | 14 => σ .dx
  | 15 => σ .ddt
  | 16 => σ .dz
  | 17 => σ .db
  | 18 => σ .dc
  | 19 => σ .da
  | 20 => σ .dd
  | ⟨_ + 21, h⟩ => absurd h (Nat.not_lt.2 (Nat.le_add_left _ _))

/-- What the body at `t` makes of the buffers. -/
def stepAt (t : Fin cfg0.N) (σ : St F) : St F := ((body (F := F) (Mt t) (hMt t)).run σ).2

variable (m : (ℓ : Loc nD τ sig) → Buf (Elt F) ℓ) (ρ : Dev nD → PrngReg)

/-- A plan: what the scratch holds before each point, what the body may leave in each window. -/
structure Plan where
  Inv : Dev nD → ℕ → St F → Prop
  after : Dev nD → (w : Fin 21) → Fin cfg0.N → (Y X : (spec0 w).block.Idx → Elt F (spec0 w).elt) → Prop

/-- The scratch, owned. -/
def ownS (c : Dev nD) (σ : St F) : sProp 𝕄 :=
  iprop(owns (c : Thread nD τ) (Memref.whole cc0_scratch0) fullShare (σ .uS)
    ∗ owns (c : Thread nD τ) (Memref.whole cc0_scratch1) fullShare (σ .delS)
    ∗ owns (c : Thread nD τ) (Memref.whole cc0_scratch2) fullShare (σ .sdtS)
    ∗ owns (c : Thread nD τ) (Memref.whole cc0_scratch3) fullShare (σ .bmS)
    ∗ owns (c : Thread nD τ) (Memref.whole cc0_scratch4) fullShare (σ .cmS)
    ∗ owns (c : Thread nD τ) (Memref.whole cc0_scratch5) fullShare (σ .gyS)
    ∗ owns (c : Thread nD τ) (Memref.whole cc0_scratch6) fullShare (σ .gzS)
    ∗ owns (c : Thread nD τ) (Memref.whole cc0_scratch7) fullShare (σ .ahS)
    ∗ owns (c : Thread nD τ) (Memref.whole cc0_scratch8) fullShare (σ .dxS)
    ∗ owns (c : Thread nD τ) (Memref.whole cc0_scratch9) fullShare (σ .ddtS)
    ∗ owns (c : Thread nD τ) (Memref.whole cc0_scratch10) fullShare (σ .dzS)
    ∗ owns (c : Thread nD τ) (Memref.whole cc0_scratch11) fullShare (σ .dbS)
    ∗ owns (c : Thread nD τ) (Memref.whole cc0_scratch12) fullShare (σ .dcS))

variable {m} in
/-- The plan as the pipeline's proof data. -/
def Plan.rdat (m : (ℓ : Loc nD τ sig) → Buf (Elt F) ℓ) (P : Plan (F := F)) (c : Dev nD) : RDat τ (Elt F) Unit ℕ (UR sig nD τ) ℕ cfg0 c where
  A w := Gen.V m c (Pipeline.arrRef spec0 w)
  after w t Y X := P.after c w t Y X
  Φ t := iprop((∃ σ, ⌜P.Inv c t.val σ⌝ ∗ ownS c σ) ∗ ∃ r, prngReg c r)
  q _ := fullShare
  owed _ := 0

/-- Every step of the plan is right. -/
structure Plan.Ok (P : Plan (F := F)) : Prop where
  start : ∀ c σ, P.Inv c 0 σ
  step : ∀ c (t : Fin cfg0.N) (Y : WY F), (∀ w, (P.rdat m c).Finds w t (Y w)) → ∀ σ, P.Inv c t.val σ →
    P.Inv c (t.val + 1) (stepAt t (mix Y σ)) ∧ ∀ w, P.after c w t (Y w) (wins (stepAt t (mix Y σ)) w)

theorem defs₀_row (t : Fin cfg0.N) : defs₀ (F := F) .tc cfg0.body (cfg0.bodyArgs t (cfg0.slots t)) = bodyAt0 t := by
  unfold defs₀; rw [Defs.onTc_tc]

theorem bodyAt_eq (t : Fin cfg0.N) : bodyAt0 (F := F) t = (body (F := F) (Mt t) (hMt t)).toProg nD τ Λ₀ := by
  unfold bodyAt0
  rw [cc0__reference_body_eq_skeleton]
  exact body_eq (Mt t) (hMt t)

/-- The windows, owned. -/
def ownW (c : Dev nD) (t : Fin cfg0.N) (Y : WY F) : sProp 𝕄 :=
  iprop(owns (c : Thread nD τ) (win0_0.stage (cfg0.slots t 0)) fullShare (Y 0)
    ∗ owns (c : Thread nD τ) (win0_1.stage (cfg0.slots t 1)) fullShare (Y 1)
    ∗ owns (c : Thread nD τ) (win0_2.stage (cfg0.slots t 2)) fullShare (Y 2)
    ∗ owns (c : Thread nD τ) (win0_3.stage (cfg0.slots t 3)) fullShare (Y 3)
    ∗ owns (c : Thread nD τ) (win0_4.stage (cfg0.slots t 4)) fullShare (Y 4)
    ∗ owns (c : Thread nD τ) (win0_5.stage (cfg0.slots t 5)) fullShare (Y 5)
    ∗ owns (c : Thread nD τ) (win0_6.stage (cfg0.slots t 6)) fullShare (Y 6)
    ∗ owns (c : Thread nD τ) (win0_7.stage (cfg0.slots t 7)) fullShare (Y 7)
    ∗ owns (c : Thread nD τ) (win0_8.stage (cfg0.slots t 8)) fullShare (Y 8)
    ∗ owns (c : Thread nD τ) (win0_9.stage (cfg0.slots t 9)) fullShare (Y 9)
    ∗ owns (c : Thread nD τ) (win0_10.stage (cfg0.slots t 10)) fullShare (Y 10)
    ∗ owns (c : Thread nD τ) (win0_11.stage (cfg0.slots t 11)) fullShare (Y 11)
    ∗ owns (c : Thread nD τ) (win0_12.stage (cfg0.slots t 12)) fullShare (Y 12)
    ∗ owns (c : Thread nD τ) (win0_13.stage (cfg0.slots t 13)) fullShare (Y 13)
    ∗ owns (c : Thread nD τ) (win0_14.stage (cfg0.slots t 14)) fullShare (Y 14)
    ∗ owns (c : Thread nD τ) (win0_15.stage (cfg0.slots t 15)) fullShare (Y 15)
    ∗ owns (c : Thread nD τ) (win0_16.stage (cfg0.slots t 16)) fullShare (Y 16)
    ∗ owns (c : Thread nD τ) (win0_17.stage (cfg0.slots t 17)) fullShare (Y 17)
    ∗ owns (c : Thread nD τ) (win0_18.stage (cfg0.slots t 18)) fullShare (Y 18)
    ∗ owns (c : Thread nD τ) (win0_19.stage (cfg0.slots t 19)) fullShare (Y 19)
    ∗ owns (c : Thread nD τ) (win0_20.stage (cfg0.slots t 20)) fullShare (Y 20))

theorem ownL_of (c : Dev nD) (t : Fin cfg0.N) (Y : WY F) (σ : St F) :
    iprop(ownW c t Y ∗ ownS c σ) ⊢ (ownL c (Mt t) (mix Y σ) bufs : sProp 𝕄) := by
  unfold ownW ownS bufs
  simp only [ownL, Mt, mix]
  iintro ⟨⟨W0, W1, W2, W3, W4, W5, W6, W7, W8, W9, W10, W11, W12, W13, W14, W15, W16, W17, W18, W19, W20⟩, ⟨S0, S1, S2, S3, S4, S5, S6, S7, S8, S9, S10, S11, S12⟩⟩
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [W17]; · iexact W17
  isplitl [W18]; · iexact W18
  isplitl [W19]; · iexact W19
  isplitl [W20]; · iexact W20
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  iempintro

theorem ownL_to (c : Dev nD) (t : Fin cfg0.N) (σ : St F) :
    (ownL c (Mt t) σ bufs : sProp 𝕄) ⊢ iprop(ownW c t (wins σ) ∗ ownS c σ) := by
  unfold ownW ownS bufs
  simp only [ownL, Mt, wins]
  iintro ⟨W0, W1, W2, W3, W4, W5, W6, W7, W8, W9, W10, W11, W12, W13, W14, W15, W16, W17, W18, W19, W20, S0, S1, S2, S3, S4, S5, S6, S7, S8, S9, S10, S11, S12, -⟩
  isplitl [W0 W1 W2 W3 W4 W5 W6 W7 W8 W9 W10 W11 W12 W13 W14 W15 W16 W17 W18 W19 W20]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [W17]; · iexact W17
    isplitl [W18]; · iexact W18
    isplitl [W19]; · iexact W19
    iexact W20
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact S12

variable {m} in
/-- One run of the body. -/
theorem sound_body {P : Plan (F := F)} (hP : P.Ok m) (c : Dev nD) (t : Fin cfg0.N) (Y : WY F) (hY : ∀ w, (P.rdat m c).Finds w t (Y w)) :
    iprop((P.rdat m c).Φ t.castSucc ∗ (P.rdat m c).owesAt () t.castSucc ∗ ownW c t Y)
      ⊢ wp frame (wpE (defs₀ (F := F)) Variants.none (c : Thread nD τ) none) Set.univ (bodyAt0 t) fun _ =>
        iprop((P.rdat m c).Φ t.succ ∗ (P.rdat m c).owesAt () t.succ ∗ ∃ X : WY F, ⌜∀ w, P.after c w t (Y w) (X w)⌝ ∗ ownW c t X) := by
  rw [bodyAt_eq]
  show iprop(((∃ σ, ⌜P.Inv c t.val σ⌝ ∗ ownS c σ) ∗ ∃ r, prngReg c r) ∗ _ ∗ _) ⊢ _
  iintro ⟨⟨⟨%σ, %hI, HS⟩, Hp⟩, HO, HW⟩
  obtain ⟨hI', hA⟩ := hP.step c t Y hY σ hI
  have key : iprop((ownL c (Mt t) (mix Y σ) bufs) ∗ ((∃ r, prngReg c r) ∗ (P.rdat m c).owesAt () t.castSucc))
      ⊢ wp frame (wpE (defs₀ (F := F)) Variants.none (c : Thread nD τ) none) Set.univ
          ((body (F := F) (Mt t) (hMt t)).toProg nD τ Λ₀) fun _ =>
          iprop((ownL c (Mt t) (stepAt t (mix Y σ)) bufs) ∗ ((∃ r, prngReg c r) ∗ (P.rdat m c).owesAt () t.castSucc)) :=
    (sep_mono (Cmd.sound c (Mt t) Variants.none none Set.univ bufs bufs_nodup mem_bufs
      (body (F := F) (Mt t) (hMt t)) (mix Y σ) (fun _ => ownL c (Mt t) (stepAt t (mix Y σ)) bufs) .rfl) .rfl).trans
      (wp_frame_r _ _ _)
  have key2 := key.trans (wp_mono _ _ _ (Q' := fun _ =>
        iprop((P.rdat m c).Φ t.succ ∗ (P.rdat m c).owesAt () t.succ ∗ ∃ X : WY F, ⌜∀ w, P.after c w t (Y w) (X w)⌝ ∗ ownW c t X)) fun _ => by
    refine (sep_mono (ownL_to c t _) .rfl).trans ?_
    show _ ⊢ iprop(((∃ σ, ⌜P.Inv c (t.val + 1) σ⌝ ∗ ownS c σ) ∗ ∃ r, prngReg c r) ∗ (P.rdat m c).owesAt () t.castSucc ∗ _)
    iintro ⟨⟨HW, HS⟩, Hp, HO⟩
    isplitl [HS Hp]
    · isplitl [HS]
      · iexists (stepAt t (mix Y σ)); isplitr
        · ipureintro; exact hI'
        · iexact HS
      · iexact Hp
    isplitl [HO]; · iexact HO
    iexists (wins (stepAt t (mix Y σ))); isplitr
    · ipureintro; exact hA
    · iexact HW)
  iapply key2
  isplitl [HW HS]
  · iapply (ownL_of c t Y σ)
    isplitl [HW]; · iexact HW
    iexact HS
  isplitl [Hp]; · iexact Hp
  iexact HO

variable {m} in
/-- The library's body obligation. -/
theorem body_obligation {P : Plan (F := F)} (hP : P.Ok m) (c : Dev nD) :
    (P.rdat m c).BodyObligation (defs₀ (F := F)) Variants.none () Set.univ := fun t Y hY => by
  rw [bigSep_W0, bigSep_W0, defs₀_row]
  refine triple_restated (sound_body hP c t Y hY) rfl .rfl fun _ => ?_
  refine sep_mono .rfl (sep_mono .rfl ?_)
  unfold ownW
  iintro ⟨%X, %hX, W0, W1, W2, W3, W4, W5, W6, W7, W8, W9, W10, W11, W12, W13, W14, W15, W16, W17, W18, W19, W20⟩
  isplitl [W0]
  · iexists (X 0); isplitr
    · ipureintro; exact hX 0
    · iexact W0
  isplitl [W1]
  · iexists (X 1); isplitr
    · ipureintro; exact hX 1
    · iexact W1
  isplitl [W2]
  · iexists (X 2); isplitr
    · ipureintro; exact hX 2
    · iexact W2
  isplitl [W3]
  · iexists (X 3); isplitr
    · ipureintro; exact hX 3
    · iexact W3
  isplitl [W4]
  · iexists (X 4); isplitr
    · ipureintro; exact hX 4
    · iexact W4
  isplitl [W5]
  · iexists (X 5); isplitr
    · ipureintro; exact hX 5
    · iexact W5
  isplitl [W6]
  · iexists (X 6); isplitr
    · ipureintro; exact hX 6
    · iexact W6
  isplitl [W7]
  · iexists (X 7); isplitr
    · ipureintro; exact hX 7
    · iexact W7
  isplitl [W8]
  · iexists (X 8); isplitr
    · ipureintro; exact hX 8
    · iexact W8
  isplitl [W9]
  · iexists (X 9); isplitr
    · ipureintro; exact hX 9
    · iexact W9
  isplitl [W10]
  · iexists (X 10); isplitr
    · ipureintro; exact hX 10
    · iexact W10
  isplitl [W11]
  · iexists (X 11); isplitr
    · ipureintro; exact hX 11
    · iexact W11
  isplitl [W12]
  · iexists (X 12); isplitr
    · ipureintro; exact hX 12
    · iexact W12
  isplitl [W13]
  · iexists (X 13); isplitr
    · ipureintro; exact hX 13
    · iexact W13
  isplitl [W14]
  · iexists (X 14); isplitr
    · ipureintro; exact hX 14
    · iexact W14
  isplitl [W15]
  · iexists (X 15); isplitr
    · ipureintro; exact hX 15
    · iexact W15
  isplitl [W16]
  · iexists (X 16); isplitr
    · ipureintro; exact hX 16
    · iexact W16
  isplitl [W17]
  · iexists (X 17); isplitr
    · ipureintro; exact hX 17
    · iexact W17
  isplitl [W18]
  · iexists (X 18); isplitr
    · ipureintro; exact hX 18
    · iexact W18
  isplitl [W19]
  · iexists (X 19); isplitr
    · ipureintro; exact hX 19
    · iexact W19
  iexists (X 20); isplitr; · ipureintro; exact hX 20
  iexact W20

variable {m} in
set_option backward.isDefEq.respectTransparency.types false in
theorem hin {P : Plan (F := F)} (hP : P.Ok m) (c : Dev nD) : Pipeline.ΦA spec0 c ⊢ (P.rdat m c).Φ 0 := by
  unfold Pipeline.ΦA
  rw [scopedRest0_eq]
  show _ ⊢ iprop((∃ σ, ⌜P.Inv c 0 σ⌝ ∗ ownS c σ) ∗ ∃ r, prngReg c r)
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩⟩, Hp⟩
  isplitr [Hp]; swap; · iexact Hp
  iexists (fun b => match b with
    | .x => fun _ => Classical.choice (inferInstance : Nonempty (Elt F (elt .x)))
    | .xs => fun _ => Classical.choice (inferInstance : Nonempty (Elt F (elt .xs)))
    | .dt => fun _ => Classical.choice (inferInstance : Nonempty (Elt F (elt .dt)))
    | .dts => fun _ => Classical.choice (inferInstance : Nonempty (Elt F (elt .dts)))
    | .b => fun _ => Classical.choice (inferInstance : Nonempty (Elt F (elt .b)))
    | .bs => fun _ => Classical.choice (inferInstance : Nonempty (Elt F (elt .bs)))
    | .c => fun _ => Classical.choice (inferInstance : Nonempty (Elt F (elt .c)))
    | .cs => fun _ => Classical.choice (inferInstance : Nonempty (Elt F (elt .cs)))
    | .z => fun _ => Classical.choice (inferInstance : Nonempty (Elt F (elt .z)))
    | .dy => fun _ => Classical.choice (inferInstance : Nonempty (Elt F (elt .dy)))
    | .dys => fun _ => Classical.choice (inferInstance : Nonempty (Elt F (elt .dys)))
    | .a => fun _ => Classical.choice (inferInstance : Nonempty (Elt F (elt .a)))
    | .d => fun _ => Classical.choice (inferInstance : Nonempty (Elt F (elt .d)))
    | .ck => fun _ => Classical.choice (inferInstance : Nonempty (Elt F (elt .ck)))
    | .dx => fun _ => Classical.choice (inferInstance : Nonempty (Elt F (elt .dx)))
    | .ddt => fun _ => Classical.choice (inferInstance : Nonempty (Elt F (elt .ddt)))
    | .dz => fun _ => Classical.choice (inferInstance : Nonempty (Elt F (elt .dz)))
    | .db => fun _ => Classical.choice (inferInstance : Nonempty (Elt F (elt .db)))
    | .dc => fun _ => Classical.choice (inferInstance : Nonempty (Elt F (elt .dc)))
    | .da => fun _ => Classical.choice (inferInstance : Nonempty (Elt F (elt .da)))
    | .dd => fun _ => Classical.choice (inferInstance : Nonempty (Elt F (elt .dd)))
    | .uS => f0
    | .delS => f1
    | .sdtS => f2
    | .bmS => f3
    | .cmS => f4
    | .gyS => f5
    | .gzS => f6
    | .ahS => f7
    | .dxS => f8
    | .ddtS => f9
    | .dzS => f10
    | .dbS => f11
    | .dcS => f12 : St F)
  isplitr; · ipureintro; exact hP.start c _
  unfold ownS
  simp only [owns_whole]
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact S12

variable {m} in
set_option backward.isDefEq.respectTransparency.types false in
theorem hout {P : Plan (F := F)} (c : Dev nD) : (P.rdat m c).Φ (Fin.last cfg0.N) ⊢ Pipeline.ΦA spec0 c := by
  unfold Pipeline.ΦA
  rw [scopedRest0_eq]
  show iprop((∃ σ, ⌜P.Inv c _ σ⌝ ∗ ownS c σ) ∗ ∃ r, prngReg c r) ⊢ _
  unfold ownS
  simp only [owns_whole]
  iintro ⟨⟨%σ, %hI, S0, S1, S2, S3, S4, S5, S6, S7, S8, S9, S10, S11, S12⟩, Hp⟩
  isplitr [Hp]; swap; · iexact Hp
  isplitl [S0]; · iexists (σ .uS); iexact S0
  isplitl [S1]; · iexists (σ .delS); iexact S1
  isplitl [S2]; · iexists (σ .sdtS); iexact S2
  isplitl [S3]; · iexists (σ .bmS); iexact S3
  isplitl [S4]; · iexists (σ .cmS); iexact S4
  isplitl [S5]; · iexists (σ .gyS); iexact S5
  isplitl [S6]; · iexists (σ .gzS); iexact S6
  isplitl [S7]; · iexists (σ .ahS); iexact S7
  isplitl [S8]; · iexists (σ .dxS); iexact S8
  isplitl [S9]; · iexists (σ .ddtS); iexact S9
  isplitl [S10]; · iexists (σ .dzS); iexact S10
  isplitl [S11]; · iexists (σ .dbS); iexact S11
  iexists (σ .dcS); iexact S12

variable {m} in
set_option backward.isDefEq.respectTransparency.types false in
/-- THE RUN: every execution ends, with the arrays as the plan says and every semaphore at zero. -/
theorem run_main {P : Plan (F := F)} (hP : P.Ok m) :
    θ_run defs (onTc (τ := τ) (main (F := F))) (s₀ m ρ)
      (fun r => RDat.FramePost cfg0 (P.rdat m) (Gen.V m) r ∧ r.2.sem = fun _ => 0) :=
  Pipeline.RDat.θ_run_frame_track cfgs (0 : Fin 1) launch0 defs₀ Variants.none (P.rdat m) m ρ main
    (hbody := fun c => body_obligation hP c) (hshare := fun c w => by show (if _ then _ else _) = _; exact ite_self _) (howed := fun _ _ => rfl)
    (V := Gen.V m) (hmain := hmain m Variants.none) (hA := fun _ _ => rfl)
    (hin := fun c => hin hP c) (hout := fun c => hout c) (Q' := _) (hQ' := fun _ h => h)

end Cert.ReferenceIdeal.Body
-- ==== Proof.RefFrame.lean ====
/- The reference runs and keeps its arguments: the pipeline run (RefRun.lean) at the plan that asks nothing. -/
module

public import proofs.«01_k».proof.Proof.RefRun

@[expose] public section

set_option maxRecDepth 65536

noncomputable section

namespace Cert.ReferenceIdeal.Body

open Idealize.ShloMosaic Idealize.ShloMosaic.TcCoe Idealize.SL Idealize.SL.Sem
open Cert.Proof Cert.ReferenceIdeal Cert.ReferenceIdeal.Gen
open Idealize.ShloMosaic.Pipeline (RDat)

variable {F : FTy → Type} [FloatOps F]
variable (m : (ℓ : Loc nD τ sig) → Buf (Elt F) ℓ) (ρ : Dev nD → PrngReg)

variable {m} in
/-- Whatever the plan, the arguments stand. -/
theorem kept {P : Plan (F := F)} {r} (h : RDat.FramePost cfg0 (P.rdat m) (Gen.V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(RDat.FramePost.arr_in h c 0 rfl).trans (Gen.V_main_arg0 m c),
   (RDat.FramePost.arr_in h c 1 rfl).trans (Gen.V_main_arg1 m c),
   (RDat.FramePost.arr_in h c 2 rfl).trans (Gen.V_main_arg2 m c),
   (RDat.FramePost.arr_in h c 3 rfl).trans (Gen.V_main_arg3 m c),
   (RDat.FramePost.arr_in h c 4 rfl).trans (Gen.V_main_arg4 m c),
   (RDat.FramePost.arr_in h c 5 rfl).trans (Gen.V_main_arg5 m c),
   (RDat.FramePost.arr_in h c 6 rfl).trans (Gen.V_main_arg6 m c),
   (RDat.FramePost.arr_in h c 7 rfl).trans (Gen.V_main_arg7 m c),
   (RDat.FramePost.arr_in h c 8 rfl).trans (Gen.V_main_arg8 m c),
   (RDat.FramePost.arr_in h c 9 rfl).trans (Gen.V_main_arg9 m c),
   (RDat.FramePost.arr_in h c 10 rfl).trans (Gen.V_main_arg10 m c),
   ((h c).2 main_arg11 (Pipeline.mem_restRefs_of main_arg11 (by decide) (by decide))).trans (Gen.V_main_arg11 m c),
   ((h c).2 main_arg12 (Pipeline.mem_restRefs_of main_arg12 (by decide) (by decide))).trans (Gen.V_main_arg12 m c),
   ((h c).2 main_arg13 (Pipeline.mem_restRefs_of main_arg13 (by decide) (by decide))).trans (Gen.V_main_arg13 m c)⟩

/-- The plan that asks nothing. -/
def Plan.any : Plan (F := F) where
  Inv _ _ _ := True
  after _ _ _ _ _ := True

/-- The frame. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
    ∧ r.2.sem = fun _ => 0) :=
  (θ_run defs _ _).mono (fun _ h => ⟨fun c => kept h.1 c, h.2⟩)
    (run_main ρ (m := m) (P := Plan.any) ⟨fun _ _ => trivial, fun _ _ _ _ _ _ => ⟨trivial, fun _ => trivial⟩⟩)

end Cert.ReferenceIdeal.Body
-- ==== Proof.Rules.lean ====
/- Rules for what a program over buffers does (`Cmd.run`): a list of commands and a loop by an invariant, and the
   contents after a store, read at a position. -/
module

public import proofs.«01_k».proof.Proof.Cmd

@[expose] public section

noncomputable section

namespace Cert.Proof

open Idealize.ShloMosaic

/-- At a position the rectangle covers, a store leaves what was stored. -/
theorem put_at {s : Shape} {β : Type} (r : Rect s) (v : r.shape.Idx → β) (X : s.Idx → β) (p : s.Idx) (j : r.shape.Idx)
    (h : ∀ a, (p a).val = r.off a + r.stride a * (j a).val) : put r v X p = v j := by
  have e : r.emb j = p := funext fun a => Fin.ext (h a).symm
  rw [← e]; exact put_emb r v X j

/-- At any other it leaves what was there. -/
theorem put_miss {s : Shape} {β : Type} (r : Rect s) (v : r.shape.Idx → β) (X : s.Idx → β) (p : s.Idx)
    (h : ∀ j : r.shape.Idx, ¬ ∀ a, (p a).val = r.off a + r.stride a * (j a).val) : put r v X p = X p :=
  put_of_not r v X p fun j e => h j fun a => by rw [← e]; rfl

/-- The trips of a loop, by an invariant. -/
theorem iter_rule {α S : Type} {n : ℕ} (f : Fin n → α → S → α × S) (I : ℕ → α → S → Prop)
    (h : ∀ (k : Fin n) a s, I k.val a s → I (k.val + 1) (f k a s).1 (f k a s).2) :
    ∀ (l : List (Fin n)) (a0 : ℕ) (a : α) (s : S), l.map Fin.val = List.range' a0 l.length → I a0 a s →
      I (a0 + l.length) (Cmd.iter f l (a, s)).1 (Cmd.iter f l (a, s)).2
  | [], a0, a, s, _, hI => hI
  | k :: l, a0, a, s, hl, hI => by
    rw [List.map_cons, List.length_cons, List.range'_succ, List.cons.injEq] at hl
    have h1 := h k a s (by rw [hl.1]; exact hI)
    rw [hl.1] at h1
    have h2 := iter_rule f I h l (a0 + 1) _ _ hl.2 h1
    rw [List.length_cons, show a0 + (l.length + 1) = a0 + 1 + l.length by omega]
    exact h2

theorem iter_all {α S : Type} {n : ℕ} (f : Fin n → α → S → α × S) (I : ℕ → α → S → Prop)
    (h : ∀ (k : Fin n) a s, I k.val a s → I (k.val + 1) (f k a s).1 (f k a s).2) (a : α) (s : S) (hI : I 0 a s) :
    I n (Cmd.iter f (List.finRange n) (a, s)).1 (Cmd.iter f (List.finRange n) (a, s)).2 := by
  have e := iter_rule f I h (List.finRange n) 0 a s (by
    rw [List.length_finRange, List.map_coe_finRange_eq_range, List.range_eq_range']) hI
  rw [List.length_finRange, Nat.zero_add] at e
  exact e

end Cert.Proof

end
-- ==== Proof.Scalars.lean ====
/- The functions of one extended real that the two programs write differently: the exponential to base 2, the softplus
   and the logistic function. -/
module

public import Idealize.ShloMosaic.PureOps.Ideal
public import Idealize.ShloMosaic.PureOps.IdealRules

@[expose] public section

noncomputable section

namespace Cert.Proof

open Idealize.ShloMosaic

/-- `2 ^ (x / log 2) = e ^ x`. -/
theorem exp2_log2e (x : EReal) : Ideal.exp2 (x * (((Real.log 2)⁻¹ : ℝ) : EReal)) = Ideal.exp x := by
  have hpos : (0 : ℝ) < (Real.log 2)⁻¹ := inv_pos.2 (Real.log_pos (by norm_num))
  induction x using EReal.rec with
  | bot => rw [EReal.bot_mul_coe_of_pos hpos]; rfl
  | top => rw [EReal.top_mul_coe_of_pos hpos]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    have : Real.log 2 ≠ 0 := (Real.log_pos (by norm_num)).ne'
    field_simp

/-- The factor `log2 e` may stand anywhere in the product. -/
theorem exp2_mul (x y : EReal) : Ideal.exp2 (x * (y * (((Real.log 2)⁻¹ : ℝ) : EReal))) = Ideal.exp (x * y) := by
  rw [← mul_assoc, exp2_log2e]

end Cert.Proof

end
-- ==== Proof.Layout.lean ====
/- How the kernel's scratch buffers are laid out — a step's eight sublanes of a slab 260 rows apart, the states of a step
   nine rows apart, and so on — as facts about a buffer's contents, with what a load reads and a store leaves. -/
module

public import proofs.«01_k».proof.Proof.Rules
public import proofs.«01_k».proof.Proof.Scalars
public import proofs.«01_k».proof.Proof.BodyIdeal
public import Idealize.ShloMosaic.Lib.Pointwise

@[expose] public section

set_option maxRecDepth 65536

noncomputable section

namespace Cert.KernelIdeal.Val

open Idealize.ShloMosaic Idealize.SL.Sem Cert.Proof Cert.KernelIdeal Cert.KernelIdeal.Gen Cert.KernelIdeal.Body

/-! ## Lists of commands -/

section Lists
variable (M : ∀ b : Bf, Memref sig .tc .vmem (shp b) (elt b))
abbrev S : Type := Cmd.St (Elt Ideal) shp elt

/-- A list of commands by an invariant, each command's result known. -/
theorem mapL_rule {N : ℕ} {α : Type} (f : Fin N → C (F := Ideal) M α) (g : Fin N → α) (I : ℕ → S → Prop)
    (h : ∀ (i : Fin N) σ, I i.val σ → ((f i).run σ).1 = g i ∧ I (i.val + 1) ((f i).run σ).2) :
    ∀ (l : List (Fin N)) (a : ℕ) (σ : S), l.map Fin.val = List.range' a l.length → I a σ →
      ((mapL M f l).run σ).1 = l.map g ∧ I (a + l.length) ((mapL M f l).run σ).2
  | [], a, σ, _, hI => ⟨rfl, hI⟩
  | k :: l, a, σ, hl, hI => by
    rw [List.map_cons, List.length_cons, List.range'_succ, List.cons.injEq] at hl
    have h1 := h k σ (by rw [hl.1]; exact hI)
    rw [hl.1] at h1
    have h2 := mapL_rule f g I h l (a + 1) _ hl.2 h1.2
    refine ⟨?_, ?_⟩
    · show ((f k).run σ).1 :: ((mapL M f l).run ((f k).run σ).2).1 = _
      rw [h1.1, h2.1, List.map_cons]
    · rw [List.length_cons, show a + (l.length + 1) = a + 1 + l.length by omega]
      exact h2.2

/-- An accumulator threaded through a list of commands, by an invariant. -/
theorem foldL_rule {N : ℕ} {α : Type} (f : Fin N → α → C (F := Ideal) M α) (I : ℕ → α → S → Prop)
    (h : ∀ (i : Fin N) a σ, I i.val a σ → I (i.val + 1) ((f i a).run σ).1 ((f i a).run σ).2) :
    ∀ (l : List (Fin N)) (a0 : ℕ) (a : α) (σ : S), l.map Fin.val = List.range' a0 l.length → I a0 a σ →
      I (a0 + l.length) ((foldL M f l a).run σ).1 ((foldL M f l a).run σ).2
  | [], a0, a, σ, _, hI => hI
  | k :: l, a0, a, σ, hl, hI => by
    rw [List.map_cons, List.length_cons, List.range'_succ, List.cons.injEq] at hl
    have h1 := h k a σ (by rw [hl.1]; exact hI)
    rw [hl.1] at h1
    have h2 := foldL_rule f I h l (a0 + 1) _ _ hl.2 h1
    rw [List.length_cons, show a0 + (l.length + 1) = a0 + 1 + l.length by omega]
    exact h2

end Lists

/-! ## Tiles -/

/-- The channel, within a block of 1024, of a tile's element. -/
abbrev dl (j : S8x128.Idx) : ℕ := 128 * (j 0).val + (j 1).val

/-- The tile of a function of the channel. -/
def tile (f : ℕ → EReal) : V Ideal := fun j => f (dl j)

theorem st8_eq (v : V Ideal) : st8 v = v := shapeCast_id v _

theorem nth_map {β : Type} (g : Fin 16 → β) (n : ℕ) (h : n < 16) (d : β) : nth (L16.map g) n d = g ⟨n, h⟩ := by
  interval_cases n <;> rfl

theorem sum1_map (g : Fin 16 → V Ideal) : sum1 (L16.map g) = fun j => ∑ n : Fin 16, g n j := by
  funext j
  simp only [Fin.sum_univ_succ, Fin.sum_univ_zero, add_zero]
  show g 0 j + g 1 j + g 2 j + g 3 j + g 4 j + g 5 j + g 6 j + g 7 j + g 8 j + g 9 j + g 10 j + g 11 j + g 12 j + g 13 j + g 14 j
    + g 15 j = g 0 j + (g 1 j + (g 2 j + (g 3 j + (g 4 j + (g 5 j + (g 6 j + (g 7 j + (g 8 j + (g 9 j + (g 10 j + (g 11 j + (g 12 j
    + (g 13 j + (g 14 j + g 15 j))))))))))))))
  simp only [add_assoc]

/-- The index of a tile. -/
abbrev ixT {a b : ℕ} (i j : ℕ) (hi : i < a) (hj : j < b) : (⟨2, ![a, b]⟩ : Shape).Idx := ix2 ⟨i, hi⟩ ⟨j, hj⟩

/-! ## Slabs: step `t`, sublane `k` in row `260 k + t` -/

def Slab (X : S2080x128.Idx → EReal) (f : ℕ → ℕ → EReal) (P : ℕ → Prop) : Prop :=
  ∀ (p : S2080x128.Idx) (k t : ℕ), (p 0).val = 260 * k + t → t < 256 → P t → X p = f t (128 * k + (p 1).val)

theorem Slab.load {X f P} (h : Slab X f P) (off : Fin 2 → ℕ) (inb) (t : ℕ) (ho : off = ![t, 0]) (ht : t < 256) (hP : P t) :
    (fun j : S8x128.Idx => X ((⟨off, S8x128.size, ![260, 1], inb⟩ : LoadRect S2080x128).idx j)) = tile (f t) := by
  subst ho
  funext j
  refine (h _ (j 0).val t ?_ ht hP).trans ?_
  · show t + 260 * (j 0).val = _; omega
  · show f t (128 * (j 0).val + (0 + 1 * (j 1).val)) = f t (128 * (j 0).val + (j 1).val)
    rw [Nat.zero_add, Nat.one_mul]

theorem Slab.store {X f P} (h : Slab X f P) (off : Fin 2 → ℕ) (inb) (sp) (t : ℕ) (ho : off = ![t, 0]) (ht : t < 256)
    (v : V Ideal) (hv : v = tile (f t)) (Q : ℕ → Prop) (hQ : ∀ s, Q s → P s ∨ s = t) :
    Slab (put (⟨⟨off, S8x128.size, ![260, 1], inb⟩, sp⟩ : Rect S2080x128) v X) f Q := by
  subst ho hv
  intro p k s hp hs hq
  have h0 : (p 0).val < 2080 := (p 0).isLt
  have h1 : (p 1).val < 128 := (p 1).isLt
  by_cases e : s = t
  · subst e
    exact put_at (⟨⟨![s, 0], S8x128.size, ![260, 1], inb⟩, sp⟩ : Rect S2080x128) _ _ p (ixT k (p 1).val (by omega) h1) (Fin.forall_fin_two.2
      ⟨by show (p 0).val = s + 260 * k; omega, by show (p 1).val = 0 + 1 * (p 1).val; omega⟩)
  · rw [put_miss _ _ _ p (fun j hj => by
      have := hj 0
      change (p 0).val = t + 260 * (j 0).val at this
      omega)]
    exact h p k s hp hs ((hQ s hq).resolve_right e)

/-- One row of one sublane. -/
theorem Slab.row {X f P} (h : Slab X f P) (off : Fin 2 → ℕ) (inb) (t k : ℕ) (ho : off = ![260 * k + t, 0]) (ht : t < 256) (hP : P t) :
    (fun j : S1x128.Idx => X ((Rect.unit (s := S2080x128) off S1x128.size inb).toLoadRect.idx j)) = fun j => f t (128 * k + (j 1).val) := by
  subst ho
  funext j
  have j0 : (j 0).val < 1 := (j 0).isLt
  refine (h _ k t ?_ ht hP).trans ?_
  · show 260 * k + t + 1 * (j 0).val = _; omega
  · show f t (128 * k + (0 + 1 * (j 1).val)) = _
    rw [Nat.zero_add, Nat.one_mul]

/-- 32 steps of one sublane, -/
theorem Slab.load32 {X f P} (h : Slab X f P) (off : Fin 2 → ℕ) (inb) (t k : ℕ) (ho : off = ![260 * k + t, 0]) (ht : t + 32 ≤ 256)
    (hP : ∀ s, t ≤ s → s < t + 32 → P s) :
    (fun j : S32x128.Idx => X ((Rect.unit (s := S2080x128) off S32x128.size inb).toLoadRect.idx j))
      = fun j => f (t + (j 0).val) (128 * k + (j 1).val) := by
  subst ho
  funext j
  have j0 : (j 0).val < 32 := (j 0).isLt
  refine (h _ k (t + (j 0).val) ?_ (by omega) (hP _ (by omega) (by omega))).trans ?_
  · show 260 * k + t + 1 * (j 0).val = _; omega
  · show f _ (128 * k + (0 + 1 * (j 1).val)) = _
    rw [Nat.zero_add, Nat.one_mul]

/-! ## Rows: step `t`, state `n` in row `16 t + n` -/

def Rows (X : S4096x128.Idx → EReal) (f : ℕ → ℕ → ℕ → EReal) (P : ℕ → ℕ → Prop) : Prop :=
  ∀ (p : S4096x128.Idx) (t n : ℕ), (p 0).val = 16 * t + n → n < 16 → P t n → X p = f t n (p 1).val

theorem Rows.row {X f P} (h : Rows X f P) (off : Fin 2 → ℕ) (inb) (t n : ℕ) (ho : off = ![16 * t + n, 0]) (hn : n < 16) (hP : P t n) :
    (fun j : S1x128.Idx => X ((Rect.unit (s := S4096x128) off S1x128.size inb).toLoadRect.idx j)) = fun j => f t n (j 1).val := by
  subst ho
  funext j
  have j0 : (j 0).val < 1 := (j 0).isLt
  refine (h _ t n ?_ hn hP).trans ?_
  · show 16 * t + n + 1 * (j 0).val = _; omega
  · show f t n (0 + 1 * (j 1).val) = _
    rw [Nat.zero_add, Nat.one_mul]

/-- Eight states of a step -/
theorem Rows.load {X f P} (h : Rows X f P) (off : Fin 2 → ℕ) (inb) (t g : ℕ) (ho : off = ![16 * t + 8 * g, 0]) (hg : g < 2)
    (hP : ∀ n, 8 * g ≤ n → n < 8 * g + 8 → P t n) :
    (fun j : S8x128.Idx => X ((Rect.unit (s := S4096x128) off S8x128.size inb).toLoadRect.idx j))
      = fun j => f t (8 * g + (j 0).val) (j 1).val := by
  subst ho
  funext j
  have j0 : (j 0).val < 8 := (j 0).isLt
  refine (h _ t (8 * g + (j 0).val) ?_ (by omega) (hP _ (by omega) (by omega))).trans ?_
  · show 16 * t + 8 * g + 1 * (j 0).val = _; omega
  · show f _ _ (0 + 1 * (j 1).val) = _
    rw [Nat.zero_add, Nat.one_mul]

theorem Rows.store {X f P} (h : Rows X f P) (off : Fin 2 → ℕ) (inb) (t g : ℕ) (ho : off = ![16 * t + 8 * g, 0]) (hg : g < 2)
    (v : V Ideal) (hv : v = fun j => f t (8 * g + (j 0).val) (j 1).val) (Q : ℕ → ℕ → Prop)
    (hQ : ∀ s n, n < 16 → Q s n → P s n ∨ s = t ∧ 8 * g ≤ n ∧ n < 8 * g + 8) :
    Rows (put (Rect.unit (s := S4096x128) off S8x128.size inb) v X) f Q := by
  subst ho hv
  intro p s n hp hn hq
  have h1 : (p 1).val < 128 := (p 1).isLt
  by_cases e : s = t ∧ 8 * g ≤ n ∧ n < 8 * g + 8
  · obtain ⟨e, e1, e2⟩ := e
    subst e
    rw [put_at _ _ _ p (ixT (n - 8 * g) (p 1).val (by omega) h1) (Fin.forall_fin_two.2
      ⟨by show (p 0).val = 16 * s + 8 * g + 1 * (n - 8 * g); omega, by show (p 1).val = 0 + 1 * (p 1).val; omega⟩)]
    show f s (8 * g + (n - 8 * g)) (p 1).val = _
    rw [show 8 * g + (n - 8 * g) = n by omega]
  · rw [put_miss _ _ _ p (fun j hj => by
      have := hj 0
      change (p 0).val = 16 * t + 8 * g + 1 * (j 0).val at this
      have j0 : (j 0).val < 8 := (j 0).isLt
      apply e; omega)]
    exact h p s n hp hn ((hQ s n hn hq).resolve_right e)

/-- A store elsewhere -/
theorem Rows.keep {X f P} (h : Rows X f P) (off : Fin 2 → ℕ) (inb) (t g : ℕ) (ho : off = ![16 * t + 8 * g, 0]) (hg : g < 2)
    (v : V Ideal) (Q : ℕ → ℕ → Prop) (hQ : ∀ s n, n < 16 → Q s n → P s n ∧ ¬ (s = t ∧ 8 * g ≤ n ∧ n < 8 * g + 8)) :
    Rows (put (Rect.unit (s := S4096x128) off S8x128.size inb) v X) f Q := by
  subst ho
  intro p s n hp hn hq
  rw [put_miss _ _ _ p (fun j hj => by
      have := hj 0
      change (p 0).val = 16 * t + 8 * g + 1 * (j 0).val at this
      have j0 : (j 0).val < 8 := (j 0).isLt
      apply (hQ s n hn hq).2; omega)]
  exact h p s n hp hn (hQ s n hn hq).1

/-! ## States: step `t`, state `n`, sublane `k` in row `144 t + 9 n + k` -/

def Hs (X : S37008x128.Idx → EReal) (f : ℕ → ℕ → ℕ → EReal) (P : ℕ → ℕ → Prop) : Prop :=
  ∀ (p : S37008x128.Idx) (t n k : ℕ), (p 0).val = 144 * t + 9 * n + k → n < 16 → k < 8 → P t n → X p = f t n (128 * k + (p 1).val)

theorem Hs.load {X f P} (h : Hs X f P) (off : Fin 2 → ℕ) (inb) (t n : ℕ) (ho : off = ![144 * t + 9 * n, 0]) (hn : n < 16) (hP : P t n) :
    (fun j : S8x128.Idx => X ((Rect.unit (s := S37008x128) off S8x128.size inb).toLoadRect.idx j)) = tile (f t n) := by
  subst ho
  funext j
  have j0 : (j 0).val < 8 := (j 0).isLt
  refine (h _ t n (j 0).val ?_ hn j0 hP).trans ?_
  · show 144 * t + 9 * n + 1 * (j 0).val = _; omega
  · show f t n (128 * (j 0).val + (0 + 1 * (j 1).val)) = f t n (128 * (j 0).val + (j 1).val)
    rw [Nat.zero_add, Nat.one_mul]

/-- One sublane of eight states. -/
theorem Hs.col {X f P} (h : Hs X f P) (off : Fin 2 → ℕ) (inb) (t g k : ℕ) (ho : off = ![144 * t + 72 * g + k, 0]) (hg : g < 2) (hk : k < 8)
    (hP : ∀ n, n < 16 → P t n) :
    (fun j : S8x128.Idx => X ((⟨off, S8x128.size, ![9, 1], inb⟩ : LoadRect S37008x128).idx j))
      = fun j => f t (8 * g + (j 0).val) (128 * k + (j 1).val) := by
  subst ho
  funext j
  have j0 : (j 0).val < 8 := (j 0).isLt
  refine (h _ t (8 * g + (j 0).val) k ?_ (by omega) hk (hP _ (by omega))).trans ?_
  · show 144 * t + 72 * g + k + 9 * (j 0).val = _; omega
  · show f _ _ (128 * k + (0 + 1 * (j 1).val)) = _
    rw [Nat.zero_add, Nat.one_mul]

theorem Hs.store {X f P} (h : Hs X f P) (off : Fin 2 → ℕ) (inb) (t n : ℕ) (ho : off = ![144 * t + 9 * n, 0]) (hn : n < 16)
    (v : V Ideal) (hv : v = tile (f t n)) (Q : ℕ → ℕ → Prop) (hQ : ∀ s n', n' < 16 → Q s n' → P s n' ∨ s = t ∧ n' = n) :
    Hs (put (Rect.unit (s := S37008x128) off S8x128.size inb) v X) f Q := by
  subst ho hv
  intro p s n' k hp hn' hk hq
  have h1 : (p 1).val < 128 := (p 1).isLt
  by_cases e : s = t ∧ n' = n
  · obtain ⟨e, e1⟩ := e
    subst e e1
    exact put_at (Rect.unit (s := S37008x128) ![144 * s + 9 * n', 0] S8x128.size inb) _ _ p (ixT k (p 1).val hk h1) (Fin.forall_fin_two.2
      ⟨by show (p 0).val = 144 * s + 9 * n' + 1 * k; omega, by show (p 1).val = 0 + 1 * (p 1).val; omega⟩)
  · rw [put_miss _ _ _ p (fun j hj => by
      have := hj 0
      change (p 0).val = 144 * t + 9 * n + 1 * (j 0).val at this
      have j0 : (j 0).val < 8 := (j 0).isLt
      apply e; omega)]
    exact h p s n' k hp hn' hk ((hQ s n' hn' hq).resolve_right e)

/-! ## Decays: step `t`, state `n`, sublane `k` in row `128 t + 8 n + k` -/

def As (X : S32768x128.Idx → EReal) (f : ℕ → ℕ → ℕ → EReal) (P : ℕ → ℕ → Prop) : Prop :=
  ∀ (p : S32768x128.Idx) (t n k : ℕ), (p 0).val = 128 * t + 8 * n + k → n < 16 → k < 8 → P t n → X p = f t n (128 * k + (p 1).val)

theorem As.load {X f P} (h : As X f P) (off : Fin 2 → ℕ) (inb) (t n : ℕ) (ho : off = ![128 * t + 8 * n, 0]) (hn : n < 16) (hP : P t n) :
    (fun j : S8x128.Idx => X ((Rect.unit (s := S32768x128) off S8x128.size inb).toLoadRect.idx j)) = tile (f t n) := by
  subst ho
  funext j
  have j0 : (j 0).val < 8 := (j 0).isLt
  refine (h _ t n (j 0).val ?_ hn j0 hP).trans ?_
  · show 128 * t + 8 * n + 1 * (j 0).val = _; omega
  · show f t n (128 * (j 0).val + (0 + 1 * (j 1).val)) = f t n (128 * (j 0).val + (j 1).val)
    rw [Nat.zero_add, Nat.one_mul]

theorem As.store {X f P} (h : As X f P) (off : Fin 2 → ℕ) (inb) (t n : ℕ) (ho : off = ![128 * t + 8 * n, 0]) (hn : n < 16)
    (v : V Ideal) (hv : v = tile (f t n)) (Q : ℕ → ℕ → Prop) (hQ : ∀ s n', n' < 16 → Q s n' → P s n' ∨ s = t ∧ n' = n) :
    As (put (Rect.unit (s := S32768x128) off S8x128.size inb) v X) f Q := by
  subst ho hv
  intro p s n' k hp hn' hk hq
  have h1 : (p 1).val < 128 := (p 1).isLt
  by_cases e : s = t ∧ n' = n
  · obtain ⟨e, e1⟩ := e
    subst e e1
    exact put_at (Rect.unit (s := S32768x128) ![128 * s + 8 * n', 0] S8x128.size inb) _ _ p (ixT k (p 1).val hk h1) (Fin.forall_fin_two.2
      ⟨by show (p 0).val = 128 * s + 8 * n' + 1 * k; omega, by show (p 1).val = 0 + 1 * (p 1).val; omega⟩)
  · rw [put_miss _ _ _ p (fun j hj => by
      have := hj 0
      change (p 0).val = 128 * t + 8 * n + 1 * (j 0).val at this
      have j0 : (j 0).val < 8 := (j 0).isLt
      apply e; omega)]
    exact h p s n' k hp hn' hk ((hQ s n' hn' hq).resolve_right e)

/-! ## Products: unrolled step `i`, state `n`, sublane `k` in row `144 i + 9 n + k` -/

def Gs (X : S576x128.Idx → EReal) (f : ℕ → ℕ → ℕ → EReal) (P : ℕ → ℕ → Prop) : Prop :=
  ∀ (p : S576x128.Idx) (t n k : ℕ), (p 0).val = 144 * t + 9 * n + k → n < 16 → k < 8 → P t n → X p = f t n (128 * k + (p 1).val)

theorem Gs.col {X f P} (h : Gs X f P) (off : Fin 2 → ℕ) (inb) (t g k : ℕ) (ho : off = ![144 * t + 72 * g + k, 0]) (hg : g < 2) (hk : k < 8)
    (hP : ∀ n, n < 16 → P t n) :
    (fun j : S8x128.Idx => X ((⟨off, S8x128.size, ![9, 1], inb⟩ : LoadRect S576x128).idx j))
      = fun j => f t (8 * g + (j 0).val) (128 * k + (j 1).val) := by
  subst ho
  funext j
  have j0 : (j 0).val < 8 := (j 0).isLt
  refine (h _ t (8 * g + (j 0).val) k ?_ (by omega) hk (hP _ (by omega))).trans ?_
  · show 144 * t + 72 * g + k + 9 * (j 0).val = _; omega
  · show f _ _ (128 * k + (0 + 1 * (j 1).val)) = _
    rw [Nat.zero_add, Nat.one_mul]

theorem Gs.store {X f P} (h : Gs X f P) (off : Fin 2 → ℕ) (inb) (t n : ℕ) (ho : off = ![144 * t + 9 * n, 0]) (hn : n < 16)
    (v : V Ideal) (hv : v = tile (f t n)) (Q : ℕ → ℕ → Prop) (hQ : ∀ s n', n' < 16 → Q s n' → P s n' ∨ s = t ∧ n' = n) :
    Gs (put (Rect.unit (s := S576x128) off S8x128.size inb) v X) f Q := by
  subst ho hv
  intro p s n' k hp hn' hk hq
  have h1 : (p 1).val < 128 := (p 1).isLt
  by_cases e : s = t ∧ n' = n
  · obtain ⟨e, e1⟩ := e
    subst e e1
    exact put_at (Rect.unit (s := S576x128) ![144 * s + 9 * n', 0] S8x128.size inb) _ _ p (ixT k (p 1).val hk h1) (Fin.forall_fin_two.2
      ⟨by show (p 0).val = 144 * s + 9 * n' + 1 * k; omega, by show (p 1).val = 0 + 1 * (p 1).val; omega⟩)
  · rw [put_miss _ _ _ p (fun j hj => by
      have := hj 0
      change (p 0).val = 144 * t + 9 * n + 1 * (j 0).val at this
      have j0 : (j 0).val < 8 := (j 0).isLt
      apply e; omega)]
    exact h p s n' k hp hn' hk ((hQ s n' hn' hq).resolve_right e)

end Cert.KernelIdeal.Val

end
-- ==== Proof.Forward.lean ====
/- The forward loop: from the step sizes, the inputs and the first states of a chunk it leaves every state, every decay,
   the contributions to `y`, and adds each step's `Σ_k h gy` to the running sums for `dC`. -/
module

public import proofs.«01_k».proof.Proof.Layout

@[expose] public section

set_option maxRecDepth 65536

set_option backward.isDefEq.respectTransparency.types false

noncomputable section

namespace Cert.KernelIdeal.Val

open Idealize.ShloMosaic Idealize.SL.Sem Cert.Proof Cert.KernelIdeal Cert.KernelIdeal.Gen Cert.KernelIdeal.Body

/-- What one block of a chunk computes from: by step and channel, by step and state, by state and channel. -/
structure Pt where
  del : ℕ → ℕ → EReal
  u : ℕ → ℕ → EReal
  gy : ℕ → ℕ → EReal
  gz : ℕ → ℕ → EReal
  sdt : ℕ → ℕ → EReal
  bm : ℕ → ℕ → EReal
  cm : ℕ → ℕ → EReal
  A : ℕ → ℕ → EReal
  h0 : ℕ → ℕ → EReal
  adj0 : ℕ → ℕ → EReal
  D : ℕ → EReal

namespace Pt
variable (q : Pt)

/-- The decay -/
def a (t n d : ℕ) : EReal := Ideal.exp (q.del t d * q.A n d)
/-- and the state before step `t`. -/
def H : ℕ → ℕ → ℕ → EReal
  | 0, n, d => q.h0 n d
  | t + 1, n, d => q.a t n d * H t n d + q.del t d * q.u t d * q.bm t n
/-- `Σ_n c h`. -/
def Y (t d : ℕ) : EReal := ∑ n : Fin 16, q.cm t n * q.H (t + 1) n d
/-- One lane's `Σ h gy`. -/
def dc (t n l : ℕ) : EReal := ∑ k : Fin 8, q.H (t + 1) n (128 * k + l) * q.gy t (128 * k + l)

end Pt

variable (M : ∀ b : Bf, Memref sig .tc .vmem (shp b) (elt b)) (q : Pt) (σ0 : S)

/-- What the loops read. -/
structure Reads : Prop where
  del : Slab (σ0 .del) q.del fun _ => True
  u : Slab (σ0 .u) q.u fun _ => True
  gy : Slab (σ0 .gy) q.gy fun _ => True
  bb : Rows (σ0 .bb) (fun t n _ => q.bm t n) fun _ _ => True
  cb : Rows (σ0 .cb) (fun t n _ => q.cm t n) fun _ _ => True
  a : ∀ p : S16x1x8x128.Idx, σ0 .a p = q.A (p 0).val (128 * (p 2).val + (p 3).val)

/-- Between the rows of the forward loop: `t` steps done, and of the next `n` states and `w` rows of its sums. -/
structure FI (old : ℕ → ℕ → ℕ → EReal) (t n w : ℕ) (σ : S) : Prop where
  fr : ∀ b, b ≠ .aS → b ≠ .hS → b ≠ .y → b ≠ .dcacc → σ b = σ0 b
  aS : As (σ .aS) q.a fun t' n' => t' < t ∨ t' = t ∧ n' < n
  hS : Hs (σ .hS) q.H fun t' n' => t' ≤ t ∨ t' = t + 1 ∧ n' < n
  y : Slab (σ .y) q.Y fun t' => t' < t
  dc : Rows (σ .dcacc) (fun t n l => old t n l + q.dc t n l) fun t' n' => t' < t ∨ t' = t ∧ n' < w
  od : Rows (σ .dcacc) old fun t' n' => t < t' ∨ t' = t ∧ w ≤ n'

theorem aOf_tile (f g : ℕ → EReal) (av : FVec Ideal S1x1x8x128 .f32)
    (hav : ∀ j : S1x1x8x128.Idx, av j = g (128 * (j 2).val + (j 3).val)) :
    aOf (tile f) av = tile fun d => Ideal.exp (f d * g d) := by
  funext j
  have e : Named.named (F := Ideal) κ "log2e" (φ := .f32) 0x3FB8AA3B#32 = (((Real.log 2)⁻¹ : ℝ) : EReal) :=
    IdealRules.named_const.ideal_named_scalar _ _ _ _ rfl
  show Ideal.exp2 (tile f j * (shapeCast S8x128 av shapeCasts_S1x1x8x128_S8x128 j * Named.named (F := Ideal) κ "log2e" (φ := .f32) 0x3FB8AA3B#32)) = _
  rw [e, exp2_mul]
  have e2 : shapeCast S8x128 av shapeCasts_S1x1x8x128_S8x128 j = g (dl j) := by
    pointwise
    rw [hav]; rfl
  rw [e2]; rfl

theorem bc8_row (x : EReal) (v : FVec Ideal S1x128 .f32) (h : v = fun _ => x) : bc8 v = fun _ => x := by
  subst h; rfl

theorem bc8_lane (f : ℕ → EReal) (v : FVec Ideal S1x128 .f32) (h : v = fun j => f (j 1).val) : bc8 v = fun j => f (j 1).val := by
  subst h; funext j; pointwise

theorem fwdRow_run (t : Fin k0_t3_loop.trips) (j : Fin 4) (n : Fin 16) (δ bu a h' : V Ideal) (h : ℕ → V Ideal) (σ : S) (av : FVec Ideal S1x1x8x128 .f32)
    (bv cv : FVec Ideal S1x128 .f32)
    (e1 : (fun p : S1x1x8x128.Idx => σ .a ((rA n).toLoadRect.idx p)) = av)
    (e2 : (fun p : S1x128.Idx => σ .bb ((r20 t j n).toLoadRect.idx p)) = bv)
    (e3 : (fun p : S1x128.Idx => σ .cb ((r20 t j n).toLoadRect.idx p)) = cv) (ea : aOf δ av = a)
    (eh : addf (mulf (aOf δ av) (h n.val)) (mulf bu (bc8 bv)) = h') :
    (fwdRow M t j δ bu h n).run σ = ((h', mulf (bc8 cv) h'),
      Function.update (Function.update σ .aS (put (r21 t j n) (st8 a) (σ .aS))) .hS (put (r22 t j n) (st8 h') (σ .hS))) := by
  subst e1 e2 e3 ea eh
  rfl

theorem fwdRow_spec {old : ℕ → ℕ → ℕ → EReal} (hR : Reads q σ0) (t : Fin k0_t3_loop.trips) (j : Fin 4) (n : Fin 16)
    (ht : 4 * t.val + j.val < 256) (h : ℕ → V Ideal) (hh : h n.val = tile (q.H (4 * t.val + j.val) n.val)) (σ : S)
    (hI : FI q σ0 old (4 * t.val + j.val) n.val 0 σ) :
    ((fwdRow M t j (tile (q.del (4 * t.val + j.val))) (tile fun d => q.del (4 * t.val + j.val) d * q.u (4 * t.val + j.val) d) h n).run σ).1
        = (tile (q.H (4 * t.val + j.val + 1) n.val), tile fun d => q.cm (4 * t.val + j.val) n.val * q.H (4 * t.val + j.val + 1) n.val d)
      ∧ FI q σ0 old (4 * t.val + j.val) (n.val + 1) 0
          ((fwdRow M t j (tile (q.del (4 * t.val + j.val))) (tile fun d => q.del (4 * t.val + j.val) d * q.u (4 * t.val + j.val) d) h n).run σ).2 := by
  set τ := 4 * t.val + j.val with hτ
  have hn := n.isLt
  have e1 : ∀ p : S1x1x8x128.Idx, σ .a ((rA n).toLoadRect.idx p) = q.A n.val (128 * (p 2).val + (p 3).val) := fun p => by
    have p0 : (p 0).val < 1 := (p 0).isLt
    rw [hI.fr .a (by decide) (by decide) (by decide) (by decide), hR.a]
    show q.A (n.val + 1 * (p 0).val) (128 * (0 + 1 * (p 2).val) + (0 + 1 * (p 3).val)) = _
    rw [show n.val + 1 * (p 0).val = n.val by omega]; simp only [Nat.zero_add, Nat.one_mul]
  have e2 : (fun p : S1x128.Idx => σ .bb ((r20 t j n).toLoadRect.idx p)) = fun _ => q.bm τ n.val := by
    rw [hI.fr .bb (by decide) (by decide) (by decide) (by decide)]
    exact hR.bb.row _ _ τ n.val (by rw [k0_off20_eq]; congr 1; omega) hn trivial
  have e3 : (fun p : S1x128.Idx => σ .cb ((r20 t j n).toLoadRect.idx p)) = fun _ => q.cm τ n.val := by
    rw [hI.fr .cb (by decide) (by decide) (by decide) (by decide)]
    exact hR.cb.row _ _ τ n.val (by rw [k0_off20_eq]; congr 1; omega) hn trivial
  have ea : aOf (F := Ideal) (tile (q.del τ)) (fun p => q.A n.val (128 * (p 2).val + (p 3).val)) = tile (q.a τ n.val) :=
    aOf_tile _ (q.A n.val) _ fun p => rfl
  rw [fwdRow_run M t j n _ _ (tile (q.a τ n.val)) (tile (q.H (τ + 1) n.val)) h σ _ _ _ (funext e1) e2 e3 ea
    (by rw [ea, hh, bc8_row (q.bm τ n.val) _ rfl]; rfl), bc8_row (q.cm τ n.val) _ rfl, st8_eq, st8_eq]
  refine ⟨rfl, ?_, ?_, ?_, ?_, ?_, ?_⟩
  · intro b h1 h2 h3 h4
    exact (Function.update_of_ne h2 _ _).trans ((Function.update_of_ne h1 _ _).trans (hI.fr b h1 h2 h3 h4))
  · simp only [Function.update_self, Function.update_of_ne, ne_eq, reduceCtorEq, not_false_eq_true]
    exact hI.aS.store _ _ τ n.val (by rw [k0_off21_eq]; congr 1; omega) hn _ rfl _ (fun s n' h1 h2 => by omega)
  · simp only [Function.update_self, Function.update_of_ne, ne_eq, reduceCtorEq, not_false_eq_true]
    exact hI.hS.store _ _ (τ + 1) n.val (by rw [k0_off22_eq]; congr 1; omega) hn _ rfl _ (fun s n' h1 h2 => by omega)
  · simp only [Function.update_of_ne, ne_eq, reduceCtorEq, not_false_eq_true]
    exact hI.y
  · simp only [Function.update_of_ne, ne_eq, reduceCtorEq, not_false_eq_true]
    exact hI.dc
  · simp only [Function.update_of_ne, ne_eq, reduceCtorEq, not_false_eq_true]
    exact hI.od

/-- One sublane of a step's sums. -/
def dcStep (t : Fin k0_t3_loop.trips) (j : Fin 4) (g : Fin 2) (k : Fin 8) (acc : V Ideal) : C (F := Ideal) M (V Ideal) :=
  .load .hS (r24 t j g k) h_S8x128 fun hk => .load .gy (r25 t j k).toLoadRect h_S1x128 fun gyr => .ret (addf acc (mulf hk (bc8 gyr)))

theorem dcStep_run (t : Fin k0_t3_loop.trips) (j : Fin 4) (g : Fin 2) (k : Fin 8) (acc : V Ideal) (σ : S) (hk : V Ideal)
    (gr : FVec Ideal S1x128 .f32) (e1 : (fun p : S8x128.Idx => σ .hS ((r24 t j g k).idx p)) = hk)
    (e2 : (fun p : S1x128.Idx => σ .gy ((r25 t j k).toLoadRect.idx p)) = gr) :
    (dcStep M t j g k acc).run σ = (addf acc (mulf hk (bc8 gr)), σ) := by
  subst e1 e2; rfl

theorem fwdDc_run (t : Fin k0_t3_loop.trips) (j : Fin 4) (g : Fin 2) (σ σ' : S) (acc0 acc : V Ideal)
    (e0 : (fun p : S8x128.Idx => σ .dcacc ((r23 t j g).toLoadRect.idx p)) = acc0)
    (e1 : ((foldL M (dcStep M t j g) L8 acc0).run σ).1 = acc) (e2 : ((foldL M (dcStep M t j g) L8 acc0).run σ).2 = σ') :
    ((fwdDc M t j g).run σ).2 = Function.update σ' .dcacc (put (r23 t j g) (st8 acc) (σ' .dcacc)) := by
  subst e0 e1 e2
  rfl

theorem fwdDc_spec {old : ℕ → ℕ → ℕ → EReal} (hR : Reads q σ0) (t : Fin k0_t3_loop.trips) (j : Fin 4) (g : Fin 2)
    (ht : 4 * t.val + j.val < 256) (σ : S) (hI : FI q σ0 old (4 * t.val + j.val) 16 (8 * g.val) σ) :
    FI q σ0 old (4 * t.val + j.val) 16 (8 * (g.val + 1)) ((fwdDc M t j g).run σ).2 := by
  set τ := 4 * t.val + j.val with hτ
  have hg := g.isLt
  have e0 : (fun p => σ .dcacc ((r23 t j g).toLoadRect.idx p)) = fun p : S8x128.Idx => old τ (8 * g.val + (p 0).val) (p 1).val :=
    hI.od.load _ _ τ g.val (by rw [k0_off23_eq]; congr 1; omega) hg (fun n h1 h2 => by omega)
  have hf := foldL_rule M (dcStep M t j g)
    (fun k acc s => s = σ ∧ acc = fun p : S8x128.Idx => old τ (8 * g.val + (p 0).val) (p 1).val
      + ∑ i ∈ Finset.range k, q.H (τ + 1) (8 * g.val + (p 0).val) (128 * i + (p 1).val) * q.gy τ (128 * i + (p 1).val))
    (by
      rintro k acc s ⟨rfl, hacc⟩
      have e1 : (fun p : S8x128.Idx => s .hS ((r24 t j g k).idx p))
          = fun p => q.H (τ + 1) (8 * g.val + (p 0).val) (128 * k.val + (p 1).val) :=
        hI.hS.col _ _ (τ + 1) g.val k.val (by rw [k0_off24_eq]; congr 1; omega) hg k.isLt (fun n h => by omega)
      have e2 : (fun p : S1x128.Idx => s .gy ((r25 t j k).toLoadRect.idx p)) = fun p => q.gy τ (128 * k.val + (p 1).val) := by
        rw [hI.fr .gy (by decide) (by decide) (by decide) (by decide)]
        exact hR.gy.row _ _ τ k.val (by rw [k0_off25_eq]; congr 1; omega) ht trivial
      rw [dcStep_run M t j g k acc s _ _ e1 e2, bc8_lane (fun l => q.gy τ (128 * k.val + l)) _ rfl, hacc]
      refine ⟨rfl, ?_⟩
      funext p
      rw [Finset.sum_range_succ, ← add_assoc]; rfl)
    L8 0 _ σ rfl ⟨rfl, rfl⟩
  rw [fwdDc_run M t j g σ σ _ _ (e0.trans (funext fun p => by rw [Finset.sum_range_zero, add_zero])) hf.2 hf.1, st8_eq]
  have hs : ∀ p : S8x128.Idx, old τ (8 * g.val + (p 0).val) (p 1).val
      + ∑ i ∈ Finset.range (0 + L8.length), q.H (τ + 1) (8 * g.val + (p 0).val) (128 * i + (p 1).val) * q.gy τ (128 * i + (p 1).val)
      = old τ (8 * g.val + (p 0).val) (p 1).val + q.dc τ (8 * g.val + (p 0).val) (p 1).val := fun p => by
    rw [show 0 + L8.length = 8 from rfl, Finset.sum_range]; rfl
  refine ⟨?_, ?_, ?_, ?_, ?_, ?_⟩
  · intro b h1 h2 h3 h4
    rw [Function.update_of_ne h4]
    exact hI.fr b h1 h2 h3 h4
  · simp only [Function.update_of_ne, ne_eq, reduceCtorEq, not_false_eq_true]
    exact hI.aS
  · simp only [Function.update_of_ne, ne_eq, reduceCtorEq, not_false_eq_true]
    exact hI.hS
  · simp only [Function.update_of_ne, ne_eq, reduceCtorEq, not_false_eq_true]
    exact hI.y
  · simp only [Function.update_self]
    exact hI.dc.store _ _ τ g.val (by rw [k0_off23_eq]; congr 1; omega) hg _ (funext hs) _ (fun s n h1 h2 => by omega)
  · simp only [Function.update_self]
    exact hI.od.keep _ _ τ g.val (by rw [k0_off23_eq]; congr 1; omega) hg _ _ (fun s n h1 h2 => by omega)

theorem fwdDc_y (t : Fin k0_t3_loop.trips) (j : Fin 4) (g : Fin 2) (σ : S) : ((fwdDc M t j g).run σ).2 .y = σ .y := by
  have hf := foldL_rule M (dcStep M t j g) (fun k acc s' => s' = σ) (by rintro k acc s' rfl; rfl) L8 0
    (fun p : S8x128.Idx => σ .dcacc ((r23 t j g).toLoadRect.idx p)) σ rfl rfl
  rw [fwdDc_run M t j g σ σ _ _ rfl rfl hf, Function.update_of_ne (by decide)]

theorem FI.setY {old : ℕ → ℕ → ℕ → EReal} {τ n w : ℕ} {σ1 : S} (hI1 : FI q σ0 old τ n w σ1) (Z : S2080x128.Idx → EReal)
    (hy : Slab Z q.Y fun t' => t' < τ + 1) : FI q σ0 old τ n w (Function.update σ1 .y Z) := by
  refine ⟨?_, ?_, ?_, ?_, ?_, ?_⟩
  · intro b h1 h2 h3 h4
    rw [Function.update_of_ne h3]
    exact hI1.fr b h1 h2 h3 h4
  · rw [Function.update_of_ne (by decide)]
    exact hI1.aS
  · rw [Function.update_of_ne (by decide)]
    exact hI1.hS
  · rw [Function.update_self]
    exact fun p k s a b c => hy p k s a b (by omega)
  · rw [Function.update_of_ne (by decide)]
    exact hI1.dc
  · rw [Function.update_of_ne (by decide)]
    exact hI1.od

attribute [local irreducible] mapL fwdRow fwdDc nth sum1 put in
theorem fwdStep_run (t : Fin k0_t3_loop.trips) (j : Fin 4) (s : (ℕ → V Ideal) × V Ideal) (σ σ1 : S) (δ u g : V Ideal) (rs : List (V Ideal × V Ideal))
    (ed : (fun p : S8x128.Idx => σ .del ((r19 t j).idx p)) = δ) (eu : (fun p : S8x128.Idx => σ .u ((r19 t j).idx p)) = u)
    (eg : (fun p : S8x128.Idx => σ .gy ((r19 t j).idx p)) = g)
    (er1 : ((mapL M (fwdRow M t j δ (mulf δ u) s.1) L16).run σ).1 = rs) (er2 : ((mapL M (fwdRow M t j δ (mulf δ u) s.1) L16).run σ).2 = σ1) :
    (fwdStep M t j s).run σ = ((fun n => nth (rs.map Prod.fst) n (s.1 n), addf s.2 (mulf g u)),
      ((mapL M (fwdDc M t j) L2).run (Function.update σ1 .y (put ⟨r19 t j, spos_260_1⟩ (st8 (sum1 (rs.map Prod.snd))) (σ1 .y)))).2) := by
  subst ed eu eg er1 er2
  rfl

/-- Between the trips of the forward loop. -/
structure FL (old : ℕ → ℕ → ℕ → EReal) (dd0 : ℕ → EReal) (i : ℕ) (p : (ℕ → V Ideal) × V Ideal) (s : S) : Prop where
  h : ∀ n, n < 16 → p.1 n = tile (q.H i n)
  d : p.2 = tile fun d => dd0 d + ∑ k ∈ Finset.range i, q.gy k d * q.u k d
  I : FI q σ0 old i 0 0 s

theorem fwdStep_spec {old : ℕ → ℕ → ℕ → EReal} (hR : Reads q σ0) (dd0 : ℕ → EReal) (t : Fin k0_t3_loop.trips) (j : Fin 4)
    (ht : 4 * t.val + j.val < 256) (s : (ℕ → V Ideal) × V Ideal) (σ : S)
    (hL : FL q σ0 old dd0 (4 * t.val + j.val) s σ) :
    FL q σ0 old dd0 (4 * t.val + j.val + 1) ((fwdStep M t j s).run σ).1 ((fwdStep M t j s).run σ).2 := by
  obtain ⟨hs, hd, hI⟩ := hL
  set τ := 4 * t.val + j.val with hτ
  have off : k0_off19 t (BitVec.ofNat 32 j.val) = ![τ, 0] := k0_off19_eq t j
  have ed : (fun p => σ .del ((r19 t j).idx p)) = tile (q.del τ) := by
    rw [hI.fr .del (by decide) (by decide) (by decide) (by decide)]
    exact hR.del.load _ _ τ off ht trivial
  have eu : (fun p => σ .u ((r19 t j).idx p)) = tile (q.u τ) := by
    rw [hI.fr .u (by decide) (by decide) (by decide) (by decide)]
    exact hR.u.load _ _ τ off ht trivial
  have eg : (fun p => σ .gy ((r19 t j).idx p)) = tile (q.gy τ) := by
    rw [hI.fr .gy (by decide) (by decide) (by decide) (by decide)]
    exact hR.gy.load _ _ τ off ht trivial
  have ebu : mulf (tile (q.del τ)) (tile (q.u τ)) = tile fun d => q.del τ d * q.u τ d := rfl
  have hm := mapL_rule M (fwdRow M t j (tile (q.del τ)) (tile fun d => q.del τ d * q.u τ d) s.1)
    (fun n => (tile (q.H (τ + 1) n.val), tile fun d => q.cm τ n.val * q.H (τ + 1) n.val d))
    (fun n σ => FI q σ0 old τ n 0 σ)
    (fun n σ h => fwdRow_spec M q σ0 hR t j n ht s.1 (hs n.val n.isLt) σ h) L16 0 σ rfl hI
  generalize hm1 : ((mapL M (fwdRow M t j (tile (q.del τ)) (tile fun d => q.del τ d * q.u τ d) s.1) L16).run σ).2 = σ1 at hm
  rw [fwdStep_run M t j s σ σ1 _ _ _ _ ed eu eg hm.1 hm1, st8_eq]
  have hI1 : FI q σ0 old τ 16 0 σ1 := hm.2
  have ey : sum1 ((L16.map fun n : Fin 16 => (tile (q.H (τ + 1) n.val), tile fun d => q.cm τ n.val * q.H (τ + 1) n.val d)).map Prod.snd)
      = tile (q.Y τ) := by
    rw [List.map_map, sum1_map]; rfl
  rw [ey, List.map_map]
  have hy := hI1.y.store _ (k0_off19_inb t j) spos_260_1 τ off ht (tile (q.Y τ)) rfl (fun t' => t' < τ + 1) (fun s h => by omega)
  have hI2 := hI1.setY q σ0 _ hy
  generalize hσ2 : Function.update σ1 .y (put ⟨r19 t j, spos_260_1⟩ (tile (q.Y τ)) (σ1 .y)) = σ2
  have hI2 : FI q σ0 old τ 16 0 σ2 := by rw [← hσ2]; exact hI2
  have hy2 : Slab (σ2 .y) q.Y fun t' => t' < τ + 1 := by
    rw [← hσ2, Function.update_self]; exact hy
  have hm2 := mapL_rule M (fwdDc M t j) (fun _ => ())
    (fun g s => FI q σ0 old τ 16 (8 * g) s ∧ Slab (s .y) q.Y fun t' => t' < τ + 1)
    (fun g s h => ⟨rfl, fwdDc_spec M q σ0 hR t j g ht s h.1, by
      rw [fwdDc_y]; exact h.2⟩) L2 0 σ2 rfl ⟨hI2, hy2⟩
  generalize ((mapL M (fwdDc M t j) L2).run σ2).2 = σ3 at hm2
  obtain ⟨-, hI3, hy3⟩ := hm2
  have hI3' : FI q σ0 old τ 16 16 σ3 := hI3
  refine ⟨?_, ?_, ?_⟩
  · intro n hn
    exact nth_map (fun n : Fin 16 => tile (q.H (τ + 1) n.val)) n hn _
  · rw [hd]; funext p
    show dd0 (dl p) + ∑ i ∈ Finset.range τ, q.gy i (dl p) * q.u i (dl p) + q.gy τ (dl p) * q.u τ (dl p) = dd0 (dl p) + ∑ i ∈ Finset.range (τ + 1), _
    rw [Finset.sum_range_succ, add_assoc]
  · refine ⟨hI3'.fr, ?_, ?_, hy3, ?_, ?_⟩
    · exact fun p t' n' k a b c d => hI3'.aS p t' n' k a b c (by omega)
    · exact fun p t' n' k a b c d => hI3'.hS p t' n' k a b c (by omega)
    · exact fun p t' n' a b c => hI3'.dc p t' n' a b (by omega)
    · exact fun p t' n' a b c => hI3'.od p t' n' a b (by omega)

theorem un17_mk17 (s : (ℕ → V Ideal) × V Ideal) : (∀ n, n < 16 → (un17 (mk17 s)).1 n = s.1 n) ∧ (un17 (mk17 s)).2 = s.2 :=
  ⟨fun n h => by interval_cases n <;> rfl, rfl⟩

theorem t3_run (t : Fin k0_t3_loop.trips) (p : Tup17 Ideal) (s : S) :
    (t3 M t p).run s = (mk17 ((foldL M (fwdStep M t) L4 (un17 p)).run s).1, ((foldL M (fwdStep M t) L4 (un17 p)).run s).2) := rfl

theorem FL.mk17 {old dd0 i p s} (h : FL q σ0 old dd0 i p s) : FL q σ0 old dd0 i (un17 (Body.mk17 p)) s :=
  ⟨fun n hn => ((un17_mk17 _).1 n hn).trans (h.h n hn), h.d, h.I⟩

attribute [local irreducible] fwdStep foldL un17 in
theorem t3_spec {old : ℕ → ℕ → ℕ → EReal} (hR : Reads q σ0) (dd0 : ℕ → EReal) (t : Fin k0_t3_loop.trips) (ht : t.val < 64) (p : Tup17 Ideal) (s : S)
    (h : FL q σ0 old dd0 (4 * t.val) (un17 p) s) : FL q σ0 old dd0 (4 * (t.val + 1)) (un17 ((t3 M t p).run s).1) ((t3 M t p).run s).2 := by
  have hf := foldL_rule M (fwdStep M t) (fun j p s => FL q σ0 old dd0 (4 * t.val + j) p s)
    (fun j p s hp => fwdStep_spec M q σ0 hR dd0 t j (by have := j.isLt; omega) p s hp) L4 0 (un17 p) s rfl h
  rw [t3_run]
  rw [show 4 * (t.val + 1) = 4 * t.val + (0 + L4.length) from rfl]
  exact FL.mk17 q σ0 hf

/-- The whole forward loop. -/
theorem fwd_loop {old : ℕ → ℕ → ℕ → EReal} (hR : Reads q σ0) (dd0 : ℕ → EReal) (p0 : (ℕ → V Ideal) × V Ideal)
    (hs : ∀ n, n < 16 → p0.1 n = tile (q.H 0 n)) (hd : p0.2 = tile dd0)
    (h0 : Hs (σ0 .hS) q.H fun t _ => t = 0) (ho : Rows (σ0 .dcacc) old fun _ _ => True) :
    FL q σ0 old dd0 256 (un17 ((Cmd.loop k0_t3_loop k0_t3_ok (mk17 p0) (t3 M)).run σ0).1)
      ((Cmd.loop k0_t3_loop k0_t3_ok (mk17 p0) (t3 M)).run σ0).2 := by
  have hk : k0_t3_loop.trips = 64 := by decide
  have h := iter_all (fun t a s => (t3 M t a).run s) (fun i p s => FL q σ0 old dd0 (4 * i) (un17 p) s)
    (fun t p s h => t3_spec M q σ0 hR dd0 t (by have := t.isLt; omega) p s h) (mk17 p0) σ0
    (FL.mk17 q σ0 ⟨hs, by
      rw [hd]; funext p; show dd0 _ = dd0 _ + ∑ i ∈ Finset.range 0, _; rw [Finset.sum_range_zero, add_zero],
      ⟨fun _ _ _ _ _ => rfl, fun p t n k a b c d => by omega, fun p t n k a b c d => h0 p t n k a b c (by omega),
        fun p k t a b c => by omega, fun p t n a b c => by omega, fun p t n a b c => ho p t n a b trivial⟩⟩)
  have e : 4 * k0_t3_loop.trips = 256 := by decide
  rw [← e]
  exact h

end Cert.KernelIdeal.Val

end
-- ==== Proof.Backward.lean ====
/- The backward loop: from the states, the decays and the adjoint of a chunk's last step it leaves `Σ_n gh b` and
   `Σ_n g_a h A` of every step, adds each step's `Σ_k gh delta u` to the running sums for `dB`, and carries the adjoint
   and the sums for `dA` along. -/
module

public import proofs.«01_k».proof.Proof.Forward

@[expose] public section

set_option maxRecDepth 65536

set_option backward.isDefEq.respectTransparency.types false

noncomputable section

namespace Cert.KernelIdeal.Val

open Idealize.ShloMosaic Idealize.SL.Sem Cert.Proof Cert.KernelIdeal Cert.KernelIdeal.Gen Cert.KernelIdeal.Body

namespace Pt
variable (q : Pt)

/-- The adjoint after `i` steps from the chunk's end. -/
def G : ℕ → ℕ → ℕ → EReal
  | 0, n, d => q.adj0 n d
  | i + 1, n, d => q.a (255 - i) n d * (q.gy (255 - i) d * q.cm (255 - i) n + G i n d)
/-- The gradient of the state after step `t`, -/
def gh (t n d : ℕ) : EReal := q.gy t d * q.cm t n + q.G (255 - t) n d
/-- and times the decay and the state before. -/
def gah (t n d : ℕ) : EReal := q.a t n d * q.gh t n d * q.H t n d
def ghb (t d : ℕ) : EReal := ∑ n : Fin 16, q.gh t n d * q.bm t n
def dds (t d : ℕ) : EReal := ∑ n : Fin 16, q.gah t n d * q.A n d
/-- One lane's `Σ gh delta u`. -/
def db (t n l : ℕ) : EReal := ∑ k : Fin 8, q.gh t n (128 * k + l) * (q.del t (128 * k + l) * q.u t (128 * k + l))

theorem G_succ (i n d : ℕ) (h : i ≤ 255) : q.G (i + 1) n d = q.a (255 - i) n d * q.gh (255 - i) n d := by
  rw [gh, show 255 - (255 - i) = i by omega]; rfl

end Pt

variable (M : ∀ b : Bf, Memref sig .tc .vmem (shp b) (elt b)) (q : Pt) (σ0 : S)

/-- What the backward loop reads. -/
structure Reads' : Prop extends Reads q σ0 where
  aS : As (σ0 .aS) q.a fun t _ => t < 256
  hS : Hs (σ0 .hS) q.H fun t _ => t < 256

/-- Between the rows of the backward loop: `i` steps done, and of the next `w` rows of its sums. -/
structure BI (old : ℕ → ℕ → ℕ → EReal) (i w : ℕ) (σ : S) : Prop where
  fr : ∀ b, b ≠ .ghS → b ≠ .ghb → b ≠ .ddS → b ≠ .dbacc → σ b = σ0 b
  ghb : Slab (σ .ghb) q.ghb fun t' => 256 ≤ t' + i
  dds : Slab (σ .ddS) q.dds fun t' => 256 ≤ t' + i
  db : Rows (σ .dbacc) (fun t n l => old t n l + q.db t n l) fun t' n' => 256 ≤ t' + i ∨ t' + i = 255 ∧ n' < w
  od : Rows (σ .dbacc) old fun t' n' => t' + i < 255 ∨ t' + i = 255 ∧ w ≤ n'

/-- The products of step `t`, kept in part `j`. -/
def GI (t j n : ℕ) (σ : S) : Prop := Gs (σ .ghS) (fun _ n d => q.gh t n d * (q.del t d * q.u t d)) fun s n' => s = j ∧ n' < n

theorem bwdRow_run (t : Fin k0_t4_loop.trips) (j : Fin 4) (n : Fin 16) (δ bu gy a hp gh : V Ideal) (adj da : ℕ → V Ideal) (σ : S)
    (av : FVec Ideal S1x1x8x128 .f32) (bv cv : FVec Ideal S1x128 .f32)
    (e1 : (fun p : S1x128.Idx => σ .bb ((r59 t j n).toLoadRect.idx p)) = bv)
    (e2 : (fun p : S1x128.Idx => σ .cb ((r59 t j n).toLoadRect.idx p)) = cv)
    (e3 : (fun p : S8x128.Idx => σ .aS ((r60 t j n).toLoadRect.idx p)) = a)
    (e4 : (fun p : S8x128.Idx => σ .hS ((r61 t j n).toLoadRect.idx p)) = hp)
    (e5 : (fun p : S1x1x8x128.Idx => σ .a ((rA n).toLoadRect.idx p)) = av)
    (eg : addf (mulf gy (bc8 cv)) (adj n.val) = gh) :
    (bwdRow M t j δ bu gy adj da n).run σ = (((mulf a gh, addf (da n.val) (mulf (mulf (mulf a gh) hp) δ)),
        (mulf (mulf (mulf a gh) hp) (shapeCast S8x128 av shapeCasts_S1x1x8x128_S8x128), mulf gh (bc8 bv))),
      Function.update σ .ghS (put (rG j n) (st8 (mulf gh bu)) (σ .ghS))) := by
  subst e1 e2 e3 e4 e5 eg
  rfl

theorem bwdRow_spec {old : ℕ → ℕ → ℕ → EReal} (hR : Reads' q σ0) (t : Fin k0_t4_loop.trips) (j : Fin 4) (n : Fin 16)
    (i τ : ℕ) (hi : i = 4 * t.val + j.val) (hτ : τ + i = 255) (adj da : ℕ → V Ideal) (da0 : ℕ → ℕ → EReal)
    (ha : adj n.val = tile (q.G i n.val))
    (hd : da n.val = tile (da0 n.val)) (σ : S) (hI : BI q σ0 old i 0 σ) (hG : GI q τ j.val n.val σ) :
    ((bwdRow M t j (tile (q.del τ)) (tile fun d => q.del τ d * q.u τ d) (tile (q.gy τ)) adj da n).run σ).1
        = ((tile (q.G (i + 1) n.val), tile fun d => da0 n.val d + q.gah τ n.val d * q.del τ d),
            (tile fun d => q.gah τ n.val d * q.A n.val d, tile fun d => q.gh τ n.val d * q.bm τ n.val))
      ∧ BI q σ0 old i 0 ((bwdRow M t j (tile (q.del τ)) (tile fun d => q.del τ d * q.u τ d) (tile (q.gy τ)) adj da n).run σ).2
      ∧ GI q τ j.val (n.val + 1) ((bwdRow M t j (tile (q.del τ)) (tile fun d => q.del τ d * q.u τ d) (tile (q.gy τ)) adj da n).run σ).2 := by
  have hn := n.isLt
  have e5 : ∀ p : S1x1x8x128.Idx, σ .a ((rA n).toLoadRect.idx p) = q.A n.val (128 * (p 2).val + (p 3).val) := fun p => by
    have p0 : (p 0).val < 1 := (p 0).isLt
    rw [hI.fr .a (by decide) (by decide) (by decide) (by decide), hR.a]
    show q.A (n.val + 1 * (p 0).val) (128 * (0 + 1 * (p 2).val) + (0 + 1 * (p 3).val)) = _
    rw [show n.val + 1 * (p 0).val = n.val by omega]; simp only [Nat.zero_add, Nat.one_mul]
  have e1 : (fun p : S1x128.Idx => σ .bb ((r59 t j n).toLoadRect.idx p)) = fun _ => q.bm τ n.val := by
    rw [hI.fr .bb (by decide) (by decide) (by decide) (by decide)]
    exact hR.bb.row _ _ τ n.val (by rw [k0_off59_eq]; congr 1; omega) hn trivial
  have e2 : (fun p : S1x128.Idx => σ .cb ((r59 t j n).toLoadRect.idx p)) = fun _ => q.cm τ n.val := by
    rw [hI.fr .cb (by decide) (by decide) (by decide) (by decide)]
    exact hR.cb.row _ _ τ n.val (by rw [k0_off59_eq]; congr 1; omega) hn trivial
  have e3 : (fun p : S8x128.Idx => σ .aS ((r60 t j n).toLoadRect.idx p)) = tile (q.a τ n.val) := by
    rw [hI.fr .aS (by decide) (by decide) (by decide) (by decide)]
    exact hR.aS.load _ _ τ n.val (by rw [k0_off60_eq]; congr 1; omega) hn (by omega)
  have e4 : (fun p : S8x128.Idx => σ .hS ((r61 t j n).toLoadRect.idx p)) = tile (q.H τ n.val) := by
    rw [hI.fr .hS (by decide) (by decide) (by decide) (by decide)]
    exact hR.hS.load _ _ τ n.val (by rw [k0_off61_eq]; congr 1; omega) hn (by omega)
  have eg : addf (mulf (tile (q.gy τ)) (bc8 (F := Ideal) (fun _ => q.cm τ n.val))) (adj n.val) = tile (q.gh τ n.val) := by
    rw [bc8_row (q.cm τ n.val) _ rfl, ha, show i = 255 - τ by omega]; rfl
  have eA : shapeCast S8x128 (fun p : S1x1x8x128.Idx => q.A n.val (128 * (p 2).val + (p 3).val)) shapeCasts_S1x1x8x128_S8x128 = tile (q.A n.val) := by
    funext p; pointwise; rfl
  have eG : mulf (tile (q.a τ n.val)) (tile (q.gh τ n.val)) = tile (q.G (i + 1) n.val) := by
    funext p
    show q.a τ n.val _ * q.gh τ n.val _ = q.G (i + 1) n.val _
    rw [q.G_succ i _ _ (by omega), show 255 - i = τ by omega]
  rw [bwdRow_run M t j n _ _ _ _ _ (tile (q.gh τ n.val)) adj da σ _ _ _ e1 e2 e3 e4 (funext e5) eg, bc8_row (q.bm τ n.val) _ rfl, eA, hd, st8_eq]
  refine ⟨?_, ⟨?_, ?_, ?_, ?_, ?_⟩, ?_⟩
  · rw [← eG]; rfl
  · intro b h1 h2 h3 h4
    exact (Function.update_of_ne h1 _ _).trans (hI.fr b h1 h2 h3 h4)
  · simp only [Function.update_of_ne, ne_eq, reduceCtorEq, not_false_eq_true]
    exact hI.ghb
  · simp only [Function.update_of_ne, ne_eq, reduceCtorEq, not_false_eq_true]
    exact hI.dds
  · simp only [Function.update_of_ne, ne_eq, reduceCtorEq, not_false_eq_true]
    exact hI.db
  · simp only [Function.update_of_ne, ne_eq, reduceCtorEq, not_false_eq_true]
    exact hI.od
  · simp only [GI, Function.update_self]
    exact Gs.store hG _ _ j.val n.val rfl hn _ rfl _ (fun s n' h1 h2 => by omega)

/-- One sublane of a step's sums. -/
def dbStep (j : Fin 4) (g : Fin 2) (k : Fin 8) (acc : V Ideal) : C (F := Ideal) M (V Ideal) :=
  .load .ghS (rH j g k) h_S8x128 fun hk => .ret (addf acc hk)

theorem dbStep_run (j : Fin 4) (g : Fin 2) (k : Fin 8) (acc : V Ideal) (σ : S) (hk : V Ideal)
    (e1 : (fun p : S8x128.Idx => σ .ghS ((rH j g k).idx p)) = hk) :
    (dbStep M j g k acc).run σ = (addf acc hk, σ) := by
  subst e1; rfl

theorem bwdDb_run (t : Fin k0_t4_loop.trips) (j : Fin 4) (g : Fin 2) (σ σ' : S) (acc0 acc : V Ideal)
    (e0 : (fun p : S8x128.Idx => σ .dbacc ((r62 t j g).toLoadRect.idx p)) = acc0)
    (e1 : ((foldL M (dbStep M j g) L8 acc0).run σ).1 = acc) (e2 : ((foldL M (dbStep M j g) L8 acc0).run σ).2 = σ') :
    ((bwdDb M t j g).run σ).2 = Function.update σ' .dbacc (put (r62 t j g) (st8 acc) (σ' .dbacc)) := by
  subst e0 e1 e2
  rfl

theorem bwdDb_spec {old : ℕ → ℕ → ℕ → EReal} (t : Fin k0_t4_loop.trips) (j : Fin 4) (g : Fin 2)
    (i τ : ℕ) (hi : i = 4 * t.val + j.val) (hτ : τ + i = 255) (σ : S) (hI : BI q σ0 old i (8 * g.val) σ) (hG : GI q τ j.val 16 σ) :
    BI q σ0 old i (8 * (g.val + 1)) ((bwdDb M t j g).run σ).2 ∧ GI q τ j.val 16 ((bwdDb M t j g).run σ).2
      ∧ ((bwdDb M t j g).run σ).2 .ghb = σ .ghb ∧ ((bwdDb M t j g).run σ).2 .ddS = σ .ddS := by
  have hg := g.isLt
  have e0 : (fun p => σ .dbacc ((r62 t j g).toLoadRect.idx p)) = fun p : S8x128.Idx => old τ (8 * g.val + (p 0).val) (p 1).val :=
    hI.od.load _ _ τ g.val (by rw [k0_off62_eq]; congr 1; omega) hg (fun n h1 h2 => by omega)
  have hf := foldL_rule M (dbStep M j g)
    (fun k acc s => s = σ ∧ acc = fun p : S8x128.Idx => old τ (8 * g.val + (p 0).val) (p 1).val
      + ∑ i ∈ Finset.range k, q.gh τ (8 * g.val + (p 0).val) (128 * i + (p 1).val) * (q.del τ (128 * i + (p 1).val) * q.u τ (128 * i + (p 1).val)))
    (by
      rintro k acc s ⟨rfl, hacc⟩
      have e1 : (fun p : S8x128.Idx => s .ghS ((rH j g k).idx p))
          = fun p => q.gh τ (8 * g.val + (p 0).val) (128 * k.val + (p 1).val) * (q.del τ (128 * k.val + (p 1).val) * q.u τ (128 * k.val + (p 1).val)) :=
        Gs.col hG _ _ j.val g.val k.val rfl hg k.isLt (fun n h => by omega)
      rw [dbStep_run M j g k acc s _ e1, hacc]
      refine ⟨rfl, ?_⟩
      funext p
      rw [Finset.sum_range_succ, ← add_assoc]; rfl)
    L8 0 _ σ rfl ⟨rfl, rfl⟩
  rw [bwdDb_run M t j g σ σ _ _ (e0.trans (funext fun p => by rw [Finset.sum_range_zero, add_zero])) hf.2 hf.1, st8_eq]
  have hs : ∀ p : S8x128.Idx, old τ (8 * g.val + (p 0).val) (p 1).val
      + ∑ i ∈ Finset.range (0 + L8.length), q.gh τ (8 * g.val + (p 0).val) (128 * i + (p 1).val) * (q.del τ (128 * i + (p 1).val) * q.u τ (128 * i + (p 1).val))
      = old τ (8 * g.val + (p 0).val) (p 1).val + q.db τ (8 * g.val + (p 0).val) (p 1).val := fun p => by
    rw [show 0 + L8.length = 8 from rfl, Finset.sum_range]; rfl
  refine ⟨⟨?_, ?_, ?_, ?_, ?_⟩, ?_, ?_, ?_⟩
  · intro b h1 h2 h3 h4
    rw [Function.update_of_ne h4]
    exact hI.fr b h1 h2 h3 h4
  · simp only [Function.update_of_ne, ne_eq, reduceCtorEq, not_false_eq_true]
    exact hI.ghb
  · simp only [Function.update_of_ne, ne_eq, reduceCtorEq, not_false_eq_true]
    exact hI.dds
  · simp only [Function.update_self]
    exact hI.db.store _ _ τ g.val (by rw [k0_off62_eq]; congr 1; omega) hg _ (funext hs) _ (fun s n h1 h2 => by omega)
  · simp only [Function.update_self]
    exact hI.od.keep _ _ τ g.val (by rw [k0_off62_eq]; congr 1; omega) hg _ _ (fun s n h1 h2 => by omega)
  · simp only [GI, Function.update_of_ne, ne_eq, reduceCtorEq, not_false_eq_true]
    exact hG
  · simp only [Function.update_of_ne, ne_eq, reduceCtorEq, not_false_eq_true]
  · simp only [Function.update_of_ne, ne_eq, reduceCtorEq, not_false_eq_true]

theorem BI.setG {old : ℕ → ℕ → ℕ → EReal} {i w : ℕ} {σ1 : S} (hI1 : BI q σ0 old i w σ1) (Y Z : S2080x128.Idx → EReal)
    (hy : Slab Y q.ghb fun t' => 256 ≤ t' + (i + 1)) (hz : Slab Z q.dds fun t' => 256 ≤ t' + (i + 1)) :
    BI q σ0 old i w (Function.update (Function.update σ1 .ghb Y) .ddS Z) := by
  refine ⟨?_, ?_, ?_, ?_, ?_⟩
  · intro b h1 h2 h3 h4
    rw [Function.update_of_ne h3, Function.update_of_ne h2]
    exact hI1.fr b h1 h2 h3 h4
  · rw [Function.update_of_ne (by decide), Function.update_self]
    exact fun p k s a b c => hy p k s a b (by omega)
  · rw [Function.update_self]
    exact fun p k s a b c => hz p k s a b (by omega)
  · rw [Function.update_of_ne (by decide), Function.update_of_ne (by decide)]
    exact hI1.db
  · rw [Function.update_of_ne (by decide), Function.update_of_ne (by decide)]
    exact hI1.od

attribute [local irreducible] mapL bwdRow bwdDb nth sum1 put in
theorem bwdStep_run (t : Fin k0_t4_loop.trips) (j : Fin 4) (s : (ℕ → V Ideal) × (ℕ → V Ideal)) (σ σ1 : S) (δ u g : V Ideal) (rs : List ((V Ideal × V Ideal) × (V Ideal × V Ideal)))
    (ed : (fun p : S8x128.Idx => σ .del ((r58 t j).idx p)) = δ) (eu : (fun p : S8x128.Idx => σ .u ((r58 t j).idx p)) = u)
    (eg : (fun p : S8x128.Idx => σ .gy ((r58 t j).idx p)) = g)
    (er1 : ((mapL M (bwdRow M t j δ (mulf δ u) g s.1 s.2) L16).run σ).1 = rs) (er2 : ((mapL M (bwdRow M t j δ (mulf δ u) g s.1 s.2) L16).run σ).2 = σ1) :
    (bwdStep M t j s).run σ = ((fun n => nth (rs.map fun r => r.1.1) n (s.1 n), fun n => nth (rs.map fun r => r.1.2) n (s.2 n)),
      ((mapL M (bwdDb M t j) L2).run (Function.update (Function.update σ1 .ghb (put ⟨r58 t j, spos_260_1⟩ (st8 (sum1 (rs.map fun r => r.2.2))) (σ1 .ghb)))
        .ddS (put ⟨r58 t j, spos_260_1⟩ (st8 (sum1 (rs.map fun r => r.2.1))) (Function.update σ1 .ghb (put ⟨r58 t j, spos_260_1⟩ (st8 (sum1 (rs.map fun r => r.2.2))) (σ1 .ghb)) .ddS)))).2) := by
  subst ed eu eg er1 er2
  rfl

/-- Between the trips of the backward loop. -/
structure BL (old : ℕ → ℕ → ℕ → EReal) (da0 : ℕ → ℕ → EReal) (i : ℕ) (p : (ℕ → V Ideal) × (ℕ → V Ideal)) (s : S) : Prop where
  a : ∀ n, n < 16 → p.1 n = tile (q.G i n)
  d : ∀ n, n < 16 → p.2 n = tile fun d => da0 n d + ∑ k ∈ Finset.range i, q.gah (255 - k) n d * q.del (255 - k) d
  I : BI q σ0 old i 0 s

theorem bwdStep_spec {old : ℕ → ℕ → ℕ → EReal} (hR : Reads' q σ0) (da0 : ℕ → ℕ → EReal) (t : Fin k0_t4_loop.trips) (j : Fin 4)
    (ht : 4 * t.val + j.val < 256) (s : (ℕ → V Ideal) × (ℕ → V Ideal)) (σ : S)
    (hL : BL q σ0 old da0 (4 * t.val + j.val) s σ) :
    BL q σ0 old da0 (4 * t.val + j.val + 1) ((bwdStep M t j s).run σ).1 ((bwdStep M t j s).run σ).2 := by
  obtain ⟨ha, hd, hI⟩ := hL
  have off : k0_off58 t (BitVec.ofNat 32 j.val) = ![255 - (4 * t.val + j.val), 0] := k0_off58_eq t j
  generalize hi : 4 * t.val + j.val = i at *
  obtain ⟨τ, hτ⟩ : ∃ τ, τ + i = 255 := ⟨255 - i, by omega⟩
  rw [show 255 - i = τ by omega] at off
  have hτ' : τ < 256 := by omega
  have ed : (fun p => σ .del ((r58 t j).idx p)) = tile (q.del τ) := by
    rw [hI.fr .del (by decide) (by decide) (by decide) (by decide)]
    exact hR.del.load _ _ τ off hτ' trivial
  have eu : (fun p => σ .u ((r58 t j).idx p)) = tile (q.u τ) := by
    rw [hI.fr .u (by decide) (by decide) (by decide) (by decide)]
    exact hR.u.load _ _ τ off hτ' trivial
  have eg : (fun p => σ .gy ((r58 t j).idx p)) = tile (q.gy τ) := by
    rw [hI.fr .gy (by decide) (by decide) (by decide) (by decide)]
    exact hR.gy.load _ _ τ off hτ' trivial
  have hm := mapL_rule M (bwdRow M t j (tile (q.del τ)) (tile fun d => q.del τ d * q.u τ d) (tile (q.gy τ)) s.1 s.2)
    (fun n => ((tile (q.G (i + 1) n.val), tile fun d => (da0 n.val d + ∑ k ∈ Finset.range i, q.gah (255 - k) n.val d * q.del (255 - k) d) + q.gah τ n.val d * q.del τ d),
            (tile fun d => q.gah τ n.val d * q.A n.val d, tile fun d => q.gh τ n.val d * q.bm τ n.val)))
    (fun n σ => BI q σ0 old i 0 σ ∧ GI q τ j.val n σ)
    (fun n σ h => bwdRow_spec M q σ0 hR t j n i τ hi.symm hτ s.1 s.2 (fun n d => da0 n d + ∑ k ∈ Finset.range i, q.gah (255 - k) n d * q.del (255 - k) d)
      (ha n.val n.isLt) (hd n.val n.isLt) σ h.1 h.2) L16 0 σ rfl ⟨hI, fun p t n k a b c d => by omega⟩
  generalize hm1 : ((mapL M (bwdRow M t j (tile (q.del τ)) (tile fun d => q.del τ d * q.u τ d) (tile (q.gy τ)) s.1 s.2) L16).run σ).2 = σ1 at hm
  rw [bwdStep_run M t j s σ σ1 _ _ _ _ ed eu eg hm.1 hm1, st8_eq, st8_eq]
  have hI1 : BI q σ0 old i 0 σ1 := hm.2.1
  have hG1 : GI q τ j.val 16 σ1 := hm.2.2
  rw [show (L16.map fun n : Fin 16 => ((tile (q.G (i + 1) n.val), tile fun d => (da0 n.val d + ∑ k ∈ Finset.range i, q.gah (255 - k) n.val d * q.del (255 - k) d) + q.gah τ n.val d * q.del τ d),
            (tile fun d => q.gah τ n.val d * q.A n.val d, tile fun d => q.gh τ n.val d * q.bm τ n.val))).map (fun r => r.2.2)
      = L16.map fun n : Fin 16 => tile fun d => q.gh τ n.val d * q.bm τ n.val from List.map_map,
    show (L16.map fun n : Fin 16 => ((tile (q.G (i + 1) n.val), tile fun d => (da0 n.val d + ∑ k ∈ Finset.range i, q.gah (255 - k) n.val d * q.del (255 - k) d) + q.gah τ n.val d * q.del τ d),
            (tile fun d => q.gah τ n.val d * q.A n.val d, tile fun d => q.gh τ n.val d * q.bm τ n.val))).map (fun r => r.2.1)
      = L16.map fun n : Fin 16 => tile fun d => q.gah τ n.val d * q.A n.val d from List.map_map,
    show (L16.map fun n : Fin 16 => ((tile (q.G (i + 1) n.val), tile fun d => (da0 n.val d + ∑ k ∈ Finset.range i, q.gah (255 - k) n.val d * q.del (255 - k) d) + q.gah τ n.val d * q.del τ d),
            (tile fun d => q.gah τ n.val d * q.A n.val d, tile fun d => q.gh τ n.val d * q.bm τ n.val))).map (fun r => r.1.1)
      = L16.map fun n : Fin 16 => tile (q.G (i + 1) n.val) from List.map_map,
    show (L16.map fun n : Fin 16 => ((tile (q.G (i + 1) n.val), tile fun d => (da0 n.val d + ∑ k ∈ Finset.range i, q.gah (255 - k) n.val d * q.del (255 - k) d) + q.gah τ n.val d * q.del τ d),
            (tile fun d => q.gah τ n.val d * q.A n.val d, tile fun d => q.gh τ n.val d * q.bm τ n.val))).map (fun r => r.1.2)
      = L16.map fun n : Fin 16 => tile fun d => (da0 n.val d + ∑ k ∈ Finset.range i, q.gah (255 - k) n.val d * q.del (255 - k) d) + q.gah τ n.val d * q.del τ d from List.map_map,
    show sum1 (L16.map fun n : Fin 16 => tile fun d => q.gh τ n.val d * q.bm τ n.val) = tile (q.ghb τ) from sum1_map _,
    show sum1 (L16.map fun n : Fin 16 => tile fun d => q.gah τ n.val d * q.A n.val d) = tile (q.dds τ) from sum1_map _]
  have hy := hI1.ghb.store _ (k0_off58_inb t j) spos_260_1 τ off hτ' (tile (q.ghb τ)) rfl (fun t' => 256 ≤ t' + (i + 1)) (fun s h => by omega)
  have hz := hI1.dds.store _ (k0_off58_inb t j) spos_260_1 τ off hτ' (tile (q.dds τ)) rfl (fun t' => 256 ≤ t' + (i + 1)) (fun s h => by omega)
  have hI2 := hI1.setG q σ0 _ _ hy hz
  have e0 : Function.update σ1 .ghb (put ⟨r58 t j, spos_260_1⟩ (tile (q.ghb τ)) (σ1 .ghb)) .ddS = σ1 .ddS := Function.update_of_ne (by decide) _ _
  rw [e0]
  generalize hσ2 : Function.update (Function.update σ1 .ghb (put ⟨r58 t j, spos_260_1⟩ (tile (q.ghb τ)) (σ1 .ghb))) .ddS (put ⟨r58 t j, spos_260_1⟩ (tile (q.dds τ)) (σ1 .ddS)) = σ2
  have hI2 : BI q σ0 old i 0 σ2 := by rw [← hσ2]; exact hI2
  have hG2 : GI q τ j.val 16 σ2 := by
    rw [← hσ2, GI, Function.update_of_ne (by decide), Function.update_of_ne (by decide)]; exact hG1
  have hy2 : Slab (σ2 .ghb) q.ghb fun t' => 256 ≤ t' + (i + 1) := by
    rw [← hσ2, Function.update_of_ne (by decide), Function.update_self]; exact hy
  have hz2 : Slab (σ2 .ddS) q.dds fun t' => 256 ≤ t' + (i + 1) := by
    rw [← hσ2, Function.update_self]; exact hz
  have hm2 := mapL_rule M (bwdDb M t j) (fun _ => ())
    (fun g s => BI q σ0 old i (8 * g) s ∧ GI q τ j.val 16 s ∧ s .ghb = σ2 .ghb ∧ s .ddS = σ2 .ddS)
    (fun g s h => by
      obtain ⟨h1, h2, h3, h4⟩ := h
      obtain ⟨k1, k2, k3, k4⟩ := bwdDb_spec M q σ0 t j g i τ hi.symm hτ s h1 h2
      exact ⟨rfl, k1, k2, k3.trans h3, k4.trans h4⟩) L2 0 σ2 rfl ⟨hI2, hG2, rfl, rfl⟩
  generalize ((mapL M (bwdDb M t j) L2).run σ2).2 = σ3 at hm2
  obtain ⟨-, hI3, hG3, hy3, hz3⟩ := hm2
  have hI3' : BI q σ0 old i 16 σ3 := hI3
  refine ⟨?_, ?_, ?_⟩
  · intro n hn
    exact nth_map (fun n : Fin 16 => tile (q.G (i + 1) n.val)) n hn _
  · intro n hn
    refine (nth_map (fun n : Fin 16 => tile fun d => (da0 n.val d + ∑ k ∈ Finset.range i, q.gah (255 - k) n.val d * q.del (255 - k) d) + q.gah τ n.val d * q.del τ d) n hn _).trans ?_
    funext p
    show da0 n (dl p) + ∑ k ∈ Finset.range i, q.gah (255 - k) n (dl p) * q.del (255 - k) (dl p) + q.gah τ n (dl p) * q.del τ (dl p)
      = da0 n (dl p) + ∑ k ∈ Finset.range (i + 1), q.gah (255 - k) n (dl p) * q.del (255 - k) (dl p)
    rw [Finset.sum_range_succ, add_assoc, show 255 - i = τ by omega]
  · refine ⟨hI3'.fr, ?_, ?_, ?_, ?_⟩
    · show Slab (σ3 .ghb) _ _; rw [hy3]; exact hy2
    · show Slab (σ3 .ddS) _ _; rw [hz3]; exact hz2
    · exact fun p t' n' a b c => hI3'.db p t' n' a b (by omega)
    · exact fun p t' n' a b c => hI3'.od p t' n' a b (by omega)

theorem un32_mk32 (s : (ℕ → V Ideal) × (ℕ → V Ideal)) : (∀ n, n < 16 → (un32 (mk32 s)).1 n = s.1 n) ∧ (∀ n, n < 16 → (un32 (mk32 s)).2 n = s.2 n) :=
  ⟨fun n h => by interval_cases n <;> rfl, fun n h => by interval_cases n <;> rfl⟩

theorem t4_run (t : Fin k0_t4_loop.trips) (p : Tup32 Ideal) (s : S) :
    (t4 M t p).run s = (mk32 ((foldL M (bwdStep M t) L4 (un32 p)).run s).1, ((foldL M (bwdStep M t) L4 (un32 p)).run s).2) := rfl

theorem BL.mk32 {old da0 i p s} (h : BL q σ0 old da0 i p s) : BL q σ0 old da0 i (un32 (Body.mk32 p)) s :=
  ⟨fun n hn => ((un32_mk32 _).1 n hn).trans (h.a n hn), fun n hn => ((un32_mk32 _).2 n hn).trans (h.d n hn), h.I⟩

attribute [local irreducible] bwdStep foldL un32 in
theorem t4_spec {old : ℕ → ℕ → ℕ → EReal} (hR : Reads' q σ0) (da0 : ℕ → ℕ → EReal) (t : Fin k0_t4_loop.trips) (ht : t.val < 64) (p : Tup32 Ideal) (s : S)
    (h : BL q σ0 old da0 (4 * t.val) (un32 p) s) : BL q σ0 old da0 (4 * (t.val + 1)) (un32 ((t4 M t p).run s).1) ((t4 M t p).run s).2 := by
  have hf := foldL_rule M (bwdStep M t) (fun j p s => BL q σ0 old da0 (4 * t.val + j) p s)
    (fun j p s hp => bwdStep_spec M q σ0 hR da0 t j (by have := j.isLt; omega) p s hp) L4 0 (un32 p) s rfl h
  rw [t4_run]
  rw [show 4 * (t.val + 1) = 4 * t.val + (0 + L4.length) from rfl]
  exact BL.mk32 q σ0 hf

/-- The whole backward loop. -/
theorem bwd_loop {old : ℕ → ℕ → ℕ → EReal} (hR : Reads' q σ0) (da0 : ℕ → ℕ → EReal) (p0 : (ℕ → V Ideal) × (ℕ → V Ideal))
    (hs : ∀ n, n < 16 → p0.1 n = tile (q.adj0 n)) (hd : ∀ n, n < 16 → p0.2 n = tile (da0 n)) (ho : Rows (σ0 .dbacc) old fun _ _ => True) :
    BL q σ0 old da0 256 (un32 ((Cmd.loop k0_t4_loop k0_t4_ok (mk32 p0) (t4 M)).run σ0).1)
      ((Cmd.loop k0_t4_loop k0_t4_ok (mk32 p0) (t4 M)).run σ0).2 := by
  have hk : k0_t4_loop.trips = 64 := by decide
  have h := iter_all (fun t a s => (t4 M t a).run s) (fun i p s => BL q σ0 old da0 (4 * i) (un32 p) s)
    (fun t p s h => t4_spec M q σ0 hR da0 t (by have := t.isLt; omega) p s h) (mk32 p0) σ0
    (BL.mk32 q σ0 ⟨hs, fun n hn => by
      rw [hd n hn]; funext p; show da0 n _ = da0 n _ + ∑ i ∈ Finset.range 0, _; rw [Finset.sum_range_zero, add_zero],
      ⟨fun _ _ _ _ _ => rfl, fun p k t a b c => by omega, fun p k t a b c => by omega,
        fun p t n a b c => by have := (p 0).isLt; change _ < 4096 at this; omega, fun p t n a b c => ho p t n a b trivial⟩⟩)
  have e : 4 * k0_t4_loop.trips = 256 := by decide
  rw [← e]
  exact h

end Cert.KernelIdeal.Val

end
-- ==== Proof.Pre.lean ====
/- The loops before the forward loop: the step sizes, the inputs and the gradients of a chunk in slabs, and `B`, `C`
   spread over the lanes. -/
module

public import proofs.«01_k».proof.Proof.Backward

@[expose] public section

set_option maxRecDepth 65536

set_option backward.isDefEq.respectTransparency.types false

noncomputable section

namespace Cert.KernelIdeal.Val

open Idealize.ShloMosaic Idealize.SL.Sem Cert.Proof Cert.KernelIdeal Cert.KernelIdeal.Gen Cert.KernelIdeal.Body

/-! ## The functions of one number -/

/-- The softplus as the kernel writes it, -/
def kSp (x : EReal) : EReal := delVal (F := Ideal) (fun _ => x) (ix2 0 0)
/-- its derivative, -/
def kSg (x : EReal) : EReal := sdtVal (F := Ideal) (fun _ => x) (ix2 0 0)
/-- and the logistic function of the gate. -/
def kSz (x : EReal) : EReal := Ideal.div 1 (1 + Ideal.exp (0 - x))

theorem delVal_at (v : W Ideal) (j : S32x128.Idx) : delVal v j = kSp (v j) := rfl
theorem sdtVal_at (v : W Ideal) (j : S32x128.Idx) : sdtVal v j = kSg (v j) := rfl
theorem szVal_at (v : W Ideal) (j : S32x128.Idx) : szVal v j = kSz (v j) := by
  pointwise [szVal]; rfl
theorem gyVal_at (dy v : W Ideal) (j : S32x128.Idx) : gyVal dy v j = dy j * (v j * kSz (v j)) := by
  show dy j * (v j * szVal v j) = _
  rw [szVal_at]
theorem gzVal_at (dy v : W Ideal) (j : S32x128.Idx) : gzVal dy v j = dy j * kSz (v j) * (1 + v j * (1 - kSz (v j))) := by
  have e : (Scalar.ofBits (F := Ideal) .f32 0x3F800000#32 : EReal) = 1 := by pointwise
  show dy j * szVal v j * (Scalar.ofBits (F := Ideal) .f32 0x3F800000#32 + v j * (Scalar.ofBits (F := Ideal) .f32 0x3F800000#32 - szVal v j)) = _
  rw [szVal_at, e]

theorem uVal_at (k : Fin 8) (xs : FVec Ideal S1x1x32x8 .f32) (x : FVec Ideal S1x32x128 .fp8e4m3) (j : S32x128.Idx) :
    uVal k xs x j = x (ix3 0 (j 0) (j 1)) * xs (ix4 0 0 (j 0) k) := by
  fin_cases k <;> (pointwise [uVal]; try rfl)
theorem dyVal_at (k : Fin 8) (xs : FVec Ideal S1x1x32x8 .f32) (x : FVec Ideal S1x32x128 .fp8e5m2) (j : S32x128.Idx) :
    dyVal k xs x j = x (ix3 0 (j 0) (j 1)) * xs (ix4 0 0 (j 0) k) := by
  fin_cases k <;> (pointwise [dyVal]; try rfl)
theorem dtVal_at (tk : FVec Ideal S1x32x3 .f32) (x : FVec Ideal S1x32x128 .fp8e4m3) (j : S32x128.Idx) :
    dtVal tk x j = x (ix3 0 (j 0) (j 1)) * tk (ix3 0 (j 0) 0) := by
  pointwise [dtVal]; try rfl
theorem zVal_at (x : FVec Ideal S1x32x128 .bf16) (j : S32x128.Idx) : zVal x j = x (ix3 0 (j 0) (j 1)) := by
  pointwise [zVal]; try rfl
theorem bVal_at (tk : FVec Ideal S1x32x3 .f32) (x : FVec Ideal S1x32x16 .fp8e4m3) (j : S32x16.Idx) :
    bVal tk x j = x (ix3 0 (j 0) (j 1)) * tk (ix3 0 (j 0) 1) := by
  pointwise [bVal]; try rfl
theorem cVal_at (tk : FVec Ideal S1x32x3 .f32) (x : FVec Ideal S1x32x16 .fp8e4m3) (j : S32x16.Idx) :
    cVal tk x j = x (ix3 0 (j 0) (j 1)) * tk (ix3 0 (j 0) 2) := by
  pointwise [cVal]; try rfl

theorem st32_eq (v : W Ideal) : st32 v = v := shapeCast_id _ _

theorem spread_at (q : Fin 4) (v : FVec Ideal S32x16 .f32) (j : S128x128.Idx) (t n : ℕ) (hn : n < 16) (ht : t < 8) (h : (j 0).val = 16 * t + n) :
    spread q v j = v (ix2 ⟨8 * q.val + t, by omega⟩ ⟨n, hn⟩) := by
  have h1 : (j 0).val / 16 = t := by omega
  have h2 : (j 0).val % 16 = n := by omega
  pointwise [spread, eye16]
  have e : ∀ x : Fin 16, Scalar.select (IntOp.cmpi CmpIPredicate.eq (BitVec.ofNat 32 ((j 0).val % 16)) (BitVec.ofNat 32 x.val))
      (v (ix2 ⟨8 * q.val + (j 0).val / 16, by omega⟩ x)) (0 : EReal) = if x.val = n then v (ix2 ⟨8 * q.val + t, by omega⟩ x) else 0 := by
    intro x
    rw [h2]
    simp only [h1]
    by_cases hx : x.val = n
    · rw [hx, if_pos rfl]
      have : IntOp.cmpi CmpIPredicate.eq (BitVec.ofNat 32 n) (BitVec.ofNat 32 n) = 1#1 := by simp [IntOp.cmpi]
      rw [this]; rfl
    · rw [if_neg hx]
      have hxl := x.isLt
      have : IntOp.cmpi CmpIPredicate.eq (BitVec.ofNat 32 n) (BitVec.ofNat 32 x.val) = 0#1 := by
        have hne : BitVec.ofNat 32 n ≠ BitVec.ofNat 32 x.val := fun hh => by
          have := congrArg BitVec.toNat hh
          simp only [BitVec.toNat_ofNat] at this
          omega
        show BitVec.ofBool (BitVec.ofNat 32 n == BitVec.ofNat 32 x.val) = 0#1
        rw [beq_eq_false_iff_ne.2 hne]; rfl
      rw [this]; rfl
  rw [Finset.sum_congr rfl fun x _ => e x, Finset.sum_eq_single (⟨n, hn⟩ : Fin 16) (fun b _ hb => if_neg fun hh => hb (Fin.ext hh))
    (fun hh => absurd (Finset.mem_univ _) hh), if_pos rfl]

/-! ## Stores of 32 rows of a slab, and of 128 spread rows -/

/-- A slab, of which the sublane matters too. -/
def Slab2 (X : S2080x128.Idx → EReal) (f : ℕ → ℕ → EReal) (P : ℕ → ℕ → Prop) : Prop :=
  ∀ (p : S2080x128.Idx) (k t : ℕ), (p 0).val = 260 * k + t → t < 256 → P k t → X p = f t (128 * k + (p 1).val)

theorem Slab2.store {X f P} (h : Slab2 X f P) (off : Fin 2 → ℕ) (inb) (t k : ℕ) (ho : off = ![260 * k + t, 0]) (ht : t + 32 ≤ 256) (hk : k < 8)
    (v : W Ideal) (hv : ∀ j, v j = f (t + (j 0).val) (128 * k + (j 1).val)) (Q : ℕ → ℕ → Prop)
    (hQ : ∀ k' s, k' < 8 → s < 256 → Q k' s → P k' s ∨ k' = k ∧ t ≤ s ∧ s < t + 32) :
    Slab2 (put (Rect.unit (s := S2080x128) off S32x128.size inb) v X) f Q := by
  subst ho
  intro p k' s hp hs hq
  have h0 : (p 0).val < 2080 := (p 0).isLt
  have h1 : (p 1).val < 128 := (p 1).isLt
  by_cases e : k' = k ∧ t ≤ s ∧ s < t + 32
  · obtain ⟨e, e1, e2⟩ := e
    subst e
    rw [put_at (Rect.unit (s := S2080x128) ![260 * k' + t, 0] S32x128.size inb) _ _ p (ixT (s - t) (p 1).val (by omega) h1) (Fin.forall_fin_two.2
      ⟨by show (p 0).val = 260 * k' + t + 1 * (s - t); omega, by show (p 1).val = 0 + 1 * (p 1).val; omega⟩), hv]
    show f (t + (s - t)) _ = _
    rw [show t + (s - t) = s by omega]; rfl
  · rw [put_miss _ _ _ p (fun j hj => by
      have := hj 0
      have j0 : (j 0).val < 32 := (j 0).isLt
      change (p 0).val = 260 * k + t + 1 * (j 0).val at this
      omega)]
    exact h p k' s hp hs ((hQ k' s (by omega) hs hq).resolve_right e)

theorem Rows.store128 {X f P} (h : Rows X f P) (off : Fin 2 → ℕ) (inb) (t : ℕ) (ho : off = ![16 * t, 0])
    (v : FVec Ideal S128x128 .f32) (hv : ∀ j s n, (j 0).val = 16 * s + n → s < 8 → n < 16 → v j = f (t + s) n (j 1).val) (Q : ℕ → ℕ → Prop)
    (hQ : ∀ s n, n < 16 → Q s n → P s n ∨ t ≤ s ∧ s < t + 8) :
    Rows (put (Rect.unit (s := S4096x128) off S128x128.size inb) v X) f Q := by
  subst ho
  intro p s n hp hn hq
  have h1 : (p 1).val < 128 := (p 1).isLt
  by_cases e : t ≤ s ∧ s < t + 8
  · obtain ⟨e1, e2⟩ := e
    rw [put_at (Rect.unit (s := S4096x128) ![16 * t, 0] S128x128.size inb) _ _ p (ixT ((p 0).val - 16 * t) (p 1).val (by omega) h1) (Fin.forall_fin_two.2
      ⟨by show (p 0).val = 16 * t + 1 * ((p 0).val - 16 * t); omega, by show (p 1).val = 0 + 1 * (p 1).val; omega⟩),
      hv _ (s - t) n (by show (p 0).val - 16 * t = _; omega) (by omega) hn]
    show f (t + (s - t)) _ _ = _
    rw [show t + (s - t) = s by omega]; rfl
  · rw [put_miss _ _ _ p (fun j hj => by
      have := hj 0
      have j0 : (j 0).val < 128 := (j 0).isLt
      change (p 0).val = 16 * t + 1 * (j 0).val at this
      omega)]
    exact h p s n hp hn ((hQ s n hn hq).resolve_right e)

/-! ## The blocks a grid point reads -/

/-- By step and channel of the block; the scales by step and group of channels, the three scales of a step by number. -/
structure Bk where
  x : ℕ → ℕ → EReal
  xs : ℕ → ℕ → EReal
  dt : ℕ → ℕ → EReal
  tok : ℕ → ℕ → EReal
  b : ℕ → ℕ → EReal
  c : ℕ → ℕ → EReal
  z : ℕ → ℕ → EReal
  dy : ℕ → ℕ → EReal
  dys : ℕ → ℕ → EReal
  A : ℕ → ℕ → EReal
  D : ℕ → EReal
  h0 : ℕ → ℕ → EReal

/-- The contents of the windows the loops before the forward loop read every time. -/
structure Bk.In (w : Bk) (σ : S) : Prop where
  x : ∀ p : S1x256x1024.Idx, σ .x p = w.x (p 1).val (p 2).val
  xs : ∀ p : S1x1x256x8.Idx, σ .xs p = w.xs (p 2).val (p 3).val
  dt : ∀ p : S1x256x1024.Idx, σ .dt p = w.dt (p 1).val (p 2).val
  tok : ∀ p : S1x256x3.Idx, σ .tok p = w.tok (p 1).val (p 2).val
  z : ∀ p : S1x256x1024.Idx, σ .z p = w.z (p 1).val (p 2).val
  dy : ∀ p : S1x256x1024.Idx, σ .dy p = w.dy (p 1).val (p 2).val
  dys : ∀ p : S1x1x256x8.Idx, σ .dys p = w.dys (p 2).val (p 3).val

/-- What the block computes from: -/
def Bk.pt (w : Bk) (adj0 : ℕ → ℕ → EReal) : Pt where
  del t d := kSp (w.dt t d * w.tok t 0)
  u t d := w.x t d * w.xs t (d / 128)
  gy t d := w.dy t d * w.dys t (d / 128) * (w.z t d * kSz (w.z t d))
  gz t d := w.dy t d * w.dys t (d / 128) * kSz (w.z t d) * (1 + w.z t d * (1 - kSz (w.z t d)))
  sdt t d := kSg (w.dt t d * w.tok t 0)
  bm t n := w.b t n * w.tok t 1
  cm t n := w.c t n * w.tok t 2
  A := w.A
  h0 := w.h0
  adj0 := adj0
  D := w.D

variable (M : ∀ b : Bf, Memref sig .tc .vmem (shp b) (elt b)) (w : Bk) (q : Pt) (σ0 : S)

/-- Between the sublanes of the pointwise loop. -/
structure PI (t k : ℕ) (σ : S) : Prop where
  fr : ∀ b, b ≠ .del → b ≠ .u → b ≠ .gy → b ≠ .gz → b ≠ .sdt → σ b = σ0 b
  del : Slab2 (σ .del) q.del fun k' s => s < 32 * t ∨ s < 32 * (t + 1) ∧ k' < k
  u : Slab2 (σ .u) q.u fun k' s => s < 32 * t ∨ s < 32 * (t + 1) ∧ k' < k
  gy : Slab2 (σ .gy) q.gy fun k' s => s < 32 * t ∨ s < 32 * (t + 1) ∧ k' < k
  gz : Slab2 (σ .gz) q.gz fun k' s => s < 32 * t ∨ s < 32 * (t + 1) ∧ k' < k
  sdt : Slab2 (σ .sdt) q.sdt fun k' s => s < 32 * t ∨ s < 32 * (t + 1) ∧ k' < k

theorem preRow_run (t : Fin k0_t2_loop.trips) (tk : FVec Ideal S1x32x3 .f32) (xs dys : FVec Ideal S1x1x32x8 .f32) (k : Fin 8) (σ : S)
    (x dt : FVec Ideal S1x32x128 .fp8e4m3) (dy : FVec Ideal S1x32x128 .fp8e5m2) (z : FVec Ideal S1x32x128 .bf16)
    (e1 : (fun p : S1x32x128.Idx => σ .x ((rX t k).toLoadRect.idx p)) = x)
    (e2 : (fun p : S1x32x128.Idx => σ .dy ((rX t k).toLoadRect.idx p)) = dy)
    (e3 : (fun p : S1x32x128.Idx => σ .dt ((rX t k).toLoadRect.idx p)) = dt)
    (e4 : (fun p : S1x32x128.Idx => σ .z ((rX t k).toLoadRect.idx p)) = z) :
    ((preRow M t tk xs dys k).run σ).2 = Function.update (Function.update (Function.update (Function.update (Function.update σ
      .del (put (r10 t k) (st32 (delVal (dtVal tk dt))) (σ .del)))
      .u (put (r10 t k) (st32 (uVal k xs x)) (σ .u)))
      .gy (put (r10 t k) (st32 (gyVal (dyVal k dys dy) (zVal z))) (σ .gy)))
      .gz (put (r10 t k) (st32 (gzVal (dyVal k dys dy) (zVal z))) (σ .gz)))
      .sdt (put (r10 t k) (st32 (sdtVal (dtVal tk dt))) (σ .sdt)) := by
  subst e1 e2 e3 e4
  rfl

theorem preRow_spec (adj0 : ℕ → ℕ → EReal) (hw : w.In σ0) (t : Fin k0_t2_loop.trips) (ht : t.val < 8) (k : Fin 8) (σ : S)
    (tk : FVec Ideal S1x32x3 .f32) (xs dys : FVec Ideal S1x1x32x8 .f32)
    (htk : ∀ p, tk p = w.tok (32 * t.val + (p 1).val) (p 2).val) (hxs : ∀ p, xs p = w.xs (32 * t.val + (p 2).val) (p 3).val)
    (hdys : ∀ p, dys p = w.dys (32 * t.val + (p 2).val) (p 3).val) (hI : PI (w.pt adj0) σ0 t.val k.val σ) :
    PI (w.pt adj0) σ0 t.val (k.val + 1) ((preRow M t tk xs dys k).run σ).2 := by
  have hk := k.isLt
  have o9 : k0_off9 t 1 = 32 * t.val := by rw [k0_off9_eq]; rfl
  have win : ∀ (X : S1x256x1024.Idx → EReal) (f : ℕ → ℕ → EReal) (h : ∀ p, X p = f (p 1).val (p 2).val) (p : S1x32x128.Idx),
      X ((rX t k).toLoadRect.idx p) = f (32 * t.val + (p 1).val) (128 * k.val + (p 2).val) := fun X f h p => by
    rw [h]
    show f (k0_off9 t 1 + 1 * (p 1).val) (128 * k.val + 1 * (p 2).val) = _
    rw [o9, Nat.one_mul, Nat.one_mul]
  have e1 := win (σ .x) w.x (fun p => by rw [hI.fr .x (by decide) (by decide) (by decide) (by decide) (by decide)]; exact hw.x p)
  have e2 := win (σ .dy) w.dy (fun p => by rw [hI.fr .dy (by decide) (by decide) (by decide) (by decide) (by decide)]; exact hw.dy p)
  have e3 := win (σ .dt) w.dt (fun p => by rw [hI.fr .dt (by decide) (by decide) (by decide) (by decide) (by decide)]; exact hw.dt p)
  have e4 := win (σ .z) w.z (fun p => by rw [hI.fr .z (by decide) (by decide) (by decide) (by decide) (by decide)]; exact hw.z p)
  have off : k0_off10 t (BitVec.ofNat 32 (260 * k.val)) = ![260 * k.val + 32 * t.val, 0] := k0_off10_eq t k
  have hdiv : ∀ j : S32x128.Idx, (128 * k.val + (j 1).val) / 128 = k.val := fun j => by
    have j1 : (j 1).val < 128 := (j 1).isLt
    omega
  rw [preRow_run M t tk xs dys k σ _ _ _ _ (funext e1) (funext e2) (funext e3) (funext e4), st32_eq, st32_eq, st32_eq, st32_eq, st32_eq]
  refine ⟨?_, ?_, ?_, ?_, ?_, ?_⟩
  · intro b h1 h2 h3 h4 h5
    rw [Function.update_of_ne h5, Function.update_of_ne h4, Function.update_of_ne h3, Function.update_of_ne h2, Function.update_of_ne h1]
    exact hI.fr b h1 h2 h3 h4 h5
  · simp only [Function.update_self, Function.update_of_ne, ne_eq, reduceCtorEq, not_false_eq_true]
    refine hI.del.store _ _ (32 * t.val) k.val off (by omega) hk _ (fun j => ?_) _ (fun k' s _ _ h => by omega)
    rw [delVal_at, dtVal_at, htk]; rfl
  · simp only [Function.update_self, Function.update_of_ne, ne_eq, reduceCtorEq, not_false_eq_true]
    refine hI.u.store _ _ (32 * t.val) k.val off (by omega) hk _ (fun j => ?_) _ (fun k' s _ _ h => by omega)
    rw [uVal_at, hxs]
    show _ = w.x _ _ * w.xs _ ((128 * k.val + (j 1).val) / 128)
    rw [hdiv]; rfl
  · simp only [Function.update_self, Function.update_of_ne, ne_eq, reduceCtorEq, not_false_eq_true]
    refine hI.gy.store _ _ (32 * t.val) k.val off (by omega) hk _ (fun j => ?_) _ (fun k' s _ _ h => by omega)
    rw [gyVal_at, dyVal_at, zVal_at, hdys]
    show _ = w.dy _ _ * w.dys _ ((128 * k.val + (j 1).val) / 128) * _
    rw [hdiv]; rfl
  · simp only [Function.update_self, Function.update_of_ne, ne_eq, reduceCtorEq, not_false_eq_true]
    refine hI.gz.store _ _ (32 * t.val) k.val off (by omega) hk _ (fun j => ?_) _ (fun k' s _ _ h => by omega)
    rw [gzVal_at, dyVal_at, zVal_at, hdys]
    show _ = w.dy _ _ * w.dys _ ((128 * k.val + (j 1).val) / 128) * _ * _
    rw [hdiv]; rfl
  · simp only [Function.update_self]
    refine hI.sdt.store _ _ (32 * t.val) k.val off (by omega) hk _ (fun j => ?_) _ (fun k' s _ _ h => by omega)
    rw [sdtVal_at, dtVal_at, htk]; rfl

attribute [local irreducible] mapL preRow in
theorem t2_run (t : Fin k0_t2_loop.trips) (σ : S) (tk : FVec Ideal S1x32x3 .f32) (xs dys : FVec Ideal S1x1x32x8 .f32)
    (e1 : (fun p : S1x32x3.Idx => σ .tok ((Rect.unit (s := S1x256x3) (k0_off7 t) S1x32x3.size (k0_off7_inb t)).toLoadRect.idx p)) = tk)
    (e2 : (fun p : S1x1x32x8.Idx => σ .xs ((Rect.unit (s := S1x1x256x8) (k0_off8 t) S1x1x32x8.size (k0_off8_inb t)).toLoadRect.idx p)) = xs)
    (e3 : (fun p : S1x1x32x8.Idx => σ .dys ((Rect.unit (s := S1x1x256x8) (k0_off8 t) S1x1x32x8.size (k0_off8_inb t)).toLoadRect.idx p)) = dys) :
    ((t2 M t ()).run σ).2 = ((mapL M (preRow M t tk xs dys) L8).run σ).2 := by
  subst e1 e2 e3
  rfl

theorem t2_spec (adj0 : ℕ → ℕ → EReal) (hw : w.In σ0) (t : Fin k0_t2_loop.trips) (ht : t.val < 8) (σ : S) (hI : PI (w.pt adj0) σ0 t.val 0 σ) :
    PI (w.pt adj0) σ0 (t.val + 1) 0 ((t2 M t ()).run σ).2 := by
  have o7 : k0_off7 t = ![0, 32 * t.val, 0] := k0_off7_eq t
  have o8 : k0_off8 t = ![0, 0, 32 * t.val, 0] := k0_off8_eq t
  have e1 : ∀ p : S1x32x3.Idx, σ .tok ((Rect.unit (s := S1x256x3) (k0_off7 t) S1x32x3.size (k0_off7_inb t)).toLoadRect.idx p)
      = w.tok (32 * t.val + (p 1).val) (p 2).val := fun p => by
    rw [hI.fr .tok (by decide) (by decide) (by decide) (by decide) (by decide), hw.tok]
    show w.tok (k0_off7 t 1 + 1 * (p 1).val) (k0_off7 t 2 + 1 * (p 2).val) = _
    rw [o7, Nat.one_mul, Nat.one_mul]
    show w.tok _ (0 + _) = _
    rw [Nat.zero_add]; rfl
  have e2 : ∀ p : S1x1x32x8.Idx, σ .xs ((Rect.unit (s := S1x1x256x8) (k0_off8 t) S1x1x32x8.size (k0_off8_inb t)).toLoadRect.idx p)
      = w.xs (32 * t.val + (p 2).val) (p 3).val := fun p => by
    rw [hI.fr .xs (by decide) (by decide) (by decide) (by decide) (by decide), hw.xs]
    show w.xs (k0_off8 t 2 + 1 * (p 2).val) (k0_off8 t 3 + 1 * (p 3).val) = _
    rw [o8, Nat.one_mul, Nat.one_mul]
    show w.xs _ (0 + _) = _
    rw [Nat.zero_add]; rfl
  have e3 : ∀ p : S1x1x32x8.Idx, σ .dys ((Rect.unit (s := S1x1x256x8) (k0_off8 t) S1x1x32x8.size (k0_off8_inb t)).toLoadRect.idx p)
      = w.dys (32 * t.val + (p 2).val) (p 3).val := fun p => by
    rw [hI.fr .dys (by decide) (by decide) (by decide) (by decide) (by decide), hw.dys]
    show w.dys (k0_off8 t 2 + 1 * (p 2).val) (k0_off8 t 3 + 1 * (p 3).val) = _
    rw [o8, Nat.one_mul, Nat.one_mul]
    show w.dys _ (0 + _) = _
    rw [Nat.zero_add]; rfl
  rw [t2_run M t σ _ _ _ (funext e1) (funext e2) (funext e3)]
  have hm := mapL_rule M (preRow M t _ _ _) (fun _ => ()) (fun k s => PI (w.pt adj0) σ0 t.val k s)
    (fun k s h => ⟨rfl, preRow_spec M w σ0 adj0 hw t ht k s _ _ _ (fun _ => rfl) (fun _ => rfl) (fun _ => rfl) h⟩) L8 0 σ rfl hI
  have h8 : PI (w.pt adj0) σ0 t.val 8 _ := hm.2
  exact ⟨h8.fr, fun p k s a b c => h8.del p k s a b (by have := (p 0).isLt; change _ < 2080 at this; omega),
    fun p k s a b c => h8.u p k s a b (by have := (p 0).isLt; change _ < 2080 at this; omega),
    fun p k s a b c => h8.gy p k s a b (by have := (p 0).isLt; change _ < 2080 at this; omega),
    fun p k s a b c => h8.gz p k s a b (by have := (p 0).isLt; change _ < 2080 at this; omega),
    fun p k s a b c => h8.sdt p k s a b (by have := (p 0).isLt; change _ < 2080 at this; omega)⟩

/-- After the pointwise loop. -/
structure PreOut (σ : S) : Prop where
  fr : ∀ b, b ≠ .del → b ≠ .u → b ≠ .gy → b ≠ .gz → b ≠ .sdt → σ b = σ0 b
  del : Slab (σ .del) q.del fun _ => True
  u : Slab (σ .u) q.u fun _ => True
  gy : Slab (σ .gy) q.gy fun _ => True
  gz : Slab (σ .gz) q.gz fun _ => True
  sdt : Slab (σ .sdt) q.sdt fun _ => True

theorem pre_loop (adj0 : ℕ → ℕ → EReal) (hw : w.In σ0) :
    PreOut (w.pt adj0) σ0 ((Cmd.loop k0_t2_loop k0_t2_ok () (t2 M)).run σ0).2 := by
  have hk : k0_t2_loop.trips = 8 := by decide
  have h := iter_all (fun t a s => (t2 M t a).run s) (fun i _ s => PI (w.pt adj0) σ0 i 0 s)
    (fun t _ s h => t2_spec M w σ0 adj0 hw t (by have := t.isLt; omega) s h) () σ0
    ⟨fun _ _ _ _ _ _ => rfl, fun p k s a b c => by omega, fun p k s a b c => by omega, fun p k s a b c => by omega,
      fun p k s a b c => by omega, fun p k s a b c => by omega⟩
  have h8 : PI (w.pt adj0) σ0 k0_t2_loop.trips 0 ((Cmd.loop k0_t2_loop k0_t2_ok () (t2 M)).run σ0).2 := h
  rw [hk] at h8
  exact ⟨h8.fr, fun p k s a b c => h8.del p k s a b (by omega), fun p k s a b c => h8.u p k s a b (by omega),
    fun p k s a b c => h8.gy p k s a b (by omega), fun p k s a b c => h8.gz p k s a b (by omega), fun p k s a b c => h8.sdt p k s a b (by omega)⟩

/-! ## `B` and `C` spread -/

/-- Between the parts of a trip of the spreading loop: `s` steps of `B` and `s'` of `C` done. -/
structure SI (s s' : ℕ) (σ : S) : Prop where
  fr : ∀ b, b ≠ .bb → b ≠ .cb → σ b = σ0 b
  bb : Rows (σ .bb) (fun t n _ => w.b t n * w.tok t 1) fun t _ => t < s
  cb : Rows (σ .cb) (fun t n _ => w.c t n * w.tok t 2) fun t _ => t < s'

/-- One store of spread rows. -/
def putB (i : grid0.Coords) (h : k0_cond3 i = 1#1) (t : Fin k0_t1_loop.trips) (v : FVec Ideal S32x16 .f32) (q : Fin 4) : C (F := Ideal) M Unit :=
  .load .bb (r6 i h t q).toLoadRect h_S128x128 fun _ =>
    .store .bb (r6 i h t q) (spread q v) (View.stores_vmem_bits_univ h_S128x128 rfl) (.ret ())
def putC (i : grid0.Coords) (h : k0_cond3 i = 1#1) (t : Fin k0_t1_loop.trips) (v : FVec Ideal S32x16 .f32) (q : Fin 4) : C (F := Ideal) M Unit :=
  .load .cb (r6 i h t q).toLoadRect h_S128x128 fun _ =>
    .store .cb (r6 i h t q) (spread q v) (View.stores_vmem_bits_univ h_S128x128 rfl) (.ret ())

theorem putB_spec (i : grid0.Coords) (h : k0_cond3 i = 1#1) (t : Fin k0_t1_loop.trips) (ht : t.val < 8) (v : FVec Ideal S32x16 .f32) (q : Fin 4)
    (hv : ∀ j, v j = w.b (32 * t.val + (j 0).val) (j 1).val * w.tok (32 * t.val + (j 0).val) 1) (s' : ℕ) (σ : S)
    (hI : SI w σ0 (32 * t.val + 8 * q.val) s' σ) : SI w σ0 (32 * t.val + 8 * (q.val + 1)) s' ((putB M i h t v q).run σ).2 := by
  have e : ((putB M i h t v q).run σ).2 = Function.update σ .bb (put (r6 i h t q) (spread q v) (σ .bb)) := rfl
  rw [e]
  refine ⟨?_, ?_, ?_⟩
  · intro b h1 h2
    rw [Function.update_of_ne h1]; exact hI.fr b h1 h2
  · simp only [Function.update_self]
    refine hI.bb.store128 _ _ (32 * t.val + 8 * q.val) (by rw [k0_off6_eq]; congr 1; omega) _ (fun j s n e1 e2 e3 => ?_) _ (fun s n _ hs => by omega)
    rw [spread_at q v j s n e3 e2 e1, hv]
    show w.b (32 * t.val + (8 * q.val + s)) n * w.tok (32 * t.val + (8 * q.val + s)) 1 = _
    rw [Nat.add_assoc]
  · simp only [Function.update_of_ne, ne_eq, reduceCtorEq, not_false_eq_true]
    exact hI.cb

theorem putC_spec (i : grid0.Coords) (h : k0_cond3 i = 1#1) (t : Fin k0_t1_loop.trips) (ht : t.val < 8) (v : FVec Ideal S32x16 .f32) (q : Fin 4)
    (hv : ∀ j, v j = w.c (32 * t.val + (j 0).val) (j 1).val * w.tok (32 * t.val + (j 0).val) 2) (s' : ℕ) (σ : S)
    (hI : SI w σ0 s' (32 * t.val + 8 * q.val) σ) : SI w σ0 s' (32 * t.val + 8 * (q.val + 1)) ((putC M i h t v q).run σ).2 := by
  have e : ((putC M i h t v q).run σ).2 = Function.update σ .cb (put (r6 i h t q) (spread q v) (σ .cb)) := rfl
  rw [e]
  refine ⟨?_, ?_, ?_⟩
  · intro b h1 h2
    rw [Function.update_of_ne h2]; exact hI.fr b h1 h2
  · simp only [Function.update_of_ne, ne_eq, reduceCtorEq, not_false_eq_true]
    exact hI.bb
  · simp only [Function.update_self]
    refine hI.cb.store128 _ _ (32 * t.val + 8 * q.val) (by rw [k0_off6_eq]; congr 1; omega) _ (fun j s n e1 e2 e3 => ?_) _ (fun s n _ hs => by omega)
    rw [spread_at q v j s n e3 e2 e1, hv]
    show w.c (32 * t.val + (8 * q.val + s)) n * w.tok (32 * t.val + (8 * q.val + s)) 2 = _
    rw [Nat.add_assoc]

abbrev ldTok (i : grid0.Coords) (h : k0_cond3 i = 1#1) (t : Fin k0_t1_loop.trips) (σ : S) : FVec Ideal S1x32x3 .f32 :=
  fun p => σ .tok ((Rect.unit (s := S1x256x3) (k0_off4 t) S1x32x3.size (k0_off4_inb i t h)).toLoadRect.idx p)

attribute [local irreducible] mapL spread bVal cVal in
theorem t1_run (i : grid0.Coords) (h : k0_cond3 i = 1#1) (t : Fin k0_t1_loop.trips) (σ : S) (σ1 : S) (tk : FVec Ideal S1x32x3 .f32) (bv cv : FVec Ideal S1x32x16 .fp8e4m3)
    (e1 : (fun p : S1x32x3.Idx => σ .tok ((Rect.unit (s := S1x256x3) (k0_off4 t) S1x32x3.size (k0_off4_inb i t h)).toLoadRect.idx p)) = tk)
    (e2 : (fun p : S1x32x16.Idx => σ .b ((Rect.unit (s := S1x256x16) (k0_off5 t) S1x32x16.size (k0_off5_inb i t h)).toLoadRect.idx p)) = bv)
    (eσ : ((mapL M (putB M i h t (bVal tk bv)) L4).run σ).2 = σ1)
    (e3 : (fun p : S1x32x16.Idx => σ1 .c ((Rect.unit (s := S1x256x16) (k0_off5 t) S1x32x16.size (k0_off5_inb i t h)).toLoadRect.idx p)) = cv) :
    ((t1 M i h t ()).run σ).2 = ((mapL M (putC M i h t (cVal tk cv)) L4).run σ1).2 := by
  subst e1 e2 eσ e3
  rfl

theorem t1_spec (i : grid0.Coords) (h : k0_cond3 i = 1#1) (htok : ∀ p : S1x256x3.Idx, σ0 .tok p = w.tok (p 1).val (p 2).val)
    (hb : ∀ p : S1x256x16.Idx, σ0 .b p = w.b (p 1).val (p 2).val) (hc : ∀ p : S1x256x16.Idx, σ0 .c p = w.c (p 1).val (p 2).val)
    (t : Fin k0_t1_loop.trips) (ht : t.val < 8) (σ : S) (hI : SI w σ0 (32 * t.val) (32 * t.val) σ) :
    SI w σ0 (32 * (t.val + 1)) (32 * (t.val + 1)) ((t1 M i h t ()).run σ).2 := by
  have o4 : k0_off4 t = ![0, 32 * t.val, 0] := k0_off4_eq t
  have o5 : k0_off5 t = ![0, 32 * t.val, 0] := k0_off5_eq t
  have e1 : ∀ p : S1x32x3.Idx, σ .tok ((Rect.unit (s := S1x256x3) (k0_off4 t) S1x32x3.size (k0_off4_inb i t h)).toLoadRect.idx p)
      = w.tok (32 * t.val + (p 1).val) (p 2).val := fun p => by
    rw [hI.fr .tok (by decide) (by decide), htok]
    show w.tok (k0_off4 t 1 + 1 * (p 1).val) (k0_off4 t 2 + 1 * (p 2).val) = _
    rw [o4, Nat.one_mul, Nat.one_mul]
    show w.tok _ (0 + _) = _
    rw [Nat.zero_add]; rfl
  have ld : ∀ (X : S1x256x16.Idx → EReal) (f : ℕ → ℕ → EReal) (hX : ∀ p, X p = f (p 1).val (p 2).val) (p : S1x32x16.Idx),
      X ((Rect.unit (s := S1x256x16) (k0_off5 t) S1x32x16.size (k0_off5_inb i t h)).toLoadRect.idx p) = f (32 * t.val + (p 1).val) (p 2).val := fun X f hX p => by
    rw [hX]
    show f (k0_off5 t 1 + 1 * (p 1).val) (k0_off5 t 2 + 1 * (p 2).val) = _
    rw [o5, Nat.one_mul, Nat.one_mul]
    show f _ (0 + _) = _
    rw [Nat.zero_add]; rfl
  have e2 := ld (σ .b) w.b (fun p => by rw [hI.fr .b (by decide) (by decide)]; exact hb p)
  have hm := mapL_rule M (putB M i h t (bVal (F := Ideal) (fun p => w.tok (32 * t.val + (p 1).val) (p 2).val) (fun p => w.b (32 * t.val + (p 1).val) (p 2).val)))
    (fun _ => ()) (fun k s => SI w σ0 (32 * t.val + 8 * k) (32 * t.val) s)
    (fun k s h1 => ⟨rfl, putB_spec M w σ0 i h t ht _ k (fun j => by rw [bVal_at]; rfl) _ s h1⟩) L4 0 σ rfl hI
  generalize hσ1 : ((mapL M (putB M i h t (bVal (F := Ideal) (fun p => w.tok (32 * t.val + (p 1).val) (p 2).val) (fun p => w.b (32 * t.val + (p 1).val) (p 2).val))) L4).run σ).2 = σ1 at hm
  have hI1 : SI w σ0 (32 * t.val + 8 * 4) (32 * t.val) σ1 := hm.2
  have e3 := ld (σ1 .c) w.c (fun p => by rw [hI1.fr .c (by decide) (by decide)]; exact hc p)
  rw [t1_run M i h t σ σ1 _ _ _ (funext e1) (funext e2) hσ1 (funext e3)]
  have hm2 := mapL_rule M (putC M i h t (cVal (F := Ideal) (fun p => w.tok (32 * t.val + (p 1).val) (p 2).val) (fun p => w.c (32 * t.val + (p 1).val) (p 2).val)))
    (fun _ => ()) (fun k s => SI w σ0 (32 * t.val + 8 * 4) (32 * t.val + 8 * k) s)
    (fun k s h1 => ⟨rfl, putC_spec M w σ0 i h t ht _ k (fun j => by rw [cVal_at]; rfl) _ s h1⟩) L4 0 σ1 rfl hI1
  exact hm2.2

/-- After the spreading loop. -/
theorem spread_loop (i : grid0.Coords) (h : k0_cond3 i = 1#1) (htok : ∀ p : S1x256x3.Idx, σ0 .tok p = w.tok (p 1).val (p 2).val)
    (hb : ∀ p : S1x256x16.Idx, σ0 .b p = w.b (p 1).val (p 2).val) (hc : ∀ p : S1x256x16.Idx, σ0 .c p = w.c (p 1).val (p 2).val) :
    SI w σ0 256 256 ((Cmd.loop k0_t1_loop (k0_t1_ok i h) () (t1 M i h)).run σ0).2 := by
  have hk : k0_t1_loop.trips = 8 := by decide
  have h1 := iter_all (fun t a s => (t1 M i h t a).run s) (fun k _ s => SI w σ0 (32 * k) (32 * k) s)
    (fun t _ s h1 => t1_spec M w σ0 i h htok hb hc t (by have := t.isLt; omega) s h1) () σ0
    ⟨fun _ _ _ => rfl, fun p t n a b c => by omega, fun p t n a b c => by omega⟩
  have h8 : SI w σ0 (32 * k0_t1_loop.trips) (32 * k0_t1_loop.trips) ((Cmd.loop k0_t1_loop (k0_t1_ok i h) () (t1 M i h)).run σ0).2 := h1
  rw [hk] at h8
  exact h8

end Cert.KernelIdeal.Val

end
-- ==== Proof.Post.lean ====
/- The loops after the backward loop: the rows of `dx`, `ddt` and `dz`, and the sums over lanes for `dB` and `dC`. -/
module

public import proofs.«01_k».proof.Proof.Pre

@[expose] public section

set_option maxRecDepth 65536

set_option backward.isDefEq.respectTransparency.types false

noncomputable section

namespace Cert.KernelIdeal.Val

open Idealize.ShloMosaic Idealize.SL.Sem Cert.Proof Cert.KernelIdeal Cert.KernelIdeal.Gen Cert.KernelIdeal.Body

namespace Pt
variable (q : Pt)
def dx (t d : ℕ) : EReal := q.gy t d * q.D d + q.del t d * q.ghb t d
def ddt (t d : ℕ) : EReal := (q.dds t d + q.u t d * q.ghb t d) * q.sdt t d
def dz (t d : ℕ) : EReal := q.gz t d * (q.Y t d + q.D d * q.u t d)
end Pt

theorem dRow_at (d : FVec Ideal S1x128 .f32) (j : S32x128.Idx) : dRow d j = d (ix2 0 (j 1)) := by
  pointwise; try rfl
theorem out32_at (v : W Ideal) (j : S1x32x128.Idx) : out32 v j = v (ix2 (j 1) (j 2)) := by
  pointwise; try rfl
theorem laneSum_at (v : FVec Ideal S128x128 .f32) (j : S1x1x128.Idx) : laneSum v j = ∑ k : Fin 128, v (ix2 (j 2) k) := by
  pointwise [laneSum]; try rfl

/-- A block of results, by sublane and step. -/
def Out (X : S1x256x1024.Idx → EReal) (f : ℕ → ℕ → EReal) (P : ℕ → ℕ → Prop) : Prop :=
  ∀ p : S1x256x1024.Idx, P ((p 2).val / 128) (p 1).val → X p = f (p 1).val (p 2).val

theorem Out.store {X f P} (h : Out X f P) (off : Fin 3 → ℕ) (inb) (t k : ℕ) (ho : off = ![0, t, 128 * k])
    (v : FVec Ideal S1x32x128 .bf16) (hv : ∀ j, v j = f (t + (j 1).val) (128 * k + (j 2).val)) (Q : ℕ → ℕ → Prop)
    (hQ : ∀ k' s, s < 256 → Q k' s → P k' s ∨ k' = k ∧ t ≤ s ∧ s < t + 32) :
    Out (put (Rect.unit (s := S1x256x1024) off S1x32x128.size inb) v X) f Q := by
  subst ho
  intro p hq
  have h0 : (p 0).val < 1 := (p 0).isLt
  have h1 : (p 1).val < 256 := (p 1).isLt
  have h2 : (p 2).val < 1024 := (p 2).isLt
  by_cases e : (p 2).val / 128 = k ∧ t ≤ (p 1).val ∧ (p 1).val < t + 32
  · obtain ⟨e, e1, e2⟩ := e
    rw [put_at (Rect.unit (s := S1x256x1024) ![0, t, 128 * k] S1x32x128.size inb) _ _ p
      (ix3 (p 0) ⟨(p 1).val - t, by omega⟩ ⟨(p 2).val - 128 * k, by omega⟩) (by
        intro a; fin_cases a
        · show (p 0).val = 0 + 1 * (p 0).val; omega
        · show (p 1).val = t + 1 * ((p 1).val - t); omega
        · show (p 2).val = 128 * k + 1 * ((p 2).val - 128 * k); omega), hv]
    show f (t + ((p 1).val - t)) (128 * k + ((p 2).val - 128 * k)) = _
    rw [show t + ((p 1).val - t) = (p 1).val by omega, show 128 * k + ((p 2).val - 128 * k) = (p 2).val by omega]
  · rw [put_miss _ _ _ p (fun j hj => by
      have a1 := hj 1
      have a2 := hj 2
      have j1 : (j 1).val < 32 := (j 1).isLt
      have j2 : (j 2).val < 128 := (j 2).isLt
      change (p 1).val = t + 1 * (j 1).val at a1
      change (p 2).val = 128 * k + 1 * (j 2).val at a2
      omega)]
    exact h p ((hQ _ _ h1 hq).resolve_right e)

variable (M : ∀ b : Bf, Memref sig .tc .vmem (shp b) (elt b)) (hM : ∀ b, (M b).IsWhole) (q : Pt) (σ0 : S)

/-- What the rows are made of. -/
structure PostIn : Prop where
  del : Slab (σ0 .del) q.del fun _ => True
  u : Slab (σ0 .u) q.u fun _ => True
  gy : Slab (σ0 .gy) q.gy fun _ => True
  gz : Slab (σ0 .gz) q.gz fun _ => True
  sdt : Slab (σ0 .sdt) q.sdt fun _ => True
  y : Slab (σ0 .y) q.Y fun _ => True
  ghb : Slab (σ0 .ghb) q.ghb fun _ => True
  dds : Slab (σ0 .ddS) q.dds fun _ => True
  d : ∀ p : S1x1024.Idx, σ0 .d p = q.D (p 1).val

/-- Between the sublanes: -/
structure OI (t k : ℕ) (σ : S) : Prop where
  fr : ∀ b, b ≠ .dx → b ≠ .ddt → b ≠ .dz → σ b = σ0 b
  dx : Out (σ .dx) q.dx fun k' s => s < 32 * t ∨ s < 32 * (t + 1) ∧ k' < k
  ddt : Out (σ .ddt) q.ddt fun k' s => s < 32 * t ∨ s < 32 * (t + 1) ∧ k' < k
  dz : Out (σ .dz) q.dz fun k' s => s < 32 * t ∨ s < 32 * (t + 1) ∧ k' < k

theorem postRow_run (t : Fin k0_t5_loop.trips) (k : Fin 8) (σ : S) (dr : FVec Ideal S1x128 .f32) (u ghb gy del dd sdt gz y : W Ideal)
    (e1 : (fun p : S1x128.Idx => σ .d ((Rect.unit (s := S1x1024) ![0, 128 * k.val] S1x128.size (inbD k)).toLoadRect.idx p)) = dr)
    (e2 : (fun p : S32x128.Idx => σ .u ((r63 t k).toLoadRect.idx p)) = u)
    (e3 : (fun p : S32x128.Idx => σ .ghb ((r63 t k).toLoadRect.idx p)) = ghb)
    (e4 : (fun p : S32x128.Idx => σ .gy ((r63 t k).toLoadRect.idx p)) = gy)
    (e5 : (fun p : S32x128.Idx => σ .del ((r63 t k).toLoadRect.idx p)) = del)
    (e6 : (fun p : S32x128.Idx => σ .ddS ((r63 t k).toLoadRect.idx p)) = dd)
    (e7 : (fun p : S32x128.Idx => σ .sdt ((r63 t k).toLoadRect.idx p)) = sdt)
    (e8 : (fun p : S32x128.Idx => σ .gz ((r63 t k).toLoadRect.idx p)) = gz)
    (e9 : (fun p : S32x128.Idx => σ .y ((r63 t k).toLoadRect.idx p)) = y) :
    ((postRow M hM t k).run σ).2 = Function.update (Function.update (Function.update σ
      .dx (put (rY t k) (out32 (addf (mulf gy (dRow dr)) (mulf del ghb))) (σ .dx)))
      .ddt (put (rY t k) (out32 (mulf (addf dd (mulf u ghb)) sdt)) (σ .ddt)))
      .dz (put (rY t k) (out32 (mulf gz (addf y (mulf (dRow dr) u)))) (σ .dz)) := by
  subst e1 e2 e3 e4 e5 e6 e7 e8 e9
  rfl

theorem postRow_spec (hP : PostIn q σ0) (t : Fin k0_t5_loop.trips) (ht : t.val < 8) (k : Fin 8) (σ : S) (hI : OI q σ0 t.val k.val σ) :
    OI q σ0 t.val (k.val + 1) ((postRow M hM t k).run σ).2 := by
  have hk := k.isLt
  have o : k0_off63 t (BitVec.ofNat 32 (260 * k.val)) = ![260 * k.val + 32 * t.val, 0] := k0_off63_eq t k
  have oY : (![0, k0_off64 t 1, 128 * k.val] : Fin 3 → ℕ) = ![0, 32 * t.val, 128 * k.val] := by rw [k0_off64_eq]; rfl
  have e1 : (fun p : S1x128.Idx => σ .d ((Rect.unit (s := S1x1024) ![0, 128 * k.val] S1x128.size (inbD k)).toLoadRect.idx p)) = fun p => q.D (128 * k.val + (p 1).val) := by
    rw [hI.fr .d (by decide) (by decide) (by decide)]
    funext p
    rw [hP.d]
    show q.D (128 * k.val + 1 * (p 1).val) = _
    rw [Nat.one_mul]
  have ld : ∀ (X : S2080x128.Idx → EReal) (f : ℕ → ℕ → EReal), Slab X f (fun _ => True) →
      (fun p : S32x128.Idx => X ((r63 t k).toLoadRect.idx p)) = fun p => f (32 * t.val + (p 0).val) (128 * k.val + (p 1).val) := fun X f hX =>
    hX.load32 _ _ (32 * t.val) k.val o (by omega) (fun _ _ _ => trivial)
  rw [postRow_run M hM t k σ _ (fun p => q.u (32 * t.val + (p 0).val) (128 * k.val + (p 1).val)) (fun p => q.ghb (32 * t.val + (p 0).val) (128 * k.val + (p 1).val))
    (fun p => q.gy (32 * t.val + (p 0).val) (128 * k.val + (p 1).val)) (fun p => q.del (32 * t.val + (p 0).val) (128 * k.val + (p 1).val))
    (fun p => q.dds (32 * t.val + (p 0).val) (128 * k.val + (p 1).val)) (fun p => q.sdt (32 * t.val + (p 0).val) (128 * k.val + (p 1).val))
    (fun p => q.gz (32 * t.val + (p 0).val) (128 * k.val + (p 1).val)) (fun p => q.Y (32 * t.val + (p 0).val) (128 * k.val + (p 1).val)) e1
    (by rw [hI.fr .u (by decide) (by decide) (by decide)]; exact ld _ _ hP.u)
    (by rw [hI.fr .ghb (by decide) (by decide) (by decide)]; exact ld _ _ hP.ghb)
    (by rw [hI.fr .gy (by decide) (by decide) (by decide)]; exact ld _ _ hP.gy)
    (by rw [hI.fr .del (by decide) (by decide) (by decide)]; exact ld _ _ hP.del)
    (by rw [hI.fr .ddS (by decide) (by decide) (by decide)]; exact ld _ _ hP.dds)
    (by rw [hI.fr .sdt (by decide) (by decide) (by decide)]; exact ld _ _ hP.sdt)
    (by rw [hI.fr .gz (by decide) (by decide) (by decide)]; exact ld _ _ hP.gz)
    (by rw [hI.fr .y (by decide) (by decide) (by decide)]; exact ld _ _ hP.y)]
  refine ⟨?_, ?_, ?_, ?_⟩
  · intro b h1 h2 h3
    rw [Function.update_of_ne h3, Function.update_of_ne h2, Function.update_of_ne h1]
    exact hI.fr b h1 h2 h3
  · simp only [Function.update_self, Function.update_of_ne, ne_eq, reduceCtorEq, not_false_eq_true]
    refine hI.dx.store _ _ (32 * t.val) k.val oY _ (fun j => ?_) _ (fun k' s _ h => by omega)
    rw [out32_at]
    show _ * dRow _ _ + _ = _
    rw [dRow_at]; rfl
  · simp only [Function.update_self, Function.update_of_ne, ne_eq, reduceCtorEq, not_false_eq_true]
    refine hI.ddt.store _ _ (32 * t.val) k.val oY _ (fun j => ?_) _ (fun k' s _ h => by omega)
    rw [out32_at]; rfl
  · simp only [Function.update_self]
    refine hI.dz.store _ _ (32 * t.val) k.val oY _ (fun j => ?_) _ (fun k' s _ h => by omega)
    rw [out32_at]
    show _ * (_ + dRow _ _ * _) = _
    rw [dRow_at]; rfl

attribute [local irreducible] mapL postRow in
theorem t5_run (t : Fin k0_t5_loop.trips) (σ : S) : ((t5 M hM t ()).run σ).2 = ((mapL M (postRow M hM t) L8).run σ).2 := rfl

theorem t5_spec (hP : PostIn q σ0) (t : Fin k0_t5_loop.trips) (ht : t.val < 8) (σ : S) (hI : OI q σ0 t.val 0 σ) :
    OI q σ0 (t.val + 1) 0 ((t5 M hM t ()).run σ).2 := by
  rw [t5_run M hM t σ]
  have hm := mapL_rule M (postRow M hM t) (fun _ => ()) (fun k s => OI q σ0 t.val k s)
    (fun k s h => ⟨rfl, postRow_spec M hM q σ0 hP t ht k s h⟩) L8 0 σ rfl hI
  have h8 : OI q σ0 t.val 8 _ := hm.2
  exact ⟨h8.fr, fun p h => h8.dx p (by have : (p 2).val < 1024 := (p 2).isLt; omega),
    fun p h => h8.ddt p (by have : (p 2).val < 1024 := (p 2).isLt; omega), fun p h => h8.dz p (by have : (p 2).val < 1024 := (p 2).isLt; omega)⟩

/-- After the loop of the rows. -/
structure PostOut (σ : S) : Prop where
  fr : ∀ b, b ≠ .dx → b ≠ .ddt → b ≠ .dz → σ b = σ0 b
  dx : ∀ p : S1x256x1024.Idx, σ .dx p = q.dx (p 1).val (p 2).val
  ddt : ∀ p : S1x256x1024.Idx, σ .ddt p = q.ddt (p 1).val (p 2).val
  dz : ∀ p : S1x256x1024.Idx, σ .dz p = q.dz (p 1).val (p 2).val

theorem post_loop (hP : PostIn q σ0) : PostOut q σ0 ((Cmd.loop k0_t5_loop k0_t5_ok () (t5 M hM)).run σ0).2 := by
  have hk : k0_t5_loop.trips = 8 := by decide
  have h := iter_all (fun t a s => (t5 M hM t a).run s) (fun i _ s => OI q σ0 i 0 s)
    (fun t _ s h => t5_spec M hM q σ0 hP t (by have := t.isLt; omega) s h) () σ0
    ⟨fun _ _ _ _ => rfl, fun p h => by omega, fun p h => by omega, fun p h => by omega⟩
  have h8 : OI q σ0 k0_t5_loop.trips 0 ((Cmd.loop k0_t5_loop k0_t5_ok () (t5 M hM)).run σ0).2 := h
  rw [hk] at h8
  exact ⟨h8.fr, fun p => h8.dx p (by have : (p 1).val < 256 := (p 1).isLt; omega),
    fun p => h8.ddt p (by have : (p 1).val < 256 := (p 1).isLt; omega), fun p => h8.dz p (by have : (p 1).val < 256 := (p 1).isLt; omega)⟩

/-! ## The sums over lanes -/

/-- A chunk's `dB` or `dC`, its first `m` rows. -/
def LS (X : S1x32x128.Idx → EReal) (f : ℕ → ℕ → ℕ → EReal) (m : ℕ) : Prop :=
  ∀ (p : S1x32x128.Idx) (t n : ℕ), 128 * (p 1).val + (p 2).val = 16 * t + n → n < 16 → (p 1).val < m → X p = ∑ l : Fin 128, f t n l.val

theorem LS.store {X f m} (h : LS X f m) (off : Fin 3 → ℕ) (inb) (ho : off = ![0, m, 0]) (Y : S4096x128.Idx → EReal) (hY : Rows Y f fun _ _ => True)
    (off' : Fin 2 → ℕ) (inb') (ho' : off' = ![128 * m, 0]) :
    LS (put (Rect.unit (s := S1x32x128) off S1x1x128.size inb)
      (laneSum (F := Ideal) fun p => Y ((Rect.unit (s := S4096x128) off' S128x128.size inb').toLoadRect.idx p)) X) f (m + 1) := by
  subst ho ho'
  intro p t n hp hn hm
  have h0 : (p 0).val < 1 := (p 0).isLt
  have h2 : (p 2).val < 128 := (p 2).isLt
  by_cases e : (p 1).val = m
  · rw [put_at (Rect.unit (s := S1x32x128) ![0, m, 0] S1x1x128.size inb) _ _ p (ix3 (p 0) 0 (p 2)) (by
        intro a; fin_cases a
        · show (p 0).val = 0 + 1 * (p 0).val; omega
        · show (p 1).val = m + 1 * 0; omega
        · show (p 2).val = 0 + 1 * (p 2).val; omega), laneSum_at]
    refine Finset.sum_congr rfl fun l _ => ?_
    refine (hY _ t n ?_ hn trivial).trans ?_
    · show 128 * m + 1 * (p 2).val = _; omega
    · show f t n (0 + 1 * l.val) = _
      rw [Nat.zero_add, Nat.one_mul]
  · rw [put_miss _ _ _ p (fun j hj => by
      have a1 := hj 1
      have j1 : (j 1).val < 1 := (j 1).isLt
      change (p 1).val = m + 1 * (j 1).val at a1
      omega)]
    exact h p t n hp hn (by omega)

variable (fb fc : ℕ → ℕ → ℕ → EReal)

/-- Between the trips of the loop of the sums. -/
structure LI (m : ℕ) (σ : S) : Prop where
  fr : ∀ b, b ≠ .db → b ≠ .dc → σ b = σ0 b
  db : LS (σ .db) fb m
  dc : LS (σ .dc) fc m

theorem t6_run (i : grid0.Coords) (h : k0_cond4 i = 1#1) (t : Fin k0_t6_loop.trips) (σ : S) :
    ((t6 M i h t ()).run σ).2 = Function.update (Function.update σ
      .db (put (Rect.unit (s := S1x32x128) (k0_off73 t) S1x1x128.size (k0_off73_inb i t h))
        (laneSum (F := Ideal) fun p : S128x128.Idx => σ .dbacc ((Rect.unit (s := S4096x128) (k0_off72 t) S128x128.size (k0_off72_inb i t h)).toLoadRect.idx p)) (σ .db)))
      .dc (put (Rect.unit (s := S1x32x128) (k0_off73 t) S1x1x128.size (k0_off73_inb i t h))
        (laneSum (F := Ideal) fun p : S128x128.Idx => σ .dcacc ((Rect.unit (s := S4096x128) (k0_off72 t) S128x128.size (k0_off72_inb i t h)).toLoadRect.idx p)) (σ .dc)) := rfl

theorem lane_loop (i : grid0.Coords) (h : k0_cond4 i = 1#1) (hb : Rows (σ0 .dbacc) fb fun _ _ => True) (hc : Rows (σ0 .dcacc) fc fun _ _ => True) :
    LI σ0 fb fc 32 ((Cmd.loop k0_t6_loop (k0_t6_ok i h) () (t6 M i h)).run σ0).2 := by
  have hk : k0_t6_loop.trips = 32 := by decide
  have h1 := iter_all (fun t a s => (t6 M i h t a).run s) (fun k _ s => LI σ0 fb fc k s)
    (fun t a σ hI => by
      show LI σ0 fb fc (t.val + 1) ((t6 M i h t a).run σ).2
      rw [t6_run M i h t σ]
      refine ⟨?_, ?_, ?_⟩
      · intro b h1 h2
        rw [Function.update_of_ne h2, Function.update_of_ne h1]; exact hI.fr b h1 h2
      · simp only [Function.update_self, Function.update_of_ne, ne_eq, reduceCtorEq, not_false_eq_true]
        refine hI.db.store _ _ (k0_off73_eq t) _ ?_ _ _ (k0_off72_eq t)
        rw [hI.fr .dbacc (by decide) (by decide)]; exact hb
      · simp only [Function.update_self]
        refine hI.dc.store _ _ (k0_off73_eq t) _ ?_ _ _ (k0_off72_eq t)
        rw [hI.fr .dcacc (by decide) (by decide)]; exact hc) () σ0
    ⟨fun _ _ _ => rfl, fun p t n a b c => by omega, fun p t n a b c => by omega⟩
  have h8 : LI σ0 fb fc k0_t6_loop.trips ((Cmd.loop k0_t6_loop (k0_t6_ok i h) () (t6 M i h)).run σ0).2 := h1
  rw [hk] at h8
  exact h8

end Cert.KernelIdeal.Val

end
-- ==== Proof.Spec.lean ====
/- The whole computation by sequence position, state and channel: the quantities of one chunk of one batch element over
   all channels, the adjoint carried from chunk to chunk, and the seven results. Both programs are shown to compute these. -/
module

public import proofs.«01_k».proof.Proof.Post

@[expose] public section

set_option maxRecDepth 65536

set_option backward.isDefEq.respectTransparency.types false

noncomputable section

namespace Cert.KernelIdeal.Val

open Idealize.ShloMosaic Idealize.SL.Sem Cert.Proof Cert.KernelIdeal Cert.KernelIdeal.Gen Cert.KernelIdeal.Body

/-! ## Arrays read by numbers -/

/-- An array at coordinates given as numbers; zero outside. -/
def rd {s : Shape} (X : s.Idx → EReal) (f : Fin s.rank → ℕ) : EReal :=
  if h : ∀ a, f a < s.size a then X (fun a => ⟨f a, h a⟩) else 0

theorem rd_of {s : Shape} (X : s.Idx → EReal) (f : Fin s.rank → ℕ) (p : s.Idx) (h : ∀ a, f a = (p a).val) : rd X f = X p := by
  unfold rd
  rw [dif_pos (fun a => by rw [h a]; exact (p a).isLt)]
  exact congrArg X (funext fun a => Fin.ext (h a))

/-- The arguments: by batch element, sequence position and channel (or state, or group of channels), the chunk states by
    batch element, chunk, state and channel. -/
structure Ar where
  x : ℕ → ℕ → ℕ → EReal
  xs : ℕ → ℕ → ℕ → EReal
  dt : ℕ → ℕ → ℕ → EReal
  dts : ℕ → ℕ → EReal
  b : ℕ → ℕ → ℕ → EReal
  bs : ℕ → ℕ → EReal
  c : ℕ → ℕ → ℕ → EReal
  cs : ℕ → ℕ → EReal
  z : ℕ → ℕ → ℕ → EReal
  dy : ℕ → ℕ → ℕ → EReal
  dys : ℕ → ℕ → ℕ → EReal
  A : ℕ → ℕ → EReal
  D : ℕ → EReal
  h0 : ℕ → ℕ → ℕ → ℕ → EReal

/-- The arguments' arrays as functions of numbers. -/
def Ar.of (x : S2x1024x5120.Idx → EReal) (xs : S2x1024x40.Idx → EReal) (dt : S2x1024x5120.Idx → EReal) (dts : S2x1024.Idx → EReal)
    (b : S2x1024x16.Idx → EReal) (bs : S2x1024.Idx → EReal) (c : S2x1024x16.Idx → EReal) (cs : S2x1024.Idx → EReal)
    (z dy : S2x1024x5120.Idx → EReal) (dys : S2x1024x40.Idx → EReal) (A : S5120x16.Idx → EReal) (D : S5120.Idx → EReal)
    (h0 : S2x4x5120x16.Idx → EReal) : Ar where
  x i s d := rd x ![i, s, d]
  xs i s g := rd xs ![i, s, g]
  dt i s d := rd dt ![i, s, d]
  dts i s := rd dts ![i, s]
  b i s n := rd b ![i, s, n]
  bs i s := rd bs ![i, s]
  c i s n := rd c ![i, s, n]
  cs i s := rd cs ![i, s]
  z i s d := rd z ![i, s, d]
  dy i s d := rd dy ![i, s, d]
  dys i s g := rd dys ![i, s, g]
  A n d := rd A ![d, n]
  D d := rd D ![d]
  h0 i q n d := rd h0 ![i, q, d, n]

/-! ## Blocks of channels -/

/-- The channels from `o` on. -/
def Pt.shift (q : Pt) (o : ℕ) : Pt where
  del t d := q.del t (o + d)
  u t d := q.u t (o + d)
  gy t d := q.gy t (o + d)
  gz t d := q.gz t (o + d)
  sdt t d := q.sdt t (o + d)
  bm := q.bm
  cm := q.cm
  A n d := q.A n (o + d)
  h0 n d := q.h0 n (o + d)
  adj0 n d := q.adj0 n (o + d)
  D d := q.D (o + d)

namespace Pt
variable (q : Pt) (o : ℕ)

theorem shift_H (t n d : ℕ) : (q.shift o).H t n d = q.H t n (o + d) := by
  induction t with
  | zero => rfl
  | succ t ih => show _ * (q.shift o).H t n d + _ = _ * q.H t n (o + d) + _; rw [ih]; rfl

theorem shift_G (t n d : ℕ) : (q.shift o).G t n d = q.G t n (o + d) := by
  induction t with
  | zero => rfl
  | succ t ih =>
    show _ * (_ + (q.shift o).G t n d) = _ * (_ + q.G t n (o + d)); rw [ih]; rfl

theorem shift_gh (t n d : ℕ) : (q.shift o).gh t n d = q.gh t n (o + d) := by
  unfold gh; rw [shift_G]; rfl

theorem shift_gah (t n d : ℕ) : (q.shift o).gah t n d = q.gah t n (o + d) := by
  unfold gah; rw [shift_gh, shift_H]; rfl

theorem shift_ghb (t d : ℕ) : (q.shift o).ghb t d = q.ghb t (o + d) := by
  unfold ghb; simp only [shift_gh]; rfl

theorem shift_dds (t d : ℕ) : (q.shift o).dds t d = q.dds t (o + d) := by
  unfold dds; simp only [shift_gah]; rfl

theorem shift_Y (t d : ℕ) : (q.shift o).Y t d = q.Y t (o + d) := by
  unfold Y; simp only [shift_H]; rfl

theorem shift_dx (t d : ℕ) : (q.shift o).dx t d = q.dx t (o + d) := by
  unfold dx; rw [shift_ghb]; rfl

theorem shift_ddt (t d : ℕ) : (q.shift o).ddt t d = q.ddt t (o + d) := by
  unfold ddt; rw [shift_ghb, shift_dds]; rfl

theorem shift_dz (t d : ℕ) : (q.shift o).dz t d = q.dz t (o + d) := by
  unfold dz; rw [shift_Y]; rfl

end Pt

/-! ## One chunk -/

variable (r : Ar)

/-- The blocks of batch element `b`, chunk counter `c` (chunks run from the last to the first), block `s` of channels. -/
def Ar.bk (b c s : ℕ) : Bk where
  x t d := r.x b (256 * (3 - c) + t) (1024 * s + d)
  xs t k := r.xs b (256 * (3 - c) + t) (8 * s + k)
  dt t d := r.dt b (256 * (3 - c) + t) (1024 * s + d)
  tok t j := if j = 0 then r.dts b (256 * (3 - c) + t) else if j = 1 then r.bs b (256 * (3 - c) + t) else r.cs b (256 * (3 - c) + t)
  b t n := r.b b (256 * (3 - c) + t) n
  c t n := r.c b (256 * (3 - c) + t) n
  z t d := r.z b (256 * (3 - c) + t) (1024 * s + d)
  dy t d := r.dy b (256 * (3 - c) + t) (1024 * s + d)
  dys t k := r.dys b (256 * (3 - c) + t) (8 * s + k)
  A n d := r.A n (1024 * s + d)
  D d := r.D (1024 * s + d)
  h0 n d := r.h0 b (3 - c) n (1024 * s + d)

/-- A block of channels of the whole chunk. -/
theorem Ar.bk_shift (b c s : ℕ) (adj : ℕ → ℕ → EReal) :
    (r.bk b c s).pt (fun n d => adj n (1024 * s + d)) = ((r.bk b c 0).pt adj).shift (1024 * s) := by
  have e : ∀ d, 8 * s + d / 128 = 8 * 0 + (1024 * s + d) / 128 := fun d => by omega
  have e' : ∀ d, 1024 * s + d = 1024 * 0 + (1024 * s + d) := fun d => by omega
  unfold Bk.pt Pt.shift Ar.bk
  congr 1
  · funext t d; dsimp only; rw [← e' d]
  · funext t d; dsimp only; rw [← e' d, ← e d]
  · funext t d; dsimp only; rw [← e' d, ← e d]
  · funext t d; dsimp only; rw [← e' d, ← e d]
  · funext t d; dsimp only; rw [← e' d]
  · funext n d; dsimp only; rw [← e' d]
  · funext n d; dsimp only; rw [← e' d]
  · funext d; dsimp only; rw [← e' d]

/-- The adjoint of the state at the chunk's end: -/
def Ar.adj (b : ℕ) : ℕ → ℕ → ℕ → EReal
  | 0 => fun _ _ => 0
  | c + 1 => ((r.bk b c 0).pt (Ar.adj b c)).G 256

/-- The quantities of a chunk over all channels. -/
def Ar.Q (b c : ℕ) : Pt := (r.bk b c 0).pt (r.adj b c)

theorem Ar.adj_zero (b : ℕ) : r.adj b 0 = fun _ _ => 0 := rfl
theorem Ar.adj_succ (b c : ℕ) : r.adj b (c + 1) = (r.Q b c).G 256 := rfl
theorem Ar.bk_pt (b c s : ℕ) : (r.bk b c s).pt (fun n d => r.adj b c n (1024 * s + d)) = (r.Q b c).shift (1024 * s) :=
  r.bk_shift b c s (r.adj b c)

/-! ## The results -/

/-- `dx`, `ddt`, `dz` by batch element, position and channel, -/
def Ar.DX (b s d : ℕ) : EReal := (r.Q b (3 - s / 256)).dx (s % 256) d
def Ar.DDT (b s d : ℕ) : EReal := (r.Q b (3 - s / 256)).ddt (s % 256) d
def Ar.DZ (b s d : ℕ) : EReal := (r.Q b (3 - s / 256)).dz (s % 256) d
/-- `dB`, `dC` by batch element, position and state: sums over the channels, -/
def Pt.cB (q : Pt) (t n d : ℕ) : EReal := q.gh t n d * (q.del t d * q.u t d)
def Pt.cC (q : Pt) (t n d : ℕ) : EReal := q.H (t + 1) n d * q.gy t d
def Ar.DB (b s n : ℕ) : EReal := ∑ d ∈ Finset.range 5120, (r.Q b (3 - s / 256)).cB (s % 256) n d
def Ar.DC (b s n : ℕ) : EReal := ∑ d ∈ Finset.range 5120, (r.Q b (3 - s / 256)).cC (s % 256) n d
/-- `dA`, `dD` by state and channel: sums over the batch and the positions, one chunk after the other. -/
def Pt.sA (q : Pt) (n d : ℕ) : EReal := ∑ j ∈ Finset.range 256, q.gah (255 - j) n d * q.del (255 - j) d
def Pt.sD (q : Pt) (d : ℕ) : EReal := ∑ j ∈ Finset.range 256, q.gy j d * q.u j d
def Ar.cA (m n d : ℕ) : EReal := ∑ m' ∈ Finset.range m, (r.Q (m' / 4) (m' % 4)).sA n d
def Ar.cD (m d : ℕ) : EReal := ∑ m' ∈ Finset.range m, (r.Q (m' / 4) (m' % 4)).sD d

/-! ## Sums rearranged -/

/-- A sum over a range in blocks. -/
theorem sum_blocks (m n : ℕ) (f : ℕ → EReal) :
    ∑ d ∈ Finset.range (m * n), f d = ∑ i ∈ Finset.range m, ∑ j ∈ Finset.range n, f (n * i + j) := by
  induction m with
  | zero => rw [Nat.zero_mul, Finset.sum_range_zero, Finset.sum_range_zero]
  | succ m ih =>
    rw [Nat.succ_mul, Finset.sum_range_add, ih, Finset.sum_range_succ, Nat.mul_comm n m]

/-- The sum over the channels, lane by lane. -/
theorem sum_channels (f : ℕ → EReal) :
    ∑ l : Fin 128, ∑ s ∈ Finset.range 5, ∑ k : Fin 8, f (1024 * s + (128 * k.val + l.val)) = ∑ d ∈ Finset.range 5120, f d := by
  rw [show (5120 : ℕ) = 5 * 1024 from rfl, sum_blocks, Finset.sum_comm]
  refine Finset.sum_congr rfl fun s _ => ?_
  rw [show (1024 : ℕ) = 8 * 128 from rfl, sum_blocks 8 128 (fun j => f (8 * 128 * s + j)), Finset.sum_comm,
    ← Fin.sum_univ_eq_sum_range (fun i => ∑ j ∈ Finset.range 128, f (8 * 128 * s + (128 * i + j)))]
  refine Finset.sum_congr rfl fun k _ => ?_
  rw [← Fin.sum_univ_eq_sum_range (fun j => f (8 * 128 * s + (128 * k.val + j)))]

/-- What the first `s` blocks of channels give to one lane of `dB` and of `dC`. -/
def Ar.oB (b c s t n l : ℕ) : EReal := ∑ s' ∈ Finset.range s, ((r.Q b c).shift (1024 * s')).db t n l
def Ar.oC (b c s t n l : ℕ) : EReal := ∑ s' ∈ Finset.range s, ((r.Q b c).shift (1024 * s')).dc t n l

theorem Ar.oB_sum (b c t n : ℕ) : ∑ l : Fin 128, r.oB b c 5 t n l.val = ∑ d ∈ Finset.range 5120, (r.Q b c).cB t n d := by
  rw [← sum_channels]
  refine Finset.sum_congr rfl fun l _ => Finset.sum_congr rfl fun s _ => Finset.sum_congr rfl fun k _ => ?_
  rw [Pt.shift_gh]; rfl

theorem Ar.oC_sum (b c t n : ℕ) : ∑ l : Fin 128, r.oC b c 5 t n l.val = ∑ d ∈ Finset.range 5120, (r.Q b c).cC t n d := by
  rw [← sum_channels]
  refine Finset.sum_congr rfl fun l _ => Finset.sum_congr rfl fun s _ => Finset.sum_congr rfl fun k _ => ?_
  rw [Pt.shift_H]; rfl

end Cert.KernelIdeal.Val

end
-- ==== Proof.KernelHost.lean ====
/- What the kernel's windows hold at a grid point, in terms of the arguments: the blocks that the pipeline fetches of the
   arguments and of the arrays that the host lays out before the call. -/
module

public import proofs.«01_k».proof.Proof.Spec
public import proofs.«01_k».proof.Proof.RunIdeal
public import Idealize.ShloMosaic.Lib.Claim
public import Idealize.ShloMosaic.Lib.Pipeline.ValueKit

@[expose] public section

set_option maxRecDepth 65536

set_option backward.isDefEq.respectTransparency.types false

noncomputable section

namespace Cert.KernelIdeal.Val

open Idealize.ShloMosaic Idealize.ShloMosaic.TcCoe Idealize.SL Idealize.SL.Sem Cert.Proof Cert.KernelIdeal Cert.KernelIdeal.Gen Cert.KernelIdeal.Body
open Idealize.ShloMosaic.Pipeline (RDat)

variable (m : (ℓ : Loc nD τ sig) → Buf (Elt Ideal) ℓ) (c : Dev nD)

/-- The arguments. -/
def ar : Ar := Ar.of (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))
  (m ((c.tc : Thread nD τ).loc main_arg12)) (m ((c.tc : Thread nD τ).loc main_arg13))

/-- The coordinates of a point. -/
theorem coords_val : ∀ t : Fin cfg0.N, (grid0.coords t 0).val = t.val / 20 ∧ (grid0.coords t 1).val = t.val / 5 % 4 ∧ (grid0.coords t 2).val = t.val % 5 := by
  decide +kernel

theorem ix_x : ∀ t : Fin cfg0.N, win0_0.index t = ![t.val / 20, 3 - t.val / 5 % 4, t.val % 5] := by decide +kernel
theorem ix_xs : ∀ t : Fin cfg0.N, win0_1.index t = ![t.val / 20, t.val % 5, 3 - t.val / 5 % 4, 0] := by decide +kernel
theorem ix_dt : ∀ t : Fin cfg0.N, win0_2.index t = ![t.val / 20, 3 - t.val / 5 % 4, t.val % 5] := by decide +kernel
theorem ix_tok : ∀ t : Fin cfg0.N, win0_3.index t = ![t.val / 20, 3 - t.val / 5 % 4, 0] := by decide +kernel
theorem ix_b : ∀ t : Fin cfg0.N, win0_4.index t = ![t.val / 20, 3 - t.val / 5 % 4, 0] := by decide +kernel
theorem ix_c : ∀ t : Fin cfg0.N, win0_5.index t = ![t.val / 20, 3 - t.val / 5 % 4, 0] := by decide +kernel
theorem ix_z : ∀ t : Fin cfg0.N, win0_6.index t = ![t.val / 20, 3 - t.val / 5 % 4, t.val % 5] := by decide +kernel
theorem ix_dy : ∀ t : Fin cfg0.N, win0_7.index t = ![t.val / 20, 3 - t.val / 5 % 4, t.val % 5] := by decide +kernel
theorem ix_dys : ∀ t : Fin cfg0.N, win0_8.index t = ![t.val / 20, t.val % 5, 3 - t.val / 5 % 4, 0] := by decide +kernel
theorem ix_a : ∀ t : Fin cfg0.N, win0_9.index t = ![0, t.val % 5, 0, 0] := by decide +kernel
theorem ix_d : ∀ t : Fin cfg0.N, win0_10.index t = ![0, t.val % 5] := by decide +kernel
theorem ix_h0 : ∀ t : Fin cfg0.N, win0_11.index t = ![t.val / 20, 3 - t.val / 5 % 4, 0, t.val % 5, 0, 0] := by decide +kernel

/-- The point's blocks. -/
def bkAt (t : ℕ) : Bk := (ar m c).bk (t / 20) (t / 5 % 4) (t % 5)

theorem blk_x (t : Fin cfg0.N) (p : S1x256x1024.Idx) : iblk m c 0 t p = (bkAt m c t.val).x (p 1).val (p 2).val := by
  unfold iblk
  rw [View.read_apply]
  refine (rd_of _ _ _ fun a => ?_).symm
  fin_cases a <;> blk_simp [ix_x] <;> idx_bounds p <;> simp <;> omega

theorem blk_dt (t : Fin cfg0.N) (p : S1x256x1024.Idx) : iblk m c 2 t p = (bkAt m c t.val).dt (p 1).val (p 2).val := by
  unfold iblk
  rw [View.read_apply]
  refine (rd_of _ _ _ fun a => ?_).symm
  fin_cases a <;> blk_simp [ix_dt] <;> idx_bounds p <;> simp <;> omega

theorem blk_z (t : Fin cfg0.N) (p : S1x256x1024.Idx) : iblk m c 6 t p = (bkAt m c t.val).z (p 1).val (p 2).val := by
  unfold iblk
  rw [View.read_apply]
  refine (rd_of _ _ _ fun a => ?_).symm
  fin_cases a <;> blk_simp [ix_z] <;> idx_bounds p <;> simp <;> omega

theorem blk_dy (t : Fin cfg0.N) (p : S1x256x1024.Idx) : iblk m c 7 t p = (bkAt m c t.val).dy (p 1).val (p 2).val := by
  unfold iblk
  rw [View.read_apply]
  refine (rd_of _ _ _ fun a => ?_).symm
  fin_cases a <;> blk_simp [ix_dy] <;> idx_bounds p <;> simp <;> omega

theorem blk_b (t : Fin cfg0.N) (p : S1x256x16.Idx) : iblk m c 4 t p = (bkAt m c t.val).b (p 1).val (p 2).val := by
  unfold iblk
  rw [View.read_apply]
  refine (rd_of _ _ _ fun a => ?_).symm
  fin_cases a <;> blk_simp [ix_b] <;> idx_bounds p <;> simp <;> omega

theorem blk_c (t : Fin cfg0.N) (p : S1x256x16.Idx) : iblk m c 5 t p = (bkAt m c t.val).c (p 1).val (p 2).val := by
  unfold iblk
  rw [View.read_apply]
  refine (rd_of _ _ _ fun a => ?_).symm
  fin_cases a <;> blk_simp [ix_c] <;> idx_bounds p <;> simp <;> omega

theorem blk_xs (t : Fin cfg0.N) (p : S1x1x256x8.Idx) : iblk m c 1 t p = (bkAt m c t.val).xs (p 2).val (p 3).val := by
  unfold iblk
  rw [View.read_apply]
  show V m c main_v5 _ = _
  entry_read
  generalize he : (((cfg0.win 1).blk t).view.emb p : S2x5x1024x8.Idx) = e
  have h0 : (e 0).val = t.val / 20 := by subst he; blk_simp [ix_xs] <;> (try idx_bounds p) <;> (try simp) <;> (try omega)
  have h1 : (e 1).val = t.val % 5 := by subst he; blk_simp [ix_xs] <;> (try idx_bounds p) <;> (try simp) <;> (try omega)
  have h2 : (e 2).val = 256 * (3 - t.val / 5 % 4) + (p 2).val := by subst he; blk_simp [ix_xs] <;> (try idx_bounds p) <;> (try simp) <;> (try omega)
  have h3 : (e 3).val = (p 3).val := by subst he; blk_simp [ix_xs] <;> (try idx_bounds p) <;> (try simp) <;> (try omega)
  clear he
  pointwise
  refine (rd_of _ _ _ fun a => ?_).symm
  fin_cases a <;> idx_bounds p <;> simp [ix2, ix3, ix4, h0, h1, h2, h3] <;> omega

theorem blk_dys (t : Fin cfg0.N) (p : S1x1x256x8.Idx) : iblk m c 8 t p = (bkAt m c t.val).dys (p 2).val (p 3).val := by
  unfold iblk
  rw [View.read_apply]
  show V m c main_v7 _ = _
  entry_read
  generalize he : (((cfg0.win 8).blk t).view.emb p : S2x5x1024x8.Idx) = e
  have h0 : (e 0).val = t.val / 20 := by subst he; blk_simp [ix_dys] <;> (try idx_bounds p) <;> (try simp) <;> (try omega)
  have h1 : (e 1).val = t.val % 5 := by subst he; blk_simp [ix_dys] <;> (try idx_bounds p) <;> (try simp) <;> (try omega)
  have h2 : (e 2).val = 256 * (3 - t.val / 5 % 4) + (p 2).val := by subst he; blk_simp [ix_dys] <;> (try idx_bounds p) <;> (try simp) <;> (try omega)
  have h3 : (e 3).val = (p 3).val := by subst he; blk_simp [ix_dys] <;> (try idx_bounds p) <;> (try simp) <;> (try omega)
  clear he
  pointwise
  refine (rd_of _ _ _ fun a => ?_).symm
  fin_cases a <;> idx_bounds p <;> simp [ix2, ix3, ix4, h0, h1, h2, h3] <;> omega

theorem blk_a (t : Fin cfg0.N) (p : S16x1x8x128.Idx) : iblk m c 9 t p = (bkAt m c t.val).A (p 0).val (128 * (p 2).val + (p 3).val) := by
  unfold iblk
  rw [View.read_apply]
  show V m c main_v9 _ = _
  entry_read
  generalize he : (((cfg0.win 9).blk t).view.emb p : S16x5x8x128.Idx) = e
  have h0 : (e 0).val = (p 0).val := by subst he; blk_simp [ix_a] <;> (try idx_bounds p) <;> (try simp) <;> (try omega)
  have h1 : (e 1).val = t.val % 5 := by subst he; blk_simp [ix_a] <;> (try idx_bounds p) <;> (try simp) <;> (try omega)
  have h2 : (e 2).val = (p 2).val := by subst he; blk_simp [ix_a] <;> (try idx_bounds p) <;> (try simp) <;> (try omega)
  have h3 : (e 3).val = (p 3).val := by subst he; blk_simp [ix_a] <;> (try idx_bounds p) <;> (try simp) <;> (try omega)
  clear he
  pointwise
  refine (rd_of _ _ _ fun a => ?_).symm
  fin_cases a <;> idx_bounds p <;> simp [ix2, ix3, ix4, h0, h1, h2, h3] <;> omega

theorem blk_d (t : Fin cfg0.N) (p : S1x1024.Idx) : iblk m c 10 t p = (bkAt m c t.val).D (p 1).val := by
  unfold iblk
  rw [View.read_apply]
  show V m c main_v12 _ = _
  entry_read
  generalize he : (((cfg0.win 10).blk t).view.emb p : S1x5120.Idx) = e
  have h0 : (e 0).val = 0 := by subst he; blk_simp [ix_d] <;> (try idx_bounds p) <;> (try simp) <;> (try omega)
  have h1 : (e 1).val = 1024 * (t.val % 5) + (p 1).val := by subst he; blk_simp [ix_d] <;> (try idx_bounds p) <;> (try simp) <;> (try omega)
  clear he
  pointwise
  refine (rd_of _ _ _ fun a => ?_).symm
  fin_cases a <;> idx_bounds p <;> simp [ix2, ix3, ix4, h0, h1] <;> omega

theorem blk_h0 (t : Fin cfg0.N) (p : S1x1x16x1x8x128.Idx) : iblk m c 11 t p = (bkAt m c t.val).h0 (p 2).val (128 * (p 4).val + (p 5).val) := by
  unfold iblk
  rw [View.read_apply]
  show V m c main_v11 _ = _
  entry_read
  generalize he : (((cfg0.win 11).blk t).view.emb p : S2x4x16x5x8x128.Idx) = e
  have h0 : (e 0).val = t.val / 20 := by subst he; blk_simp [ix_h0] <;> (try idx_bounds p) <;> (try simp) <;> (try omega)
  have h1 : (e 1).val = 3 - t.val / 5 % 4 := by subst he; blk_simp [ix_h0] <;> (try idx_bounds p) <;> (try simp) <;> (try omega)
  have h2 : (e 2).val = (p 2).val := by subst he; blk_simp [ix_h0] <;> (try idx_bounds p) <;> (try simp) <;> (try omega)
  have h3 : (e 3).val = t.val % 5 := by subst he; blk_simp [ix_h0] <;> (try idx_bounds p) <;> (try simp) <;> (try omega)
  have h4 : (e 4).val = (p 4).val := by subst he; blk_simp [ix_h0] <;> (try idx_bounds p) <;> (try simp) <;> (try omega)
  have h5 : (e 5).val = (p 5).val := by subst he; blk_simp [ix_h0] <;> (try idx_bounds p) <;> (try simp) <;> (try omega)
  clear he
  pointwise
  refine (rd_of _ _ _ fun a => ?_).symm
  fin_cases a <;> idx_bounds p <;> simp [ix2, ix3, ix4, h0, h1, h2, h3, h4, h5] <;> omega

/-- The three scales per token, side by side. -/
theorem V_tok : (V m c main_v3 : S2x1024x3.Idx → EReal) = concatenate S2x1024x3 2
    [⟨S2x1024x1, broadcastInDim S2x1024x1 ![0, 1] bcast_S2x1024_S2x1024x1_0_1 (m ((c.tc : Thread nD τ).loc main_arg3))⟩,
     ⟨S2x1024x1, broadcastInDim S2x1024x1 ![0, 1] bcast_S2x1024_S2x1024x1_0_1 (m ((c.tc : Thread nD τ).loc main_arg5))⟩,
     ⟨S2x1024x1, broadcastInDim S2x1024x1 ![0, 1] bcast_S2x1024_S2x1024x1_0_1 (m ((c.tc : Thread nD τ).loc main_arg7))⟩] (by exact concatenates_S2x1024x1_S2x1024x1_S2x1024x1_S2x1024x3_d2) := rfl

theorem blk_tok (t : Fin cfg0.N) (p : S1x256x3.Idx) : iblk m c 3 t p = (bkAt m c t.val).tok (p 1).val (p 2).val := by
  unfold iblk
  rw [View.read_apply]
  show V m c main_v3 _ = _
  rw [V_tok]
  generalize he : (((cfg0.win 3).blk t).view.emb p : S2x1024x3.Idx) = e
  have h0 : (e 0).val = t.val / 20 := by subst he; blk_simp [ix_tok] <;> (try idx_bounds p) <;> (try simp) <;> (try omega)
  have h1 : (e 1).val = 256 * (3 - t.val / 5 % 4) + (p 1).val := by subst he; blk_simp [ix_tok] <;> (try idx_bounds p) <;> (try simp) <;> (try omega)
  have h2 : (e 2).val = (p 2).val := by subst he; blk_simp [ix_tok] <;> (try idx_bounds p) <;> (try simp) <;> (try omega)
  clear he
  show _ = if (p 2).val = 0 then rd (m ((c.tc : Thread nD τ).loc main_arg3)) ![t.val / 20, 256 * (3 - t.val / 5 % 4) + (p 1).val]
    else if (p 2).val = 1 then rd (m ((c.tc : Thread nD τ).loc main_arg5)) ![t.val / 20, 256 * (3 - t.val / 5 % 4) + (p 1).val]
    else rd (m ((c.tc : Thread nD τ).loc main_arg7)) ![t.val / 20, 256 * (3 - t.val / 5 % 4) + (p 1).val]
  have hp := (p 2).isLt
  rw [← h0, ← h1, ← h2]
  have q : ∀ X : S2x1024.Idx → EReal, rd X ![(e 0).val, (e 1).val] = X (ix2 (e 0) (e 1)) := fun X => rd_of _ _ _ fun a => by fin_cases a <;> rfl
  rw [q, q, q]
  have bc : ∀ (X : S2x1024.Idx → EReal) (e' : S2x1024x1.Idx), (e' 0).val = (e 0).val → (e' 1).val = (e 1).val →
      broadcastInDim S2x1024x1 ![0, 1] bcast_S2x1024_S2x1024x1_0_1 X e' = X (ix2 (e 0) (e 1)) := fun X e' h0 h1 => by
    refine congrArg X (funext fun a => Fin.ext ?_)
    fin_cases a
    · exact h0
    · exact h1
  concat_tiles e' h
  · rw [if_pos h]; exact bc _ e' ‹_› ‹_›
  · rw [if_neg (by omega), if_pos h]; exact bc _ e' ‹_› ‹_›
  · rw [if_neg (by omega), if_neg (by omega)]; exact bc _ e' ‹_› ‹_›

end Cert.KernelIdeal.Val

end
-- ==== Proof.Blocks.lean ====
/- The arrays kept from one grid point to the next: the adjoints, `dA` and `dD`, one block of channels of each read and
   written at a point; and the first states of a chunk. -/
module

public import proofs.«01_k».proof.Proof.Post

@[expose] public section

set_option maxRecDepth 65536

set_option backward.isDefEq.respectTransparency.types false

noncomputable section

namespace Cert.KernelIdeal.Val

open Idealize.ShloMosaic Idealize.SL.Sem Cert.Proof Cert.KernelIdeal Cert.KernelIdeal.Gen Cert.KernelIdeal.Body

theorem cond1_iff : ∀ i : grid0.Coords, k0_cond1 i = 1#1 ↔ ((i 0).val = 0 ∧ (i 1).val = 0) := by decide +kernel
theorem cond2_iff : ∀ i : grid0.Coords, k0_cond2 i = 1#1 ↔ (i 1).val = 0 := by decide +kernel
theorem cond3_iff : ∀ i : grid0.Coords, k0_cond3 i = 1#1 ↔ (i 2).val = 0 := by decide +kernel
theorem cond4_iff : ∀ i : grid0.Coords, k0_cond4 i = 1#1 ↔ (i 2).val = 4 := by decide +kernel

/-- Block `s` of the adjoints holds `f` in its first `m` states, the other blocks what `X0` holds. -/
structure AdjP (s : ℕ) (X X0 : S5x16x8x128.Idx → EReal) (f : ℕ → ℕ → EReal) (m : ℕ) : Prop where
  at_ : ∀ p : S5x16x8x128.Idx, (p 0).val = s → (p 1).val < m → X p = f (p 1).val (128 * (p 2).val + (p 3).val)
  off : ∀ p : S5x16x8x128.Idx, (p 0).val ≠ s → X p = X0 p

/-- The same of `dA`, -/
structure DaP (s : ℕ) (X X0 : S16x5x8x128.Idx → EReal) (f : ℕ → ℕ → EReal) (m : ℕ) : Prop where
  at_ : ∀ p : S16x5x8x128.Idx, (p 1).val = s → (p 0).val < m → X p = f (p 0).val (128 * (p 2).val + (p 3).val)
  off : ∀ p : S16x5x8x128.Idx, (p 1).val ≠ s → X p = X0 p

/-- and of `dD`. -/
structure DdP (s : ℕ) (X X0 : S5x8x128.Idx → EReal) (f : ℕ → EReal) : Prop where
  at_ : ∀ p : S5x8x128.Idx, (p 0).val = s → X p = f (128 * (p 1).val + (p 2).val)
  off : ∀ p : S5x8x128.Idx, (p 0).val ≠ s → X p = X0 p

variable {i : grid0.Coords}

theorem AdjP.load {X X0 : S5x16x8x128.Idx → EReal} {f : ℕ → ℕ → EReal} (h : AdjP (i 2).val X X0 f 16) (n : Fin 16) :
    shapeCast S8x128 (fun p : S1x1x8x128.Idx => X ((rAdj i n).toLoadRect.idx p)) shapeCasts_S1x1x8x128_S8x128 = tile (f n.val) := by
  have e : ∀ p : S1x1x8x128.Idx, X ((rAdj i n).toLoadRect.idx p) = f n.val (128 * (p 2).val + (p 3).val) := fun p => by
    have p0 : (p 0).val < 1 := (p 0).isLt
    have p1 : (p 1).val < 1 := (p 1).isLt
    have o : k0_off26 i 0 = (i 2).val := by rw [k0_off26_eq]; rfl
    refine (h.at_ _ ?_ ?_).trans ?_
    · show k0_off26 i 0 + 1 * (p 0).val = _; omega
    · show n.val + 1 * (p 1).val < 16; omega
    · show f (n.val + 1 * (p 1).val) (128 * (0 + 1 * (p 2).val) + (0 + 1 * (p 3).val)) = _
      rw [show n.val + 1 * (p 1).val = n.val by omega]; simp only [Nat.zero_add, Nat.one_mul]
  rw [funext e]
  funext j; pointwise; rfl

theorem AdjP.store {X X0 : S5x16x8x128.Idx → EReal} {f : ℕ → ℕ → EReal} {m : ℕ} (h : AdjP (i 2).val X X0 f m) (n : Fin 16) (hn : n.val = m) (v : V Ideal) (hv : v = tile (f m)) :
    AdjP (i 2).val (put (rAdj i n) (shapeCast S1x1x8x128 v shapeCasts_S8x128_S1x1x8x128) X) X0 f (m + 1) := by
  subst hn hv
  have o : k0_off26 i 0 = (i 2).val := by rw [k0_off26_eq]; rfl
  refine ⟨fun p h0 h1 => ?_, fun p h0 => ?_⟩
  · by_cases e : (p 1).val = n.val
    · rw [put_at (rAdj i n) _ _ p (ix4 0 0 (p 2) (p 3)) (by
        intro a; fin_cases a
        · show (p 0).val = k0_off26 i 0 + 1 * 0; omega
        · show (p 1).val = n.val + 1 * 0; omega
        · show (p 2).val = 0 + 1 * (p 2).val; omega
        · show (p 3).val = 0 + 1 * (p 3).val; omega)]
      pointwise
      rw [e]; rfl
    · rw [put_miss _ _ _ p (fun j hj => by
        have a1 := hj 1
        have j1 : (j 1).val < 1 := (j 1).isLt
        change (p 1).val = n.val + 1 * (j 1).val at a1
        omega)]
      exact h.at_ p h0 (by omega)
  · rw [put_miss _ _ _ p (fun j hj => by
      have a1 := hj 0
      have j1 : (j 0).val < 1 := (j 0).isLt
      change (p 0).val = k0_off26 i 0 + 1 * (j 0).val at a1
      omega)]
    exact h.off p h0

theorem AdjP.zero (X : S5x16x8x128.Idx → EReal) (h : k0_cond2 i = 1#1) :
    AdjP (i 2).val (put (Rect.unit (s := S5x16x8x128) (k0_off3 i) S1x16x8x128.size (k0_off3_inb i h))
      (shapeCast S1x16x8x128 (broadcast S16x8x128 (Scalar.ofBits (F := Ideal) .f32 0x00000000#32)) shapeCasts_S16x8x128_S1x16x8x128) X) X (fun _ _ => 0) 16 := by
  have o0 : k0_off3 i 0 = (i 2).val := by rw [k0_off3_eq]; rfl
  have o1 : k0_off3 i 1 = 0 := by rw [k0_off3_eq]; rfl
  have o2 : k0_off3 i 2 = 0 := by rw [k0_off3_eq]; rfl
  have o3 : k0_off3 i 3 = 0 := by rw [k0_off3_eq]; rfl
  refine ⟨fun p h0 h1 => ?_, fun p h0 => ?_⟩
  · rw [put_at (Rect.unit (s := S5x16x8x128) (k0_off3 i) S1x16x8x128.size (k0_off3_inb i h)) _ _ p (ix4 0 (p 1) (p 2) (p 3)) (by
      intro a; fin_cases a
      · show (p 0).val = k0_off3 i 0 + 1 * 0; omega
      · show (p 1).val = k0_off3 i 1 + 1 * (p 1).val; omega
      · show (p 2).val = k0_off3 i 2 + 1 * (p 2).val; omega
      · show (p 3).val = k0_off3 i 3 + 1 * (p 3).val; omega)]
    pointwise
  · rw [put_miss _ _ _ p (fun j hj => by
      have a1 := hj 0
      have j1 : (j 0).val < 1 := (j 0).isLt
      change (p 0).val = k0_off3 i 0 + 1 * (j 0).val at a1
      omega)]

theorem DaP.load {X X0 : S16x5x8x128.Idx → EReal} {f : ℕ → ℕ → EReal} (h : DaP (i 2).val X X0 f 16) (n : Fin 16) :
    shapeCast S8x128 (fun p : S1x1x8x128.Idx => X ((rDa i n).toLoadRect.idx p)) shapeCasts_S1x1x8x128_S8x128 = tile (f n.val) := by
  have e : ∀ p : S1x1x8x128.Idx, X ((rDa i n).toLoadRect.idx p) = f n.val (128 * (p 2).val + (p 3).val) := fun p => by
    have p0 : (p 0).val < 1 := (p 0).isLt
    have p1 : (p 1).val < 1 := (p 1).isLt
    have o : k0_off42 i 1 = (i 2).val := by rw [k0_off42_eq]; rfl
    refine (h.at_ _ ?_ ?_).trans ?_
    · show k0_off42 i 1 + 1 * (p 1).val = _; omega
    · show n.val + 1 * (p 0).val < 16; omega
    · show f (n.val + 1 * (p 0).val) (128 * (0 + 1 * (p 2).val) + (0 + 1 * (p 3).val)) = _
      rw [show n.val + 1 * (p 0).val = n.val by omega]; simp only [Nat.zero_add, Nat.one_mul]
  rw [funext e]
  funext j; pointwise; rfl

theorem DaP.store {X X0 : S16x5x8x128.Idx → EReal} {f : ℕ → ℕ → EReal} {g : ℕ → ℕ → EReal} {m : ℕ} (h : DaP (i 2).val X X0 f m) (n : Fin 16) (hn : n.val = m) (v : V Ideal) (hv : v = tile (f m)) :
    DaP (i 2).val (put (rDa i n) (shapeCast S1x1x8x128 v shapeCasts_S8x128_S1x1x8x128) X) X0 f (m + 1) := by
  subst hn hv
  have o : k0_off42 i 1 = (i 2).val := by rw [k0_off42_eq]; rfl
  refine ⟨fun p h0 h1 => ?_, fun p h0 => ?_⟩
  · by_cases e : (p 0).val = n.val
    · rw [put_at (rDa i n) _ _ p (ix4 0 0 (p 2) (p 3)) (by
        intro a; fin_cases a
        · show (p 0).val = n.val + 1 * 0; omega
        · show (p 1).val = k0_off42 i 1 + 1 * 0; omega
        · show (p 2).val = 0 + 1 * (p 2).val; omega
        · show (p 3).val = 0 + 1 * (p 3).val; omega)]
      pointwise
      rw [e]; rfl
    · rw [put_miss _ _ _ p (fun j hj => by
        have a1 := hj 0
        have j1 : (j 0).val < 1 := (j 0).isLt
        change (p 0).val = n.val + 1 * (j 0).val at a1
        omega)]
      exact h.at_ p h0 (by omega)
  · rw [put_miss _ _ _ p (fun j hj => by
      have a1 := hj 1
      have j1 : (j 1).val < 1 := (j 1).isLt
      change (p 1).val = k0_off42 i 1 + 1 * (j 1).val at a1
      omega)]
    exact h.off p h0

theorem DaP.zero (X : S16x5x8x128.Idx → EReal) (h : k0_cond1 i = 1#1) :
    DaP (i 2).val (put (Rect.unit (s := S16x5x8x128) (k0_off1 i) S16x1x8x128.size (k0_off1_inb i h))
      (shapeCast S16x1x8x128 (broadcast S16x8x128 (Scalar.ofBits (F := Ideal) .f32 0x00000000#32)) shapeCasts_S16x8x128_S16x1x8x128) X) X (fun _ _ => 0) 16 := by
  have o0 : k0_off1 i 0 = 0 := by rw [k0_off1_eq]; rfl
  have o1 : k0_off1 i 1 = (i 2).val := by rw [k0_off1_eq]; rfl
  have o2 : k0_off1 i 2 = 0 := by rw [k0_off1_eq]; rfl
  have o3 : k0_off1 i 3 = 0 := by rw [k0_off1_eq]; rfl
  refine ⟨fun p h0 h1 => ?_, fun p h0 => ?_⟩
  · rw [put_at (Rect.unit (s := S16x5x8x128) (k0_off1 i) S16x1x8x128.size (k0_off1_inb i h)) _ _ p (ix4 (p 0) 0 (p 2) (p 3)) (by
      intro a; fin_cases a
      · show (p 0).val = k0_off1 i 0 + 1 * (p 0).val; omega
      · show (p 1).val = k0_off1 i 1 + 1 * 0; omega
      · show (p 2).val = k0_off1 i 2 + 1 * (p 2).val; omega
      · show (p 3).val = k0_off1 i 3 + 1 * (p 3).val; omega)]
    pointwise
  · rw [put_miss _ _ _ p (fun j hj => by
      have a1 := hj 1
      have j1 : (j 1).val < 1 := (j 1).isLt
      change (p 1).val = k0_off1 i 1 + 1 * (j 1).val at a1
      omega)]

theorem DdP.load {X X0 : S5x8x128.Idx → EReal} {f : ℕ → EReal} (h : DdP (i 2).val X X0 f) :
    shapeCast S8x128 (fun p : S1x8x128.Idx => X ((rDd i).toLoadRect.idx p)) shapeCasts_S1x8x128_S8x128 = tile f := by
  have e : ∀ p : S1x8x128.Idx, X ((rDd i).toLoadRect.idx p) = f (128 * (p 1).val + (p 2).val) := fun p => by
    have p0 : (p 0).val < 1 := (p 0).isLt
    have o : k0_off18 i 0 = (i 2).val := by rw [k0_off18_eq]; rfl
    have o1 : k0_off18 i 1 = 0 := by rw [k0_off18_eq]; rfl
    have o2 : k0_off18 i 2 = 0 := by rw [k0_off18_eq]; rfl
    refine (h.at_ _ ?_).trans ?_
    · show k0_off18 i 0 + 1 * (p 0).val = _; omega
    · show f (128 * (k0_off18 i 1 + 1 * (p 1).val) + (k0_off18 i 2 + 1 * (p 2).val)) = _
      rw [o1, o2]; simp only [Nat.zero_add, Nat.one_mul]
  rw [funext e]
  funext j; pointwise; rfl

theorem DdP.store {X X0 : S5x8x128.Idx → EReal} {g f : ℕ → EReal} (h : DdP (i 2).val X X0 g) (v : V Ideal) (hv : v = tile f) :
    DdP (i 2).val (put (rDd i) (shapeCast S1x8x128 v shapeCasts_S8x128_S1x8x128) X) X0 f := by
  subst hv
  have o : k0_off18 i 0 = (i 2).val := by rw [k0_off18_eq]; rfl
  have o1 : k0_off18 i 1 = 0 := by rw [k0_off18_eq]; rfl
  have o2 : k0_off18 i 2 = 0 := by rw [k0_off18_eq]; rfl
  refine ⟨fun p h0 => ?_, fun p h0 => ?_⟩
  · rw [put_at (rDd i) _ _ p (ix3 0 (p 1) (p 2)) (by
        intro a; fin_cases a
        · show (p 0).val = k0_off18 i 0 + 1 * 0; omega
        · show (p 1).val = k0_off18 i 1 + 1 * (p 1).val; omega
        · show (p 2).val = k0_off18 i 2 + 1 * (p 2).val; omega)]
    pointwise
    rfl
  · rw [put_miss _ _ _ p (fun j hj => by
      have a1 := hj 0
      have j1 : (j 0).val < 1 := (j 0).isLt
      change (p 0).val = k0_off18 i 0 + 1 * (j 0).val at a1
      omega)]
    exact h.off p h0

theorem DdP.zero (X : S5x8x128.Idx → EReal) (h : k0_cond1 i = 1#1) :
    DdP (i 2).val (put (Rect.unit (s := S5x8x128) (k0_off2 i) S1x8x128.size (k0_off2_inb i h))
      (shapeCast S1x8x128 (broadcast S8x128 (Scalar.ofBits (F := Ideal) .f32 0x00000000#32)) shapeCasts_S8x128_S1x8x128) X) X (fun _ => 0) := by
  have o : k0_off2 i 0 = (i 2).val := by rw [k0_off2_eq]; rfl
  have o1 : k0_off2 i 1 = 0 := by rw [k0_off2_eq]; rfl
  have o2 : k0_off2 i 2 = 0 := by rw [k0_off2_eq]; rfl
  refine ⟨fun p h0 => ?_, fun p h0 => ?_⟩
  · rw [put_at (Rect.unit (s := S5x8x128) (k0_off2 i) S1x8x128.size (k0_off2_inb i h)) _ _ p (ix3 0 (p 1) (p 2)) (by
        intro a; fin_cases a
        · show (p 0).val = k0_off2 i 0 + 1 * 0; omega
        · show (p 1).val = k0_off2 i 1 + 1 * (p 1).val; omega
        · show (p 2).val = k0_off2 i 2 + 1 * (p 2).val; omega)]
    pointwise
  · rw [put_miss _ _ _ p (fun j hj => by
      have a1 := hj 0
      have j1 : (j 0).val < 1 := (j 0).isLt
      change (p 0).val = k0_off2 i 0 + 1 * (j 0).val at a1
      omega)]

/-! ## The first states -/

theorem h0_load (X : S1x1x16x1x8x128.Idx → EReal) (f : ℕ → ℕ → EReal) (h : ∀ p, X p = f (p 2).val (128 * (p 4).val + (p 5).val)) (n : Fin 16) :
    shapeCast S8x128 (fun p : S1x1x1x1x8x128.Idx => X ((r0 n).toLoadRect.idx p)) shapeCasts_S1x1x1x1x8x128_S8x128 = tile (f n.val) := by
  have e : ∀ p : S1x1x1x1x8x128.Idx, X ((r0 n).toLoadRect.idx p) = f n.val (128 * (p 4).val + (p 5).val) := fun p => by
    have p2 : (p 2).val < 1 := (p 2).isLt
    rw [h]
    show f (n.val + 1 * (p 2).val) (128 * (0 + 1 * (p 4).val) + (0 + 1 * (p 5).val)) = _
    rw [show n.val + 1 * (p 2).val = n.val by omega]; simp only [Nat.zero_add, Nat.one_mul]
  rw [funext e]
  funext j; pointwise; rfl

variable (M : ∀ b : Bf, Memref sig .tc .vmem (shp b) (elt b)) (q : Pt) (σ0 : S)

/-- Between the first states. -/
structure HI (n : ℕ) (σ : S) : Prop where
  fr : ∀ b, b ≠ .hS → σ b = σ0 b
  hS : Hs (σ .hS) q.H fun t n' => t = 0 ∧ n' < n

theorem hInit_run (n : Fin 16) (σ : S) (v : V Ideal)
    (e : shapeCast S8x128 (fun p : S1x1x1x1x8x128.Idx => σ .h0 ((r0 n).toLoadRect.idx p)) shapeCasts_S1x1x1x1x8x128_S8x128 = v) :
    ((hInit M n).run σ).2 = Function.update σ .hS (put (rZ n) (st8 v) (σ .hS)) := by
  subst e; rfl

theorem hInit_spec (h : ∀ p : S1x1x16x1x8x128.Idx, σ0 .h0 p = q.h0 (p 2).val (128 * (p 4).val + (p 5).val)) (n : Fin 16) (σ : S)
    (hI : HI q σ0 n.val σ) : HI q σ0 (n.val + 1) ((hInit M n).run σ).2 := by
  rw [hInit_run M n σ _ (h0_load (σ .h0) q.h0 (fun p => by rw [hI.fr .h0 (by decide)]; exact h p) n), st8_eq]
  refine ⟨?_, ?_⟩
  · intro b hb
    rw [Function.update_of_ne hb]; exact hI.fr b hb
  · simp only [Function.update_self]
    exact hI.hS.store _ _ 0 n.val (by congr 1; omega) n.isLt _ rfl _ (fun s n' _ h => by omega)

theorem hLoad_run (h : ∀ p : S1x1x16x1x8x128.Idx, σ0 .h0 p = q.h0 (p 2).val (128 * (p 4).val + (p 5).val)) (n : Fin 16) :
    (hLoad M n).run σ0 = (tile (q.h0 n.val), σ0) := by
  exact Prod.ext (h0_load (σ0 .h0) q.h0 h n) rfl

theorem adjLoad_run {X0 : S5x16x8x128.Idx → EReal} {f : ℕ → ℕ → EReal} (h : AdjP (i 2).val (σ0 .adj) X0 f 16) (n : Fin 16) :
    (adjLoad M i n).run σ0 = (tile (f n.val), σ0) := by
  exact Prod.ext (h.load n) rfl

theorem daLoad_run {X0 : S16x5x8x128.Idx → EReal} {f : ℕ → ℕ → EReal} (h : DaP (i 2).val (σ0 .da) X0 f 16) (n : Fin 16) :
    (daLoad M i n).run σ0 = (tile (f n.val), σ0) := by
  exact Prod.ext (h.load n) rfl

/-- Between the states written back. -/
structure VI (i : grid0.Coords) (A B : S5x16x8x128.Idx → EReal) (C : S16x5x8x128.Idx → EReal) (f g : ℕ → ℕ → EReal) (n : ℕ) (σ : S) : Prop where
  fr : ∀ b, b ≠ .adj → b ≠ .da → σ b = σ0 b
  adj : AdjP (i 2).val (σ .adj) B f n
  da : DaP (i 2).val (σ .da) C g n

theorem saveRow_spec {A B C f g} (s : (ℕ → V Ideal) × (ℕ → V Ideal)) (h1 : ∀ n, n < 16 → s.1 n = tile (f n)) (h2 : ∀ n, n < 16 → s.2 n = tile (g n))
    (n : Fin 16) (σ : S) (hI : VI σ0 i A B C f g n.val σ) : VI σ0 i A B C f g (n.val + 1) ((saveRow M i s n).run σ).2 := by
  have hr : ((saveRow M i s n).run σ).2 = Function.update (Function.update σ .adj (put (rAdj i n) (shapeCast S1x1x8x128 (s.1 n.val) shapeCasts_S8x128_S1x1x8x128) (σ .adj)))
    .da (put (rDa i n) (shapeCast S1x1x8x128 (s.2 n.val) shapeCasts_S8x128_S1x1x8x128) (σ .da)) := rfl
  rw [hr]
  refine ⟨?_, ?_, ?_⟩
  · intro b h1 h2
    rw [Function.update_of_ne h2, Function.update_of_ne h1]; exact hI.fr b h1 h2
  · simp only [Function.update_self, Function.update_of_ne, ne_eq, reduceCtorEq, not_false_eq_true]
    exact hI.adj.store n rfl _ (h1 n.val n.isLt)
  · simp only [Function.update_self]
    exact hI.da.store (g := g) n rfl _ (h2 n.val n.isLt)

end Cert.KernelIdeal.Val

end
-- ==== Proof.Whole.lean ====
/- The whole body at a grid point: from the blocks it reads and what it keeps, the blocks it writes and what it keeps. -/
module

public import proofs.«01_k».proof.Proof.Blocks

@[expose] public section

set_option maxRecDepth 65536

set_option backward.isDefEq.respectTransparency.types false

noncomputable section

namespace Cert.KernelIdeal.Val

open Idealize.ShloMosaic Idealize.SL.Sem Cert.Proof Cert.KernelIdeal Cert.KernelIdeal.Gen Cert.KernelIdeal.Body

/-- What a grid point keeps and continues: the adjoint, the running sums. -/
structure Kp where
  adj : ℕ → ℕ → EReal
  ob : ℕ → ℕ → ℕ → EReal
  oc : ℕ → ℕ → ℕ → EReal
  da : ℕ → ℕ → EReal
  dd : ℕ → EReal

variable (M : ∀ b : Bf, Memref sig .tc .vmem (shp b) (elt b)) (hM : ∀ b, (M b).IsWhole) (i : grid0.Coords) (w : Bk) (k : Kp) (σ0 : S)

/-- The body's precondition. -/
structure BIn : Prop where
  win : w.In σ0
  a : ∀ p : S16x1x8x128.Idx, σ0 .a p = w.A (p 0).val (128 * (p 2).val + (p 3).val)
  d : ∀ p : S1x1024.Idx, σ0 .d p = w.D (p 1).val
  h0 : ∀ p : S1x1x16x1x8x128.Idx, σ0 .h0 p = w.h0 (p 2).val (128 * (p 4).val + (p 5).val)
  b : (i 2).val = 0 → ∀ p : S1x256x16.Idx, σ0 .b p = w.b (p 1).val (p 2).val
  c : (i 2).val = 0 → ∀ p : S1x256x16.Idx, σ0 .c p = w.c (p 1).val (p 2).val
  bb : (i 2).val ≠ 0 → Rows (σ0 .bb) (fun t n _ => w.b t n * w.tok t 1) fun _ _ => True
  cb : (i 2).val ≠ 0 → Rows (σ0 .cb) (fun t n _ => w.c t n * w.tok t 2) fun _ _ => True
  ob0 : (i 2).val = 0 → k.ob = fun _ _ _ => 0
  oc0 : (i 2).val = 0 → k.oc = fun _ _ _ => 0
  ob : (i 2).val ≠ 0 → Rows (σ0 .dbacc) k.ob fun _ _ => True
  oc : (i 2).val ≠ 0 → Rows (σ0 .dcacc) k.oc fun _ _ => True
  adj0 : (i 1).val = 0 → k.adj = fun _ _ => 0
  adj : (i 1).val ≠ 0 → ∀ p : S5x16x8x128.Idx, (p 0).val = (i 2).val → σ0 .adj p = k.adj (p 1).val (128 * (p 2).val + (p 3).val)
  da0 : (i 0).val = 0 ∧ (i 1).val = 0 → k.da = fun _ _ => 0
  da : ¬ ((i 0).val = 0 ∧ (i 1).val = 0) → ∀ p : S16x5x8x128.Idx, (p 1).val = (i 2).val → σ0 .da p = k.da (p 0).val (128 * (p 2).val + (p 3).val)
  dd0 : (i 0).val = 0 ∧ (i 1).val = 0 → k.dd = fun _ => 0
  dd : ¬ ((i 0).val = 0 ∧ (i 1).val = 0) → ∀ p : S5x8x128.Idx, (p 0).val = (i 2).val → σ0 .dd p = k.dd (128 * (p 1).val + (p 2).val)

/-- What is kept after a point. -/
def Kp.next (q : Pt) (k : Kp) : Kp where
  adj n d := q.G 256 n d
  ob t n l := k.ob t n l + q.db t n l
  oc t n l := k.oc t n l + q.dc t n l
  da n d := k.da n d + ∑ j ∈ Finset.range 256, q.gah (255 - j) n d * q.del (255 - j) d
  dd d := k.dd d + ∑ j ∈ Finset.range 256, q.gy j d * q.u j d

/-- The body's postcondition. -/
structure BOut (σ : S) : Prop where
  fr : ∀ b, b = .x ∨ b = .xs ∨ b = .dt ∨ b = .tok ∨ b = .b ∨ b = .c ∨ b = .z ∨ b = .dy ∨ b = .dys ∨ b = .a ∨ b = .d ∨ b = .h0 → σ b = σ0 b
  dx : ∀ p : S1x256x1024.Idx, σ .dx p = (w.pt k.adj).dx (p 1).val (p 2).val
  ddt : ∀ p : S1x256x1024.Idx, σ .ddt p = (w.pt k.adj).ddt (p 1).val (p 2).val
  dz : ∀ p : S1x256x1024.Idx, σ .dz p = (w.pt k.adj).dz (p 1).val (p 2).val
  bb : Rows (σ .bb) (fun t n _ => w.b t n * w.tok t 1) fun _ _ => True
  cb : Rows (σ .cb) (fun t n _ => w.c t n * w.tok t 2) fun _ _ => True
  ob : Rows (σ .dbacc) (k.next (w.pt k.adj)).ob fun _ _ => True
  oc : Rows (σ .dcacc) (k.next (w.pt k.adj)).oc fun _ _ => True
  adj : AdjP (i 2).val (σ .adj) (σ0 .adj) (k.next (w.pt k.adj)).adj 16
  da : DaP (i 2).val (σ .da) (σ0 .da) (k.next (w.pt k.adj)).da 16
  dd : DdP (i 2).val (σ .dd) (σ0 .dd) (k.next (w.pt k.adj)).dd
  db : (i 2).val = 4 → LS (σ .db) (k.next (w.pt k.adj)).ob 32
  dc : (i 2).val = 4 → LS (σ .dc) (k.next (w.pt k.adj)).oc 32

theorem run_bind {α β : Type} (m : C (F := Ideal) M β) (f : β → C (F := Ideal) M α) (σ : S) :
    (Cmd.bind m f).run σ = (f (m.run σ).1).run (m.run σ).2 := rfl
theorem run_ite {α : Type} (c : Prop) (d : Decidable c) (t : c → C (F := Ideal) M α) (e : ¬ c → C (F := Ideal) M α) (σ : S) :
    (Cmd.ite c d t e).run σ = if h : c then (t h).run σ else (e h).run σ := rfl

/-! ## Where sums start -/

/-- After the zeros: blocks of the sums, and `B`, `C` spread. -/
structure Mid (σ : S) : Prop where
  fr : ∀ b, b ≠ .da → b ≠ .dd → b ≠ .adj → b ≠ .bb → b ≠ .cb → b ≠ .dbacc → b ≠ .dcacc → σ b = σ0 b
  bb : Rows (σ .bb) (fun t n _ => w.b t n * w.tok t 1) fun _ _ => True
  cb : Rows (σ .cb) (fun t n _ => w.c t n * w.tok t 2) fun _ _ => True
  ob : Rows (σ .dbacc) k.ob fun _ _ => True
  oc : Rows (σ .dcacc) k.oc fun _ _ => True
  adj : AdjP (i 2).val (σ .adj) (σ0 .adj) k.adj 16
  da : DaP (i 2).val (σ .da) (σ0 .da) k.da 16
  dd : DdP (i 2).val (σ .dd) (σ0 .dd) k.dd

def z1 (σ : S) : S := if h : k0_cond1 i = 1#1 then ((zero1 M i h).run σ).2 else σ
def z2 (σ : S) : S := if h : k0_cond2 i = 1#1 then ((zero2 M i h).run σ).2 else σ
def z3 (σ : S) : S := if h : k0_cond3 i = 1#1 then ((first3 M i h (.ret ())).run σ).2 else σ

theorem first3_run {α : Type} (h : k0_cond3 i = 1#1) (rest : C (F := Ideal) M α) (σ : S) :
    (first3 M i h rest).run σ = rest.run ((first3 M i h (.ret ())).run σ).2 := rfl

/-- The head from its third condition on, and from its second. -/
def tail3 : C (F := Ideal) M (BitVec 32) :=
  .ite (k0_cond3 i = 1#1) inferInstance (fun h => first3 M i h (head4 M i)) fun _ => head4 M i
def tail2 : C (F := Ideal) M (BitVec 32) :=
  .ite (k0_cond2 i = 1#1) inferInstance (fun h => .bind (zero2 M i h) fun _ => tail3 M i) fun _ => tail3 M i

attribute [local irreducible] head4 first3 zero1 zero2 in
theorem head_run : (head M i).run σ0 = (head4 M i).run (z3 M i (z2 M i (z1 M i σ0))) := by
  have r3 : ∀ σ, (tail3 M i).run σ = (head4 M i).run (z3 M i σ) := by
    intro σ
    rw [show (tail3 M i).run σ = if h : k0_cond3 i = 1#1 then (first3 M i h (head4 M i)).run σ else (head4 M i).run σ from rfl, z3]
    by_cases h : k0_cond3 i = 1#1
    · rw [dif_pos h, dif_pos h, first3_run]
    · rw [dif_neg h, dif_neg h]
  have r2 : ∀ σ, (tail2 M i).run σ = (head4 M i).run (z3 M i (z2 M i σ)) := by
    intro σ
    rw [show (tail2 M i).run σ = if h : k0_cond2 i = 1#1 then (tail3 M i).run ((zero2 M i h).run σ).2 else (tail3 M i).run σ from rfl, z2]
    by_cases h : k0_cond2 i = 1#1
    · rw [dif_pos h, dif_pos h, r3]
    · rw [dif_neg h, dif_neg h, r3]
  rw [show (head M i).run σ0 = if h : k0_cond1 i = 1#1 then (tail2 M i).run ((zero1 M i h).run σ0).2 else (tail2 M i).run σ0 from rfl, z1]
  by_cases h : k0_cond1 i = 1#1
  · rw [dif_pos h, dif_pos h, r2]
  · rw [dif_neg h, dif_neg h, r2]

theorem z1_spec (hB : BIn i w k σ0) : (∀ b, b ≠ .da → b ≠ .dd → z1 M i σ0 b = σ0 b) ∧ DaP (i 2).val (z1 M i σ0 .da) (σ0 .da) k.da 16
    ∧ DdP (i 2).val (z1 M i σ0 .dd) (σ0 .dd) k.dd := by
  unfold z1
  by_cases h : k0_cond1 i = 1#1
  · have h' := (cond1_iff i).1 h
    rw [dif_pos h]
    have hr : ((zero1 M i h).run σ0).2 = Function.update (Function.update σ0 .da (put (Rect.unit (s := S16x5x8x128) (k0_off1 i) S16x1x8x128.size (k0_off1_inb i h))
        (shapeCast S16x1x8x128 (broadcast S16x8x128 (Scalar.ofBits (F := Ideal) .f32 0x00000000#32)) shapeCasts_S16x8x128_S16x1x8x128) (σ0 .da)))
        .dd (put (Rect.unit (s := S5x8x128) (k0_off2 i) S1x8x128.size (k0_off2_inb i h))
        (shapeCast S1x8x128 (broadcast S8x128 (Scalar.ofBits (F := Ideal) .f32 0x00000000#32)) shapeCasts_S8x128_S1x8x128) (σ0 .dd)) := rfl
    rw [hr, hB.da0 h', hB.dd0 h']
    refine ⟨?_, ?_, ?_⟩
    · intro b h1 h2
      rw [Function.update_of_ne h2, Function.update_of_ne h1]
    · simp only [Function.update_self, Function.update_of_ne, ne_eq, reduceCtorEq, not_false_eq_true]
      exact DaP.zero _ h
    · simp only [Function.update_self]
      exact DdP.zero _ h
  · have h' := fun hh => h ((cond1_iff i).2 hh)
    rw [dif_neg h]
    exact ⟨fun _ _ _ => rfl, ⟨fun p h0 _ => hB.da h' p h0, fun _ _ => rfl⟩, ⟨fun p h0 => hB.dd h' p h0, fun _ _ => rfl⟩⟩

theorem z2_spec (hB : BIn i w k σ0) (σ : S) (hσ : σ .adj = σ0 .adj) : (∀ b, b ≠ .adj → z2 M i σ b = σ b) ∧ AdjP (i 2).val (z2 M i σ .adj) (σ0 .adj) k.adj 16 := by
  unfold z2
  by_cases h : k0_cond2 i = 1#1
  · have h' := (cond2_iff i).1 h
    rw [dif_pos h]
    have hr : ((zero2 M i h).run σ).2 = Function.update σ .adj (put (Rect.unit (s := S5x16x8x128) (k0_off3 i) S1x16x8x128.size (k0_off3_inb i h))
        (shapeCast S1x16x8x128 (broadcast S16x8x128 (Scalar.ofBits (F := Ideal) .f32 0x00000000#32)) shapeCasts_S16x8x128_S1x16x8x128) (σ .adj)) := rfl
    rw [hr, hB.adj0 h', hσ]
    refine ⟨fun b h1 => Function.update_of_ne h1 _ _, ?_⟩
    simp only [Function.update_self]
    exact AdjP.zero _ h
  · have h' := fun hh => h ((cond2_iff i).2 hh)
    rw [dif_neg h, hσ]
    exact ⟨fun _ _ => rfl, fun p h0 _ => hB.adj h' p h0, fun _ _ => rfl⟩

theorem put_whole (X : S4096x128.Idx → EReal) : Rows (put (Rect.unit (s := S4096x128) ![0, 0] S4096x128.size inb_S4096x128_S4096x128_0_0)
    (shapeCast S4096x128 (broadcast S4096x128 (Scalar.ofBits (F := Ideal) .f32 0x00000000#32)) shapeCasts_S4096x128_S4096x128) X) (fun _ _ _ => 0) fun _ _ => True := by
  intro p t n _ _ _
  rw [put_at (Rect.unit (s := S4096x128) ![0, 0] S4096x128.size inb_S4096x128_S4096x128_0_0) _ _ p p (by
    intro a; fin_cases a
    · show (p 0).val = 0 + 1 * (p 0).val; omega
    · show (p 1).val = 0 + 1 * (p 1).val; omega)]
  pointwise

attribute [local irreducible] t1 in
theorem first3_ret (h : k0_cond3 i = 1#1) (σ σ1 : S) (e : ((Cmd.loop k0_t1_loop (k0_t1_ok i h) () (t1 M i h)).run σ).2 = σ1) :
    ((first3 M i h (.ret ())).run σ).2 = Function.update (Function.update σ1
      .dbacc (put (Rect.unit (s := S4096x128) ![0, 0] S4096x128.size inb_S4096x128_S4096x128_0_0)
        (shapeCast S4096x128 (broadcast S4096x128 (Scalar.ofBits (F := Ideal) .f32 0x00000000#32)) shapeCasts_S4096x128_S4096x128) (σ1 .dbacc)))
      .dcacc (put (Rect.unit (s := S4096x128) ![0, 0] S4096x128.size inb_S4096x128_S4096x128_0_0)
        (shapeCast S4096x128 (broadcast S4096x128 (Scalar.ofBits (F := Ideal) .f32 0x00000000#32)) shapeCasts_S4096x128_S4096x128) (σ1 .dcacc)) := by
  subst e; rfl

theorem z3_spec (hB : BIn i w k σ0) (σ : S) (hσ : ∀ b, b ≠ .adj → b ≠ .da → b ≠ .dd → σ b = σ0 b) :
    (∀ b, b ≠ .bb → b ≠ .cb → b ≠ .dbacc → b ≠ .dcacc → z3 M i σ b = σ b)
      ∧ Rows (z3 M i σ .bb) (fun t n _ => w.b t n * w.tok t 1) (fun _ _ => True)
      ∧ Rows (z3 M i σ .cb) (fun t n _ => w.c t n * w.tok t 2) (fun _ _ => True)
      ∧ Rows (z3 M i σ .dbacc) k.ob (fun _ _ => True) ∧ Rows (z3 M i σ .dcacc) k.oc (fun _ _ => True) := by
  unfold z3
  by_cases h : k0_cond3 i = 1#1
  · have h' := (cond3_iff i).1 h
    rw [dif_pos h]
    have hl := spread_loop M w σ i h (fun p => by rw [hσ .tok (by decide) (by decide) (by decide)]; exact hB.win.tok p)
      (fun p => by rw [hσ .b (by decide) (by decide) (by decide)]; exact hB.b h' p) (fun p => by rw [hσ .c (by decide) (by decide) (by decide)]; exact hB.c h' p)
    generalize e : ((Cmd.loop k0_t1_loop (k0_t1_ok i h) () (t1 M i h)).run σ).2 = σ1 at hl
    rw [first3_ret M i h σ σ1 e, hB.ob0 h', hB.oc0 h']
    refine ⟨?_, ?_, ?_, ?_, ?_⟩
    · intro b h1 h2 h3 h4
      rw [Function.update_of_ne h4, Function.update_of_ne h3]; exact hl.fr b h1 h2
    · simp only [Function.update_of_ne, ne_eq, reduceCtorEq, not_false_eq_true]
      exact fun p t n a b c => hl.bb p t n a b (by have : (p 0).val < 4096 := (p 0).isLt; omega)
    · simp only [Function.update_of_ne, ne_eq, reduceCtorEq, not_false_eq_true]
      exact fun p t n a b c => hl.cb p t n a b (by have : (p 0).val < 4096 := (p 0).isLt; omega)
    · simp only [Function.update_self, Function.update_of_ne, ne_eq, reduceCtorEq, not_false_eq_true]
      exact put_whole _
    · simp only [Function.update_self]
      exact put_whole _
  · have h' := fun hh => h ((cond3_iff i).2 hh)
    rw [dif_neg h]
    refine ⟨fun _ _ _ _ _ => rfl, ?_, ?_, ?_, ?_⟩
    · rw [hσ .bb (by decide) (by decide) (by decide)]; exact hB.bb h'
    · rw [hσ .cb (by decide) (by decide) (by decide)]; exact hB.cb h'
    · rw [hσ .dbacc (by decide) (by decide) (by decide)]; exact hB.ob h'
    · rw [hσ .dcacc (by decide) (by decide) (by decide)]; exact hB.oc h'

theorem mid (hB : BIn i w k σ0) : Mid i w k σ0 (z3 M i (z2 M i (z1 M i σ0))) := by
  obtain ⟨a1, a2, a3⟩ := z1_spec M i w k σ0 hB
  obtain ⟨b1, b2⟩ := z2_spec M i w k σ0 hB (z1 M i σ0) (a1 .adj (by decide) (by decide))
  obtain ⟨c1, c2, c3, c4, c5⟩ := z3_spec M i w k σ0 hB (z2 M i (z1 M i σ0)) (fun b h1 h2 h3 => (b1 b h1).trans (a1 b h2 h3))
  refine ⟨fun b h1 h2 h3 h4 h5 h6 h7 => (c1 b h4 h5 h6 h7).trans ((b1 b h3).trans (a1 b h1 h2)), c2, c3, c4, c5, ?_, ?_, ?_⟩
  · rw [c1 .adj (by decide) (by decide) (by decide) (by decide)]; exact b2
  · rw [c1 .da (by decide) (by decide) (by decide) (by decide), b1 .da (by decide)]; exact a2
  · rw [c1 .dd (by decide) (by decide) (by decide) (by decide), b1 .dd (by decide)]; exact a3

/-! ## Up to the forward loop -/

/-- Before the forward loop. -/
structure StA (σ : S) : Prop where
  fr : ∀ b, b ≠ .da → b ≠ .dd → b ≠ .adj → b ≠ .bb → b ≠ .cb → b ≠ .dbacc → b ≠ .dcacc → b ≠ .del → b ≠ .u → b ≠ .gy → b ≠ .gz → b ≠ .sdt
    → b ≠ .hS → σ b = σ0 b
  rd : Reads (w.pt k.adj) σ
  gz : Slab (σ .gz) (w.pt k.adj).gz fun _ => True
  sdt : Slab (σ .sdt) (w.pt k.adj).sdt fun _ => True
  ob : Rows (σ .dbacc) k.ob fun _ _ => True
  oc : Rows (σ .dcacc) k.oc fun _ _ => True
  adj : AdjP (i 2).val (σ .adj) (σ0 .adj) k.adj 16
  da : DaP (i 2).val (σ .da) (σ0 .da) k.da 16
  dd : DdP (i 2).val (σ .dd) (σ0 .dd) k.dd
  hS : Hs (σ .hS) (w.pt k.adj).H fun t _ => t = 0
  h0 : ∀ p : S1x1x16x1x8x128.Idx, σ .h0 p = w.h0 (p 2).val (128 * (p 4).val + (p 5).val)
  d : ∀ p : S1x1024.Idx, σ .d p = w.D (p 1).val

/-- The states from the third on; -/
def L14 : List (Fin 16) := [⟨2, by decide⟩, ⟨3, by decide⟩, ⟨4, by decide⟩, ⟨5, by decide⟩, ⟨6, by decide⟩,
    ⟨7, by decide⟩, ⟨8, by decide⟩, ⟨9, by decide⟩, ⟨10, by decide⟩, ⟨11, by decide⟩, ⟨12, by decide⟩, ⟨13, by decide⟩,
    ⟨14, by decide⟩, ⟨15, by decide⟩]
/-- the first states stored, all sixteen. -/
def allInit : C (F := Ideal) M Unit :=
  .bind (mapL M (hInit M) [⟨0, by decide⟩, ⟨1, by decide⟩]) fun _ => .bind (mapL M (hInit M) L14) fun _ => .ret ()

attribute [local irreducible] mapL hInit in
theorem allInit_spec (q : Pt) (h : ∀ p : S1x1x16x1x8x128.Idx, σ0 .h0 p = q.h0 (p 2).val (128 * (p 4).val + (p 5).val)) :
    HI q σ0 16 ((allInit M).run σ0).2 := by
  have m1 := mapL_rule M (hInit M) (fun _ => ()) (fun n s => HI q σ0 n s) (fun n s hs => ⟨rfl, hInit_spec M q σ0 h n s hs⟩)
    [⟨0, by decide⟩, ⟨1, by decide⟩] 0 σ0 rfl ⟨fun _ _ => rfl, fun p t n k a b c d => by omega⟩
  have m2 := mapL_rule M (hInit M) (fun _ => ()) (fun n s => HI q σ0 n s) (fun n s hs => ⟨rfl, hInit_spec M q σ0 h n s hs⟩)
    L14 2 _ rfl m1.2
  exact m2.2

attribute [local irreducible] t2 allInit in
theorem stA (hB : BIn i w k σ0) (σ : S) (hm : Mid i w k σ0 σ) :
    StA i w k σ0 ((allInit M).run ((Cmd.loop k0_t2_loop k0_t2_ok () (t2 M)).run σ).2).2 := by
  have hw : w.In σ := by
    refine ⟨?_, ?_, ?_, ?_, ?_, ?_, ?_⟩ <;> rw [hm.fr _ (by decide) (by decide) (by decide) (by decide) (by decide) (by decide) (by decide)]
    exacts [hB.win.x, hB.win.xs, hB.win.dt, hB.win.tok, hB.win.z, hB.win.dy, hB.win.dys]
  have hp := pre_loop M w σ k.adj hw
  generalize ((Cmd.loop k0_t2_loop k0_t2_ok () (t2 M)).run σ).2 = σ1 at hp
  have h1 : ∀ b, b ≠ .da → b ≠ .dd → b ≠ .adj → b ≠ .bb → b ≠ .cb → b ≠ .dbacc → b ≠ .dcacc → b ≠ .del → b ≠ .u → b ≠ .gy → b ≠ .gz → b ≠ .sdt → σ1 b = σ0 b :=
    fun b a1 a2 a3 a4 a5 a6 a7 a8 a9 a10 a11 a12 => (hp.fr b a8 a9 a10 a11 a12).trans (hm.fr b a1 a2 a3 a4 a5 a6 a7)
  have hI := allInit_spec M σ1 (w.pt k.adj) (fun p => by
    rw [h1 .h0 (by decide) (by decide) (by decide) (by decide) (by decide) (by decide) (by decide) (by decide) (by decide) (by decide) (by decide) (by decide)]
    exact hB.h0 p)
  generalize ((allInit M).run σ1).2 = σ2 at hI
  have h2 : ∀ b, b ≠ .da → b ≠ .dd → b ≠ .adj → b ≠ .bb → b ≠ .cb → b ≠ .dbacc → b ≠ .dcacc → b ≠ .del → b ≠ .u → b ≠ .gy → b ≠ .gz → b ≠ .sdt
      → b ≠ .hS → σ2 b = σ0 b :=
    fun b a1 a2 a3 a4 a5 a6 a7 a8 a9 a10 a11 a12 a13 => (hI.fr b a13).trans (h1 b a1 a2 a3 a4 a5 a6 a7 a8 a9 a10 a11 a12)
  have h3 : ∀ b, b ≠ .hS → b ≠ .del → b ≠ .u → b ≠ .gy → b ≠ .gz → b ≠ .sdt → σ2 b = σ b := fun b a1 a2 a3 a4 a5 a6 =>
    (hI.fr b a1).trans (hp.fr b a2 a3 a4 a5 a6)
  have k3 : σ2 .adj = σ .adj := h3 .adj (by decide) (by decide) (by decide) (by decide) (by decide) (by decide)
  refine ⟨h2, ⟨?_, ?_, ?_, ?_, ?_, ?_⟩, ?_, ?_, ?_, ?_, ?_, ?_, ?_, ?_, ?_, ?_⟩
  · rw [hI.fr .del (by decide)]; exact hp.del
  · rw [hI.fr .u (by decide)]; exact hp.u
  · rw [hI.fr .gy (by decide)]; exact hp.gy
  · rw [h3 .bb (by decide) (by decide) (by decide) (by decide) (by decide) (by decide)]; exact hm.bb
  · rw [h3 .cb (by decide) (by decide) (by decide) (by decide) (by decide) (by decide)]; exact hm.cb
  · intro p
    rw [h2 .a (by decide) (by decide) (by decide) (by decide) (by decide) (by decide) (by decide) (by decide) (by decide) (by decide) (by decide) (by decide) (by decide)]
    exact hB.a p
  · rw [hI.fr .gz (by decide)]; exact hp.gz
  · rw [hI.fr .sdt (by decide)]; exact hp.sdt
  · rw [h3 .dbacc (by decide) (by decide) (by decide) (by decide) (by decide) (by decide)]; exact hm.ob
  · rw [h3 .dcacc (by decide) (by decide) (by decide) (by decide) (by decide) (by decide)]; exact hm.oc
  · rw [h3 .adj (by decide) (by decide) (by decide) (by decide) (by decide) (by decide)]; exact hm.adj
  · rw [h3 .da (by decide) (by decide) (by decide) (by decide) (by decide) (by decide)]; exact hm.da
  · rw [h3 .dd (by decide) (by decide) (by decide) (by decide) (by decide) (by decide)]; exact hm.dd
  · exact fun p t n k a b c d => hI.hS p t n k a b c ⟨d, b⟩
  · intro p
    rw [h2 .h0 (by decide) (by decide) (by decide) (by decide) (by decide) (by decide) (by decide) (by decide) (by decide) (by decide) (by decide) (by decide) (by decide)]
    exact hB.h0 p
  · intro p
    rw [h2 .d (by decide) (by decide) (by decide) (by decide) (by decide) (by decide) (by decide) (by decide) (by decide) (by decide) (by decide) (by decide) (by decide)]
    exact hB.d p

/-! ## Up to the backward loop -/

/-- After the forward loop. -/
structure StB (σ : S) : Prop where
  fr : ∀ b, b ≠ .dd → b ≠ .aS → b ≠ .hS → b ≠ .y → b ≠ .dcacc → σ b = σ0 b
  rd : Reads' (w.pt k.adj) σ
  y : Slab (σ .y) (w.pt k.adj).Y fun _ => True
  oc : Rows (σ .dcacc) (k.next (w.pt k.adj)).oc fun _ _ => True
  dd : ∀ X, DdP (i 2).val (σ0 .dd) X k.dd → DdP (i 2).val (σ .dd) X (k.next (w.pt k.adj)).dd

/-- Loads the sixteen values of a list in two or three parts. -/
theorem loads (f : Fin 16 → C (F := Ideal) M (V Ideal)) (g : Fin 16 → V Ideal) (σ : S) (h : ∀ n, (f n).run σ = (g n, σ)) :
    ∀ l : List (Fin 16), (mapL M f l).run σ = (l.map g, σ)
  | [] => rfl
  | n :: l => by
    have h1 := h n
    have h2 := loads f g σ h l
    have e : (mapL M f (n :: l)).run σ = (((f n).run σ).1 :: ((mapL M f l).run ((f n).run σ).2).1, ((mapL M f l).run ((f n).run σ).2).2) := rfl
    rw [e, h1, h2]; rfl

attribute [local irreducible] t3 in
theorem stB (σ : S) (hA : StA i w k σ0 σ) (p0 : (ℕ → V Ideal) × V Ideal) (hs : ∀ n, n < 16 → p0.1 n = tile ((w.pt k.adj).h0 n)) (hd0 : p0.2 = tile k.dd)
    (p : Tup17 Ideal) (s : S) (e1 : ((Cmd.loop k0_t3_loop k0_t3_ok (mk17 p0) (t3 M)).run σ).1 = p)
    (e2 : ((Cmd.loop k0_t3_loop k0_t3_ok (mk17 p0) (t3 M)).run σ).2 = s) :
    StB i w k σ (Function.update s .dd (put (rDd i) (shapeCast S1x8x128 (un17 p).2 shapeCasts_S8x128_S1x8x128) (s .dd))) := by
  have hl := fwd_loop M (w.pt k.adj) σ hA.rd k.dd (old := k.oc) p0 hs hd0 hA.hS hA.oc
  rw [e1, e2] at hl
  have hd := hl.d
  have hfr := hl.I.fr
  have f1 : ∀ b, b ≠ .dd → b ≠ .aS → b ≠ .hS → b ≠ .y → b ≠ .dcacc → Function.update s .dd (put (rDd i) (shapeCast S1x8x128 (un17 p).2 shapeCasts_S8x128_S1x8x128) (s .dd)) b = σ b :=
    fun b h1 h2 h3 h4 h5 => (Function.update_of_ne h1 _ _).trans (hfr b h2 h3 h4 h5)
  have g1 : ∀ b, b ≠ .dd → Function.update s .dd (put (rDd i) (shapeCast S1x8x128 (un17 p).2 shapeCasts_S8x128_S1x8x128) (s .dd)) b = s b :=
    fun b h1 => Function.update_of_ne h1 _ _
  refine ⟨f1, ⟨⟨?_, ?_, ?_, ?_, ?_, ?_⟩, ?_, ?_⟩, ?_, ?_, ?_⟩
  · rw [f1 .del (by decide) (by decide) (by decide) (by decide) (by decide)]; exact hA.rd.del
  · rw [f1 .u (by decide) (by decide) (by decide) (by decide) (by decide)]; exact hA.rd.u
  · rw [f1 .gy (by decide) (by decide) (by decide) (by decide) (by decide)]; exact hA.rd.gy
  · rw [f1 .bb (by decide) (by decide) (by decide) (by decide) (by decide)]; exact hA.rd.bb
  · rw [f1 .cb (by decide) (by decide) (by decide) (by decide) (by decide)]; exact hA.rd.cb
  · intro p
    rw [f1 .a (by decide) (by decide) (by decide) (by decide) (by decide)]; exact hA.rd.a p
  · rw [g1 .aS (by decide)]
    exact fun p t n j a b c d => hl.I.aS p t n j a b c (Or.inl d)
  · rw [g1 .hS (by decide)]
    exact fun p t n j a b c d => hl.I.hS p t n j a b c (Or.inl d.le)
  · rw [g1 .y (by decide)]
    exact fun p j t a b c => hl.I.y p j t a b b
  · rw [g1 .dcacc (by decide)]
    intro p t n a b c
    have hp : (p 0).val < 4096 := (p 0).isLt
    exact hl.I.dc p t n a b (Or.inl (by omega))
  · intro X hX
    rw [Function.update_self, hfr .dd (by decide) (by decide) (by decide) (by decide)]
    exact hX.store (i := i) _ hd

/-! ## To the end -/

/-- After the backward loop and the stores that follow it. -/
structure StC (σ : S) : Prop where
  fr : ∀ b, b ≠ .adj → b ≠ .da → b ≠ .ghS → b ≠ .ghb → b ≠ .ddS → b ≠ .dbacc → σ b = σ0 b
  ghb : Slab (σ .ghb) (w.pt k.adj).ghb fun _ => True
  dds : Slab (σ .ddS) (w.pt k.adj).dds fun _ => True
  ob : Rows (σ .dbacc) (k.next (w.pt k.adj)).ob fun _ _ => True
  adj : ∀ X, AdjP (i 2).val (σ0 .adj) X k.adj 16 → AdjP (i 2).val (σ .adj) X (k.next (w.pt k.adj)).adj 16
  da : ∀ X, DaP (i 2).val (σ0 .da) X k.da 16 → DaP (i 2).val (σ .da) X (k.next (w.pt k.adj)).da 16

attribute [local irreducible] t4 saveRow mapL in
theorem stC (σ : S) (hR : Reads' (w.pt k.adj) σ) (ho : Rows (σ .dbacc) k.ob fun _ _ => True) (p0 : (ℕ → V Ideal) × (ℕ → V Ideal))
    (hs : ∀ n, n < 16 → p0.1 n = tile (k.adj n)) (hd0 : ∀ n, n < 16 → p0.2 n = tile (k.da n))
    (p : Tup32 Ideal) (s : S) (e1 : ((Cmd.loop k0_t4_loop k0_t4_ok (mk32 p0) (t4 M)).run σ).1 = p)
    (e2 : ((Cmd.loop k0_t4_loop k0_t4_ok (mk32 p0) (t4 M)).run σ).2 = s) (s' : S)
    (e3 : ((mapL M (saveRow M i (un32 p)) L16).run s).2 = s') :
    StC i w k σ s' := by
  have hl := bwd_loop M (w.pt k.adj) σ (old := k.ob) hR k.da p0 hs hd0 ho
  rw [e1, e2] at hl
  have ha := hl.a
  have hd := hl.d
  have hfr := hl.I.fr
  have hv : VI s i (s .adj) (s .adj) (s .da) (k.next (w.pt k.adj)).adj (k.next (w.pt k.adj)).da 16 s' := by
    have := mapL_rule M (saveRow M i (un32 p)) (fun _ => ()) (fun n s' => VI s i (s .adj) (s .adj) (s .da) (k.next (w.pt k.adj)).adj (k.next (w.pt k.adj)).da n s')
      (fun n s' h => ⟨rfl, saveRow_spec M s (un32 p) ha hd n s' h⟩) L16 0 s rfl
      ⟨fun _ _ _ => rfl, ⟨fun q a b => absurd b (Nat.not_lt_zero _), fun q h => rfl⟩, ⟨fun q a b => absurd b (Nat.not_lt_zero _), fun q h => rfl⟩⟩
    rw [e3] at this
    exact this.2
  refine ⟨fun b h1 h2 h3 h4 h5 h6 => (hv.fr b h1 h2).trans (hfr b h3 h4 h5 h6), ?_, ?_, ?_, fun X hX => ⟨hv.adj.at_, fun p hp => ?_⟩, fun X hX => ⟨hv.da.at_, fun p hp => ?_⟩⟩
  · rw [hv.fr .ghb (by decide) (by decide)]
    exact fun p j t a b c => hl.I.ghb p j t a b (by omega)
  · rw [hv.fr .ddS (by decide) (by decide)]
    exact fun p j t a b c => hl.I.dds p j t a b (by omega)
  · rw [hv.fr .dbacc (by decide) (by decide)]
    intro p t n a b c
    exact hl.I.db p t n a b (Or.inl (by omega))
  · rw [hv.adj.off p hp, hfr .adj (by decide) (by decide) (by decide) (by decide)]
    exact hX.off p hp
  · rw [hv.da.off p hp, hfr .da (by decide) (by decide) (by decide) (by decide)]
    exact hX.off p hp

/-- The body's end: the results of the pointwise trips, the lane sums where a batch element's chunk ends. -/
def lanes : C (F := Ideal) M PUnit :=
  .ite (k0_cond4 i = 1#1) inferInstance (fun h => .bind (.loop k0_t6_loop (k0_t6_ok i h) () (t6 M i h)) fun _ => .ret PUnit.unit) fun _ => .ret PUnit.unit

/-- Lists of states, as the body loads them. -/
def H13 : List (Fin 16) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩]
def H3 : List (Fin 16) := [⟨13, by decide⟩, ⟨14, by decide⟩, ⟨15, by decide⟩]
def A13 : List (Fin 16) := [⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩]
def D7 : List (Fin 16) := [⟨0, by decide⟩, ⟨1, by decide⟩, ⟨2, by decide⟩, ⟨3, by decide⟩, ⟨4, by decide⟩, ⟨5, by decide⟩, ⟨6, by decide⟩]
def D9 : List (Fin 16) := [⟨7, by decide⟩, ⟨8, by decide⟩, ⟨9, by decide⟩, ⟨10, by decide⟩, ⟨11, by decide⟩, ⟨12, by decide⟩, ⟨13, by decide⟩, ⟨14, by decide⟩, ⟨15, by decide⟩]

attribute [local irreducible] t2 t3 t4 t5 t6 head mapL adjLoad daLoad hInit hLoad saveRow in
/-- The body, stage by stage. -/
theorem body_run (σ s0 s1 s2 s3 s4 s6 s7 s8 s9 s10 s11 s12 s13 : S) (hs hs' adjs ds ds' : List (V Ideal)) (a0 a1 a2 : V Ideal) (dd : V Ideal)
    (p : Tup17 Ideal) (r : Tup32 Ideal)
    (e0 : ((head M i).run σ).2 = s0) (e1 : ((mapL M (hInit M) L14).run s0).2 = s1)
    (e2 : ((mapL M (hLoad M) H13).run s1).1 = hs)
    (e2' : ((mapL M (hLoad M) H13).run s1).2 = s2)
    (e3 : ((mapL M (hLoad M) H3).run s2).1 = hs')
    (e3' : ((mapL M (hLoad M) H3).run s2).2 = s3)
    (ed : shapeCast S8x128 (fun p : S1x8x128.Idx => s3 .dd ((rDd i).toLoadRect.idx p)) shapeCasts_S1x8x128_S8x128 = dd)
    (e4 : ((Cmd.loop k0_t3_loop k0_t3_ok (mk17 (fun n => nth (hs ++ hs') n (sum1 []), dd)) (t3 M)).run s3).1 = p)
    (e4' : ((Cmd.loop k0_t3_loop k0_t3_ok (mk17 (fun n => nth (hs ++ hs') n (sum1 []), dd)) (t3 M)).run s3).2 = s4)
    (e5 : Function.update s4 .dd (put (rDd i) (shapeCast S1x8x128 (un17 p).2 shapeCasts_S8x128_S1x8x128) (s4 .dd)) = s6)
    (e6 : ((adjLoad M i ⟨0, by decide⟩).run s6).1 = a0) (e6' : ((adjLoad M i ⟨0, by decide⟩).run s6).2 = s7)
    (e7 : ((adjLoad M i ⟨1, by decide⟩).run s7).1 = a1) (e7' : ((adjLoad M i ⟨1, by decide⟩).run s7).2 = s8)
    (e8 : ((adjLoad M i ⟨2, by decide⟩).run s8).1 = a2) (e8' : ((adjLoad M i ⟨2, by decide⟩).run s8).2 = s9)
    (e9 : ((mapL M (adjLoad M i) A13).run s9).1 = adjs)
    (e9' : ((mapL M (adjLoad M i) A13).run s9).2 = s10)
    (e10 : ((mapL M (daLoad M i) D7).run s10).1 = ds)
    (e10' : ((mapL M (daLoad M i) D7).run s10).2 = s11)
    (e11 : ((mapL M (daLoad M i) D9).run s11).1 = ds')
    (e11' : ((mapL M (daLoad M i) D9).run s11).2 = s12)
    (e12 : ((Cmd.loop k0_t4_loop k0_t4_ok (mk32 (fun n => nth (a0 :: a1 :: a2 :: adjs) n (sum1 []), fun n => nth (ds ++ ds') n (sum1 []))) (t4 M)).run s12).1 = r)
    (e12' : ((Cmd.loop k0_t4_loop k0_t4_ok (mk32 (fun n => nth (a0 :: a1 :: a2 :: adjs) n (sum1 []), fun n => nth (ds ++ ds') n (sum1 []))) (t4 M)).run s12).2 = s13) :
    ((body M hM i).run σ).2 = ((lanes M i).run ((Cmd.loop k0_t5_loop k0_t5_ok () (t5 M hM)).run ((mapL M (saveRow M i (un32 r)) L16).run s13).2).2).2 := by
  subst e0 e1 e2 e2' e3 e3' ed e4 e4' e5 e6 e6' e7 e7' e8 e8' e9 e9' e10 e10' e11 e11' e12 e12'
  rfl

attribute [local irreducible] t2 head4 mapL in
theorem head_init (σ : S) : ((mapL M (hInit M) L14).run ((head4 M i).run σ).2).2 = ((allInit M).run ((Cmd.loop k0_t2_loop k0_t2_ok () (t2 M)).run σ).2).2 := by
  unfold head4
  rfl

attribute [local irreducible] t6 in
theorem lanes_run (σ : S) : ((lanes M i).run σ).2 = if h : k0_cond4 i = 1#1 then ((Cmd.loop k0_t6_loop (k0_t6_ok i h) () (t6 M i h)).run σ).2 else σ := by
  rw [show ((lanes M i).run σ).2 = (if h : k0_cond4 i = 1#1 then (PUnit.unit, ((Cmd.loop k0_t6_loop (k0_t6_ok i h) () (t6 M i h)).run σ).2) else (PUnit.unit, σ) : PUnit × S).2 from rfl]
  by_cases h : k0_cond4 i = 1#1
  · rw [dif_pos h, dif_pos h]
  · rw [dif_neg h, dif_neg h]

attribute [local irreducible] t2 t3 t4 t5 t6 head mapL adjLoad daLoad hInit hLoad saveRow lanes z1 z2 z3 allInit in
theorem whole (hB : BIn i w k σ0) : BOut i w k σ0 ((body M hM i).run σ0).2 := by
  have hA := stA M i w k σ0 hB _ (mid M i w k σ0 hB)
  have e0 : ((head M i).run σ0).2 = ((head4 M i).run (z3 M i (z2 M i (z1 M i σ0)))).2 := by rw [head_run]
  have e1 := head_init M i (z3 M i (z2 M i (z1 M i σ0)))
  generalize z3 M i (z2 M i (z1 M i σ0)) = sz at hA e0 e1
  generalize ((allInit M).run ((Cmd.loop k0_t2_loop k0_t2_ok () (t2 M)).run sz).2).2 = sA at hA e1
  have hL := loads M (hLoad M) (fun n : Fin 16 => tile ((w.pt k.adj).h0 n.val)) sA (hLoad_run M (w.pt k.adj) sA hA.h0)
  have ed := hA.dd.load (i := i)
  obtain ⟨p0, hp0⟩ : ∃ p0 : (ℕ → V Ideal) × V Ideal, p0 = (fun n => nth (L16.map (fun n : Fin 16 => tile ((w.pt k.adj).h0 n.val))) n (sum1 []), tile k.dd) := ⟨_, rfl⟩
  obtain ⟨p, hp⟩ : ∃ p, ((Cmd.loop k0_t3_loop k0_t3_ok (mk17 p0) (t3 M)).run sA).1 = p := ⟨_, rfl⟩
  obtain ⟨s4, hs4⟩ : ∃ s, ((Cmd.loop k0_t3_loop k0_t3_ok (mk17 p0) (t3 M)).run sA).2 = s := ⟨_, rfl⟩
  have hBB := stB M i w k σ0 sA hA p0 (fun n hn => by rw [hp0]; exact nth_map (fun n : Fin 16 => tile ((w.pt k.adj).h0 n.val)) n hn _) (by rw [hp0]) p s4 hp hs4
  obtain ⟨sB, hsB⟩ : ∃ s, Function.update s4 .dd (put (rDd i) (shapeCast S1x8x128 (un17 p).2 shapeCasts_S8x128_S1x8x128) (s4 .dd)) = s := ⟨_, rfl⟩
  rw [hsB] at hBB
  have hadj : AdjP (i 2).val (sB .adj) (σ0 .adj) k.adj 16 := by
    rw [hBB.fr .adj (by decide) (by decide) (by decide) (by decide) (by decide)]; exact hA.adj
  have hda : DaP (i 2).val (sB .da) (σ0 .da) k.da 16 := by
    rw [hBB.fr .da (by decide) (by decide) (by decide) (by decide) (by decide)]; exact hA.da
  have hdd : DdP (i 2).val (sB .dd) (σ0 .dd) (k.next (w.pt k.adj)).dd := hBB.dd _ hA.dd
  have rA := adjLoad_run M sB hadj
  have rD := daLoad_run M sB hda
  have hLa := loads M (adjLoad M i) (fun n : Fin 16 => tile (k.adj n.val)) sB rA
  have hLd := loads M (daLoad M i) (fun n : Fin 16 => tile (k.da n.val)) sB rD
  obtain ⟨r0, hr0⟩ : ∃ r0 : (ℕ → V Ideal) × (ℕ → V Ideal), r0 = (fun n => nth (L16.map (fun n : Fin 16 => tile (k.adj n.val))) n (sum1 []), fun n => nth (L16.map (fun n : Fin 16 => tile (k.da n.val))) n (sum1 [])) := ⟨_, rfl⟩
  obtain ⟨r, hr⟩ : ∃ r, ((Cmd.loop k0_t4_loop k0_t4_ok (mk32 r0) (t4 M)).run sB).1 = r := ⟨_, rfl⟩
  obtain ⟨s13, hs13⟩ : ∃ s, ((Cmd.loop k0_t4_loop k0_t4_ok (mk32 r0) (t4 M)).run sB).2 = s := ⟨_, rfl⟩
  obtain ⟨sC, hsC⟩ : ∃ s, ((mapL M (saveRow M i (un32 r)) L16).run s13).2 = s := ⟨_, rfl⟩
  have hob : Rows (sB .dbacc) k.ob fun _ _ => True := by
    rw [hBB.fr .dbacc (by decide) (by decide) (by decide) (by decide) (by decide)]; exact hA.ob
  have hC := stC M i w k sB hBB.rd hob r0 (fun n hn => by rw [hr0]; exact nth_map (fun n : Fin 16 => tile (k.adj n.val)) n hn _)
    (fun n hn => by rw [hr0]; exact nth_map (fun n : Fin 16 => tile (k.da n.val)) n hn _) r s13 hr hs13 sC hsC
  rw [body_run M hM i σ0 _ sA sA sA s4 sB sB sB sB sB sB sB s13
    (H13.map fun n : Fin 16 => tile ((w.pt k.adj).h0 n.val))
    (H3.map fun n : Fin 16 => tile ((w.pt k.adj).h0 n.val))
    (A13.map fun n : Fin 16 => tile (k.adj n.val))
    (D7.map fun n : Fin 16 => tile (k.da n.val))
    (D9.map fun n : Fin 16 => tile (k.da n.val))
    (tile (k.adj 0)) (tile (k.adj 1)) (tile (k.adj 2)) (tile k.dd) p r e0 e1 (by rw [hL]) (by rw [hL]) (by rw [hL]) (by rw [hL]) ed
    (by rw [← hp, hp0]; rfl) (by rw [← hs4, hp0]; rfl) hsB (by rw [rA]) (by rw [rA]) (by rw [rA]) (by rw [rA]) (by rw [rA]) (by rw [rA])
    (by rw [hLa]) (by rw [hLa]) (by rw [hLd]) (by rw [hLd]) (by rw [hLd]) (by rw [hLd])
    (by rw [← hr, hr0]; rfl) (by rw [← hs13, hr0]; rfl), hsC, lanes_run]
  have f1 : ∀ b, b ≠ .adj → b ≠ .da → b ≠ .ghS → b ≠ .ghb → b ≠ .ddS → b ≠ .dbacc → b ≠ .dd → b ≠ .aS → b ≠ .hS → b ≠ .y → b ≠ .dcacc → sC b = sA b :=
    fun b h1 h2 h3 h4 h5 h6 h7 h8 h9 h10 h11 => (hC.fr b h1 h2 h3 h4 h5 h6).trans (hBB.fr b h7 h8 h9 h10 h11)
  have hP : PostIn (w.pt k.adj) sC := by
    refine ⟨?_, ?_, ?_, ?_, ?_, ?_, hC.ghb, hC.dds, ?_⟩
    · rw [f1 .del (by decide) (by decide) (by decide) (by decide) (by decide) (by decide) (by decide) (by decide) (by decide) (by decide) (by decide)]; exact hA.rd.del
    · rw [f1 .u (by decide) (by decide) (by decide) (by decide) (by decide) (by decide) (by decide) (by decide) (by decide) (by decide) (by decide)]; exact hA.rd.u
    · rw [f1 .gy (by decide) (by decide) (by decide) (by decide) (by decide) (by decide) (by decide) (by decide) (by decide) (by decide) (by decide)]; exact hA.rd.gy
    · rw [f1 .gz (by decide) (by decide) (by decide) (by decide) (by decide) (by decide) (by decide) (by decide) (by decide) (by decide) (by decide)]; exact hA.gz
    · rw [f1 .sdt (by decide) (by decide) (by decide) (by decide) (by decide) (by decide) (by decide) (by decide) (by decide) (by decide) (by decide)]; exact hA.sdt
    · rw [hC.fr .y (by decide) (by decide) (by decide) (by decide) (by decide) (by decide)]; exact hBB.y
    · intro p
      rw [f1 .d (by decide) (by decide) (by decide) (by decide) (by decide) (by decide) (by decide) (by decide) (by decide) (by decide) (by decide)]; exact hA.d p
  have hD := post_loop M hM (w.pt k.adj) sC hP
  generalize ((Cmd.loop k0_t5_loop k0_t5_ok () (t5 M hM)).run sC).2 = sD at hD
  have hAadj := hA.adj
  have base : ∀ s : S, (∀ b, b ≠ .db → b ≠ .dc → s b = sD b) → ((i 2).val = 4 → LS (s .db) (k.next (w.pt k.adj)).ob 32) → ((i 2).val = 4 → LS (s .dc) (k.next (w.pt k.adj)).oc 32) → BOut i w k σ0 s := by
    intro s hs hdb hdc
    have g1 : ∀ b, b ≠ .db → b ≠ .dc → b ≠ .dx → b ≠ .ddt → b ≠ .dz → s b = sC b := fun b h1 h2 h3 h4 h5 => (hs b h1 h2).trans (hD.fr b h3 h4 h5)
    refine ⟨?_, ?_, ?_, ?_, ?_, ?_, ?_, ?_, ?_, ?_, ?_, hdb, hdc⟩
    · rintro b hb
      rcases hb with rfl | rfl | rfl | rfl | rfl | rfl | rfl | rfl | rfl | rfl | rfl | rfl <;>
      · rw [g1 _ (by decide) (by decide) (by decide) (by decide) (by decide), f1 _ (by decide) (by decide) (by decide) (by decide) (by decide) (by decide) (by decide) (by decide) (by decide) (by decide) (by decide)]
        exact hA.fr _ (by decide) (by decide) (by decide) (by decide) (by decide) (by decide) (by decide) (by decide) (by decide) (by decide) (by decide) (by decide) (by decide)
    · rw [hs .dx (by decide) (by decide)]; exact hD.dx
    · rw [hs .ddt (by decide) (by decide)]; exact hD.ddt
    · rw [hs .dz (by decide) (by decide)]; exact hD.dz
    · rw [g1 .bb (by decide) (by decide) (by decide) (by decide) (by decide), hC.fr .bb (by decide) (by decide) (by decide) (by decide) (by decide) (by decide)]; exact hBB.rd.bb
    · rw [g1 .cb (by decide) (by decide) (by decide) (by decide) (by decide), hC.fr .cb (by decide) (by decide) (by decide) (by decide) (by decide) (by decide)]; exact hBB.rd.cb
    · rw [g1 .dbacc (by decide) (by decide) (by decide) (by decide) (by decide)]; exact hC.ob
    · rw [g1 .dcacc (by decide) (by decide) (by decide) (by decide) (by decide), hC.fr .dcacc (by decide) (by decide) (by decide) (by decide) (by decide) (by decide)]; exact hBB.oc
    · rw [g1 .adj (by decide) (by decide) (by decide) (by decide) (by decide)]; exact hC.adj _ hadj
    · rw [g1 .da (by decide) (by decide) (by decide) (by decide) (by decide)]; exact hC.da _ hda
    · rw [g1 .dd (by decide) (by decide) (by decide) (by decide) (by decide), hC.fr .dd (by decide) (by decide) (by decide) (by decide) (by decide) (by decide)]; exact hdd
  have hobD : Rows (sD .dbacc) (k.next (w.pt k.adj)).ob fun _ _ => True := by
    rw [hD.fr .dbacc (by decide) (by decide) (by decide)]; exact hC.ob
  have hocD : Rows (sD .dcacc) (k.next (w.pt k.adj)).oc fun _ _ => True := by
    rw [hD.fr .dcacc (by decide) (by decide) (by decide), hC.fr .dcacc (by decide) (by decide) (by decide) (by decide) (by decide) (by decide)]; exact hBB.oc
  by_cases h4 : k0_cond4 i = 1#1
  · rw [dif_pos h4]
    have hl := lane_loop M sD _ _ i h4 hobD hocD
    exact base _ hl.fr (fun _ => hl.db) (fun _ => hl.dc)
  · rw [dif_neg h4]
    exact base _ (fun _ _ _ => rfl) (fun h => absurd ((cond4_iff i).2 h) h4) (fun h => absurd ((cond4_iff i).2 h) h4)

end Cert.KernelIdeal.Val

end
-- ==== Proof.KernelPlan.lean ====
/- The kernel's run, point by point: what the scratch holds before a point, what the body leaves in each window. -/
module

public import proofs.«01_k».proof.Proof.KernelHost
public import proofs.«01_k».proof.Proof.Whole
public import proofs.«01_k».proof.Proof.FrameIdeal

@[expose] public section

set_option maxRecDepth 65536

set_option backward.isDefEq.respectTransparency.types false

noncomputable section

namespace Cert.KernelIdeal.Val

open Idealize.ShloMosaic Idealize.ShloMosaic.TcCoe Idealize.SL Idealize.SL.Sem Cert.Proof Cert.KernelIdeal Cert.KernelIdeal.Gen Cert.KernelIdeal.Body
open Idealize.ShloMosaic.Pipeline (RDat)

/-- What the scratch holds before point `t`. -/
structure InvS (r : Ar) (t : ℕ) (σ : S) : Prop where
  bb : t % 5 ≠ 0 → Rows (σ .bb) (fun t' n _ => (r.bk (t / 20) (t / 5 % 4) 0).b t' n * (r.bk (t / 20) (t / 5 % 4) 0).tok t' 1) fun _ _ => True
  cb : t % 5 ≠ 0 → Rows (σ .cb) (fun t' n _ => (r.bk (t / 20) (t / 5 % 4) 0).c t' n * (r.bk (t / 20) (t / 5 % 4) 0).tok t' 2) fun _ _ => True
  ob : t % 5 ≠ 0 → Rows (σ .dbacc) (r.oB (t / 20) (t / 5 % 4) (t % 5)) fun _ _ => True
  oc : t % 5 ≠ 0 → Rows (σ .dcacc) (r.oC (t / 20) (t / 5 % 4) (t % 5)) fun _ _ => True
  adj : ∀ p : S5x16x8x128.Idx, (p 0).val < t % 5 → σ .adj p = r.adj (t / 20) (t / 5 % 4 + 1) (p 1).val (1024 * (p 0).val + (128 * (p 2).val + (p 3).val))
  adj' : t / 5 % 4 ≠ 0 → ∀ p : S5x16x8x128.Idx, t % 5 ≤ (p 0).val → σ .adj p = r.adj (t / 20) (t / 5 % 4) (p 1).val (1024 * (p 0).val + (128 * (p 2).val + (p 3).val))

/-- The sums `dA`, `dD` when blocks below `s` of chunk number `m` are added. -/
structure DaS (r : Ar) (m s : ℕ) (X : S16x5x8x128.Idx → EReal) : Prop where
  new : ∀ p : S16x5x8x128.Idx, (p 1).val < s → X p = r.cA (m + 1) (p 0).val (1024 * (p 1).val + (128 * (p 2).val + (p 3).val))
  old : m ≠ 0 → ∀ p : S16x5x8x128.Idx, s ≤ (p 1).val → X p = r.cA m (p 0).val (1024 * (p 1).val + (128 * (p 2).val + (p 3).val))
structure DdS (r : Ar) (m s : ℕ) (X : S5x8x128.Idx → EReal) : Prop where
  new : ∀ p : S5x8x128.Idx, (p 0).val < s → X p = r.cD (m + 1) (1024 * (p 0).val + (128 * (p 1).val + (p 2).val))
  old : m ≠ 0 → ∀ p : S5x8x128.Idx, s ≤ (p 0).val → X p = r.cD m (1024 * (p 0).val + (128 * (p 1).val + (p 2).val))

/-- What the body leaves in a window. -/
def aft (r : Ar) (t : ℕ) : (w : Fin 19) → (Y X : (spec0 w).block.Idx → Elt Ideal (spec0 w).elt) → Prop
  | 0, Y, X => X = Y
  | 1, Y, X => X = Y
  | 2, Y, X => X = Y
  | 3, Y, X => X = Y
  | 4, Y, X => X = Y
  | 5, Y, X => X = Y
  | 6, Y, X => X = Y
  | 7, Y, X => X = Y
  | 8, Y, X => X = Y
  | 9, Y, X => X = Y
  | 10, Y, X => X = Y
  | 11, Y, X => X = Y
  | 12, _, X => ∀ p : S1x256x1024.Idx, X p = (r.Q (t / 20) (t / 5 % 4)).dx (p 1).val (1024 * (t % 5) + (p 2).val)
  | 13, _, X => ∀ p : S1x256x1024.Idx, X p = (r.Q (t / 20) (t / 5 % 4)).ddt (p 1).val (1024 * (t % 5) + (p 2).val)
  | 14, _, X => ∀ p : S1x256x1024.Idx, X p = (r.Q (t / 20) (t / 5 % 4)).dz (p 1).val (1024 * (t % 5) + (p 2).val)
  | 15, _, X => t % 5 = 4 → LS X (r.oB (t / 20) (t / 5 % 4) 5) 32
  | 16, _, X => t % 5 = 4 → LS X (r.oC (t / 20) (t / 5 % 4) 5) 32
  | 17, _, X => DaS r (t / 5) (t % 5 + 1) X
  | 18, _, X => DdS r (t / 5) (t % 5 + 1) X
  | ⟨_ + 19, h⟩, _, _ => absurd h (Nat.not_lt.2 (Nat.le_add_left _ _))

variable (m : (ℓ : Loc nD τ sig) → Buf (Elt Ideal) ℓ) (c : Dev nD)

/-- The plan. -/
def pl : Plan (F := Ideal) where
  Inv c t σ := InvS (ar m c) t σ
  after c w t Y X := aft (ar m c) t.val w Y X

/-- What is kept before point `t`. -/
def kAt (r : Ar) (t : ℕ) : Kp where
  adj n d := r.adj (t / 20) (t / 5 % 4) n (1024 * (t % 5) + d)
  ob := r.oB (t / 20) (t / 5 % 4) (t % 5)
  oc := r.oC (t / 20) (t / 5 % 4) (t % 5)
  da n d := r.cA (t / 5) n (1024 * (t % 5) + d)
  dd d := r.cD (t / 5) (1024 * (t % 5) + d)

theorem pt_eq (r : Ar) (t : ℕ) : (r.bk (t / 20) (t / 5 % 4) (t % 5)).pt (kAt r t).adj = (r.Q (t / 20) (t / 5 % 4)).shift (1024 * (t % 5)) :=
  r.bk_pt _ _ _

theorem next_adj (r : Ar) (t n d : ℕ) : ((kAt r t).next ((r.Q (t / 20) (t / 5 % 4)).shift (1024 * (t % 5)))).adj n d
    = r.adj (t / 20) (t / 5 % 4 + 1) n (1024 * (t % 5) + d) := by
  rw [Ar.adj_succ]
  exact Pt.shift_G (r.Q (t / 20) (t / 5 % 4)) (1024 * (t % 5)) 256 n d
theorem next_ob (r : Ar) (t : ℕ) : ((kAt r t).next ((r.Q (t / 20) (t / 5 % 4)).shift (1024 * (t % 5)))).ob = r.oB (t / 20) (t / 5 % 4) (t % 5 + 1) := by
  funext t' n l
  unfold Ar.oB
  rw [Finset.sum_range_succ]
  rfl
theorem next_oc (r : Ar) (t : ℕ) : ((kAt r t).next ((r.Q (t / 20) (t / 5 % 4)).shift (1024 * (t % 5)))).oc = r.oC (t / 20) (t / 5 % 4) (t % 5 + 1) := by
  funext t' n l
  unfold Ar.oC
  rw [Finset.sum_range_succ]
  rfl
theorem sA_shift (q : Pt) (o n d : ℕ) : (q.shift o).sA n d = q.sA n (o + d) := by
  unfold Pt.sA
  refine Finset.sum_congr rfl fun j _ => ?_
  rw [Pt.shift_gah]; rfl
theorem next_da (r : Ar) (t n d : ℕ) : ((kAt r t).next ((r.Q (t / 20) (t / 5 % 4)).shift (1024 * (t % 5)))).da n d = r.cA (t / 5 + 1) n (1024 * (t % 5) + d) := by
  show r.cA (t / 5) n (1024 * (t % 5) + d) + ((r.Q (t / 20) (t / 5 % 4)).shift (1024 * (t % 5))).sA n d = _
  rw [sA_shift]
  unfold Ar.cA
  rw [Finset.sum_range_succ, show t / 5 / 4 = t / 20 by omega]
theorem sD_shift (q : Pt) (o d : ℕ) : (q.shift o).sD d = q.sD (o + d) := rfl
theorem next_dd (r : Ar) (t d : ℕ) : ((kAt r t).next ((r.Q (t / 20) (t / 5 % 4)).shift (1024 * (t % 5)))).dd d = r.cD (t / 5 + 1) (1024 * (t % 5) + d) := by
  show r.cD (t / 5) (1024 * (t % 5) + d) + ((r.Q (t / 20) (t / 5 % 4)).shift (1024 * (t % 5))).sD d = _
  rw [sD_shift]
  unfold Ar.cD
  rw [Finset.sum_range_succ, show t / 5 / 4 = t / 20 by omega]

variable {m c} in
/-- The sums as the point finds them. -/
theorem find_da (t : Fin cfg0.N) (X) (h : ((pl m).rdat m c).Finds 17 t X) : DaS (ar m c) (t.val / 5) (t.val % 5) X := by
  have hN : t.val < 40 := lt_of_lt_of_eq t.isLt N_0
  by_cases h0 : t.val = 0
  · rw [h0]; exact ⟨fun p hp => absurd hp (by omega), fun hm => absurd rfl hm⟩
  · rcases (RDat.finds_of_pos (rd := (pl m).rdat m c) (w := 17) (t := t) rfl h0 X).1 h with hf | ⟨Y, _, ha⟩
    · have := (flush0_17 _).1 hf; dsimp only at this; omega
    · have ha : DaS (ar m c) ((t.val - 1) / 5) ((t.val - 1) % 5 + 1) X := ha
      by_cases e : t.val % 5 = 0
      · have e1 : (t.val - 1) / 5 + 1 = t.val / 5 := by omega
        have e2 : (t.val - 1) % 5 + 1 = 5 := by omega
        rw [e2] at ha
        exact ⟨fun p hp => absurd hp (by omega), fun _ p _ => by rw [← e1]; exact ha.new p (p 1).isLt⟩
      · have e1 : (t.val - 1) / 5 = t.val / 5 := by omega
        have e2 : (t.val - 1) % 5 + 1 = t.val % 5 := by omega
        rw [e1, e2] at ha
        exact ha

variable {m c} in
theorem find_dd (t : Fin cfg0.N) (X) (h : ((pl m).rdat m c).Finds 18 t X) : DdS (ar m c) (t.val / 5) (t.val % 5) X := by
  have hN : t.val < 40 := lt_of_lt_of_eq t.isLt N_0
  by_cases h0 : t.val = 0
  · rw [h0]; exact ⟨fun p hp => absurd hp (by omega), fun hm => absurd rfl hm⟩
  · rcases (RDat.finds_of_pos (rd := (pl m).rdat m c) (w := 18) (t := t) rfl h0 X).1 h with hf | ⟨Y, _, ha⟩
    · have := (flush0_18 _).1 hf; dsimp only at this; omega
    · have ha : DdS (ar m c) ((t.val - 1) / 5) ((t.val - 1) % 5 + 1) X := ha
      by_cases e : t.val % 5 = 0
      · have e1 : (t.val - 1) / 5 + 1 = t.val / 5 := by omega
        have e2 : (t.val - 1) % 5 + 1 = 5 := by omega
        rw [e2] at ha
        exact ⟨fun p hp => absurd hp (by omega), fun _ p _ => by rw [← e1]; exact ha.new p (p 0).isLt⟩
      · have e1 : (t.val - 1) / 5 = t.val / 5 := by omega
        have e2 : (t.val - 1) % 5 + 1 = t.val % 5 := by omega
        rw [e1, e2] at ha
        exact ha

/-! ## The blocks fetched -/

variable {m c} in
theorem find_x (t : Fin cfg0.N) (Y) (h : ((pl m).rdat m c).Finds 0 t Y) : Y = iblk m c 0 t := by
  obtain ⟨d, e⟩ := RDat.finds_in_eq_fetched ((pl m).rdat m c) 0 rfl (fun _ _ _ => rfl) (fun _ _ _ h => h) t Y h
  exact e.trans (by unfold RDat.fetched RDat.blockOf iblk; rfl)
variable {m c} in
theorem find_xs (t : Fin cfg0.N) (Y) (h : ((pl m).rdat m c).Finds 1 t Y) : Y = iblk m c 1 t := by
  obtain ⟨d, e⟩ := RDat.finds_in_eq_fetched ((pl m).rdat m c) 1 rfl (fun _ _ _ => rfl) (fun _ _ _ h => h) t Y h
  exact e.trans (by unfold RDat.fetched RDat.blockOf iblk; rfl)
variable {m c} in
theorem find_dt (t : Fin cfg0.N) (Y) (h : ((pl m).rdat m c).Finds 2 t Y) : Y = iblk m c 2 t := by
  obtain ⟨d, e⟩ := RDat.finds_in_eq_fetched ((pl m).rdat m c) 2 rfl (fun _ _ _ => rfl) (fun _ _ _ h => h) t Y h
  exact e.trans (by unfold RDat.fetched RDat.blockOf iblk; rfl)
variable {m c} in
theorem find_tok (t : Fin cfg0.N) (Y) (h : ((pl m).rdat m c).Finds 3 t Y) : Y = iblk m c 3 t := by
  obtain ⟨d, e⟩ := RDat.finds_in_eq_fetched ((pl m).rdat m c) 3 rfl (fun _ _ _ => rfl) (fun _ _ _ h => h) t Y h
  exact e.trans (by unfold RDat.fetched RDat.blockOf iblk; rfl)
variable {m c} in
theorem find_b (t : Fin cfg0.N) (Y) (h : ((pl m).rdat m c).Finds 4 t Y) : Y = iblk m c 4 t := by
  obtain ⟨d, e⟩ := RDat.finds_in_eq_fetched ((pl m).rdat m c) 4 rfl (fun _ _ _ => rfl) (fun _ _ _ h => h) t Y h
  exact e.trans (by unfold RDat.fetched RDat.blockOf iblk; rfl)
variable {m c} in
theorem find_c (t : Fin cfg0.N) (Y) (h : ((pl m).rdat m c).Finds 5 t Y) : Y = iblk m c 5 t := by
  obtain ⟨d, e⟩ := RDat.finds_in_eq_fetched ((pl m).rdat m c) 5 rfl (fun _ _ _ => rfl) (fun _ _ _ h => h) t Y h
  exact e.trans (by unfold RDat.fetched RDat.blockOf iblk; rfl)
variable {m c} in
theorem find_z (t : Fin cfg0.N) (Y) (h : ((pl m).rdat m c).Finds 6 t Y) : Y = iblk m c 6 t := by
  obtain ⟨d, e⟩ := RDat.finds_in_eq_fetched ((pl m).rdat m c) 6 rfl (fun _ _ _ => rfl) (fun _ _ _ h => h) t Y h
  exact e.trans (by unfold RDat.fetched RDat.blockOf iblk; rfl)
variable {m c} in
theorem find_dy (t : Fin cfg0.N) (Y) (h : ((pl m).rdat m c).Finds 7 t Y) : Y = iblk m c 7 t := by
  obtain ⟨d, e⟩ := RDat.finds_in_eq_fetched ((pl m).rdat m c) 7 rfl (fun _ _ _ => rfl) (fun _ _ _ h => h) t Y h
  exact e.trans (by unfold RDat.fetched RDat.blockOf iblk; rfl)
variable {m c} in
theorem find_dys (t : Fin cfg0.N) (Y) (h : ((pl m).rdat m c).Finds 8 t Y) : Y = iblk m c 8 t := by
  obtain ⟨d, e⟩ := RDat.finds_in_eq_fetched ((pl m).rdat m c) 8 rfl (fun _ _ _ => rfl) (fun _ _ _ h => h) t Y h
  exact e.trans (by unfold RDat.fetched RDat.blockOf iblk; rfl)
variable {m c} in
theorem find_a (t : Fin cfg0.N) (Y) (h : ((pl m).rdat m c).Finds 9 t Y) : Y = iblk m c 9 t := by
  obtain ⟨d, e⟩ := RDat.finds_in_eq_fetched ((pl m).rdat m c) 9 rfl (fun _ _ _ => rfl) (fun _ _ _ h => h) t Y h
  exact e.trans (by unfold RDat.fetched RDat.blockOf iblk; rfl)
variable {m c} in
theorem find_d (t : Fin cfg0.N) (Y) (h : ((pl m).rdat m c).Finds 10 t Y) : Y = iblk m c 10 t := by
  obtain ⟨d, e⟩ := RDat.finds_in_eq_fetched ((pl m).rdat m c) 10 rfl (fun _ _ _ => rfl) (fun _ _ _ h => h) t Y h
  exact e.trans (by unfold RDat.fetched RDat.blockOf iblk; rfl)
variable {m c} in
theorem find_h0 (t : Fin cfg0.N) (Y) (h : ((pl m).rdat m c).Finds 11 t Y) : Y = iblk m c 11 t := by
  obtain ⟨d, e⟩ := RDat.finds_in_eq_fetched ((pl m).rdat m c) 11 rfl (fun _ _ _ => rfl) (fun _ _ _ h => h) t Y h
  exact e.trans (by unfold RDat.fetched RDat.blockOf iblk; rfl)

/-- Before a point, the body's precondition. -/
theorem bin (t : Fin cfg0.N) (Y : WY Ideal) (hY : ∀ w, ((pl m).rdat m c).Finds w t (Y w)) (σ : S) (hI : InvS (ar m c) t.val σ) :
    BIn (grid0.coords t) ((ar m c).bk (t.val / 20) (t.val / 5 % 4) (t.val % 5)) (kAt (ar m c) t.val) (mix Y σ) := by
  obtain ⟨c0, c1, c2⟩ := coords_val t
  have hda := find_da t _ (hY 17)
  have hdd := find_dd t _ (hY 18)
  refine ⟨⟨fun p => ?_, fun p => ?_, fun p => ?_, fun p => ?_, fun p => ?_, fun p => ?_, fun p => ?_⟩, fun p => ?_, fun p => ?_, fun p => ?_,
    fun _ p => ?_, fun _ p => ?_, fun h => ?_, fun h => ?_, fun h => ?_, fun h => ?_, fun h => ?_, fun h => ?_, fun h => ?_, fun h p hp => ?_,
    fun h => ?_, fun h p hp => ?_, fun h => ?_, fun h p hp => ?_⟩
  · exact (congrFun (find_x t _ (hY 0)) p).trans (blk_x m c t p)
  · exact (congrFun (find_xs t _ (hY 1)) p).trans (blk_xs m c t p)
  · exact (congrFun (find_dt t _ (hY 2)) p).trans (blk_dt m c t p)
  · exact (congrFun (find_tok t _ (hY 3)) p).trans (blk_tok m c t p)
  · exact (congrFun (find_z t _ (hY 6)) p).trans (blk_z m c t p)
  · exact (congrFun (find_dy t _ (hY 7)) p).trans (blk_dy m c t p)
  · exact (congrFun (find_dys t _ (hY 8)) p).trans (blk_dys m c t p)
  · exact (congrFun (find_a t _ (hY 9)) p).trans (blk_a m c t p)
  · exact (congrFun (find_d t _ (hY 10)) p).trans (blk_d m c t p)
  · exact (congrFun (find_h0 t _ (hY 11)) p).trans (blk_h0 m c t p)
  · exact (congrFun (find_b t _ (hY 4)) p).trans (blk_b m c t p)
  · exact (congrFun (find_c t _ (hY 5)) p).trans (blk_c m c t p)
  · exact hI.bb (c2 ▸ h)
  · exact hI.cb (c2 ▸ h)
  · rw [c2] at h; funext t' n l; show Ar.oB _ _ _ (t.val % 5) _ _ _ = 0; rw [h]; exact Finset.sum_range_zero _
  · rw [c2] at h; funext t' n l; show Ar.oC _ _ _ (t.val % 5) _ _ _ = 0; rw [h]; exact Finset.sum_range_zero _
  · exact hI.ob (c2 ▸ h)
  · exact hI.oc (c2 ▸ h)
  · rw [c1] at h; funext n d; show Ar.adj _ _ (t.val / 5 % 4) _ _ = 0; rw [h]; rfl
  · rw [c1] at h; rw [c2] at hp
    exact (hI.adj' h p hp.ge).trans (by rw [hp]; rfl)
  · rw [c0, c1] at h; funext n d; show Ar.cA _ (t.val / 5) _ _ = 0; rw [show t.val / 5 = 0 by omega]; exact Finset.sum_range_zero _
  · rw [c0, c1] at h; rw [c2] at hp
    exact (hda.old (by omega) p hp.ge).trans (by rw [hp]; rfl)
  · rw [c0, c1] at h; funext d; show Ar.cD _ (t.val / 5) _ = 0; rw [show t.val / 5 = 0 by omega]; exact Finset.sum_range_zero _
  · rw [c0, c1] at h; rw [c2] at hp
    exact (hdd.old (by omega) p hp.ge).trans (by rw [hp]; rfl)

/-- After a point, the plan. -/
theorem bout (t : Fin cfg0.N) (Y : WY Ideal) (hY : ∀ w, ((pl m).rdat m c).Finds w t (Y w)) (σ : S) (hI : InvS (ar m c) t.val σ) (σ' : S)
    (hO : BOut (grid0.coords t) ((ar m c).bk (t.val / 20) (t.val / 5 % 4) (t.val % 5)) (kAt (ar m c) t.val) (mix Y σ) σ') :
    InvS (ar m c) (t.val + 1) σ' ∧ ∀ w, aft (ar m c) t.val w (Y w) (wins σ' w) := by
  have hN : t.val < 40 := lt_of_lt_of_eq t.isLt N_0
  obtain ⟨c0, c1, c2⟩ := coords_val t
  have hda := find_da t _ (hY 17)
  have hdd := find_dd t _ (hY 18)
  have e := pt_eq (ar m c) t.val
  have hob := hO.ob
  have hoc := hO.oc
  have hadj := hO.adj
  have hdA := hO.da
  have hdD := hO.dd
  rw [e, next_ob] at hob
  rw [e, next_oc] at hoc
  rw [e, c2] at hadj hdA hdD
  have hbb := hO.bb
  have hcb := hO.cb
  have hadjn : ∀ p : S5x16x8x128.Idx, (p 0).val = t.val % 5 → σ' .adj p = (ar m c).adj (t.val / 20) (t.val / 5 % 4 + 1) (p 1).val (1024 * (p 0).val + (128 * (p 2).val + (p 3).val)) :=
    fun p hp => (hadj.at_ p hp (p 1).isLt).trans (by rw [next_adj, hp])
  refine ⟨?_, fun w => ?_⟩
  · by_cases h4 : t.val % 5 = 4
    · have z : (t.val + 1) % 5 = 0 := by omega
      refine ⟨fun h => absurd z h, fun h => absurd z h, fun h => absurd z h, fun h => absurd z h, fun p hp => absurd hp (by omega), fun hc p _ => ?_⟩
      have f1 : (t.val + 1) / 20 = t.val / 20 := by omega
      have f2 : (t.val + 1) / 5 % 4 = t.val / 5 % 4 + 1 := by omega
      have hp0 : (p 0).val < 5 := (p 0).isLt
      rw [f1, f2]
      by_cases hp : (p 0).val = 4
      · exact hadjn p (by omega)
      · rw [hadj.off p (by omega)]
        exact hI.adj p (by omega)
    · have f0 : (t.val + 1) % 5 = t.val % 5 + 1 := by omega
      have f1 : (t.val + 1) / 20 = t.val / 20 := by omega
      have f2 : (t.val + 1) / 5 = t.val / 5 := by omega
      refine ⟨fun _ => ?_, fun _ => ?_, fun _ => ?_, fun _ => ?_, fun p hp => ?_, fun hc p hp => ?_⟩
      · rw [f1, f2]; exact hbb
      · rw [f1, f2]; exact hcb
      · rw [f0, f1, f2]; exact hob
      · rw [f0, f1, f2]; exact hoc
      · rw [f0] at hp; rw [f1, f2]
        by_cases h : (p 0).val = t.val % 5
        · exact hadjn p h
        · rw [hadj.off p h]; exact hI.adj p (by omega)
      · rw [f0] at hp; rw [f2] at hc; rw [f1, f2]
        rw [hadj.off p (by omega)]
        exact hI.adj' hc p (by omega)
  · have fr := hO.fr
    match w with
    | 0 => exact fr .x (by simp)
    | 1 => exact fr .xs (by simp)
    | 2 => exact fr .dt (by simp)
    | 3 => exact fr .tok (by simp)
    | 4 => exact fr .b (by simp)
    | 5 => exact fr .c (by simp)
    | 6 => exact fr .z (by simp)
    | 7 => exact fr .dy (by simp)
    | 8 => exact fr .dys (by simp)
    | 9 => exact fr .a (by simp)
    | 10 => exact fr .d (by simp)
    | 11 => exact fr .h0 (by simp)
    | 12 => exact fun p => (hO.dx p).trans (by rw [e, Pt.shift_dx])
    | 13 => exact fun p => (hO.ddt p).trans (by rw [e, Pt.shift_ddt])
    | 14 => exact fun p => (hO.dz p).trans (by rw [e, Pt.shift_dz])
    | 15 =>
      intro h4
      have := hO.db (by rw [c2]; exact h4)
      rw [e, next_ob, h4] at this
      exact this
    | 16 =>
      intro h4
      have := hO.dc (by rw [c2]; exact h4)
      rw [e, next_oc, h4] at this
      exact this
    | 17 =>
      refine ⟨fun p hp => ?_, fun hm p hp => ?_⟩
      · by_cases h : (p 1).val = t.val % 5
        · exact (hdA.at_ p h (p 0).isLt).trans (by rw [next_da, h])
        · exact (hdA.off p h).trans (hda.new p (by omega))
      · exact (hdA.off p (by omega)).trans (hda.old hm p (by omega))
    | 18 =>
      refine ⟨fun p hp => ?_, fun hm p hp => ?_⟩
      · by_cases h : (p 0).val = t.val % 5
        · exact (hdD.at_ p h).trans (by rw [next_dd, h])
        · exact (hdD.off p h).trans (hdd.new p (by omega))
      · exact (hdD.off p (by omega)).trans (hdd.old hm p (by omega))
    | ⟨_ + 19, h⟩ => exact absurd h (Nat.not_lt.2 (Nat.le_add_left _ _))

theorem pl_ok : Plan.Ok m (pl m) where
  start c σ := ⟨fun h => absurd rfl h, fun h => absurd rfl h, fun h => absurd rfl h, fun h => absurd rfl h,
    fun p hp => absurd hp (Nat.not_lt_zero _), fun h => absurd rfl h⟩
  step c t Y hY σ hI := bout m c t Y hY σ hI _ (whole (Mt t) (hMt t) (grid0.coords t) _ _ _ (bin m c t Y hY σ hI))

end Cert.KernelIdeal.Val

end
-- ==== Proof.KernelArr.lean ====
/- What the kernel's results hold after the run. -/
module

public import proofs.«01_k».proof.Proof.KernelPlan
public import Idealize.ShloMosaic.Lib.Pipeline.ArrRel
public import Idealize.ShloMosaic.Lib.Pipeline.ValueKit

@[expose] public section

set_option maxRecDepth 65536

set_option backward.isDefEq.respectTransparency.types false

noncomputable section

namespace Cert.KernelIdeal.Val

open Idealize.ShloMosaic Idealize.ShloMosaic.TcCoe Idealize.SL Idealize.SL.Sem Cert.Proof Cert.KernelIdeal Cert.KernelIdeal.Gen Cert.KernelIdeal.Body
open Idealize.ShloMosaic.Pipeline (RDat)

variable (m : (ℓ : Loc nD τ sig) → Buf (Elt Ideal) ℓ) (c : Dev nD)

/-! ## The blocks of the results -/

theorem ix_dx : ∀ t : Fin cfg0.N, win0_12.index t = ![t.val / 20, 3 - t.val / 5 % 4, t.val % 5] := by decide +kernel
theorem ix_ddt : ∀ t : Fin cfg0.N, win0_13.index t = ![t.val / 20, 3 - t.val / 5 % 4, t.val % 5] := by decide +kernel
theorem ix_dz : ∀ t : Fin cfg0.N, win0_14.index t = ![t.val / 20, 3 - t.val / 5 % 4, t.val % 5] := by decide +kernel
theorem ix_db : ∀ t : Fin cfg0.N, win0_15.index t = ![t.val / 20, 3 - t.val / 5 % 4, 0] := by decide +kernel
theorem ix_dc : ∀ t : Fin cfg0.N, win0_16.index t = ![t.val / 20, 3 - t.val / 5 % 4, 0] := by decide +kernel
theorem ix_da : ∀ t : Fin cfg0.N, win0_17.index t = ![0, 0, 0, 0] := by decide +kernel
theorem ix_dd : ∀ t : Fin cfg0.N, win0_18.index t = ![0, 0, 0] := by decide +kernel

/-! ## The results as arrays -/

/-- By batch element, position and channel; -/
def GX (f : ℕ → ℕ → ℕ → EReal) : S2x1024x5120.Idx → EReal := fun p => f (p 0).val (p 1).val (p 2).val
/-- by batch element, position and state, 8 positions to a row; -/
def GB (f : ℕ → ℕ → ℕ → EReal) : S2x128x128.Idx → EReal := fun p => f (p 0).val ((128 * (p 1).val + (p 2).val) / 16) ((128 * (p 1).val + (p 2).val) % 16)
/-- by state and channel; -/
def GA (f : ℕ → ℕ → EReal) : S16x5x8x128.Idx → EReal := fun p => f (p 0).val (1024 * (p 1).val + (128 * (p 2).val + (p 3).val))
/-- by channel. -/
def GD (f : ℕ → EReal) : S5x8x128.Idx → EReal := fun p => f (1024 * (p 0).val + (128 * (p 1).val + (p 2).val))

variable (after : (w : Fin cfg0.W) → Fin cfg0.N → (cfg0.win w).block.Idx → Elt Ideal (cfg0.win w).elt)
  (hL : ∀ (w : Fin cfg0.W) (u : Fin cfg0.N), (cfg0.win w).flush u = true → ((pl m).rdat m c).Leaves w u (after w u))
include hL

theorem arr_dx : (((pl m).rdat m c).withAfter after).arrAt 12 cfg0.N = GX (ar m c).DX := by
  refine Pipeline.Dat.arrAt_eq_of_covers _ 12 _ (by decide +kernel) fun t hf (y : S1x256x1024.Idx) => ?_
  obtain ⟨Y, _, ha⟩ := hL 12 t hf
  have ha : ∀ p : S1x256x1024.Idx, after 12 t p = ((ar m c).Q (t.val / 20) (t.val / 5 % 4)).dx (p 1).val (1024 * (t.val % 5) + (p 2).val) := ha
  have hy1 : (y 1).val < 256 := (y 1).isLt
  have hN : t.val < 40 := lt_of_lt_of_eq t.isLt N_0
  generalize he : (((cfg0.win 12).blk t).view.emb y : S2x1024x5120.Idx) = e
  have h0 : (e 0).val = t.val / 20 := by subst he; blk_simp [ix_dx] <;> (try idx_bounds y) <;> (try simp) <;> (try omega)
  have h1 : (e 1).val = 256 * (3 - t.val / 5 % 4) + (y 1).val := by subst he; blk_simp [ix_dx] <;> (try idx_bounds y) <;> (try simp) <;> (try omega)
  have h2 : (e 2).val = 1024 * (t.val % 5) + (y 2).val := by subst he; blk_simp [ix_dx] <;> (try idx_bounds y) <;> (try simp) <;> (try omega)
  refine (ha y).trans ?_
  show _ = (ar m c).DX (e 0).val (e 1).val (e 2).val
  rw [h0, h1, h2]
  unfold Ar.DX
  rw [show 3 - (256 * (3 - t.val / 5 % 4) + (y 1).val) / 256 = t.val / 5 % 4 by omega, show (256 * (3 - t.val / 5 % 4) + (y 1).val) % 256 = (y 1).val by omega]

theorem arr_ddt : (((pl m).rdat m c).withAfter after).arrAt 13 cfg0.N = GX (ar m c).DDT := by
  refine Pipeline.Dat.arrAt_eq_of_covers _ 13 _ (by decide +kernel) fun t hf (y : S1x256x1024.Idx) => ?_
  obtain ⟨Y, _, ha⟩ := hL 13 t hf
  have ha : ∀ p : S1x256x1024.Idx, after 13 t p = ((ar m c).Q (t.val / 20) (t.val / 5 % 4)).ddt (p 1).val (1024 * (t.val % 5) + (p 2).val) := ha
  have hy1 : (y 1).val < 256 := (y 1).isLt
  have hN : t.val < 40 := lt_of_lt_of_eq t.isLt N_0
  generalize he : (((cfg0.win 13).blk t).view.emb y : S2x1024x5120.Idx) = e
  have h0 : (e 0).val = t.val / 20 := by subst he; blk_simp [ix_ddt] <;> (try idx_bounds y) <;> (try simp) <;> (try omega)
  have h1 : (e 1).val = 256 * (3 - t.val / 5 % 4) + (y 1).val := by subst he; blk_simp [ix_ddt] <;> (try idx_bounds y) <;> (try simp) <;> (try omega)
  have h2 : (e 2).val = 1024 * (t.val % 5) + (y 2).val := by subst he; blk_simp [ix_ddt] <;> (try idx_bounds y) <;> (try simp) <;> (try omega)
  refine (ha y).trans ?_
  show _ = (ar m c).DDT (e 0).val (e 1).val (e 2).val
  rw [h0, h1, h2]
  unfold Ar.DDT
  rw [show 3 - (256 * (3 - t.val / 5 % 4) + (y 1).val) / 256 = t.val / 5 % 4 by omega, show (256 * (3 - t.val / 5 % 4) + (y 1).val) % 256 = (y 1).val by omega]

theorem arr_dz : (((pl m).rdat m c).withAfter after).arrAt 14 cfg0.N = GX (ar m c).DZ := by
  refine Pipeline.Dat.arrAt_eq_of_covers _ 14 _ (by decide +kernel) fun t hf (y : S1x256x1024.Idx) => ?_
  obtain ⟨Y, _, ha⟩ := hL 14 t hf
  have ha : ∀ p : S1x256x1024.Idx, after 14 t p = ((ar m c).Q (t.val / 20) (t.val / 5 % 4)).dz (p 1).val (1024 * (t.val % 5) + (p 2).val) := ha
  have hy1 : (y 1).val < 256 := (y 1).isLt
  have hN : t.val < 40 := lt_of_lt_of_eq t.isLt N_0
  generalize he : (((cfg0.win 14).blk t).view.emb y : S2x1024x5120.Idx) = e
  have h0 : (e 0).val = t.val / 20 := by subst he; blk_simp [ix_dz] <;> (try idx_bounds y) <;> (try simp) <;> (try omega)
  have h1 : (e 1).val = 256 * (3 - t.val / 5 % 4) + (y 1).val := by subst he; blk_simp [ix_dz] <;> (try idx_bounds y) <;> (try simp) <;> (try omega)
  have h2 : (e 2).val = 1024 * (t.val % 5) + (y 2).val := by subst he; blk_simp [ix_dz] <;> (try idx_bounds y) <;> (try simp) <;> (try omega)
  refine (ha y).trans ?_
  show _ = (ar m c).DZ (e 0).val (e 1).val (e 2).val
  rw [h0, h1, h2]
  unfold Ar.DZ
  rw [show 3 - (256 * (3 - t.val / 5 % 4) + (y 1).val) / 256 = t.val / 5 % 4 by omega, show (256 * (3 - t.val / 5 % 4) + (y 1).val) % 256 = (y 1).val by omega]

theorem arr_db : (((pl m).rdat m c).withAfter after).arrAt 15 cfg0.N = GB (ar m c).DB := by
  refine Pipeline.Dat.arrAt_eq_of_covers _ 15 _ (by decide +kernel) fun t hf (y : S1x32x128.Idx) => ?_
  obtain ⟨Y, _, ha⟩ := hL 15 t hf
  have ha : t.val % 5 = 4 → LS (after 15 t) ((ar m c).oB (t.val / 20) (t.val / 5 % 4) 5) 32 := ha
  have h4 : t.val % 5 = 4 := (flush0_15 t).1 hf
  have hy1 : (y 1).val < 32 := (y 1).isLt
  have hy2 : (y 2).val < 128 := (y 2).isLt
  have hN : t.val < 40 := lt_of_lt_of_eq t.isLt N_0
  generalize he : (((cfg0.win 15).blk t).view.emb y : S2x128x128.Idx) = e
  have h0 : (e 0).val = t.val / 20 := by subst he; blk_simp [ix_db] <;> (try idx_bounds y) <;> (try simp) <;> (try omega)
  have h1 : (e 1).val = 32 * (3 - t.val / 5 % 4) + (y 1).val := by subst he; blk_simp [ix_db] <;> (try idx_bounds y) <;> (try simp) <;> (try omega)
  have h2 : (e 2).val = (y 2).val := by subst he; blk_simp [ix_db] <;> (try idx_bounds y) <;> (try simp) <;> (try omega)
  refine (ha h4 y ((128 * (y 1).val + (y 2).val) / 16) ((128 * (y 1).val + (y 2).val) % 16) (by omega) (Nat.mod_lt _ (by decide)) hy1).trans ?_
  show _ = (ar m c).DB (e 0).val ((128 * (e 1).val + (e 2).val) / 16) ((128 * (e 1).val + (e 2).val) % 16)
  rw [Ar.oB_sum, h0, h1, h2]
  unfold Ar.DB
  rw [show 3 - ((128 * (32 * (3 - t.val / 5 % 4) + (y 1).val) + (y 2).val) / 16) / 256 = t.val / 5 % 4 by omega,
    show ((128 * (32 * (3 - t.val / 5 % 4) + (y 1).val) + (y 2).val) / 16) % 256 = (128 * (y 1).val + (y 2).val) / 16 by omega,
    show (128 * (32 * (3 - t.val / 5 % 4) + (y 1).val) + (y 2).val) % 16 = (128 * (y 1).val + (y 2).val) % 16 by omega]

theorem arr_dc : (((pl m).rdat m c).withAfter after).arrAt 16 cfg0.N = GB (ar m c).DC := by
  refine Pipeline.Dat.arrAt_eq_of_covers _ 16 _ (by decide +kernel) fun t hf (y : S1x32x128.Idx) => ?_
  obtain ⟨Y, _, ha⟩ := hL 16 t hf
  have ha : t.val % 5 = 4 → LS (after 16 t) ((ar m c).oC (t.val / 20) (t.val / 5 % 4) 5) 32 := ha
  have h4 : t.val % 5 = 4 := (flush0_16 t).1 hf
  have hy1 : (y 1).val < 32 := (y 1).isLt
  have hy2 : (y 2).val < 128 := (y 2).isLt
  have hN : t.val < 40 := lt_of_lt_of_eq t.isLt N_0
  generalize he : (((cfg0.win 16).blk t).view.emb y : S2x128x128.Idx) = e
  have h0 : (e 0).val = t.val / 20 := by subst he; blk_simp [ix_dc] <;> (try idx_bounds y) <;> (try simp) <;> (try omega)
  have h1 : (e 1).val = 32 * (3 - t.val / 5 % 4) + (y 1).val := by subst he; blk_simp [ix_dc] <;> (try idx_bounds y) <;> (try simp) <;> (try omega)
  have h2 : (e 2).val = (y 2).val := by subst he; blk_simp [ix_dc] <;> (try idx_bounds y) <;> (try simp) <;> (try omega)
  refine (ha h4 y ((128 * (y 1).val + (y 2).val) / 16) ((128 * (y 1).val + (y 2).val) % 16) (by omega) (Nat.mod_lt _ (by decide)) hy1).trans ?_
  show _ = (ar m c).DC (e 0).val ((128 * (e 1).val + (e 2).val) / 16) ((128 * (e 1).val + (e 2).val) % 16)
  rw [Ar.oC_sum, h0, h1, h2]
  unfold Ar.DC
  rw [show 3 - ((128 * (32 * (3 - t.val / 5 % 4) + (y 1).val) + (y 2).val) / 16) / 256 = t.val / 5 % 4 by omega,
    show ((128 * (32 * (3 - t.val / 5 % 4) + (y 1).val) + (y 2).val) / 16) % 256 = (128 * (y 1).val + (y 2).val) / 16 by omega,
    show (128 * (32 * (3 - t.val / 5 % 4) + (y 1).val) + (y 2).val) % 16 = (128 * (y 1).val + (y 2).val) % 16 by omega]

theorem arr_da : (((pl m).rdat m c).withAfter after).arrAt 17 cfg0.N = GA ((ar m c).cA 8) := by
  refine Pipeline.Dat.arrAt_eq_of_covers _ 17 _ (by decide +kernel) fun t hf (y : S16x5x8x128.Idx) => ?_
  obtain ⟨Y, _, ha⟩ := hL 17 t hf
  have ha : DaS (ar m c) (t.val / 5) (t.val % 5 + 1) (after 17 t) := ha
  have h4 : t.val % 40 = 39 := (flush0_17 t).1 hf
  have hN : t.val < 40 := lt_of_lt_of_eq t.isLt N_0
  rw [show t.val / 5 = 7 by omega, show t.val % 5 + 1 = 5 by omega] at ha
  generalize he : (((cfg0.win 17).blk t).view.emb y : S16x5x8x128.Idx) = e
  have h0 : (e 0).val = (y 0).val := by subst he; blk_simp [ix_da] <;> (try idx_bounds y) <;> (try simp) <;> (try omega)
  have h1 : (e 1).val = (y 1).val := by subst he; blk_simp [ix_da] <;> (try idx_bounds y) <;> (try simp) <;> (try omega)
  have h2 : (e 2).val = (y 2).val := by subst he; blk_simp [ix_da] <;> (try idx_bounds y) <;> (try simp) <;> (try omega)
  have h3 : (e 3).val = (y 3).val := by subst he; blk_simp [ix_da] <;> (try idx_bounds y) <;> (try simp) <;> (try omega)
  refine (ha.new y (y 1).isLt).trans ?_
  show _ = (ar m c).cA 8 (e 0).val (1024 * (e 1).val + (128 * (e 2).val + (e 3).val))
  rw [h0, h1, h2, h3]

theorem arr_dd : (((pl m).rdat m c).withAfter after).arrAt 18 cfg0.N = GD ((ar m c).cD 8) := by
  refine Pipeline.Dat.arrAt_eq_of_covers _ 18 _ (by decide +kernel) fun t hf (y : S5x8x128.Idx) => ?_
  obtain ⟨Y, _, ha⟩ := hL 18 t hf
  have ha : DdS (ar m c) (t.val / 5) (t.val % 5 + 1) (after 18 t) := ha
  have h4 : t.val % 40 = 39 := (flush0_18 t).1 hf
  have hN : t.val < 40 := lt_of_lt_of_eq t.isLt N_0
  rw [show t.val / 5 = 7 by omega, show t.val % 5 + 1 = 5 by omega] at ha
  generalize he : (((cfg0.win 18).blk t).view.emb y : S5x8x128.Idx) = e
  have h0 : (e 0).val = (y 0).val := by subst he; blk_simp [ix_dd] <;> (try idx_bounds y) <;> (try simp) <;> (try omega)
  have h1 : (e 1).val = (y 1).val := by subst he; blk_simp [ix_dd] <;> (try idx_bounds y) <;> (try simp) <;> (try omega)
  have h2 : (e 2).val = (y 2).val := by subst he; blk_simp [ix_dd] <;> (try idx_bounds y) <;> (try simp) <;> (try omega)
  refine (ha.new y (y 0).isLt).trans ?_
  show _ = (ar m c).cD 8 (1024 * (e 0).val + (128 * (e 1).val + (e 2).val))
  rw [h0, h1, h2]

end Cert.KernelIdeal.Val

end
-- ==== Proof.RefPay.lean ====
/- The reference's payloads at an index: each is one line of arithmetic over the extended reals. -/
module

public import proofs.«01_k».proof.Proof.Spec
public import proofs.«01_k».proof.Proof.RefFrame

@[expose] public section

set_option maxRecDepth 65536

set_option backward.isDefEq.respectTransparency.types false

noncomputable section

namespace Cert.ReferenceIdeal.Val

open Idealize.ShloMosaic Idealize.SL.Sem Cert.Proof Cert.ReferenceIdeal Cert.ReferenceIdeal.Gen Cert.ReferenceIdeal.Body

variable (h : FVec Ideal S2x16x5120 .f32) (v v' v'' v3 : Vec Ideal S2x1x5120 .f32) (a : Vec Ideal S16x5120 .f32) (b b' : Vec Ideal S2x1x16 .f32)
  (dv : Vec Ideal S1x5120 .f32) (ah : Vec Ideal S1x2x16x5120 .f32)

theorem pay7 (i : Fin 2) (n : Fin 16) (d : Fin 5120) :
    k0_pay7 h v a (ix3 i n d) = Ideal.exp (v (ix3 i 0 d) * a (ix2 n d)) * h (ix3 i n d) := by
  pointwise [k0_pay5, k0_pay7]; try rfl
theorem pay8 (i : Fin 2) (n : Fin 16) (d : Fin 5120) :
    k0_pay8 h v v' a b (ix3 i n d) = Ideal.exp (v (ix3 i 0 d) * a (ix2 n d)) * h (ix3 i n d) + v (ix3 i 0 d) * v' (ix3 i 0 d) * b (ix3 i 0 n) := by
  pointwise [k0_pay5, k0_pay6, k0_pay7, k0_pay8]; try rfl
theorem pay9 (i : Fin 2) (n : Fin 16) (d : Fin 5120) :
    k0_pay9 h v a (ix4 0 i n d) = Ideal.exp (v (ix3 i 0 d) * a (ix2 n d)) * h (ix3 i n d) := by
  pointwise [k0_pay5, k0_pay7, k0_pay9]; try rfl
theorem pay35 (i : Fin 2) (n : Fin 16) :
    k0_pay35 (k0_pay10 h v v' v'' a b) (ix3 i 0 n) = ∑ d : Fin 5120, v'' (ix3 i 0 d) * k0_pay8 h v v' a b (ix3 i n d) := by
  pointwise [k0_pay5, k0_pay6, k0_pay7, k0_pay8, k0_pay10, k0_pay35]; try rfl
theorem pay36 (i : Fin 2) (d : Fin 5120) : k0_pay36 (k0_pay6 v') h v3 b' dv (ix3 i 0 d)
    = v3 (ix3 i 0 d) * ((∑ n : Fin 16, b' (ix3 i 0 n) * h (ix3 i n d)) + dv (ix2 0 d) * v' (ix3 i 0 d)) := by
  pointwise [k0_pay6, k0_pay36]; try rfl
theorem pay14 (i : Fin 2) (n : Fin 16) (d : Fin 5120) :
    k0_pay14 h v b (ix3 i n d) = v (ix3 i 0 d) * b (ix3 i 0 n) + h (ix3 i n d) := by
  pointwise [k0_pay13, k0_pay14]; try rfl
theorem pay15 (i : Fin 2) (d : Fin 5120) :
    k0_pay15 h v b b' (ix2 i d) = ∑ n : Fin 16, (v (ix3 i 0 d) * b (ix3 i 0 n) + h (ix3 i n d)) * b' (ix3 i 0 n) := by
  pointwise [k0_pay13, k0_pay14, k0_pay15]; try rfl
theorem pay16 (i : Fin 2) (n : Fin 16) (d : Fin 5120) :
    k0_pay16 h v b ah (ix3 i n d) = (v (ix3 i 0 d) * b (ix3 i 0 n) + h (ix3 i n d)) * ah (ix4 0 i n d) := by
  pointwise [k0_pay13, k0_pay14, k0_pay16]; try rfl
theorem pay37 (i : Fin 2) (d : Fin 5120) :
    k0_pay37 (k0_pay17 h v v' b b' dv) (ix3 i 0 d)
      = v' (ix3 i 0 d) * dv (ix2 0 d) + v (ix3 i 0 d) * ∑ n : Fin 16, (v' (ix3 i 0 d) * b (ix3 i 0 n) + h (ix3 i n d)) * b' (ix3 i 0 n) := by
  pointwise [k0_pay11, k0_pay13, k0_pay14, k0_pay15, k0_pay17, k0_pay37]; try rfl
theorem pay38 (i : Fin 2) (d : Fin 5120) :
    k0_pay38 (k0_pay12 v') (k0_pay15 h v b b') (k0_pay16 h v b ah) a v3 (ix3 i 0 d)
      = ((∑ n : Fin 16, (v (ix3 i 0 d) * b (ix3 i 0 n) + h (ix3 i n d)) * ah (ix4 0 i n d) * a (ix2 n d))
        + v' (ix3 i 0 d) * ∑ n : Fin 16, (v (ix3 i 0 d) * b (ix3 i 0 n) + h (ix3 i n d)) * b' (ix3 i 0 n)) * v3 (ix3 i 0 d) := by
  pointwise [k0_pay12, k0_pay13, k0_pay14, k0_pay15, k0_pay16, k0_pay38]; try rfl
theorem pay39 (i : Fin 2) (n : Fin 16) :
    k0_pay39 (k0_pay11 v) (k0_pay12 v') (k0_pay14 h v'' b) (ix3 i 0 n)
      = ∑ d : Fin 5120, (v'' (ix3 i 0 d) * b (ix3 i 0 n) + h (ix3 i n d)) * (v (ix3 i 0 d) * v' (ix3 i 0 d)) := by
  pointwise [k0_pay11, k0_pay12, k0_pay13, k0_pay14, k0_pay39]; try rfl
theorem pay40 (n : Fin 16) (d : Fin 5120) :
    k0_pay40 a (k0_pay11 v) (k0_pay16 h v' b ah) (ix2 n d)
      = a (ix2 n d) + ∑ i : Fin 2, (v' (ix3 i 0 d) * b (ix3 i 0 n) + h (ix3 i n d)) * ah (ix4 0 i n d) * v (ix3 i 0 d) := by
  pointwise [k0_pay11, k0_pay13, k0_pay14, k0_pay16, k0_pay40]; try rfl
theorem pay41 (i : Fin 2) (n : Fin 16) (d : Fin 5120) :
    k0_pay41 (k0_pay11 v) (k0_pay14 h v' b) a (ix3 i n d)
      = Ideal.exp (v (ix3 i 0 d) * a (ix2 n d)) * (v' (ix3 i 0 d) * b (ix3 i 0 n) + h (ix3 i n d)) := by
  pointwise [k0_pay11, k0_pay13, k0_pay14, k0_pay41]; try rfl

variable (x : Vec Ideal S2x1024x5120 .fp8e4m3) (xs dys : Vec Ideal S2x1024x40 .f32) (ts : Vec Ideal S2x1024 .f32)
  (y : Vec Ideal S2x1024x5120 .fp8e5m2) (z : Vec Ideal S2x1024x5120 .bf16) (bb : Vec Ideal S2x1024x16 .fp8e4m3)

/-- The group of a channel. -/
def gr (d : Fin 5120) : Fin 40 := ⟨d.val / 128, by omega⟩

theorem pay18 (i : Fin 2) (s : Fin 1024) (d : Fin 5120) : k0_pay18 x xs (ix3 i s d) = x (ix3 i s d) * xs (ix3 i s (gr d)) := by
  pointwise [k0_pay18]; try rfl
theorem pay19 (i : Fin 2) (s : Fin 1024) (d : Fin 5120) : k0_pay19 x ts (ix3 i s d) = x (ix3 i s d) * ts (ix2 i s) := by
  pointwise [k0_pay19]; try rfl
theorem pay20 (i : Fin 2) (s : Fin 1024) (d : Fin 5120) : k0_pay20 y dys (ix3 i s d) = y (ix3 i s d) * dys (ix3 i s (gr d)) := by
  pointwise [k0_pay20]; try rfl
theorem pay22 (i : Fin 2) (s : Fin 1024) (d : Fin 5120) : k0_pay22 z (ix3 i s d) = Ideal.div 1 (1 + Ideal.exp (-(z (ix3 i s d)))) := by
  pointwise [k0_pay21, k0_pay22]; try rfl
theorem pay25 (i : Fin 2) (s : Fin 1024) (n : Fin 16) : k0_pay25 bb ts (ix3 i s n) = bb (ix3 i s n) * ts (ix2 i s) := by
  pointwise [k0_pay25]; try rfl
theorem pay26 (i : Fin 2) (s : Fin 1024) (n : Fin 16) : k0_pay26 bb ts (ix3 i s n) = bb (ix3 i s n) * ts (ix2 i s) := by
  pointwise [k0_pay26]; try rfl
theorem pay31 (u g : FVec Ideal S2x1024x5120 .f32) (s : Fin 5) (k : Fin 8) (l : Fin 128) :
    k0_pay31 u g (ix3 s k l) = ∑ t : Fin 1024, ∑ i : Fin 2, g (ix3 i t ⟨1024 * s.val + (128 * k.val + l.val), by omega⟩) * u (ix3 i t ⟨1024 * s.val + (128 * k.val + l.val), by omega⟩) := by
  pointwise [k0_pay31]
  have e : ∀ h, (⟨s.val * 1024 + k.val * 128 + l.val, h⟩ : Fin 5120) = ⟨1024 * s.val + (128 * k.val + l.val), by omega⟩ := fun h => Fin.ext (by simp; omega)
  simp only [e]
theorem pay27 (g : FVec Ideal S2x1024x5120 .f32) (p : S2x1024x5120.Idx) :
    k0_pay27 g p = max (g p) 0 + Ideal.log1p (Ideal.exp (0 - max (g p) (-(g p)))) := by
  have e : k0_pay27 g p = if g p ≠ g p then g p else max (g p) 0 + Ideal.log1p (Ideal.exp (0 - max (g p) (-(g p)))) := by
    pointwise [k0_pay27]; rfl
  rw [e, if_neg fun h => h rfl]
theorem pay28 (g : FVec Ideal S2x1024x5120 .f32) (p : S2x1024x5120.Idx) : k0_pay28 g p = Ideal.logistic (g p) := by
  pointwise [k0_pay28]

/-! ## The scalar functions -/

/-- `e^{-|x|}` is 0 or a positive real. -/
theorem exp_neg_abs (x : EReal) : Ideal.exp (0 - max x (-x)) = 0 ∨ ∃ r : ℝ, 0 < r ∧ Ideal.exp (0 - max x (-x)) = (r : EReal) := by
  induction x using EReal.rec with
  | bot => left; rw [show (0 : EReal) - max ⊥ (-⊥) = ⊥ by simp]; rfl
  | top => left; rw [show (0 : EReal) - max ⊤ (-⊤) = ⊥ by simp]; rfl
  | coe r =>
    right
    refine ⟨Real.exp (0 - max r (-r)), Real.exp_pos _, ?_⟩
    have e : (0 : EReal) - max (r : EReal) (-(r : EReal)) = ((0 - max r (-r) : ℝ) : EReal) := by
      rw [EReal.coe_sub, EReal.coe_strictMono.monotone.map_max, EReal.coe_neg, EReal.coe_zero]
    rw [e]; rfl

open Cert.KernelIdeal.Val in
/-- The kernel's softplus is the reference's. -/
theorem kSp_eq (x : EReal) : kSp x = max x 0 + Ideal.log1p (Ideal.exp (0 - max x (-x))) := by
  have e : kSp x = max x 0 + if 1 + Ideal.exp (0 - max x (-x)) = 1 then Ideal.exp (0 - max x (-x))
      else Ideal.log (1 + Ideal.exp (0 - max x (-x))) * Ideal.div (Ideal.exp (0 - max x (-x))) (1 + Ideal.exp (0 - max x (-x)) - 1) := by
    unfold kSp
    pointwise [Cert.KernelIdeal.Body.delVal, Cert.KernelIdeal.Body.eVal, Cert.KernelIdeal.Body.wVal]; rfl
  rw [e]
  congr 1
  unfold Ideal.log1p
  rcases exp_neg_abs x with h | ⟨r, hr, h⟩
  · rw [h, add_zero, if_pos rfl]
    show (0 : EReal) = if (1 : ℝ) ≤ 0 then ⊥ else ((Real.log 1 : ℝ) : EReal)
    rw [if_neg (by norm_num), Real.log_one]; rfl
  · rw [h]
    have e1 : (1 : EReal) + (r : EReal) = ((1 + r : ℝ) : EReal) := by rw [EReal.coe_add, EReal.coe_one]
    have e2 : ((1 + r : ℝ) : EReal) - 1 = (r : EReal) := by
      rw [← EReal.coe_one, ← EReal.coe_sub]; congr 1; ring
    have h0 : (r : EReal) ≠ 0 := by rw [← EReal.coe_zero]; exact fun hh => hr.ne' (EReal.coe_injective hh)
    have h1 : ((1 + r : ℝ) : EReal) ≠ 1 := by rw [← EReal.coe_one]; exact fun hh => by have := EReal.coe_injective hh; linarith
    rw [e1, if_neg h1, e2]
    unfold Ideal.div
    rw [if_neg h0, ← EReal.coe_inv, ← EReal.coe_mul, mul_inv_cancel₀ hr.ne', EReal.coe_one, mul_one]

open Cert.KernelIdeal.Val in
/-- The kernel's derivative of the softplus is the logistic function. -/
theorem kSg_eq (x : EReal) : kSg x = Ideal.logistic x := by
  have e : kSg x = Ideal.div (if 0 ≤ x then 1 else Ideal.exp (0 - max x (-x))) (1 + Ideal.exp (0 - max x (-x))) := by
    unfold kSg
    pointwise [Cert.KernelIdeal.Body.sdtVal, Cert.KernelIdeal.Body.eVal, Cert.KernelIdeal.Body.wVal]; rfl
  rw [e]
  unfold Ideal.logistic
  by_cases h : 0 ≤ x
  · have hm : max x (-x) = x := max_eq_left (le_trans (by rw [EReal.neg_le, neg_zero]; exact h) h)
    rw [if_pos h, hm, zero_sub]
  · have hx : x < 0 := not_le.1 h
    have hm : max x (-x) = -x := max_eq_right (le_trans hx.le (by rw [EReal.le_neg, neg_zero]; exact hx.le))
    rw [if_neg h, hm, zero_sub, neg_neg]
    induction x using EReal.rec with
    | bot =>
      have e1 : Ideal.exp (⊥ : EReal) = 0 := rfl
      have e2 : Ideal.exp (-(⊥ : EReal)) = ⊤ := by rw [EReal.neg_bot]; rfl
      rw [e1, e2, show (1 : EReal) + ⊤ = ⊤ from EReal.coe_add_top 1]; simp [Ideal.div]
    | top => exact absurd le_top h
    | coe r =>
      have hp := Real.exp_pos r
      have hq := Real.exp_pos (-r)
      have e1 : Ideal.exp (r : EReal) = ((Real.exp r : ℝ) : EReal) := rfl
      have e2 : Ideal.exp (-(r : EReal)) = ((Real.exp (-r) : ℝ) : EReal) := by rw [← EReal.coe_neg]; rfl
      rw [e1, e2, ← EReal.coe_one, ← EReal.coe_add, ← EReal.coe_add]
      have n1 : ((1 + Real.exp r : ℝ) : EReal) ≠ 0 := by rw [← EReal.coe_zero]; exact fun hh => by have := EReal.coe_injective hh; linarith
      have n2 : ((1 + Real.exp (-r) : ℝ) : EReal) ≠ 0 := by rw [← EReal.coe_zero]; exact fun hh => by have := EReal.coe_injective hh; linarith
      unfold Ideal.div
      rw [if_neg n1, if_neg n2, ← EReal.coe_inv, ← EReal.coe_inv, ← EReal.coe_mul, ← EReal.coe_mul]
      congr 1
      have m1 : (1 + Real.exp r) ≠ 0 := by positivity
      have m2 : (1 + Real.exp (-r)) ≠ 0 := by positivity
      rw [Real.exp_neg] at m2 ⊢
      field_simp
      ring

open Cert.KernelIdeal.Val in
theorem kSz_eq (x : EReal) : kSz x = Ideal.div 1 (1 + Ideal.exp (-x)) := by unfold kSz; rw [zero_sub]

end Cert.ReferenceIdeal.Val

end
-- ==== Proof.RefRows.lean ====
/- The rows that the reference's loops load and store, and what they read. -/
module

public import proofs.«01_k».proof.Proof.RefPay

@[expose] public section

set_option maxRecDepth 65536

set_option backward.isDefEq.respectTransparency.types false

noncomputable section

namespace Cert.ReferenceIdeal.Val

open Idealize.ShloMosaic Idealize.SL.Sem Cert.Proof Cert.ReferenceIdeal Cert.ReferenceIdeal.Gen Cert.ReferenceIdeal.Body
open Cert.KernelIdeal.Val (Ar Pt)

abbrev S : Type := St Ideal

variable (M : ∀ b : Bf, Memref sig .tc .vmem (shp b) (elt b)) (hM : ∀ b, (M b).IsWhole) (r : Ar)

/-! ## Rows -/

theorem off1 : ∀ q : Fin k0_t1_loop.trips, k0_off1 q = ![0, 3 - q.val, 0, 0] := by decide +kernel
theorem off2 : ∀ (q : Fin k0_t1_loop.trips) (t : Fin k0_t2_loop.trips), k0_off2 q t = ![0, 256 * (3 - q.val) + t.val, 0] := by decide +kernel
theorem off3 : ∀ (q : Fin k0_t1_loop.trips) (t : Fin k0_t2_loop.trips), k0_off3 q t = ![0, 256 * (3 - q.val) + t.val, 0] := by decide +kernel
theorem off4 : ∀ t : Fin k0_t2_loop.trips, k0_off4 t = ![t.val, 0, 0, 0] := by decide +kernel
theorem off5 : ∀ (q : Fin k0_t1_loop.trips) (t : Fin k0_t3_loop.trips), k0_off5 q t = ![0, 256 * (3 - q.val) + (255 - t.val), 0] := by decide +kernel
theorem off6 : ∀ (q : Fin k0_t1_loop.trips) (t : Fin k0_t3_loop.trips), k0_off6 q t = ![0, 256 * (3 - q.val) + (255 - t.val), 0] := by decide +kernel
theorem off7 : ∀ t : Fin k0_t3_loop.trips, k0_off7 t = ![255 - t.val, 0, 0, 0] := by decide +kernel

/-- A row of all channels stored, -/
theorem putD (off : Fin 3 → ℕ) (inb) (s : ℕ) (ho : off = ![0, s, 0]) (v : S2x1x5120.Idx → EReal) (X : S2x1024x5120.Idx → EReal) (p : S2x1024x5120.Idx) :
    put (Rect.unit (s := S2x1024x5120) off S2x1x5120.size inb) v X p = if (p 1).val = s then v (ix3 (p 0) 0 (p 2)) else X p := by
  subst ho
  by_cases e : (p 1).val = s
  · rw [if_pos e]
    refine put_at (Rect.unit (s := S2x1024x5120) ![0, s, 0] S2x1x5120.size inb) v X p (ix3 (p 0) 0 (p 2)) fun a => ?_
    fin_cases a
    · show (p 0).val = 0 + 1 * (p 0).val; omega
    · show (p 1).val = s + 1 * 0; omega
    · show (p 2).val = 0 + 1 * (p 2).val; omega
  · rw [if_neg e]
    refine put_miss _ _ _ p fun j h => e ?_
    have h1 : (p 1).val = s + 1 * (j 1).val := h 1
    have h2 : (j 1).val < 1 := (j 1).isLt
    omega
/-- of all states, -/
theorem putN (off : Fin 3 → ℕ) (inb) (s : ℕ) (ho : off = ![0, s, 0]) (v : S2x1x16.Idx → EReal) (X : S2x1024x16.Idx → EReal) (p : S2x1024x16.Idx) :
    put (Rect.unit (s := S2x1024x16) off S2x1x16.size inb) v X p = if (p 1).val = s then v (ix3 (p 0) 0 (p 2)) else X p := by
  subst ho
  by_cases e : (p 1).val = s
  · rw [if_pos e]
    refine put_at (Rect.unit (s := S2x1024x16) ![0, s, 0] S2x1x16.size inb) v X p (ix3 (p 0) 0 (p 2)) fun a => ?_
    fin_cases a
    · show (p 0).val = 0 + 1 * (p 0).val; omega
    · show (p 1).val = s + 1 * 0; omega
    · show (p 2).val = 0 + 1 * (p 2).val; omega
  · rw [if_neg e]
    refine put_miss _ _ _ p fun j h => e ?_
    have h1 : (p 1).val = s + 1 * (j 1).val := h 1
    have h2 : (j 1).val < 1 := (j 1).isLt
    omega
/-- of all products. -/
theorem putA (off : Fin 4 → ℕ) (inb) (s : ℕ) (ho : off = ![s, 0, 0, 0]) (v : S1x2x16x5120.Idx → EReal) (X : S256x2x16x5120.Idx → EReal) (p : S256x2x16x5120.Idx) :
    put (Rect.unit (s := S256x2x16x5120) off S1x2x16x5120.size inb) v X p = if (p 0).val = s then v (ix4 0 (p 1) (p 2) (p 3)) else X p := by
  subst ho
  by_cases e : (p 0).val = s
  · rw [if_pos e]
    refine put_at (Rect.unit (s := S256x2x16x5120) ![s, 0, 0, 0] S1x2x16x5120.size inb) v X p (ix4 0 (p 1) (p 2) (p 3)) fun a => ?_
    fin_cases a
    · show (p 0).val = s + 1 * 0; omega
    · show (p 1).val = 0 + 1 * (p 1).val; omega
    · show (p 2).val = 0 + 1 * (p 2).val; omega
    · show (p 3).val = 0 + 1 * (p 3).val; omega
  · rw [if_neg e]
    refine put_miss _ _ _ p fun j h => e ?_
    have h1 : (p 0).val = s + 1 * (j 0).val := h 0
    have h2 : (j 0).val < 1 := (j 0).isLt
    omega

/-- A row loaded. -/
theorem ldD (off : Fin 3 → ℕ) (inb) (c t : ℕ) (hc : c < 4) (ht : t < 256) (ho : off = ![0, 256 * (3 - c) + t, 0]) (X : S2x1024x5120.Idx → EReal)
    (f : ℕ → ℕ → ℕ → ℕ → EReal) (hX : ∀ p, X p = f (p 0).val (3 - (p 1).val / 256) ((p 1).val % 256) (p 2).val) (i : Fin 2) (d : Fin 5120) :
    X ((Rect.unit (s := S2x1024x5120) off S2x1x5120.size inb).toLoadRect.idx (ix3 i 0 d)) = f i.val c t d.val := by
  subst ho
  rw [hX]
  have e0 : ((Rect.unit (s := S2x1024x5120) ![0, 256 * (3 - c) + t, 0] S2x1x5120.size inb).toLoadRect.idx (ix3 i 0 d) 0).val = i.val := by
    show 0 + 1 * i.val = _; omega
  have e1 : ((Rect.unit (s := S2x1024x5120) ![0, 256 * (3 - c) + t, 0] S2x1x5120.size inb).toLoadRect.idx (ix3 i 0 d) 1).val = 256 * (3 - c) + t := by
    show 256 * (3 - c) + t + 1 * 0 = _; omega
  have e2 : ((Rect.unit (s := S2x1024x5120) ![0, 256 * (3 - c) + t, 0] S2x1x5120.size inb).toLoadRect.idx (ix3 i 0 d) 2).val = d.val := by
    show 0 + 1 * d.val = _; omega
  rw [e0, e1, e2, show 3 - (256 * (3 - c) + t) / 256 = c by omega, show (256 * (3 - c) + t) % 256 = t by omega]
theorem ldN (off : Fin 3 → ℕ) (inb) (c t : ℕ) (hc : c < 4) (ht : t < 256) (ho : off = ![0, 256 * (3 - c) + t, 0]) (X : S2x1024x16.Idx → EReal)
    (f : ℕ → ℕ → ℕ → ℕ → EReal) (hX : ∀ p, X p = f (p 0).val (3 - (p 1).val / 256) ((p 1).val % 256) (p 2).val) (i : Fin 2) (d : Fin 16) :
    X ((Rect.unit (s := S2x1024x16) off S2x1x16.size inb).toLoadRect.idx (ix3 i 0 d)) = f i.val c t d.val := by
  subst ho
  rw [hX]
  have e0 : ((Rect.unit (s := S2x1024x16) ![0, 256 * (3 - c) + t, 0] S2x1x16.size inb).toLoadRect.idx (ix3 i 0 d) 0).val = i.val := by
    show 0 + 1 * i.val = _; omega
  have e1 : ((Rect.unit (s := S2x1024x16) ![0, 256 * (3 - c) + t, 0] S2x1x16.size inb).toLoadRect.idx (ix3 i 0 d) 1).val = 256 * (3 - c) + t := by
    show 256 * (3 - c) + t + 1 * 0 = _; omega
  have e2 : ((Rect.unit (s := S2x1024x16) ![0, 256 * (3 - c) + t, 0] S2x1x16.size inb).toLoadRect.idx (ix3 i 0 d) 2).val = d.val := by
    show 0 + 1 * d.val = _; omega
  rw [e0, e1, e2, show 3 - (256 * (3 - c) + t) / 256 = c by omega, show (256 * (3 - c) + t) % 256 = t by omega]

theorem wA_at (X : S16x5120.Idx → EReal) (j : S16x5120.Idx) : X (wS16x5120.toLoadRect.idx j) = X j :=
  congrArg X (funext fun a => Fin.ext (by fin_cases a <;> (show 0 + 1 * _ = _; omega)))
theorem wD_at (X : S1x5120.Idx → EReal) (j : S1x5120.Idx) : X (wS1x5120.toLoadRect.idx j) = X j :=
  congrArg X (funext fun a => Fin.ext (by fin_cases a <;> (show 0 + 1 * _ = _; omega)))

/-! ## What the loops read -/

structure Sc (σ : S) : Prop where
  del : ∀ p : S2x1024x5120.Idx, σ .delS p = (r.Q (p 0).val (3 - (p 1).val / 256)).del ((p 1).val % 256) (p 2).val
  u : ∀ p : S2x1024x5120.Idx, σ .uS p = (r.Q (p 0).val (3 - (p 1).val / 256)).u ((p 1).val % 256) (p 2).val
  gy : ∀ p : S2x1024x5120.Idx, σ .gyS p = (r.Q (p 0).val (3 - (p 1).val / 256)).gy ((p 1).val % 256) (p 2).val
  gz : ∀ p : S2x1024x5120.Idx, σ .gzS p = (r.Q (p 0).val (3 - (p 1).val / 256)).gz ((p 1).val % 256) (p 2).val
  sdt : ∀ p : S2x1024x5120.Idx, σ .sdtS p = (r.Q (p 0).val (3 - (p 1).val / 256)).sdt ((p 1).val % 256) (p 2).val
  bm : ∀ p : S2x1024x16.Idx, σ .bmS p = (r.Q (p 0).val (3 - (p 1).val / 256)).bm ((p 1).val % 256) (p 2).val
  cm : ∀ p : S2x1024x16.Idx, σ .cmS p = (r.Q (p 0).val (3 - (p 1).val / 256)).cm ((p 1).val % 256) (p 2).val
  a : ∀ p : S16x5120.Idx, σ .a p = r.A (p 0).val (p 1).val
  d : ∀ p : S1x5120.Idx, σ .d p = r.D (p 1).val
  ck : ∀ p : S2x4x16x5120.Idx, σ .ck p = r.h0 (p 0).val (p 1).val (p 2).val (p 3).val
  dd : ∀ p : S5x8x128.Idx, σ .dd p = r.cD 8 (1024 * (p 0).val + (128 * (p 1).val + (p 2).val))

variable {r} in
theorem Sc.mono {σ σ' : S} (h : Sc r σ) (e1 : σ' .delS = σ .delS) (e2 : σ' .uS = σ .uS) (e3 : σ' .gyS = σ .gyS) (e4 : σ' .gzS = σ .gzS)
    (e5 : σ' .sdtS = σ .sdtS) (e6 : σ' .bmS = σ .bmS) (e7 : σ' .cmS = σ .cmS) (e8 : σ' .a = σ .a) (e9 : σ' .d = σ .d) (e10 : σ' .ck = σ .ck)
    (e11 : σ' .dd = σ .dd) : Sc r σ' :=
  ⟨fun p => (congrFun e1 p).trans (h.del p), fun p => (congrFun e2 p).trans (h.u p), fun p => (congrFun e3 p).trans (h.gy p),
    fun p => (congrFun e4 p).trans (h.gz p), fun p => (congrFun e5 p).trans (h.sdt p), fun p => (congrFun e6 p).trans (h.bm p),
    fun p => (congrFun e7 p).trans (h.cm p), fun p => (congrFun e8 p).trans (h.a p), fun p => (congrFun e9 p).trans (h.d p),
    fun p => (congrFun e10 p).trans (h.ck p), fun p => (congrFun e11 p).trans (h.dd p)⟩

theorem Q_A (b c n d : ℕ) : (r.Q b c).A n d = r.A n d := by
  show r.A n (1024 * 0 + d) = _; rw [Nat.mul_zero, Nat.zero_add]
theorem Q_D (b c d : ℕ) : (r.Q b c).D d = r.D d := by
  show r.D (1024 * 0 + d) = _; rw [Nat.mul_zero, Nat.zero_add]
theorem Q_h0 (b c n d : ℕ) : (r.Q b c).h0 n d = r.h0 b (3 - c) n d := by
  show r.h0 b (3 - c) n (1024 * 0 + d) = _; rw [Nat.mul_zero, Nat.zero_add]

/-- Position `s` is done when chunk counter `c` has done `t` steps forward; backward. -/
def DoneF (c t s : ℕ) : Prop := 4 ≤ s / 256 + c ∨ s / 256 + c = 3 ∧ s % 256 < t
def DoneB (c t s : ℕ) : Prop := 4 ≤ s / 256 + c ∨ s / 256 + c = 3 ∧ 255 - s % 256 < t

theorem ix3_eta {a b c : ℕ} (p : (⟨3, ![a, b, c]⟩ : Shape).Idx) : ix3 (p 0) (p 1) (p 2) = p := by
  funext x; fin_cases x <;> rfl

end Cert.ReferenceIdeal.Val

end
-- ==== Proof.RefFwd.lean ====
/- A forward step of the reference. -/
module

public import proofs.«01_k».proof.Proof.RefRows

@[expose] public section

set_option maxRecDepth 65536

set_option backward.isDefEq.respectTransparency.types false

noncomputable section

namespace Cert.ReferenceIdeal.Val

open Idealize.ShloMosaic Idealize.SL.Sem Cert.Proof Cert.ReferenceIdeal Cert.ReferenceIdeal.Gen Cert.ReferenceIdeal.Body
open Cert.KernelIdeal.Val (Ar Pt)

variable (M : ∀ b : Bf, Memref sig .tc .vmem (shp b) (elt b)) (hM : ∀ b, (M b).IsWhole) (r : Ar)

/-! ## Forward -/

structure Fw (σ0 : S) (c t : ℕ) (h : FVec Ideal S2x16x5120 .f32) (σ : S) : Prop where
  sc : Sc r σ
  dx : σ .dxS = σ0 .dxS
  ddt : σ .ddtS = σ0 .ddtS
  db : σ .dbS = σ0 .dbS
  h : ∀ p : S2x16x5120.Idx, h p = (r.Q (p 0).val c).H t (p 1).val (p 2).val
  ah : ∀ p : S256x2x16x5120.Idx, (p 0).val < t → σ .ahS p = (r.Q (p 1).val c).a (p 0).val (p 2).val (p 3).val * (r.Q (p 1).val c).H (p 0).val (p 2).val (p 3).val
  dc : ∀ p : S2x1024x16.Idx, DoneF c t (p 1).val → σ .dcS p = r.DC (p 0).val (p 1).val (p 2).val
  dz : ∀ p : S2x1024x5120.Idx, DoneF c t (p 1).val → σ .dzS p = r.DZ (p 0).val (p 1).val (p 2).val

section
variable {σ : S} (h : FVec Ideal S2x16x5120 .f32) (q : Fin k0_t1_loop.trips) (t : Fin k0_t2_loop.trips)
  (vD vU vY vZ : FVec Ideal S2x1x5120 .f32) (vA : FVec Ideal S16x5120 .f32) (vB vC : FVec Ideal S2x1x16 .f32) (vE : FVec Ideal S1x5120 .f32)

/-- What a forward step does. -/
theorem fwd_run (e1 : (fun j => σ .delS ((r2 q t).toLoadRect.idx j)) = vD) (e2 : (fun j => σ .uS ((r2 q t).toLoadRect.idx j)) = vU)
    (e3 : (fun j => σ .gyS ((r2 q t).toLoadRect.idx j)) = vY) (e4 : (fun j => σ .gzS ((r2 q t).toLoadRect.idx j)) = vZ)
    (e5 : (fun j => σ .a (wS16x5120.toLoadRect.idx j)) = vA) (e6 : (fun j => σ .bmS ((r3 q t).toLoadRect.idx j)) = vB)
    (e7 : (fun j => σ .cmS ((r3 q t).toLoadRect.idx j)) = vC) (e8 : (fun j => σ .d (wS1x5120.toLoadRect.idx j)) = vE) :
    (fwd M q t h).run σ = (k0_pay8 h vD vU vA vB, Function.update (Function.update (Function.update σ .ahS (put (r4 t) (k0_pay9 h vD vA) (σ .ahS)))
      .dcS (put (r3 q t) (k0_pay35 (k0_pay10 h vD vU vY vA vB)) (σ .dcS))) .dzS (put (r2 q t) (k0_pay36 (k0_pay6 vU) (k0_pay8 h vD vU vA vB) vZ vC vE) (σ .dzS))) := by
  subst e1 e2 e3 e4 e5 e6 e7 e8; rfl
end

theorem upF1 (σ : S) (X Y Z) (p : S256x2x16x5120.Idx) : (Function.update (Function.update (Function.update σ .ahS X) .dcS Y) .dzS Z : S) .ahS p = X p := by
  rw [Function.update_of_ne (by decide), Function.update_of_ne (by decide), Function.update_self]
theorem upF2 (σ : S) (X Y Z) (p : S2x1024x16.Idx) : (Function.update (Function.update (Function.update σ .ahS X) .dcS Y) .dzS Z : S) .dcS p = Y p := by
  rw [Function.update_of_ne (by decide), Function.update_self]
theorem upF3 (σ : S) (X Y Z) (p : S2x1024x5120.Idx) : (Function.update (Function.update (Function.update σ .ahS X) .dcS Y) .dzS Z : S) .dzS p = Z p := by
  rw [Function.update_self]

/-- The invariant after a step, of what the step stores. -/
theorem Fw.next {σ0 σ : S} {c t : ℕ} {h h' : FVec Ideal S2x16x5120 .f32} (I : Fw r σ0 c t h σ) (X : S256x2x16x5120.Idx → EReal)
    (Y : S2x1024x16.Idx → EReal) (Z : S2x1024x5120.Idx → EReal)
    (hh : ∀ p : S2x16x5120.Idx, h' p = (r.Q (p 0).val c).H (t + 1) (p 1).val (p 2).val)
    (hX : ∀ p : S256x2x16x5120.Idx, (p 0).val < t + 1 → X p = (r.Q (p 1).val c).a (p 0).val (p 2).val (p 3).val * (r.Q (p 1).val c).H (p 0).val (p 2).val (p 3).val)
    (hY : ∀ p : S2x1024x16.Idx, DoneF c (t + 1) (p 1).val → Y p = r.DC (p 0).val (p 1).val (p 2).val)
    (hZ : ∀ p : S2x1024x5120.Idx, DoneF c (t + 1) (p 1).val → Z p = r.DZ (p 0).val (p 1).val (p 2).val) :
    Fw r σ0 c (t + 1) h' (Function.update (Function.update (Function.update σ .ahS X) .dcS Y) .dzS Z : S) :=
  ⟨I.sc.mono rfl rfl rfl rfl rfl rfl rfl rfl rfl rfl rfl, I.dx, I.ddt, I.db, hh, fun p hp => (upF1 σ X Y Z p).trans (hX p hp),
    fun p hp => (upF2 σ X Y Z p).trans (hY p hp), fun p hp => (upF3 σ X Y Z p).trans (hZ p hp)⟩

set_option maxHeartbeats 1000000 in
theorem Fw.step {σ0 σ : S} {h : FVec Ideal S2x16x5120 .f32} (q : Fin k0_t1_loop.trips) (t : Fin k0_t2_loop.trips) (I : Fw r σ0 q.val t.val h σ) :
    Fw r σ0 q.val (t.val + 1) ((fwd M q t h).run σ).1 ((fwd M q t h).run σ).2 := by
  have hq : q.val < 4 := lt_of_lt_of_eq q.isLt (by decide)
  have ht : t.val < 256 := lt_of_lt_of_eq t.isLt (by decide)
  obtain ⟨vD, e1⟩ : ∃ v : FVec Ideal S2x1x5120 .f32, (fun j => σ .delS ((r2 q t).toLoadRect.idx j)) = v := ⟨_, rfl⟩
  obtain ⟨vU, e2⟩ : ∃ v : FVec Ideal S2x1x5120 .f32, (fun j => σ .uS ((r2 q t).toLoadRect.idx j)) = v := ⟨_, rfl⟩
  obtain ⟨vY, e3⟩ : ∃ v : FVec Ideal S2x1x5120 .f32, (fun j => σ .gyS ((r2 q t).toLoadRect.idx j)) = v := ⟨_, rfl⟩
  obtain ⟨vZ, e4⟩ : ∃ v : FVec Ideal S2x1x5120 .f32, (fun j => σ .gzS ((r2 q t).toLoadRect.idx j)) = v := ⟨_, rfl⟩
  obtain ⟨vA, e5⟩ : ∃ v : FVec Ideal S16x5120 .f32, (fun j => σ .a (wS16x5120.toLoadRect.idx j)) = v := ⟨_, rfl⟩
  obtain ⟨vB, e6⟩ : ∃ v : FVec Ideal S2x1x16 .f32, (fun j => σ .bmS ((r3 q t).toLoadRect.idx j)) = v := ⟨_, rfl⟩
  obtain ⟨vC, e7⟩ : ∃ v : FVec Ideal S2x1x16 .f32, (fun j => σ .cmS ((r3 q t).toLoadRect.idx j)) = v := ⟨_, rfl⟩
  obtain ⟨vE, e8⟩ : ∃ v : FVec Ideal S1x5120 .f32, (fun j => σ .d (wS1x5120.toLoadRect.idx j)) = v := ⟨_, rfl⟩
  have vdel : ∀ i d, vD (ix3 i 0 d) = (r.Q i.val q.val).del t.val d.val := fun i d => (congrFun e1 _).symm.trans (ldD _ _ _ _ hq ht (off2 q t) _ (fun b c t d => (r.Q b c).del t d) I.sc.del i d)
  have vu : ∀ i d, vU (ix3 i 0 d) = (r.Q i.val q.val).u t.val d.val := fun i d => (congrFun e2 _).symm.trans (ldD _ _ _ _ hq ht (off2 q t) _ (fun b c t d => (r.Q b c).u t d) I.sc.u i d)
  have vgy : ∀ i d, vY (ix3 i 0 d) = (r.Q i.val q.val).gy t.val d.val := fun i d => (congrFun e3 _).symm.trans (ldD _ _ _ _ hq ht (off2 q t) _ (fun b c t d => (r.Q b c).gy t d) I.sc.gy i d)
  have vgz : ∀ i d, vZ (ix3 i 0 d) = (r.Q i.val q.val).gz t.val d.val := fun i d => (congrFun e4 _).symm.trans (ldD _ _ _ _ hq ht (off2 q t) _ (fun b c t d => (r.Q b c).gz t d) I.sc.gz i d)
  have va : ∀ (i : Fin 2) (n : Fin 16) (d : Fin 5120), vA (ix2 n d) = (r.Q i.val q.val).A n.val d.val := fun i n d =>
    (congrFun e5 _).symm.trans (((wA_at _ _).trans (I.sc.a _)).trans (Q_A r _ _ _ _).symm)
  have vbm : ∀ i d, vB (ix3 i 0 d) = (r.Q i.val q.val).bm t.val d.val := fun i d => (congrFun e6 _).symm.trans (ldN _ _ _ _ hq ht (off3 q t) _ (fun b c t d => (r.Q b c).bm t d) I.sc.bm i d)
  have vcm : ∀ i d, vC (ix3 i 0 d) = (r.Q i.val q.val).cm t.val d.val := fun i d => (congrFun e7 _).symm.trans (ldN _ _ _ _ hq ht (off3 q t) _ (fun b c t d => (r.Q b c).cm t d) I.sc.cm i d)
  have vd : ∀ (i : Fin 2) (d : Fin 5120), vE (ix2 0 d) = (r.Q i.val q.val).D d.val := fun i d =>
    (congrFun e8 _).symm.trans (((wD_at _ _).trans (I.sc.d _)).trans (Q_D r _ _ _).symm)
  have hh : ∀ i n d, h (ix3 i n d) = (r.Q i.val q.val).H t.val n.val d.val := fun i n d => I.h _
  have s1 : 3 - (256 * (3 - q.val) + t.val) / 256 = q.val := by omega
  have s2 : (256 * (3 - q.val) + t.val) % 256 = t.val := by omega
  have h8 : ∀ (i : Fin 2) (n : Fin 16) (d : Fin 5120), k0_pay8 h vD vU vA vB (ix3 i n d) = (r.Q i.val q.val).H (t.val + 1) n.val d.val := fun i n d => by
    rw [pay8, vdel, vu, vbm, va i, hh]; rfl
  have h9 : ∀ (i : Fin 2) (n : Fin 16) (d : Fin 5120), k0_pay9 h vD vA (ix4 0 i n d) = (r.Q i.val q.val).a t.val n.val d.val * (r.Q i.val q.val).H t.val n.val d.val := fun i n d => by
    rw [pay9, vdel, va i, hh]; rfl
  have h35 : ∀ (i : Fin 2) (n : Fin 16), k0_pay35 (k0_pay10 h vD vU vY vA vB) (ix3 i 0 n) = r.DC i.val (256 * (3 - q.val) + t.val) n.val := fun i n => by
    rw [pay35]
    unfold Ar.DC
    rw [s1, s2, ← Fin.sum_univ_eq_sum_range]
    refine Finset.sum_congr rfl fun d _ => ?_
    rw [h8, vgy]; exact mul_comm _ _
  have h36 : ∀ (i : Fin 2) (d : Fin 5120), k0_pay36 (k0_pay6 vU) (k0_pay8 h vD vU vA vB) vZ vC vE (ix3 i 0 d) = r.DZ i.val (256 * (3 - q.val) + t.val) d.val := fun i d => by
    rw [pay36]
    unfold Ar.DZ
    rw [s1, s2]
    simp only [h8, vcm]
    rw [vgz, vu, vd i]
    rfl
  have gh : ∀ p : S2x16x5120.Idx, k0_pay8 h vD vU vA vB p = (r.Q (p 0).val q.val).H (t.val + 1) (p 1).val (p 2).val := fun p =>
    (congrArg (k0_pay8 h vD vU vA vB) (ix3_eta p).symm).trans (h8 (p 0) (p 1) (p 2))
  obtain ⟨A, eA⟩ : ∃ v, k0_pay9 h vD vA = v := ⟨_, rfl⟩
  obtain ⟨B, eB⟩ : ∃ v, k0_pay35 (k0_pay10 h vD vU vY vA vB) = v := ⟨_, rfl⟩
  obtain ⟨C, eC⟩ : ∃ v, k0_pay36 (k0_pay6 vU) (k0_pay8 h vD vU vA vB) vZ vC vE = v := ⟨_, rfl⟩
  obtain ⟨H', eH⟩ : ∃ v, k0_pay8 h vD vU vA vB = v := ⟨_, rfl⟩
  have R := fwd_run M h q t vD vU vY vZ vA vB vC vE e1 e2 e3 e4 e5 e6 e7 e8
  rw [eA] at R h9
  rw [eB] at R h35
  rw [eC] at R h36
  rw [eH] at R gh
  clear h8 eA eB eC eH
  obtain ⟨XA, eXA⟩ : ∃ v : S256x2x16x5120.Idx → EReal, σ .ahS = v := ⟨_, rfl⟩
  obtain ⟨XB, eXB⟩ : ∃ v : S2x1024x16.Idx → EReal, σ .dcS = v := ⟨_, rfl⟩
  obtain ⟨XC, eXC⟩ : ∃ v : S2x1024x5120.Idx → EReal, σ .dzS = v := ⟨_, rfl⟩
  have IA : ∀ p : S256x2x16x5120.Idx, (p 0).val < t.val → XA p = _ := fun p hp => (congrFun eXA p).symm.trans (I.ah p hp)
  have IB : ∀ p : S2x1024x16.Idx, DoneF q.val t.val (p 1).val → XB p = _ := fun p hp => (congrFun eXB p).symm.trans (I.dc p hp)
  have IC : ∀ p : S2x1024x5120.Idx, DoneF q.val t.val (p 1).val → XC p = _ := fun p hp => (congrFun eXC p).symm.trans (I.dz p hp)
  have pA : ∀ p : S256x2x16x5120.Idx, (p 0).val < t.val + 1 → put (r4 t) A XA p = (r.Q (p 1).val q.val).a (p 0).val (p 2).val (p 3).val * (r.Q (p 1).val q.val).H (p 0).val (p 2).val (p 3).val := fun p hp => by
    refine (putA (k0_off4 t) (k0_off4_inb t) t.val (off4 t) A XA p).trans ?_
    by_cases e : (p 0).val = t.val
    · refine (if_pos e).trans ((h9 (p 1) (p 2) (p 3)).trans ?_)
      rw [← e]
    · exact (if_neg e).trans (IA p (by omega))
  have pB : ∀ p : S2x1024x16.Idx, DoneF q.val (t.val + 1) (p 1).val → put (r3 q t) B XB p = r.DC (p 0).val (p 1).val (p 2).val := fun p hp => by
    refine (putN (k0_off3 q t) (k0_off3_inb q t) (256 * (3 - q.val) + t.val) (off3 q t) B XB p).trans ?_
    by_cases e : (p 1).val = 256 * (3 - q.val) + t.val
    · exact (if_pos e).trans ((h35 (p 0) (p 2)).trans (congrArg (fun s => r.DC (p 0).val s (p 2).val) e.symm))
    · exact (if_neg e).trans (IB p (by unfold DoneF at hp ⊢; omega))
  have pC : ∀ p : S2x1024x5120.Idx, DoneF q.val (t.val + 1) (p 1).val → put (r2 q t) C XC p = r.DZ (p 0).val (p 1).val (p 2).val := fun p hp => by
    refine (putD (k0_off2 q t) (k0_off2_inb q t) (256 * (3 - q.val) + t.val) (off2 q t) C XC p).trans ?_
    by_cases e : (p 1).val = 256 * (3 - q.val) + t.val
    · exact (if_pos e).trans ((h36 (p 0) (p 2)).trans (congrArg (fun s => r.DZ (p 0).val s (p 2).val) e.symm))
    · exact (if_neg e).trans (IC p (by unfold DoneF at hp ⊢; omega))
  rw [R]
  subst eXA eXB eXC
  exact Fw.next r I _ _ _ gh pA pB pC

end Cert.ReferenceIdeal.Val

end
-- ==== Proof.RefBwd.lean ====
/- A backward step of the reference. -/
module

public import proofs.«01_k».proof.Proof.RefRows

@[expose] public section

set_option maxRecDepth 65536

set_option backward.isDefEq.respectTransparency.types false

noncomputable section

namespace Cert.ReferenceIdeal.Val

open Idealize.ShloMosaic Idealize.SL.Sem Cert.Proof Cert.ReferenceIdeal Cert.ReferenceIdeal.Gen Cert.ReferenceIdeal.Body
open Cert.KernelIdeal.Val (Ar Pt)

variable (M : ∀ b : Bf, Memref sig .tc .vmem (shp b) (elt b)) (hM : ∀ b, (M b).IsWhole) (r : Ar)

/-! ## Backward -/

/-- The sum over the batch that one step adds to `dA`. -/
def tA (c j n d : ℕ) : EReal := ∑ b : Fin 2, (r.Q b.val c).gah (255 - j) n d * (r.Q b.val c).del (255 - j) d

structure Bw (σ0 : S) (c t : ℕ) (x : FVec Ideal S2x16x5120 .f32 × FVec Ideal S16x5120 .f32) (σ : S) : Prop where
  sc : Sc r σ
  dc : σ .dcS = σ0 .dcS
  dz : σ .dzS = σ0 .dzS
  ah : ∀ p : S256x2x16x5120.Idx, σ .ahS p = (r.Q (p 1).val c).a (p 0).val (p 2).val (p 3).val * (r.Q (p 1).val c).H (p 0).val (p 2).val (p 3).val
  g : ∀ p : S2x16x5120.Idx, x.1 p = (r.Q (p 0).val c).G t (p 1).val (p 2).val
  da : ∀ p : S16x5120.Idx, x.2 p = (∑ c' ∈ Finset.range c, ∑ j ∈ Finset.range 256, tA r c' j (p 0).val (p 1).val) + ∑ j ∈ Finset.range t, tA r c j (p 0).val (p 1).val
  dx : ∀ p : S2x1024x5120.Idx, DoneB c t (p 1).val → σ .dxS p = r.DX (p 0).val (p 1).val (p 2).val
  ddt : ∀ p : S2x1024x5120.Idx, DoneB c t (p 1).val → σ .ddtS p = r.DDT (p 0).val (p 1).val (p 2).val
  db : ∀ p : S2x1024x16.Idx, DoneB c t (p 1).val → σ .dbS p = r.DB (p 0).val (p 1).val (p 2).val

section
variable {σ : S} (x : FVec Ideal S2x16x5120 .f32 × FVec Ideal S16x5120 .f32) (q : Fin k0_t1_loop.trips) (t : Fin k0_t3_loop.trips)
  (vD vU vY vS : FVec Ideal S2x1x5120 .f32) (vA : FVec Ideal S16x5120 .f32) (vB vC : FVec Ideal S2x1x16 .f32) (vE : FVec Ideal S1x5120 .f32)
  (vH : FVec Ideal S1x2x16x5120 .f32)

/-- What a backward step does. -/
theorem bwd_run (e1 : (fun j => σ .delS ((r5 q t).toLoadRect.idx j)) = vD) (e2 : (fun j => σ .uS ((r5 q t).toLoadRect.idx j)) = vU)
    (e3 : (fun j => σ .gyS ((r5 q t).toLoadRect.idx j)) = vY) (e4 : (fun j => σ .sdtS ((r5 q t).toLoadRect.idx j)) = vS)
    (e5 : (fun j => σ .a (wS16x5120.toLoadRect.idx j)) = vA) (e6 : (fun j => σ .bmS ((r6 q t).toLoadRect.idx j)) = vB)
    (e7 : (fun j => σ .cmS ((r6 q t).toLoadRect.idx j)) = vC) (e8 : (fun j => σ .d (wS1x5120.toLoadRect.idx j)) = vE)
    (e9 : (fun j => σ .ahS ((r7 t).toLoadRect.idx j)) = vH) :
    (bwd M q t x).run σ = ((k0_pay41 (k0_pay11 vD) (k0_pay14 x.1 vY vC) vA, k0_pay40 x.2 (k0_pay11 vD) (k0_pay16 x.1 vY vC vH)),
      Function.update (Function.update (Function.update σ .dxS (put (r5 q t) (k0_pay37 (k0_pay17 x.1 vD vY vC vB vE)) (σ .dxS)))
        .ddtS (put (r5 q t) (k0_pay38 (k0_pay12 vU) (k0_pay15 x.1 vY vC vB) (k0_pay16 x.1 vY vC vH) vA vS) (σ .ddtS)))
        .dbS (put (r6 q t) (k0_pay39 (k0_pay11 vD) (k0_pay12 vU) (k0_pay14 x.1 vY vC)) (σ .dbS))) := by
  subst e1 e2 e3 e4 e5 e6 e7 e8 e9; rfl
end

theorem upB1 (σ : S) (X Y Z) (p : S2x1024x5120.Idx) : (Function.update (Function.update (Function.update σ .dxS X) .ddtS Y) .dbS Z : S) .dxS p = X p := by
  rw [Function.update_of_ne (by decide), Function.update_of_ne (by decide), Function.update_self]
theorem upB2 (σ : S) (X Y Z) (p : S2x1024x5120.Idx) : (Function.update (Function.update (Function.update σ .dxS X) .ddtS Y) .dbS Z : S) .ddtS p = Y p := by
  rw [Function.update_of_ne (by decide), Function.update_self]
theorem upB3 (σ : S) (X Y Z) (p : S2x1024x16.Idx) : (Function.update (Function.update (Function.update σ .dxS X) .ddtS Y) .dbS Z : S) .dbS p = Z p := by
  rw [Function.update_self]

/-- The invariant after a step, of what the step stores. -/
theorem Bw.next {σ0 σ : S} {c t : ℕ} {x x' : FVec Ideal S2x16x5120 .f32 × FVec Ideal S16x5120 .f32} (I : Bw r σ0 c t x σ) (X Y : S2x1024x5120.Idx → EReal)
    (Z : S2x1024x16.Idx → EReal)
    (hg : ∀ p : S2x16x5120.Idx, x'.1 p = (r.Q (p 0).val c).G (t + 1) (p 1).val (p 2).val)
    (ha : ∀ p : S16x5120.Idx, x'.2 p = (∑ c' ∈ Finset.range c, ∑ j ∈ Finset.range 256, tA r c' j (p 0).val (p 1).val) + ∑ j ∈ Finset.range (t + 1), tA r c j (p 0).val (p 1).val)
    (hX : ∀ p : S2x1024x5120.Idx, DoneB c (t + 1) (p 1).val → X p = r.DX (p 0).val (p 1).val (p 2).val)
    (hY : ∀ p : S2x1024x5120.Idx, DoneB c (t + 1) (p 1).val → Y p = r.DDT (p 0).val (p 1).val (p 2).val)
    (hZ : ∀ p : S2x1024x16.Idx, DoneB c (t + 1) (p 1).val → Z p = r.DB (p 0).val (p 1).val (p 2).val) :
    Bw r σ0 c (t + 1) x' (Function.update (Function.update (Function.update σ .dxS X) .ddtS Y) .dbS Z : S) :=
  ⟨I.sc.mono rfl rfl rfl rfl rfl rfl rfl rfl rfl rfl rfl, I.dc, I.dz, I.ah, hg, ha, fun p hp => (upB1 σ X Y Z p).trans (hX p hp),
    fun p hp => (upB2 σ X Y Z p).trans (hY p hp), fun p hp => (upB3 σ X Y Z p).trans (hZ p hp)⟩

set_option maxHeartbeats 1000000 in
theorem Bw.step {σ0 σ : S} {x : FVec Ideal S2x16x5120 .f32 × FVec Ideal S16x5120 .f32} (q : Fin k0_t1_loop.trips) (t : Fin k0_t3_loop.trips) (I : Bw r σ0 q.val t.val x σ) :
    Bw r σ0 q.val (t.val + 1) ((bwd M q t x).run σ).1 ((bwd M q t x).run σ).2 := by
  have hq : q.val < 4 := lt_of_lt_of_eq q.isLt (by decide)
  have ht : t.val < 256 := lt_of_lt_of_eq t.isLt (by decide)
  have ht' : 255 - t.val < 256 := by omega
  obtain ⟨vD, e1⟩ : ∃ v : FVec Ideal S2x1x5120 .f32, (fun j => σ .delS ((r5 q t).toLoadRect.idx j)) = v := ⟨_, rfl⟩
  obtain ⟨vU, e2⟩ : ∃ v : FVec Ideal S2x1x5120 .f32, (fun j => σ .uS ((r5 q t).toLoadRect.idx j)) = v := ⟨_, rfl⟩
  obtain ⟨vY, e3⟩ : ∃ v : FVec Ideal S2x1x5120 .f32, (fun j => σ .gyS ((r5 q t).toLoadRect.idx j)) = v := ⟨_, rfl⟩
  obtain ⟨vS, e4⟩ : ∃ v : FVec Ideal S2x1x5120 .f32, (fun j => σ .sdtS ((r5 q t).toLoadRect.idx j)) = v := ⟨_, rfl⟩
  obtain ⟨vA, e5⟩ : ∃ v : FVec Ideal S16x5120 .f32, (fun j => σ .a (wS16x5120.toLoadRect.idx j)) = v := ⟨_, rfl⟩
  obtain ⟨vB, e6⟩ : ∃ v : FVec Ideal S2x1x16 .f32, (fun j => σ .bmS ((r6 q t).toLoadRect.idx j)) = v := ⟨_, rfl⟩
  obtain ⟨vC, e7⟩ : ∃ v : FVec Ideal S2x1x16 .f32, (fun j => σ .cmS ((r6 q t).toLoadRect.idx j)) = v := ⟨_, rfl⟩
  obtain ⟨vE, e8⟩ : ∃ v : FVec Ideal S1x5120 .f32, (fun j => σ .d (wS1x5120.toLoadRect.idx j)) = v := ⟨_, rfl⟩
  obtain ⟨vH, e9⟩ : ∃ v : FVec Ideal S1x2x16x5120 .f32, (fun j => σ .ahS ((r7 t).toLoadRect.idx j)) = v := ⟨_, rfl⟩
  have vdel : ∀ i d, vD (ix3 i 0 d) = (r.Q i.val q.val).del (255 - t.val) d.val := fun i d => (congrFun e1 _).symm.trans (ldD _ _ _ _ hq ht' (off5 q t) _ (fun b c t d => (r.Q b c).del t d) I.sc.del i d)
  have vu : ∀ i d, vU (ix3 i 0 d) = (r.Q i.val q.val).u (255 - t.val) d.val := fun i d => (congrFun e2 _).symm.trans (ldD _ _ _ _ hq ht' (off5 q t) _ (fun b c t d => (r.Q b c).u t d) I.sc.u i d)
  have vgy : ∀ i d, vY (ix3 i 0 d) = (r.Q i.val q.val).gy (255 - t.val) d.val := fun i d => (congrFun e3 _).symm.trans (ldD _ _ _ _ hq ht' (off5 q t) _ (fun b c t d => (r.Q b c).gy t d) I.sc.gy i d)
  have vsdt : ∀ i d, vS (ix3 i 0 d) = (r.Q i.val q.val).sdt (255 - t.val) d.val := fun i d => (congrFun e4 _).symm.trans (ldD _ _ _ _ hq ht' (off5 q t) _ (fun b c t d => (r.Q b c).sdt t d) I.sc.sdt i d)
  have va : ∀ (i : Fin 2) (n : Fin 16) (d : Fin 5120), vA (ix2 n d) = (r.Q i.val q.val).A n.val d.val := fun i n d =>
    (congrFun e5 _).symm.trans (((wA_at _ _).trans (I.sc.a _)).trans (Q_A r _ _ _ _).symm)
  have vbm : ∀ i d, vB (ix3 i 0 d) = (r.Q i.val q.val).bm (255 - t.val) d.val := fun i d => (congrFun e6 _).symm.trans (ldN _ _ _ _ hq ht' (off6 q t) _ (fun b c t d => (r.Q b c).bm t d) I.sc.bm i d)
  have vcm : ∀ i d, vC (ix3 i 0 d) = (r.Q i.val q.val).cm (255 - t.val) d.val := fun i d => (congrFun e7 _).symm.trans (ldN _ _ _ _ hq ht' (off6 q t) _ (fun b c t d => (r.Q b c).cm t d) I.sc.cm i d)
  have vd : ∀ (i : Fin 2) (d : Fin 5120), vE (ix2 0 d) = (r.Q i.val q.val).D d.val := fun i d =>
    (congrFun e8 _).symm.trans (((wD_at _ _).trans (I.sc.d _)).trans (Q_D r _ _ _).symm)
  have vah : ∀ i n d, vH (ix4 0 i n d) = (r.Q i.val q.val).a (255 - t.val) n.val d.val * (r.Q i.val q.val).H (255 - t.val) n.val d.val := fun i n d => by
    have e : (r7 t).toLoadRect.idx (ix4 0 i n d) = (ix4 ⟨255 - t.val, ht'⟩ i n d : S256x2x16x5120.Idx) := by
      funext a; apply Fin.ext
      fin_cases a
      · show k0_off7 t 0 + 1 * 0 = _; rw [off7]; show 255 - t.val + 1 * 0 = 255 - t.val; omega
      · show k0_off7 t 1 + 1 * i.val = _; rw [off7]; show 0 + 1 * i.val = i.val; omega
      · show k0_off7 t 2 + 1 * n.val = _; rw [off7]; show 0 + 1 * n.val = n.val; omega
      · show k0_off7 t 3 + 1 * d.val = _; rw [off7]; show 0 + 1 * d.val = d.val; omega
    exact (congrFun e9 _).symm.trans ((congrArg (σ .ahS) e).trans (I.ah _))
  have hg : ∀ i n d, x.1 (ix3 i n d) = (r.Q i.val q.val).G t.val n.val d.val := fun i n d => I.g _
  have egh : ∀ b n d, (r.Q b q.val).gy (255 - t.val) d * (r.Q b q.val).cm (255 - t.val) n + (r.Q b q.val).G t.val n d = (r.Q b q.val).gh (255 - t.val) n d := fun b n d => by
    unfold Pt.gh; rw [show 255 - (255 - t.val) = t.val by omega]
  have egah : ∀ b n d, (r.Q b q.val).gh (255 - t.val) n d * ((r.Q b q.val).a (255 - t.val) n d * (r.Q b q.val).H (255 - t.val) n d) = (r.Q b q.val).gah (255 - t.val) n d := fun b n d => by
    unfold Pt.gah; rw [← mul_assoc, mul_comm ((r.Q b q.val).gh _ _ _)]
  have s1 : 3 - (256 * (3 - q.val) + (255 - t.val)) / 256 = q.val := by omega
  have s2 : (256 * (3 - q.val) + (255 - t.val)) % 256 = 255 - t.val := by omega
  have h41 : ∀ (i : Fin 2) (n : Fin 16) (d : Fin 5120), k0_pay41 (k0_pay11 vD) (k0_pay14 x.1 vY vC) vA (ix3 i n d) = (r.Q i.val q.val).G (t.val + 1) n.val d.val := fun i n d => by
    rw [pay41, vdel, va i, vgy, vcm, hg]; rfl
  have h40 : ∀ (n : Fin 16) (d : Fin 5120), k0_pay40 x.2 (k0_pay11 vD) (k0_pay16 x.1 vY vC vH) (ix2 n d) = x.2 (ix2 n d) + tA r q.val t.val n.val d.val := fun n d => by
    rw [pay40]
    refine congrArg (x.2 (ix2 n d) + ·) ?_
    refine Finset.sum_congr rfl fun b _ => ?_
    rw [vgy, vcm, hg, vah, vdel, egh, egah]
  have h37 : ∀ (i : Fin 2) (d : Fin 5120), k0_pay37 (k0_pay17 x.1 vD vY vC vB vE) (ix3 i 0 d) = r.DX i.val (256 * (3 - q.val) + (255 - t.val)) d.val := fun i d => by
    rw [pay37]
    unfold Ar.DX
    rw [s1, s2]
    simp only [vgy, vcm, hg, vbm, egh]
    rw [vdel, vd i]
    rfl
  have h38 : ∀ (i : Fin 2) (d : Fin 5120), k0_pay38 (k0_pay12 vU) (k0_pay15 x.1 vY vC vB) (k0_pay16 x.1 vY vC vH) vA vS (ix3 i 0 d) = r.DDT i.val (256 * (3 - q.val) + (255 - t.val)) d.val := fun i d => by
    rw [pay38]
    unfold Ar.DDT
    rw [s1, s2]
    simp only [vgy, vcm, hg, vbm, egh, vah, egah, va i]
    rw [vu, vsdt]
    rfl
  have h39 : ∀ (i : Fin 2) (n : Fin 16), k0_pay39 (k0_pay11 vD) (k0_pay12 vU) (k0_pay14 x.1 vY vC) (ix3 i 0 n) = r.DB i.val (256 * (3 - q.val) + (255 - t.val)) n.val := fun i n => by
    rw [pay39]
    unfold Ar.DB
    rw [s1, s2, ← Fin.sum_univ_eq_sum_range]
    refine Finset.sum_congr rfl fun d _ => ?_
    rw [vgy, vcm, hg, vdel, vu, egh]; rfl
  obtain ⟨A, eA⟩ : ∃ v, k0_pay37 (k0_pay17 x.1 vD vY vC vB vE) = v := ⟨_, rfl⟩
  obtain ⟨B, eB⟩ : ∃ v, k0_pay38 (k0_pay12 vU) (k0_pay15 x.1 vY vC vB) (k0_pay16 x.1 vY vC vH) vA vS = v := ⟨_, rfl⟩
  obtain ⟨C, eC⟩ : ∃ v, k0_pay39 (k0_pay11 vD) (k0_pay12 vU) (k0_pay14 x.1 vY vC) = v := ⟨_, rfl⟩
  obtain ⟨G', eG⟩ : ∃ v, k0_pay41 (k0_pay11 vD) (k0_pay14 x.1 vY vC) vA = v := ⟨_, rfl⟩
  obtain ⟨D', eD⟩ : ∃ v, k0_pay40 x.2 (k0_pay11 vD) (k0_pay16 x.1 vY vC vH) = v := ⟨_, rfl⟩
  have R := bwd_run M x q t vD vU vY vS vA vB vC vE vH e1 e2 e3 e4 e5 e6 e7 e8 e9
  rw [eA] at R h37
  rw [eB] at R h38
  rw [eC] at R h39
  rw [eG] at R h41
  rw [eD] at R h40
  clear eA eB eC eG eD
  obtain ⟨XA, eXA⟩ : ∃ v : S2x1024x5120.Idx → EReal, σ .dxS = v := ⟨_, rfl⟩
  obtain ⟨XB, eXB⟩ : ∃ v : S2x1024x5120.Idx → EReal, σ .ddtS = v := ⟨_, rfl⟩
  obtain ⟨XC, eXC⟩ : ∃ v : S2x1024x16.Idx → EReal, σ .dbS = v := ⟨_, rfl⟩
  have IA : ∀ p : S2x1024x5120.Idx, DoneB q.val t.val (p 1).val → XA p = _ := fun p hp => (congrFun eXA p).symm.trans (I.dx p hp)
  have IB : ∀ p : S2x1024x5120.Idx, DoneB q.val t.val (p 1).val → XB p = _ := fun p hp => (congrFun eXB p).symm.trans (I.ddt p hp)
  have IC : ∀ p : S2x1024x16.Idx, DoneB q.val t.val (p 1).val → XC p = _ := fun p hp => (congrFun eXC p).symm.trans (I.db p hp)
  have pG : ∀ p : S2x16x5120.Idx, G' p = (r.Q (p 0).val q.val).G (t.val + 1) (p 1).val (p 2).val := fun p =>
    (congrArg G' (ix3_eta p).symm).trans (h41 (p 0) (p 1) (p 2))
  have pD : ∀ p : S16x5120.Idx, D' p = (∑ c' ∈ Finset.range q.val, ∑ j ∈ Finset.range 256, tA r c' j (p 0).val (p 1).val) + ∑ j ∈ Finset.range (t.val + 1), tA r q.val j (p 0).val (p 1).val := fun p => by
    have e : ix2 (p 0) (p 1) = p := by funext a; fin_cases a <;> rfl
    refine (congrArg D' e.symm).trans ((h40 (p 0) (p 1)).trans ?_)
    rw [Finset.sum_range_succ, ← add_assoc]
    exact congrArg (· + tA r q.val t.val (p 0).val (p 1).val) (I.da (ix2 (p 0) (p 1)))
  have pA : ∀ p : S2x1024x5120.Idx, DoneB q.val (t.val + 1) (p 1).val → put (r5 q t) A XA p = r.DX (p 0).val (p 1).val (p 2).val := fun p hp => by
    refine (putD (k0_off5 q t) (k0_off5_inb q t) (256 * (3 - q.val) + (255 - t.val)) (off5 q t) A XA p).trans ?_
    by_cases e : (p 1).val = 256 * (3 - q.val) + (255 - t.val)
    · exact (if_pos e).trans ((h37 (p 0) (p 2)).trans (congrArg (fun s => r.DX (p 0).val s (p 2).val) e.symm))
    · exact (if_neg e).trans (IA p (by unfold DoneB at hp ⊢; omega))
  have pB : ∀ p : S2x1024x5120.Idx, DoneB q.val (t.val + 1) (p 1).val → put (r5 q t) B XB p = r.DDT (p 0).val (p 1).val (p 2).val := fun p hp => by
    refine (putD (k0_off5 q t) (k0_off5_inb q t) (256 * (3 - q.val) + (255 - t.val)) (off5 q t) B XB p).trans ?_
    by_cases e : (p 1).val = 256 * (3 - q.val) + (255 - t.val)
    · exact (if_pos e).trans ((h38 (p 0) (p 2)).trans (congrArg (fun s => r.DDT (p 0).val s (p 2).val) e.symm))
    · exact (if_neg e).trans (IB p (by unfold DoneB at hp ⊢; omega))
  have pC : ∀ p : S2x1024x16.Idx, DoneB q.val (t.val + 1) (p 1).val → put (r6 q t) C XC p = r.DB (p 0).val (p 1).val (p 2).val := fun p hp => by
    refine (putN (k0_off6 q t) (k0_off6_inb q t) (256 * (3 - q.val) + (255 - t.val)) (off6 q t) C XC p).trans ?_
    by_cases e : (p 1).val = 256 * (3 - q.val) + (255 - t.val)
    · exact (if_pos e).trans ((h39 (p 0) (p 2)).trans (congrArg (fun s => r.DB (p 0).val s (p 2).val) e.symm))
    · exact (if_neg e).trans (IC p (by unfold DoneB at hp ⊢; omega))
  rw [R]
  subst eXA eXB eXC
  exact Bw.next r I _ _ _ pG pD pA pB pC

end Cert.ReferenceIdeal.Val

end
-- ==== Proof.RefChunk.lean ====
/- The reference's chunks, from the last to the first. -/
module

public import proofs.«01_k».proof.Proof.RefFwd
public import proofs.«01_k».proof.Proof.RefBwd

@[expose] public section

set_option maxRecDepth 65536

set_option backward.isDefEq.respectTransparency.types false

noncomputable section

namespace Cert.ReferenceIdeal.Val

open Idealize.ShloMosaic Idealize.SL.Sem Cert.Proof Cert.ReferenceIdeal Cert.ReferenceIdeal.Gen Cert.ReferenceIdeal.Body
open Cert.KernelIdeal.Val (Ar Pt)

variable (M : ∀ b : Bf, Memref sig .tc .vmem (shp b) (elt b)) (hM : ∀ b, (M b).IsWhole) (r : Ar)

/-! ## The chunks -/

structure Ck (c : ℕ) (x : FVec Ideal S2x16x5120 .f32 × FVec Ideal S16x5120 .f32) (σ : S) : Prop where
  sc : Sc r σ
  g : ∀ p : S2x16x5120.Idx, x.1 p = r.adj (p 0).val c (p 1).val (p 2).val
  da : ∀ p : S16x5120.Idx, x.2 p = ∑ c' ∈ Finset.range c, ∑ j ∈ Finset.range 256, tA r c' j (p 0).val (p 1).val
  dx : ∀ p : S2x1024x5120.Idx, 4 ≤ (p 1).val / 256 + c → σ .dxS p = r.DX (p 0).val (p 1).val (p 2).val
  ddt : ∀ p : S2x1024x5120.Idx, 4 ≤ (p 1).val / 256 + c → σ .ddtS p = r.DDT (p 0).val (p 1).val (p 2).val
  dz : ∀ p : S2x1024x5120.Idx, 4 ≤ (p 1).val / 256 + c → σ .dzS p = r.DZ (p 0).val (p 1).val (p 2).val
  db : ∀ p : S2x1024x16.Idx, 4 ≤ (p 1).val / 256 + c → σ .dbS p = r.DB (p 0).val (p 1).val (p 2).val
  dc : ∀ p : S2x1024x16.Idx, 4 ≤ (p 1).val / 256 + c → σ .dcS p = r.DC (p 0).val (p 1).val (p 2).val

theorem run_bind {α β : Type} (m : C (F := Ideal) M β) (f : β → C (F := Ideal) M α) (σ : S) :
    (Cmd.bind m f).run σ = (f (m.run σ).1).run (m.run σ).2 := rfl
theorem run_loop {α : Type} (l : Scf.Loop 32) (hl) (init : α) (body : Fin l.trips → α → C (F := Ideal) M α) (σ : S) :
    (Cmd.loop l hl init body).run σ = Cmd.iter (fun t a s => (body t a).run s) (List.finRange l.trips) (init, σ) := rfl

theorem pay34 (v : Vec Ideal S2x1x16x5120 .f32) (i : Fin 2) (n : Fin 16) (d : Fin 5120) : k0_pay34 v (ix3 i n d) = v (ix4 i 0 n d) := by
  pointwise [k0_pay34]; try rfl

attribute [local irreducible] fwd bwd in
/-- What a chunk does, over the values its loops leave. -/
theorem chunk_run {σ : S} (x : FVec Ideal S2x16x5120 .f32 × FVec Ideal S16x5120 .f32) (q : Fin k0_t1_loop.trips) (v : Vec Ideal S2x1x16x5120 .f32)
    (y : FVec Ideal S2x16x5120 .f32 × S) (w : (FVec Ideal S2x16x5120 .f32 × FVec Ideal S16x5120 .f32) × S)
    (ev : (fun j => σ .ck ((r1 q).toLoadRect.idx j)) = v)
    (e1 : Cmd.iter (fun t a s => (fwd M q t a).run s) (List.finRange k0_t2_loop.trips) (k0_pay34 v, σ) = y)
    (e2 : Cmd.iter (fun t a s => (bwd M q t a).run s) (List.finRange k0_t3_loop.trips) (x, y.2) = w) :
    (chunk M q x).run σ = ((w.1.1, w.1.2), w.2) := by
  subst ev e1 e2; rfl

theorem Ck.step {σ : S} {x : FVec Ideal S2x16x5120 .f32 × FVec Ideal S16x5120 .f32} (q : Fin k0_t1_loop.trips) (I : Ck r q.val x σ) :
    Ck r (q.val + 1) ((chunk M q x).run σ).1 ((chunk M q x).run σ).2 := by
  have hq : q.val < 4 := lt_of_lt_of_eq q.isLt (by decide)
  obtain ⟨v, ev⟩ : ∃ v : Vec Ideal S2x1x16x5120 .f32, (fun j => σ .ck ((r1 q).toLoadRect.idx j)) = v := ⟨_, rfl⟩
  have hv : ∀ (i : Fin 2) (n : Fin 16) (d : Fin 5120), v (ix4 i 0 n d) = r.h0 i.val (3 - q.val) n.val d.val := fun i n d => by
    have e' : (r1 q).toLoadRect.idx (ix4 i 0 n d) = (ix4 i ⟨3 - q.val, by omega⟩ n d : S2x4x16x5120.Idx) := by
      funext a; apply Fin.ext
      fin_cases a
      · show k0_off1 q 0 + 1 * i.val = _; rw [off1]; show 0 + 1 * i.val = i.val; omega
      · show k0_off1 q 1 + 1 * 0 = _; rw [off1]; show 3 - q.val + 1 * 0 = 3 - q.val; omega
      · show k0_off1 q 2 + 1 * n.val = _; rw [off1]; show 0 + 1 * n.val = n.val; omega
      · show k0_off1 q 3 + 1 * d.val = _; rw [off1]; show 0 + 1 * d.val = d.val; omega
    exact (congrFun ev _).symm.trans ((congrArg (σ .ck) e').trans (I.sc.ck _))
  have h0 : Fw r σ q.val 0 (k0_pay34 v) σ := by
    refine ⟨I.sc, rfl, rfl, rfl, fun p => ?_, fun p hp => absurd hp (Nat.not_lt_zero _),
      fun p hp => I.dc p (by unfold DoneF at hp; omega), fun p hp => I.dz p (by unfold DoneF at hp; omega)⟩
    exact (congrArg (k0_pay34 v) (ix3_eta p).symm).trans ((pay34 v (p 0) (p 1) (p 2)).trans ((hv (p 0) (p 1) (p 2)).trans (Q_h0 r _ _ _ _).symm))
  have h1 := iter_all (fun t a s => (fwd M q t a).run s) (fun t a s => Fw r σ q.val t a s) (fun t a s h => Fw.step M r q t h) _ _ h0
  obtain ⟨y, e1⟩ : ∃ y, Cmd.iter (fun t a s => (fwd M q t a).run s) (List.finRange k0_t2_loop.trips) (k0_pay34 v, σ) = y := ⟨_, rfl⟩
  rw [e1, show k0_t2_loop.trips = 256 by decide] at h1
  have b0 : Bw r y.2 q.val 0 x y.2 := by
    refine ⟨h1.sc, rfl, rfl, fun p => h1.ah p (p 0).isLt, fun p => (I.g p).trans ?_, fun p => ?_, fun p hp => ?_, fun p hp => ?_, fun p hp => ?_⟩
    · rfl
    · rw [I.da p, Finset.sum_range_zero, add_zero]
    · exact (congrFun h1.dx p).trans (I.dx p (by unfold DoneB at hp; omega))
    · exact (congrFun h1.ddt p).trans (I.ddt p (by unfold DoneB at hp; omega))
    · exact (congrFun h1.db p).trans (I.db p (by unfold DoneB at hp; omega))
  have b1 := iter_all (fun t a s => (bwd M q t a).run s) (fun t a s => Bw r y.2 q.val t a s) (fun t a s h => Bw.step M r q t h) _ _ b0
  obtain ⟨w, e2⟩ : ∃ w, Cmd.iter (fun t a s => (bwd M q t a).run s) (List.finRange k0_t3_loop.trips) (x, y.2) = w := ⟨_, rfl⟩
  rw [e2, show k0_t3_loop.trips = 256 by decide] at b1
  rw [chunk_run M x q v y w ev e1 e2]
  refine ⟨b1.sc, fun p => (b1.g p).trans ?_, fun p => ?_, fun p hp => b1.dx p ?_, fun p hp => b1.ddt p ?_,
    fun p hp => (congrFun b1.dz p).trans (h1.dz p ?_), fun p hp => b1.db p ?_,
    fun p hp => (congrFun b1.dc p).trans (h1.dc p ?_)⟩
  · rfl
  · rw [Finset.sum_range_succ]; exact b1.da p
  all_goals
    have hp1 : (p 1).val < 1024 := (p 1).isLt
    first | unfold DoneB | unfold DoneF
    omega

end Cert.ReferenceIdeal.Val

end
-- ==== Proof.RefPre.lean ====
/- What the reference computes before its loops. -/
module

public import proofs.«01_k».proof.Proof.RefRows

@[expose] public section

set_option maxRecDepth 65536

set_option backward.isDefEq.respectTransparency.types false

noncomputable section

namespace Cert.ReferenceIdeal.Val

open Idealize.ShloMosaic Idealize.SL.Sem Cert.Proof Cert.ReferenceIdeal Cert.ReferenceIdeal.Gen Cert.ReferenceIdeal.Body
open Cert.KernelIdeal.Val (Ar Pt kSp kSg kSz)

variable (M : ∀ b : Bf, Memref sig .tc .vmem (shp b) (elt b)) (hM : ∀ b, (M b).IsWhole) (r : Ar)

/-- A whole buffer loaded, -/
theorem ld_all {s : Shape} (off : Fin s.rank → ℕ) (inb) (ho : ∀ a, off a = 0) {β : Type} (X : s.Idx → β) (j : s.Idx) :
    X ((Rect.unit (s := s) off s.size inb).toLoadRect.idx j) = X j :=
  congrArg X (funext fun a => Fin.ext (by show off a + 1 * (j a).val = (j a).val; rw [ho a]; omega))
/-- and stored. -/
theorem put_all {s : Shape} {β : Type} (off : Fin s.rank → ℕ) (inb) (ho : ∀ a, off a = 0) (v X : s.Idx → β) (p : s.Idx) :
    put (Rect.unit (s := s) off s.size inb) v X p = v p :=
  put_at (Rect.unit (s := s) off s.size inb) v X p p fun a => by show (p a).val = off a + 1 * (p a).val; rw [ho a]; omega

theorem z3 : ∀ a : Fin 3, (![0, 0, 0] : Fin 3 → ℕ) a = 0 := by decide
theorem z2 : ∀ a : Fin 2, (![0, 0] : Fin 2 → ℕ) a = 0 := by decide
theorem z4 : ∀ a : Fin 4, (![0, 0, 0, 0] : Fin 4 → ℕ) a = 0 := by decide

/-- The arguments as the body finds them. -/
structure RIn (σ : S) : Prop where
  x : ∀ p : S2x1024x5120.Idx, σ .x p = r.x (p 0).val (p 1).val (p 2).val
  xs : ∀ p : S2x1024x40.Idx, σ .xs p = r.xs (p 0).val (p 1).val (p 2).val
  dt : ∀ p : S2x1024x5120.Idx, σ .dt p = r.dt (p 0).val (p 1).val (p 2).val
  dts : ∀ p : S2x1024.Idx, σ .dts p = r.dts (p 0).val (p 1).val
  b : ∀ p : S2x1024x16.Idx, σ .b p = r.b (p 0).val (p 1).val (p 2).val
  bs : ∀ p : S2x1024.Idx, σ .bs p = r.bs (p 0).val (p 1).val
  c : ∀ p : S2x1024x16.Idx, σ .c p = r.c (p 0).val (p 1).val (p 2).val
  cs : ∀ p : S2x1024.Idx, σ .cs p = r.cs (p 0).val (p 1).val
  z : ∀ p : S2x1024x5120.Idx, σ .z p = r.z (p 0).val (p 1).val (p 2).val
  dy : ∀ p : S2x1024x5120.Idx, σ .dy p = r.dy (p 0).val (p 1).val (p 2).val
  dys : ∀ p : S2x1024x40.Idx, σ .dys p = r.dys (p 0).val (p 1).val (p 2).val
  a : ∀ p : S16x5120.Idx, σ .a p = r.A (p 0).val (p 1).val
  d : ∀ p : S1x5120.Idx, σ .d p = r.D (p 1).val
  ck : ∀ p : S2x4x16x5120.Idx, σ .ck p = r.h0 (p 0).val (p 1).val (p 2).val (p 3).val

/-! ## The quantities at a position -/

theorem pos (s : ℕ) (hs : s < 1024) : 256 * (3 - (3 - s / 256)) + s % 256 = s := by omega

section
variable (b s d : ℕ) (hs : s < 1024)
include hs
theorem Q_del : (r.Q b (3 - s / 256)).del (s % 256) d = kSp (r.dt b s d * r.dts b s) := by
  show kSp (r.dt b (256 * (3 - (3 - s / 256)) + s % 256) (1024 * 0 + d) * r.dts b (256 * (3 - (3 - s / 256)) + s % 256)) = _
  rw [pos s hs, Nat.mul_zero, Nat.zero_add]
theorem Q_sdt : (r.Q b (3 - s / 256)).sdt (s % 256) d = kSg (r.dt b s d * r.dts b s) := by
  show kSg (r.dt b (256 * (3 - (3 - s / 256)) + s % 256) (1024 * 0 + d) * r.dts b (256 * (3 - (3 - s / 256)) + s % 256)) = _
  rw [pos s hs, Nat.mul_zero, Nat.zero_add]
theorem Q_u : (r.Q b (3 - s / 256)).u (s % 256) d = r.x b s d * r.xs b s (d / 128) := by
  show r.x b (256 * (3 - (3 - s / 256)) + s % 256) (1024 * 0 + d) * r.xs b (256 * (3 - (3 - s / 256)) + s % 256) (8 * 0 + d / 128) = _
  rw [pos s hs, Nat.mul_zero, Nat.zero_add, Nat.zero_add]
theorem Q_gy : (r.Q b (3 - s / 256)).gy (s % 256) d = r.dy b s d * r.dys b s (d / 128) * (r.z b s d * kSz (r.z b s d)) := by
  show r.dy b (256 * (3 - (3 - s / 256)) + s % 256) (1024 * 0 + d) * r.dys b (256 * (3 - (3 - s / 256)) + s % 256) (8 * 0 + d / 128)
    * (r.z b (256 * (3 - (3 - s / 256)) + s % 256) (1024 * 0 + d) * kSz (r.z b (256 * (3 - (3 - s / 256)) + s % 256) (1024 * 0 + d))) = _
  rw [pos s hs, Nat.mul_zero, Nat.zero_add, Nat.zero_add]
theorem Q_gz : (r.Q b (3 - s / 256)).gz (s % 256) d = r.dy b s d * r.dys b s (d / 128) * kSz (r.z b s d) * (1 + r.z b s d * (1 - kSz (r.z b s d))) := by
  show r.dy b (256 * (3 - (3 - s / 256)) + s % 256) (1024 * 0 + d) * r.dys b (256 * (3 - (3 - s / 256)) + s % 256) (8 * 0 + d / 128)
    * kSz (r.z b (256 * (3 - (3 - s / 256)) + s % 256) (1024 * 0 + d)) * (1 + r.z b (256 * (3 - (3 - s / 256)) + s % 256) (1024 * 0 + d)
    * (1 - kSz (r.z b (256 * (3 - (3 - s / 256)) + s % 256) (1024 * 0 + d)))) = _
  rw [pos s hs, Nat.mul_zero, Nat.zero_add, Nat.zero_add]
theorem Q_bm : (r.Q b (3 - s / 256)).bm (s % 256) d = r.b b s d * r.bs b s := by
  show r.b b (256 * (3 - (3 - s / 256)) + s % 256) d * r.bs b (256 * (3 - (3 - s / 256)) + s % 256) = _
  rw [pos s hs]
theorem Q_cm : (r.Q b (3 - s / 256)).cm (s % 256) d = r.c b s d * r.cs b s := by
  show r.c b (256 * (3 - (3 - s / 256)) + s % 256) d * r.cs b (256 * (3 - (3 - s / 256)) + s % 256) = _
  rw [pos s hs]
end

/-! ## The payloads -/

section
variable (x : Vec Ideal S2x1024x5120 .fp8e4m3) (xs dys : Vec Ideal S2x1024x40 .f32)
  (y : Vec Ideal S2x1024x5120 .fp8e5m2) (z : Vec Ideal S2x1024x5120 .bf16) (i : Fin 2) (s : Fin 1024) (d : Fin 5120)
theorem pay24 : k0_pay24 x xs (ix3 i s d) = x (ix3 i s d) * xs (ix3 i s (gr d)) := by
  pointwise [k0_pay18, k0_pay24]; try rfl
theorem pay23 : k0_pay23 y dys z (ix3 i s d) = y (ix3 i s d) * dys (ix3 i s (gr d)) * (z (ix3 i s d) * Ideal.div 1 (1 + Ideal.exp (-(z (ix3 i s d))))) := by
  pointwise [k0_pay20, k0_pay21, k0_pay22, k0_pay23]; try rfl
theorem pay29 (g : FVec Ideal S2x1024x5120 .f32) : k0_pay29 g (ix3 i s d) = g (ix3 i s d) := by
  pointwise [k0_pay29]; try rfl
theorem pay30 : k0_pay30 (k0_pay20 y dys) (k0_pay21 z) (k0_pay22 z) (ix3 i s d)
    = y (ix3 i s d) * dys (ix3 i s (gr d)) * Ideal.div 1 (1 + Ideal.exp (-(z (ix3 i s d)))) * (1 + z (ix3 i s d) * (1 - Ideal.div 1 (1 + Ideal.exp (-(z (ix3 i s d)))))) := by
  pointwise [k0_pay20, k0_pay21, k0_pay22, k0_pay30]; try rfl
end

/-- The sum over batch and time, by chunks. -/
theorem cD_sum (d : ℕ) : ∑ t : Fin 1024, ∑ i : Fin 2, (r.Q i.val (3 - t.val / 256)).gy (t.val % 256) d * (r.Q i.val (3 - t.val / 256)).u (t.val % 256) d = r.cD 8 d := by
  unfold Ar.cD
  rw [Finset.sum_comm, show (8 : ℕ) = 2 * 4 from rfl, Cert.KernelIdeal.Val.sum_blocks, ← Fin.sum_univ_eq_sum_range (fun i => ∑ j ∈ Finset.range 4, (r.Q ((4 * i + j) / 4) ((4 * i + j) % 4)).sD d) 2]
  refine Finset.sum_congr rfl fun i _ => ?_
  rw [Fin.sum_univ_eq_sum_range (fun t => (r.Q i.val (3 - t / 256)).gy (t % 256) d * (r.Q i.val (3 - t / 256)).u (t % 256) d) 1024,
    show (1024 : ℕ) = 4 * 256 from rfl, Cert.KernelIdeal.Val.sum_blocks, ← Finset.sum_range_reflect]
  refine Finset.sum_congr rfl fun j hj => ?_
  have hj : j < 4 := Finset.mem_range.1 hj
  unfold Pt.sD
  refine Finset.sum_congr rfl fun k hk => ?_
  have hk : k < 256 := Finset.mem_range.1 hk
  rw [show 3 - (256 * (4 - 1 - j) + k) / 256 = j by omega, show (256 * (4 - 1 - j) + k) % 256 = k by omega,
    show (4 * i.val + j) / 4 = i.val by omega, show (4 * i.val + j) % 4 = j by omega]

/-- What the body computes first. -/
structure PreOut (σ σ' : S) : Prop where
  u : σ' .uS = k0_pay24 (σ .x) (σ .xs)
  bm : σ' .bmS = k0_pay25 (σ .b) (σ .bs)
  cm : σ' .cmS = k0_pay26 (σ .c) (σ .cs)
  del : σ' .delS = k0_pay27 (k0_pay19 (σ .dt) (σ .dts))
  sdt : σ' .sdtS = k0_pay28 (k0_pay19 (σ .dt) (σ .dts))
  gy : σ' .gyS = k0_pay29 (k0_pay23 (σ .dy) (σ .dys) (σ .z))
  gz : σ' .gzS = k0_pay30 (k0_pay20 (σ .dy) (σ .dys)) (k0_pay21 (σ .z)) (k0_pay22 (σ .z))
  dd : σ' .dd = k0_pay31 (k0_pay18 (σ .x) (σ .xs)) (k0_pay23 (σ .dy) (σ .dys) (σ .z))
  a : σ' .a = σ .a
  d : σ' .d = σ .d
  ck : σ' .ck = σ .ck

/-- The state after, over the values loaded. -/
def preSt (σ : S) (v0 : Vec Ideal S2x1024x5120 .fp8e4m3) (v1 : Vec Ideal S2x1024x40 .f32) (v8 : Vec Ideal S2x1024x5120 .fp8e4m3) (v9 : Vec Ideal S2x1024 .f32)
    (v14 : Vec Ideal S2x1024x5120 .fp8e5m2) (v15 : Vec Ideal S2x1024x40 .f32) (v22 : Vec Ideal S2x1024x5120 .bf16)
    (v30 : Vec Ideal S2x1024x16 .fp8e4m3) (v31 : Vec Ideal S2x1024 .f32) (v39 : Vec Ideal S2x1024x16 .fp8e4m3) (v40 : Vec Ideal S2x1024 .f32) : S :=
  Function.update (Function.update (Function.update (Function.update (Function.update (Function.update (Function.update (Function.update σ
    .uS (put wS2x1024x5120 (k0_pay24 v0 v1) (σ .uS)))
    .bmS (put wS2x1024x16 (k0_pay25 v30 v31) (σ .bmS)))
    .cmS (put wS2x1024x16 (k0_pay26 v39 v40) (σ .cmS)))
    .delS (put wS2x1024x5120 (k0_pay27 (k0_pay19 v8 v9)) (σ .delS)))
    .sdtS (put wS2x1024x5120 (k0_pay28 (k0_pay19 v8 v9)) (σ .sdtS)))
    .gyS (put wS2x1024x5120 (k0_pay29 (k0_pay23 v14 v15 v22)) (σ .gyS)))
    .gzS (put wS2x1024x5120 (k0_pay30 (k0_pay20 v14 v15) (k0_pay21 v22) (k0_pay22 v22)) (σ .gzS)))
    .dd (put wS5x8x128 (k0_pay31 (k0_pay18 v0 v1) (k0_pay23 v14 v15 v22)) (σ .dd))

theorem pre_run (k : C (F := Ideal) M PUnit) (σ : S) (v0 v1 v8 v9 v14 v15 v22 v30 v31 v39 v40)
    (e0 : (fun j => σ .x (wS2x1024x5120.toLoadRect.idx j)) = v0) (e1 : (fun j => σ .xs (wS2x1024x40.toLoadRect.idx j)) = v1)
    (e8 : (fun j => σ .dt (wS2x1024x5120.toLoadRect.idx j)) = v8) (e9 : (fun j => σ .dts (wS2x1024.toLoadRect.idx j)) = v9)
    (e14 : (fun j => σ .dy (wS2x1024x5120.toLoadRect.idx j)) = v14) (e15 : (fun j => σ .dys (wS2x1024x40.toLoadRect.idx j)) = v15)
    (e22 : (fun j => σ .z (wS2x1024x5120.toLoadRect.idx j)) = v22) (e30 : (fun j => σ .b (wS2x1024x16.toLoadRect.idx j)) = v30)
    (e31 : (fun j => σ .bs (wS2x1024.toLoadRect.idx j)) = v31) (e39 : (fun j => σ .c (wS2x1024x16.toLoadRect.idx j)) = v39)
    (e40 : (fun j => σ .cs (wS2x1024.toLoadRect.idx j)) = v40) :
    (pre M k).run σ = k.run (preSt σ v0 v1 v8 v9 v14 v15 v22 v30 v31 v39 v40) := by
  subst e0 e1 e8 e9 e14 e15 e22 e30 e31 e39 e40; rfl

theorem pre_out (k : C (F := Ideal) M PUnit) (σ : S) : ∃ σ', (pre M k).run σ = k.run σ' ∧ PreOut σ σ' := by
  refine ⟨_, pre_run M k σ (σ .x) (σ .xs) (σ .dt) (σ .dts) (σ .dy) (σ .dys) (σ .z) (σ .b) (σ .bs) (σ .c) (σ .cs)
    (funext fun j => ld_all (s := S2x1024x5120) _ _ z3 (σ .x) j) (funext fun j => ld_all (s := S2x1024x40) _ _ z3 (σ .xs) j)
    (funext fun j => ld_all (s := S2x1024x5120) _ _ z3 (σ .dt) j) (funext fun j => ld_all (s := S2x1024) _ _ z2 (σ .dts) j)
    (funext fun j => ld_all (s := S2x1024x5120) _ _ z3 (σ .dy) j) (funext fun j => ld_all (s := S2x1024x40) _ _ z3 (σ .dys) j)
    (funext fun j => ld_all (s := S2x1024x5120) _ _ z3 (σ .z) j) (funext fun j => ld_all (s := S2x1024x16) _ _ z3 (σ .b) j)
    (funext fun j => ld_all (s := S2x1024) _ _ z2 (σ .bs) j) (funext fun j => ld_all (s := S2x1024x16) _ _ z3 (σ .c) j)
    (funext fun j => ld_all (s := S2x1024) _ _ z2 (σ .cs) j), ?_⟩
  unfold preSt
  constructor
  · rw [Function.update_of_ne (by decide), Function.update_of_ne (by decide), Function.update_of_ne (by decide), Function.update_of_ne (by decide), Function.update_of_ne (by decide), Function.update_of_ne (by decide), Function.update_of_ne (by decide), Function.update_self]
    exact funext fun p => put_all (s := S2x1024x5120) _ _ z3 _ _ p
  · rw [Function.update_of_ne (by decide), Function.update_of_ne (by decide), Function.update_of_ne (by decide), Function.update_of_ne (by decide), Function.update_of_ne (by decide), Function.update_of_ne (by decide), Function.update_self]
    exact funext fun p => put_all (s := S2x1024x16) _ _ z3 _ _ p
  · rw [Function.update_of_ne (by decide), Function.update_of_ne (by decide), Function.update_of_ne (by decide), Function.update_of_ne (by decide), Function.update_of_ne (by decide), Function.update_self]
    exact funext fun p => put_all (s := S2x1024x16) _ _ z3 _ _ p
  · rw [Function.update_of_ne (by decide), Function.update_of_ne (by decide), Function.update_of_ne (by decide), Function.update_of_ne (by decide), Function.update_self]
    exact funext fun p => put_all (s := S2x1024x5120) _ _ z3 _ _ p
  · rw [Function.update_of_ne (by decide), Function.update_of_ne (by decide), Function.update_of_ne (by decide), Function.update_self]
    exact funext fun p => put_all (s := S2x1024x5120) _ _ z3 _ _ p
  · rw [Function.update_of_ne (by decide), Function.update_of_ne (by decide), Function.update_self]
    exact funext fun p => put_all (s := S2x1024x5120) _ _ z3 _ _ p
  · rw [Function.update_of_ne (by decide), Function.update_self]
    exact funext fun p => put_all (s := S2x1024x5120) _ _ z3 _ _ p
  · rw [Function.update_self]
    exact funext fun p => put_all (s := S5x8x128) _ _ z3 _ _ p
  · rfl
  · rfl
  · rfl

theorem kSz_at (x : EReal) : Ideal.div 1 (1 + Ideal.exp (-x)) = kSz x := (kSz_eq x).symm

/-- After it, what the loops read is there. -/
theorem sc_of {σ σ' : S} (I : RIn r σ) (h : PreOut σ σ') : Sc r σ' where
  del p := by
    rw [Q_del r _ _ _ (p 1).isLt, kSp_eq]
    refine (congrFun h.del p).trans ((pay27 _ p).trans ?_)
    have e : k0_pay19 (σ .dt) (σ .dts) p = r.dt (p 0).val (p 1).val (p 2).val * r.dts (p 0).val (p 1).val :=
      (congrArg (k0_pay19 (σ .dt) (σ .dts)) (ix3_eta p).symm).trans ((pay19 (σ .dt) (σ .dts) (p 0) (p 1) (p 2)).trans (congrArg₂ (· * ·) (I.dt _) (I.dts _)))
    rw [e]
  sdt p := by
    rw [Q_sdt r _ _ _ (p 1).isLt, kSg_eq]
    refine (congrFun h.sdt p).trans ((pay28 _ p).trans ?_)
    have e : k0_pay19 (σ .dt) (σ .dts) p = r.dt (p 0).val (p 1).val (p 2).val * r.dts (p 0).val (p 1).val :=
      (congrArg (k0_pay19 (σ .dt) (σ .dts)) (ix3_eta p).symm).trans ((pay19 (σ .dt) (σ .dts) (p 0) (p 1) (p 2)).trans (congrArg₂ (· * ·) (I.dt _) (I.dts _)))
    rw [e]
  u p := by
    rw [Q_u r _ _ _ (p 1).isLt]
    exact (congrFun h.u p).trans ((congrArg (k0_pay24 (σ .x) (σ .xs)) (ix3_eta p).symm).trans ((pay24 (σ .x) (σ .xs) (p 0) (p 1) (p 2)).trans
      (congrArg₂ (· * ·) (I.x _) (I.xs _))))
  gy p := by
    rw [Q_gy r _ _ _ (p 1).isLt, ← kSz_at]
    refine (congrFun h.gy p).trans ((congrArg (k0_pay29 (k0_pay23 (σ .dy) (σ .dys) (σ .z))) (ix3_eta p).symm).trans ((pay29 (p 0) (p 1) (p 2) _).trans ((pay23 (σ .dys) (σ .dy) (σ .z) (p 0) (p 1) (p 2)).trans ?_)))
    have ez : σ .z (ix3 (p 0) (p 1) (p 2)) = r.z (p 0).val (p 1).val (p 2).val := I.z _
    exact congrArg₂ (· * ·) (congrArg₂ (· * ·) (I.dy _) (I.dys _)) (congrArg (fun w => w * Ideal.div 1 (1 + Ideal.exp (-w))) ez)
  gz p := by
    rw [Q_gz r _ _ _ (p 1).isLt, ← kSz_at]
    refine (congrFun h.gz p).trans ((congrArg (k0_pay30 (k0_pay20 (σ .dy) (σ .dys)) (k0_pay21 (σ .z)) (k0_pay22 (σ .z))) (ix3_eta p).symm).trans ((pay30 (σ .dys) (σ .dy) (σ .z) (p 0) (p 1) (p 2)).trans ?_))
    have ez : σ .z (ix3 (p 0) (p 1) (p 2)) = r.z (p 0).val (p 1).val (p 2).val := I.z _
    exact congrArg₂ (· * ·) (congrArg₂ (· * ·) (congrArg₂ (· * ·) (I.dy _) (I.dys _)) (congrArg (fun w => Ideal.div 1 (1 + Ideal.exp (-w))) ez))
      (congrArg (fun w => 1 + w * (1 - Ideal.div 1 (1 + Ideal.exp (-w)))) ez)
  bm p := by
    rw [Q_bm r _ _ _ (p 1).isLt]
    exact (congrFun h.bm p).trans ((congrArg (k0_pay25 (σ .b) (σ .bs)) (ix3_eta p).symm).trans ((pay25 (σ .bs) (σ .b) (p 0) (p 1) (p 2)).trans
      (congrArg₂ (· * ·) (I.b _) (I.bs _))))
  cm p := by
    rw [Q_cm r _ _ _ (p 1).isLt]
    exact (congrFun h.cm p).trans ((congrArg (k0_pay26 (σ .c) (σ .cs)) (ix3_eta p).symm).trans ((pay26 (σ .cs) (σ .c) (p 0) (p 1) (p 2)).trans
      (congrArg₂ (· * ·) (I.c _) (I.cs _))))
  a p := (congrFun h.a p).trans (I.a p)
  d p := (congrFun h.d p).trans (I.d p)
  ck p := (congrFun h.ck p).trans (I.ck p)
  dd p := by
    rw [← cD_sum]
    refine (congrFun h.dd p).trans ((congrArg (k0_pay31 (k0_pay18 (σ .x) (σ .xs)) (k0_pay23 (σ .dy) (σ .dys) (σ .z))) (ix3_eta p).symm).trans ((pay31 _ _ (p 0) (p 1) (p 2)).trans ?_))
    refine Finset.sum_congr rfl fun t _ => Finset.sum_congr rfl fun i _ => ?_
    rw [Q_gy r _ _ _ t.isLt, Q_u r _ _ _ t.isLt, ← kSz_at]
    refine congrArg₂ (· * ·) ((pay23 (σ .dys) (σ .dy) (σ .z) i t _).trans ?_) ((pay18 (σ .x) (σ .xs) i t _).trans (congrArg₂ (· * ·) (I.x _) (I.xs _)))
    exact congrArg₂ (· * ·) (congrArg₂ (· * ·) (I.dy _) (I.dys _)) (congrArg (fun w => w * Ideal.div 1 (1 + Ideal.exp (-w))) (I.z _))

end Cert.ReferenceIdeal.Val

end
-- ==== Proof.RefTail.lean ====
/- What the reference writes at its end. -/
module

public import proofs.«01_k».proof.Proof.RefPre

@[expose] public section

set_option maxRecDepth 65536

set_option backward.isDefEq.respectTransparency.types false

noncomputable section

namespace Cert.ReferenceIdeal.Val

open Idealize.ShloMosaic Idealize.SL.Sem Cert.Proof Cert.ReferenceIdeal Cert.ReferenceIdeal.Gen Cert.ReferenceIdeal.Body
open Cert.KernelIdeal.Val (Ar Pt)

variable (M : ∀ b : Bf, Memref sig .tc .vmem (shp b) (elt b)) (hM : ∀ b, (M b).IsWhole) (r : Ar)

/-! ## The results written -/

theorem pay32_at (p : S2x16x5120.Idx) : k0_pay32 (F := Ideal) p = 0 := by pointwise [k0_pay32]; try rfl
theorem pay33_at (p : S16x5120.Idx) : k0_pay33 (F := Ideal) p = 0 := by pointwise [k0_pay33]; try rfl
theorem pay42_at (v : Vec Ideal S2x1024x5120 .f32) (p : S2x1024x5120.Idx) : k0_pay42 v p = v p := by pointwise [k0_pay42]; try rfl
theorem pay43_at (v : Vec Ideal S2x1024x5120 .f32) (p : S2x1024x5120.Idx) : k0_pay43 v p = v p := by pointwise [k0_pay43]; try rfl
theorem pay1_at (v : Vec Ideal S2x1024x5120 .f32) (p : S2x1024x5120.Idx) : k0_pay1 v p = v p := by pointwise [k0_pay1]; try rfl

theorem pay2_at (v : Vec Ideal S2x1024x16 .f32) (f : ℕ → ℕ → ℕ → EReal) (h : ∀ p, v p = f (p 0).val (p 1).val (p 2).val) (p : S2x128x128.Idx) :
    k0_pay2 v p = f (p 0).val ((128 * (p 1).val + (p 2).val) / 16) ((128 * (p 1).val + (p 2).val) % 16) := by
  have h0 : (p 0).val < 2 := (p 0).isLt
  have h1 : (p 1).val < 128 := (p 1).isLt
  have h2 : (p 2).val < 128 := (p 2).isLt
  pointwise [k0_pay2]
  refine (h _).trans ?_
  have ff : ∀ i i' a a' b b', i = i' → a = a' → b = b' → f i a b = f i' a' b' := fun _ _ _ _ _ _ e1 e2 e3 => by rw [e1, e2, e3]
  refine ff _ _ _ _ _ _ ?_ ?_ ?_ <;> (try simp [ix3]) <;> (try omega)

theorem pay3_eq (v : Vec Ideal S2x1024x16 .f32) : k0_pay3 v = k0_pay2 v := rfl

theorem pay4_at (v : FVec Ideal S16x5120 .f32) (f : ℕ → ℕ → EReal) (h : ∀ p, v p = f (p 0).val (p 1).val) (p : S16x5x8x128.Idx) :
    k0_pay4 v p = f (p 0).val (1024 * (p 1).val + (128 * (p 2).val + (p 3).val)) := by
  have h0 : (p 0).val < 16 := (p 0).isLt
  have h1 : (p 1).val < 5 := (p 1).isLt
  have h2 : (p 2).val < 8 := (p 2).isLt
  have h3 : (p 3).val < 128 := (p 3).isLt
  pointwise [k0_pay4]
  refine (h _).trans ?_
  refine congrArg₂ f ?_ ?_ <;> (try simp [ix2]) <;> (try omega)

/-- What the body writes last. -/
structure TailOut (da : FVec Ideal S16x5120 .f32) (σ σ' : S) : Prop where
  dx : σ' .dx = k0_pay42 (σ .dxS)
  ddt : σ' .ddt = k0_pay43 (σ .ddtS)
  dz : σ' .dz = k0_pay1 (σ .dzS)
  db : σ' .db = k0_pay2 (σ .dbS)
  dc : σ' .dc = k0_pay3 (σ .dcS)
  da : σ' .da = k0_pay4 da
  dd : σ' .dd = σ .dd
  x : σ' .x = σ .x
  xs : σ' .xs = σ .xs
  dt : σ' .dt = σ .dt
  dts : σ' .dts = σ .dts
  b : σ' .b = σ .b
  bs : σ' .bs = σ .bs
  c : σ' .c = σ .c
  cs : σ' .cs = σ .cs
  z : σ' .z = σ .z
  dy : σ' .dy = σ .dy
  dys : σ' .dys = σ .dys
  a : σ' .a = σ .a
  d : σ' .d = σ .d
  ck : σ' .ck = σ .ck

def tail (da : FVec Ideal S16x5120 .f32) : C (F := Ideal) M PUnit := .bind (mid M hM da) fun r => post M hM r.1 r.2

def tailSt (σ : S) (da : FVec Ideal S16x5120 .f32) (v91 v94 v97 : Vec Ideal S2x1024x5120 .f32) (v100 v103 : Vec Ideal S2x1024x16 .f32) : S :=
  Function.update (Function.update (Function.update (Function.update (Function.update (Function.update σ
    .dx (put wS2x1024x5120 (k0_pay42 v91) (σ .dx)))
    .ddt (put wS2x1024x5120 (k0_pay43 v94) (σ .ddt)))
    .dz (put wS2x1024x5120 (k0_pay1 v97) (σ .dz)))
    .db (put wS2x128x128 (k0_pay2 v100) (σ .db)))
    .dc (put wS2x128x128 (k0_pay3 v103) (σ .dc)))
    .da (put wS16x5x8x128 (k0_pay4 da) (σ .da))

theorem tail_run (da : FVec Ideal S16x5120 .f32) (σ : S) (v91 v94 v97 v100 v103)
    (e1 : (fun j => σ .dxS (wS2x1024x5120.toLoadRect.idx j)) = v91) (e2 : (fun j => σ .ddtS (wS2x1024x5120.toLoadRect.idx j)) = v94)
    (e3 : (fun j => σ .dzS (wS2x1024x5120.toLoadRect.idx j)) = v97) (e4 : (fun j => σ .dbS (wS2x1024x16.toLoadRect.idx j)) = v100)
    (e5 : (fun j => σ .dcS (wS2x1024x16.toLoadRect.idx j)) = v103) :
    ((tail M hM da).run σ).2 = tailSt σ da v91 v94 v97 v100 v103 := by
  subst e1 e2 e3 e4 e5; rfl

theorem tail_out (da : FVec Ideal S16x5120 .f32) (σ : S) : TailOut da σ ((tail M hM da).run σ).2 := by
  have e := tail_run M hM da σ (σ .dxS) (σ .ddtS) (σ .dzS) (σ .dbS) (σ .dcS)
    (funext fun j => ld_all (s := S2x1024x5120) _ _ z3 (σ .dxS) j) (funext fun j => ld_all (s := S2x1024x5120) _ _ z3 (σ .ddtS) j)
    (funext fun j => ld_all (s := S2x1024x5120) _ _ z3 (σ .dzS) j) (funext fun j => ld_all (s := S2x1024x16) _ _ z3 (σ .dbS) j)
    (funext fun j => ld_all (s := S2x1024x16) _ _ z3 (σ .dcS) j)
  rw [e]
  unfold tailSt
  constructor
  · rw [Function.update_of_ne (by decide), Function.update_of_ne (by decide), Function.update_of_ne (by decide), Function.update_of_ne (by decide), Function.update_of_ne (by decide), Function.update_self]
    exact funext fun p => put_all (s := S2x1024x5120) _ _ z3 _ _ p
  · rw [Function.update_of_ne (by decide), Function.update_of_ne (by decide), Function.update_of_ne (by decide), Function.update_of_ne (by decide), Function.update_self]
    exact funext fun p => put_all (s := S2x1024x5120) _ _ z3 _ _ p
  · rw [Function.update_of_ne (by decide), Function.update_of_ne (by decide), Function.update_of_ne (by decide), Function.update_self]
    exact funext fun p => put_all (s := S2x1024x5120) _ _ z3 _ _ p
  · rw [Function.update_of_ne (by decide), Function.update_of_ne (by decide), Function.update_self]
    exact funext fun p => put_all (s := S2x128x128) _ _ z3 _ _ p
  · rw [Function.update_of_ne (by decide), Function.update_self]
    exact funext fun p => put_all (s := S2x128x128) _ _ z3 _ _ p
  · rw [Function.update_self]
    exact funext fun p => put_all (s := S16x5x8x128) _ _ z4 _ _ p
  all_goals rfl

end Cert.ReferenceIdeal.Val

end
-- ==== Proof.RefHost.lean ====
/- What the reference's windows hold, in terms of the arguments. -/
module

public import proofs.«01_k».proof.Proof.RefPre
public import Idealize.ShloMosaic.Lib.Claim
public import Idealize.ShloMosaic.Lib.Pipeline.ArrRel
public import Idealize.ShloMosaic.Lib.Pipeline.ValueKit

@[expose] public section

set_option maxRecDepth 65536

set_option backward.isDefEq.respectTransparency.types false

noncomputable section

namespace Cert.ReferenceIdeal.Val

open Idealize.ShloMosaic Idealize.ShloMosaic.TcCoe Idealize.SL Idealize.SL.Sem Cert.Proof Cert.ReferenceIdeal Cert.ReferenceIdeal.Gen Cert.ReferenceIdeal.Body
open Idealize.ShloMosaic.Pipeline (RDat)
open Cert.KernelIdeal.Val (Ar Pt rd rd_of)

variable (m : (ℓ : Loc nD τ sig) → Buf (Elt Ideal) ℓ) (c : Dev nD)

/-- The arguments. -/
def ar : Ar := Ar.of (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))
  (m ((c.tc : Thread nD τ).loc main_arg12)) (m ((c.tc : Thread nD τ).loc main_arg13))

/-- The results: by batch element, position and channel; -/
def GX (f : ℕ → ℕ → ℕ → EReal) : S2x1024x5120.Idx → EReal := fun p => f (p 0).val (p 1).val (p 2).val
/-- by batch element, position and state, 8 positions to a row; -/
def GB (f : ℕ → ℕ → ℕ → EReal) : S2x128x128.Idx → EReal := fun p => f (p 0).val ((128 * (p 1).val + (p 2).val) / 16) ((128 * (p 1).val + (p 2).val) % 16)
/-- by state and channel; -/
def GA (f : ℕ → ℕ → EReal) : S16x5x8x128.Idx → EReal := fun p => f (p 0).val (1024 * (p 1).val + (128 * (p 2).val + (p 3).val))
/-- by channel. -/
def GD (f : ℕ → EReal) : S5x8x128.Idx → EReal := fun p => f (1024 * (p 0).val + (128 * (p 1).val + (p 2).val))

/-- What a window holds after the body. -/
def after (r : Ar) : (w : Fin 21) → (Y X : (spec0 w).block.Idx → Elt Ideal (spec0 w).elt) → Prop
  | 14 => fun _ X => ∀ p : S2x1024x5120.Idx, X p = GX r.DX p
  | 15 => fun _ X => ∀ p : S2x1024x5120.Idx, X p = GX r.DDT p
  | 16 => fun _ X => ∀ p : S2x1024x5120.Idx, X p = GX r.DZ p
  | 17 => fun _ X => ∀ p : S2x128x128.Idx, X p = GB r.DB p
  | 18 => fun _ X => ∀ p : S2x128x128.Idx, X p = GB r.DC p
  | 19 => fun _ X => ∀ p : S16x5x8x128.Idx, X p = GA (r.cA 8) p
  | 20 => fun _ X => ∀ p : S5x8x128.Idx, X p = GD (r.cD 8) p
  | _ => fun _ _ => True

/-- The plan. -/
def pl : Plan (F := Ideal) where
  Inv _ _ _ := True
  after c w _ Y X := after (ar m c) w Y X

theorem fetch_in : ∀ w : Fin 21, w.val < 14 → ∀ t : Fin cfg0.N, (cfg0.win w).fetch t = true := by decide +kernel

/-! ## The windows of the arguments: whole arrays -/

variable {m c} in
theorem find_0 (t : Fin cfg0.N) (Y) (h : ((pl m).rdat m c).Finds 0 t Y) : Y = iblk m c 0 t := by
  obtain ⟨d, e⟩ := (RDat.finds_of_fetch (rd := (pl m).rdat m c) (w := 0) (t := t) (fetch_in _ (by decide) t) Y).1 h
  exact e.trans (by unfold RDat.fetched RDat.blockOf iblk; rfl)
variable {m c} in
theorem find_1 (t : Fin cfg0.N) (Y) (h : ((pl m).rdat m c).Finds 1 t Y) : Y = iblk m c 1 t := by
  obtain ⟨d, e⟩ := (RDat.finds_of_fetch (rd := (pl m).rdat m c) (w := 1) (t := t) (fetch_in _ (by decide) t) Y).1 h
  exact e.trans (by unfold RDat.fetched RDat.blockOf iblk; rfl)
variable {m c} in
theorem find_2 (t : Fin cfg0.N) (Y) (h : ((pl m).rdat m c).Finds 2 t Y) : Y = iblk m c 2 t := by
  obtain ⟨d, e⟩ := (RDat.finds_of_fetch (rd := (pl m).rdat m c) (w := 2) (t := t) (fetch_in _ (by decide) t) Y).1 h
  exact e.trans (by unfold RDat.fetched RDat.blockOf iblk; rfl)
variable {m c} in
theorem find_3 (t : Fin cfg0.N) (Y) (h : ((pl m).rdat m c).Finds 3 t Y) : Y = iblk m c 3 t := by
  obtain ⟨d, e⟩ := (RDat.finds_of_fetch (rd := (pl m).rdat m c) (w := 3) (t := t) (fetch_in _ (by decide) t) Y).1 h
  exact e.trans (by unfold RDat.fetched RDat.blockOf iblk; rfl)
variable {m c} in
theorem find_4 (t : Fin cfg0.N) (Y) (h : ((pl m).rdat m c).Finds 4 t Y) : Y = iblk m c 4 t := by
  obtain ⟨d, e⟩ := (RDat.finds_of_fetch (rd := (pl m).rdat m c) (w := 4) (t := t) (fetch_in _ (by decide) t) Y).1 h
  exact e.trans (by unfold RDat.fetched RDat.blockOf iblk; rfl)
variable {m c} in
theorem find_5 (t : Fin cfg0.N) (Y) (h : ((pl m).rdat m c).Finds 5 t Y) : Y = iblk m c 5 t := by
  obtain ⟨d, e⟩ := (RDat.finds_of_fetch (rd := (pl m).rdat m c) (w := 5) (t := t) (fetch_in _ (by decide) t) Y).1 h
  exact e.trans (by unfold RDat.fetched RDat.blockOf iblk; rfl)
variable {m c} in
theorem find_6 (t : Fin cfg0.N) (Y) (h : ((pl m).rdat m c).Finds 6 t Y) : Y = iblk m c 6 t := by
  obtain ⟨d, e⟩ := (RDat.finds_of_fetch (rd := (pl m).rdat m c) (w := 6) (t := t) (fetch_in _ (by decide) t) Y).1 h
  exact e.trans (by unfold RDat.fetched RDat.blockOf iblk; rfl)
variable {m c} in
theorem find_7 (t : Fin cfg0.N) (Y) (h : ((pl m).rdat m c).Finds 7 t Y) : Y = iblk m c 7 t := by
  obtain ⟨d, e⟩ := (RDat.finds_of_fetch (rd := (pl m).rdat m c) (w := 7) (t := t) (fetch_in _ (by decide) t) Y).1 h
  exact e.trans (by unfold RDat.fetched RDat.blockOf iblk; rfl)
variable {m c} in
theorem find_8 (t : Fin cfg0.N) (Y) (h : ((pl m).rdat m c).Finds 8 t Y) : Y = iblk m c 8 t := by
  obtain ⟨d, e⟩ := (RDat.finds_of_fetch (rd := (pl m).rdat m c) (w := 8) (t := t) (fetch_in _ (by decide) t) Y).1 h
  exact e.trans (by unfold RDat.fetched RDat.blockOf iblk; rfl)
variable {m c} in
theorem find_9 (t : Fin cfg0.N) (Y) (h : ((pl m).rdat m c).Finds 9 t Y) : Y = iblk m c 9 t := by
  obtain ⟨d, e⟩ := (RDat.finds_of_fetch (rd := (pl m).rdat m c) (w := 9) (t := t) (fetch_in _ (by decide) t) Y).1 h
  exact e.trans (by unfold RDat.fetched RDat.blockOf iblk; rfl)
variable {m c} in
theorem find_10 (t : Fin cfg0.N) (Y) (h : ((pl m).rdat m c).Finds 10 t Y) : Y = iblk m c 10 t := by
  obtain ⟨d, e⟩ := (RDat.finds_of_fetch (rd := (pl m).rdat m c) (w := 10) (t := t) (fetch_in _ (by decide) t) Y).1 h
  exact e.trans (by unfold RDat.fetched RDat.blockOf iblk; rfl)
variable {m c} in
theorem find_11 (t : Fin cfg0.N) (Y) (h : ((pl m).rdat m c).Finds 11 t Y) : Y = iblk m c 11 t := by
  obtain ⟨d, e⟩ := (RDat.finds_of_fetch (rd := (pl m).rdat m c) (w := 11) (t := t) (fetch_in _ (by decide) t) Y).1 h
  exact e.trans (by unfold RDat.fetched RDat.blockOf iblk; rfl)
variable {m c} in
theorem find_12 (t : Fin cfg0.N) (Y) (h : ((pl m).rdat m c).Finds 12 t Y) : Y = iblk m c 12 t := by
  obtain ⟨d, e⟩ := (RDat.finds_of_fetch (rd := (pl m).rdat m c) (w := 12) (t := t) (fetch_in _ (by decide) t) Y).1 h
  exact e.trans (by unfold RDat.fetched RDat.blockOf iblk; rfl)
variable {m c} in
theorem find_13 (t : Fin cfg0.N) (Y) (h : ((pl m).rdat m c).Finds 13 t Y) : Y = iblk m c 13 t := by
  obtain ⟨d, e⟩ := (RDat.finds_of_fetch (rd := (pl m).rdat m c) (w := 13) (t := t) (fetch_in _ (by decide) t) Y).1 h
  exact e.trans (by unfold RDat.fetched RDat.blockOf iblk; rfl)

theorem blk_x (t : Fin cfg0.N) (p : S2x1024x5120.Idx) : iblk m c 0 t p = (ar m c).x (p 0).val (p 1).val (p 2).val := by
  unfold iblk
  rw [View.read_apply]
  refine (rd_of _ _ _ fun a => ?_).symm
  fin_cases a <;> blk_simp [] <;> (try idx_bounds p) <;> (try simp) <;> (try omega) <;> (try rfl)
theorem blk_xs (t : Fin cfg0.N) (p : S2x1024x40.Idx) : iblk m c 1 t p = (ar m c).xs (p 0).val (p 1).val (p 2).val := by
  unfold iblk
  rw [View.read_apply]
  refine (rd_of _ _ _ fun a => ?_).symm
  fin_cases a <;> blk_simp [] <;> (try idx_bounds p) <;> (try simp) <;> (try omega) <;> (try rfl)
theorem blk_dt (t : Fin cfg0.N) (p : S2x1024x5120.Idx) : iblk m c 2 t p = (ar m c).dt (p 0).val (p 1).val (p 2).val := by
  unfold iblk
  rw [View.read_apply]
  refine (rd_of _ _ _ fun a => ?_).symm
  fin_cases a <;> blk_simp [] <;> (try idx_bounds p) <;> (try simp) <;> (try omega) <;> (try rfl)
theorem blk_dts (t : Fin cfg0.N) (p : S2x1024.Idx) : iblk m c 3 t p = (ar m c).dts (p 0).val (p 1).val := by
  unfold iblk
  rw [View.read_apply]
  refine (rd_of _ _ _ fun a => ?_).symm
  fin_cases a <;> blk_simp [] <;> (try idx_bounds p) <;> (try simp) <;> (try omega) <;> (try rfl)
theorem blk_b (t : Fin cfg0.N) (p : S2x1024x16.Idx) : iblk m c 4 t p = (ar m c).b (p 0).val (p 1).val (p 2).val := by
  unfold iblk
  rw [View.read_apply]
  refine (rd_of _ _ _ fun a => ?_).symm
  fin_cases a <;> blk_simp [] <;> (try idx_bounds p) <;> (try simp) <;> (try omega) <;> (try rfl)
theorem blk_bs (t : Fin cfg0.N) (p : S2x1024.Idx) : iblk m c 5 t p = (ar m c).bs (p 0).val (p 1).val := by
  unfold iblk
  rw [View.read_apply]
  refine (rd_of _ _ _ fun a => ?_).symm
  fin_cases a <;> blk_simp [] <;> (try idx_bounds p) <;> (try simp) <;> (try omega) <;> (try rfl)
theorem blk_c (t : Fin cfg0.N) (p : S2x1024x16.Idx) : iblk m c 6 t p = (ar m c).c (p 0).val (p 1).val (p 2).val := by
  unfold iblk
  rw [View.read_apply]
  refine (rd_of _ _ _ fun a => ?_).symm
  fin_cases a <;> blk_simp [] <;> (try idx_bounds p) <;> (try simp) <;> (try omega) <;> (try rfl)
theorem blk_cs (t : Fin cfg0.N) (p : S2x1024.Idx) : iblk m c 7 t p = (ar m c).cs (p 0).val (p 1).val := by
  unfold iblk
  rw [View.read_apply]
  refine (rd_of _ _ _ fun a => ?_).symm
  fin_cases a <;> blk_simp [] <;> (try idx_bounds p) <;> (try simp) <;> (try omega) <;> (try rfl)
theorem blk_z (t : Fin cfg0.N) (p : S2x1024x5120.Idx) : iblk m c 8 t p = (ar m c).z (p 0).val (p 1).val (p 2).val := by
  unfold iblk
  rw [View.read_apply]
  refine (rd_of _ _ _ fun a => ?_).symm
  fin_cases a <;> blk_simp [] <;> (try idx_bounds p) <;> (try simp) <;> (try omega) <;> (try rfl)
theorem blk_dy (t : Fin cfg0.N) (p : S2x1024x5120.Idx) : iblk m c 9 t p = (ar m c).dy (p 0).val (p 1).val (p 2).val := by
  unfold iblk
  rw [View.read_apply]
  refine (rd_of _ _ _ fun a => ?_).symm
  fin_cases a <;> blk_simp [] <;> (try idx_bounds p) <;> (try simp) <;> (try omega) <;> (try rfl)
theorem blk_dys (t : Fin cfg0.N) (p : S2x1024x40.Idx) : iblk m c 10 t p = (ar m c).dys (p 0).val (p 1).val (p 2).val := by
  unfold iblk
  rw [View.read_apply]
  refine (rd_of _ _ _ fun a => ?_).symm
  fin_cases a <;> blk_simp [] <;> (try idx_bounds p) <;> (try simp) <;> (try omega) <;> (try rfl)
theorem blk_a (t : Fin cfg0.N) (p : S16x5120.Idx) : iblk m c 11 t p = (ar m c).A (p 0).val (p 1).val := by
  unfold iblk
  rw [View.read_apply]
  show V m c main_v0 _ = _
  entry_read
  generalize he : (((cfg0.win 11).blk t).view.emb p : S16x5120.Idx) = e
  have h0 : (e 0).val = (p 0).val := by subst he; blk_simp [] <;> (try idx_bounds p) <;> (try simp) <;> (try omega) <;> (try rfl)
  have h1 : (e 1).val = (p 1).val := by subst he; blk_simp [] <;> (try idx_bounds p) <;> (try simp) <;> (try omega) <;> (try rfl)
  clear he
  pointwise
  refine (rd_of _ _ _ fun a => ?_).symm
  fin_cases a <;> (try idx_bounds p) <;> simp [ix2, ix3, ix4, h0, h1] <;> omega
theorem blk_d (t : Fin cfg0.N) (p : S1x5120.Idx) : iblk m c 12 t p = (ar m c).D (p 1).val := by
  unfold iblk
  rw [View.read_apply]
  show V m c main_v1 _ = _
  entry_read
  generalize he : (((cfg0.win 12).blk t).view.emb p : S1x5120.Idx) = e
  have h0 : (e 0).val = (p 0).val := by subst he; blk_simp [] <;> (try idx_bounds p) <;> (try simp) <;> (try omega) <;> (try rfl)
  have h1 : (e 1).val = (p 1).val := by subst he; blk_simp [] <;> (try idx_bounds p) <;> (try simp) <;> (try omega) <;> (try rfl)
  clear he
  pointwise
  refine (rd_of _ _ _ fun a => ?_).symm
  fin_cases a <;> (try idx_bounds p) <;> simp [ix2, ix3, ix4, h0, h1] <;> omega
theorem blk_ck (t : Fin cfg0.N) (p : S2x4x16x5120.Idx) : iblk m c 13 t p = (ar m c).h0 (p 0).val (p 1).val (p 2).val (p 3).val := by
  unfold iblk
  rw [View.read_apply]
  show V m c main_v2 _ = _
  entry_read
  generalize he : (((cfg0.win 13).blk t).view.emb p : S2x4x16x5120.Idx) = e
  have h0 : (e 0).val = (p 0).val := by subst he; blk_simp [] <;> (try idx_bounds p) <;> (try simp) <;> (try omega) <;> (try rfl)
  have h1 : (e 1).val = (p 1).val := by subst he; blk_simp [] <;> (try idx_bounds p) <;> (try simp) <;> (try omega) <;> (try rfl)
  have h2 : (e 2).val = (p 2).val := by subst he; blk_simp [] <;> (try idx_bounds p) <;> (try simp) <;> (try omega) <;> (try rfl)
  have h3 : (e 3).val = (p 3).val := by subst he; blk_simp [] <;> (try idx_bounds p) <;> (try simp) <;> (try omega) <;> (try rfl)
  clear he
  pointwise
  refine (rd_of _ _ _ fun a => ?_).symm
  fin_cases a <;> (try idx_bounds p) <;> simp [ix2, ix3, ix4, h0, h1, h2, h3] <;> omega

/-- The arguments as the body finds them. -/
theorem rin (t : Fin cfg0.N) (Y : WY Ideal) (h : ∀ w, ((pl m).rdat m c).Finds w t (Y w)) (σ : S) : RIn (ar m c) (mix Y σ) where
  x p := (congrFun (find_0 t (Y 0) (h 0)) p).trans (blk_x m c t p)
  xs p := (congrFun (find_1 t (Y 1) (h 1)) p).trans (blk_xs m c t p)
  dt p := (congrFun (find_2 t (Y 2) (h 2)) p).trans (blk_dt m c t p)
  dts p := (congrFun (find_3 t (Y 3) (h 3)) p).trans (blk_dts m c t p)
  b p := (congrFun (find_4 t (Y 4) (h 4)) p).trans (blk_b m c t p)
  bs p := (congrFun (find_5 t (Y 5) (h 5)) p).trans (blk_bs m c t p)
  c p := (congrFun (find_6 t (Y 6) (h 6)) p).trans (blk_c m c t p)
  cs p := (congrFun (find_7 t (Y 7) (h 7)) p).trans (blk_cs m c t p)
  z p := (congrFun (find_8 t (Y 8) (h 8)) p).trans (blk_z m c t p)
  dy p := (congrFun (find_9 t (Y 9) (h 9)) p).trans (blk_dy m c t p)
  dys p := (congrFun (find_10 t (Y 10) (h 10)) p).trans (blk_dys m c t p)
  a p := (congrFun (find_11 t (Y 11) (h 11)) p).trans (blk_a m c t p)
  d p := (congrFun (find_12 t (Y 12) (h 12)) p).trans (blk_d m c t p)
  ck p := (congrFun (find_13 t (Y 13) (h 13)) p).trans (blk_ck m c t p)

end Cert.ReferenceIdeal.Val

end
-- ==== Proof.RefValue.lean ====
/- What the reference computes: its results by number. -/
module

public import proofs.«01_k».proof.Proof.RefChunk
public import proofs.«01_k».proof.Proof.RefTail
public import proofs.«01_k».proof.Proof.RefHost

@[expose] public section

set_option maxRecDepth 65536

set_option backward.isDefEq.respectTransparency.types false

noncomputable section

namespace Cert.ReferenceIdeal.Val

open Idealize.ShloMosaic Idealize.ShloMosaic.TcCoe Idealize.SL Idealize.SL.Sem Cert.Proof Cert.ReferenceIdeal Cert.ReferenceIdeal.Gen Cert.ReferenceIdeal.Body
open Idealize.ShloMosaic.Pipeline (RDat)
open Cert.KernelIdeal.Val (Ar Pt rd rd_of)

section
variable (M : ∀ b : Bf, Memref sig .tc .vmem (shp b) (elt b)) (hM : ∀ b, (M b).IsWhole) (r : Ar)

/-- The sum for `dA` over the chunks and the batch. -/
theorem cA_sum (n d : ℕ) : ∑ c' ∈ Finset.range 4, ∑ j ∈ Finset.range 256, tA r c' j n d = r.cA 8 n d := by
  unfold Ar.cA
  rw [show (8 : ℕ) = 2 * 4 from rfl, Cert.KernelIdeal.Val.sum_blocks]
  refine Eq.trans ?_ Finset.sum_comm
  refine Finset.sum_congr rfl fun c' hc => ?_
  have hc : c' < 4 := Finset.mem_range.1 hc
  unfold tA
  rw [Finset.sum_comm, ← Fin.sum_univ_eq_sum_range (fun i => (r.Q ((4 * i + c') / 4) ((4 * i + c') % 4)).sA n d) 2]
  refine Finset.sum_congr rfl fun i _ => ?_
  rw [show (4 * i.val + c') / 4 = i.val by omega, show (4 * i.val + c') % 4 = c' by omega]
  rfl

/-- The results. -/
structure Out (σ σ' : S) : Prop where
  dx : ∀ p : S2x1024x5120.Idx, σ' .dx p = GX r.DX p
  ddt : ∀ p : S2x1024x5120.Idx, σ' .ddt p = GX r.DDT p
  dz : ∀ p : S2x1024x5120.Idx, σ' .dz p = GX r.DZ p
  db : ∀ p : S2x128x128.Idx, σ' .db p = GB r.DB p
  dc : ∀ p : S2x128x128.Idx, σ' .dc p = GB r.DC p
  da : ∀ p : S16x5x8x128.Idx, σ' .da p = GA (r.cA 8) p
  dd : ∀ p : S5x8x128.Idx, σ' .dd p = GD (r.cD 8) p

def rest : C (F := Ideal) M PUnit :=
  .bind (.bind (.loop k0_t1_loop k0_t1_ok (k0_pay32 (F := Ideal), k0_pay33 (F := Ideal)) (chunk M)) fun p => mid M hM p.2) fun r => post M hM r.1 r.2

attribute [local irreducible] chunk mid Cert.ReferenceIdeal.Body.post in
theorem rest_run (σ : S) : ((rest M hM).run σ).2
    = ((tail M hM (Cmd.iter (fun t a s => (chunk M t a).run s) (List.finRange k0_t1_loop.trips) ((k0_pay32 (F := Ideal), k0_pay33 (F := Ideal)), σ)).1.2).run
        (Cmd.iter (fun t a s => (chunk M t a).run s) (List.finRange k0_t1_loop.trips) ((k0_pay32 (F := Ideal), k0_pay33 (F := Ideal)), σ)).2).2 := rfl

theorem rest_out {σ : S} (h : Sc r σ) : ∃ da σ1, Ck r 4 da σ1 ∧ TailOut da.2 σ1 ((rest M hM).run σ).2 := by
  have c0 : Ck r 0 (k0_pay32 (F := Ideal), k0_pay33 (F := Ideal)) σ := by
    refine ⟨h, fun p => pay32_at p, fun p => ?_, fun p hp => ?_, fun p hp => ?_, fun p hp => ?_, fun p hp => ?_, fun p hp => ?_⟩
    · rw [Finset.sum_range_zero]; exact pay33_at p
    all_goals
      have h1 : (p 1).val < 1024 := (p 1).isLt
      omega
  have c1 := iter_all (fun t a s => (chunk M t a).run s) (fun t a s => Ck r t a s) (fun t a s h => Ck.step M r t h) _ _ c0
  rw [rest_run]
  generalize Cmd.iter (fun t a s => (chunk M t a).run s) (List.finRange k0_t1_loop.trips) ((k0_pay32 (F := Ideal), k0_pay33 (F := Ideal)), σ) = y at c1
  rw [show k0_t1_loop.trips = 4 by decide] at c1
  exact ⟨y.1, y.2, c1, tail_out M hM y.1.2 y.2⟩
end

/-! ## The plan's step -/

variable (m : (ℓ : Loc nD τ sig) → Buf (Elt Ideal) ℓ) (c : Dev nD)

section
variable (M : ∀ b : Bf, Memref sig .tc .vmem (shp b) (elt b)) (hM : ∀ b, (M b).IsWhole) (r : Ar)

/-- The results of the whole body. -/
theorem body_out {σ : S} (I : RIn r σ) : Out r σ ((body (F := Ideal) M hM).run σ).2 := by
  obtain ⟨σ1, e1, hp⟩ := pre_out M (rest M hM) σ
  have sc := sc_of r I hp
  obtain ⟨x, σ2, ck, tl⟩ := rest_out M hM r sc
  have e : (body (F := Ideal) M hM).run σ = (rest M hM).run σ1 := e1
  rw [e]
  generalize ((rest M hM).run σ1).2 = σ3 at tl
  refine ⟨fun p => ?_, fun p => ?_, fun p => ?_, fun p => ?_, fun p => ?_, fun p => ?_, fun p => ?_⟩
  · exact (congrFun tl.dx p).trans ((pay42_at (σ2 .dxS) p).trans (ck.dx p (Nat.le_add_left _ _)))
  · exact (congrFun tl.ddt p).trans ((pay43_at (σ2 .ddtS) p).trans (ck.ddt p (Nat.le_add_left _ _)))
  · exact (congrFun tl.dz p).trans ((pay1_at (σ2 .dzS) p).trans (ck.dz p (Nat.le_add_left _ _)))
  · exact (congrFun tl.db p).trans (pay2_at (σ2 .dbS) r.DB (fun p => ck.db p (Nat.le_add_left _ _)) p)
  · exact (congrFun tl.dc p).trans (pay2_at (σ2 .dcS) r.DC (fun p => ck.dc p (Nat.le_add_left _ _)) p)
  · exact (congrFun tl.da p).trans (pay4_at x.2 (r.cA 8) (fun p => (ck.da p).trans (cA_sum r _ _)) p)
  · exact (congrFun tl.dd p).trans (ck.sc.dd p)
end

/-- Every step of the plan is right. -/
theorem pl_ok : (pl m).Ok m where
  start _ _ := trivial
  step c t Y h σ _ := by
    have o := body_out (Mt t) (hMt t) (ar m c) (rin m c t Y h σ)
    refine ⟨trivial, fun w => ?_⟩
    show after (ar m c) w (Y w) (wins (stepAt t (mix Y σ)) w)
    unfold stepAt
    generalize ((body (F := Ideal) (Mt t) (hMt t)).run (mix Y σ)).2 = σ' at o
    match w with
    | 0 => exact trivial
    | 1 => exact trivial
    | 2 => exact trivial
    | 3 => exact trivial
    | 4 => exact trivial
    | 5 => exact trivial
    | 6 => exact trivial
    | 7 => exact trivial
    | 8 => exact trivial
    | 9 => exact trivial
    | 10 => exact trivial
    | 11 => exact trivial
    | 12 => exact trivial
    | 13 => exact trivial
    | 14 => exact o.dx
    | 15 => exact o.ddt
    | 16 => exact o.dz
    | 17 => exact o.db
    | 18 => exact o.dc
    | 19 => exact o.da
    | 20 => exact o.dd
    | ⟨_ + 21, h⟩ => exact absurd h (Nat.not_lt.2 (Nat.le_add_left _ _))

end Cert.ReferenceIdeal.Val

end
-- ==== Proof.RefArr.lean ====
/- What the reference's results hold after the run. -/
module

public import proofs.«01_k».proof.Proof.RefHost

@[expose] public section

set_option maxRecDepth 65536

set_option backward.isDefEq.respectTransparency.types false

noncomputable section

namespace Cert.ReferenceIdeal.Val

open Idealize.ShloMosaic Idealize.ShloMosaic.TcCoe Idealize.SL Idealize.SL.Sem Cert.Proof Cert.ReferenceIdeal Cert.ReferenceIdeal.Gen Cert.ReferenceIdeal.Body
open Idealize.ShloMosaic.Pipeline (RDat)
open Cert.KernelIdeal.Val (Ar Pt rd rd_of)

variable (m : (ℓ : Loc nD τ sig) → Buf (Elt Ideal) ℓ) (c : Dev nD)
variable (af : (w : Fin cfg0.W) → Fin cfg0.N → (cfg0.win w).block.Idx → Elt Ideal (cfg0.win w).elt)
  (hL : ∀ (w : Fin cfg0.W) (u : Fin cfg0.N), (cfg0.win w).flush u = true → ((pl m).rdat m c).Leaves w u (af w u))
include hL

theorem arr_dx : (((pl m).rdat m c).withAfter af).arrAt 14 cfg0.N = GX ((ar m c).DX) := by
  refine Pipeline.Dat.arrAt_eq_of_covers _ 14 _ (by decide +kernel) fun t hf (y : S2x1024x5120.Idx) => ?_
  obtain ⟨Y, _, ha⟩ := hL 14 t hf
  have ha : ∀ p : S2x1024x5120.Idx, af 14 t p = GX ((ar m c).DX) p := ha
  have e : (((cfg0.win 14).blk t).view.emb y : S2x1024x5120.Idx) = y := by
    funext a
    apply Fin.ext
    fin_cases a <;> blk_simp [] <;> (try idx_bounds y) <;> (try simp) <;> (try omega) <;> (try rfl)
  exact (ha y).trans (congrArg (GX ((ar m c).DX)) e.symm)

theorem arr_ddt : (((pl m).rdat m c).withAfter af).arrAt 15 cfg0.N = GX ((ar m c).DDT) := by
  refine Pipeline.Dat.arrAt_eq_of_covers _ 15 _ (by decide +kernel) fun t hf (y : S2x1024x5120.Idx) => ?_
  obtain ⟨Y, _, ha⟩ := hL 15 t hf
  have ha : ∀ p : S2x1024x5120.Idx, af 15 t p = GX ((ar m c).DDT) p := ha
  have e : (((cfg0.win 15).blk t).view.emb y : S2x1024x5120.Idx) = y := by
    funext a
    apply Fin.ext
    fin_cases a <;> blk_simp [] <;> (try idx_bounds y) <;> (try simp) <;> (try omega) <;> (try rfl)
  exact (ha y).trans (congrArg (GX ((ar m c).DDT)) e.symm)

theorem arr_dz : (((pl m).rdat m c).withAfter af).arrAt 16 cfg0.N = GX ((ar m c).DZ) := by
  refine Pipeline.Dat.arrAt_eq_of_covers _ 16 _ (by decide +kernel) fun t hf (y : S2x1024x5120.Idx) => ?_
  obtain ⟨Y, _, ha⟩ := hL 16 t hf
  have ha : ∀ p : S2x1024x5120.Idx, af 16 t p = GX ((ar m c).DZ) p := ha
  have e : (((cfg0.win 16).blk t).view.emb y : S2x1024x5120.Idx) = y := by
    funext a
    apply Fin.ext
    fin_cases a <;> blk_simp [] <;> (try idx_bounds y) <;> (try simp) <;> (try omega) <;> (try rfl)
  exact (ha y).trans (congrArg (GX ((ar m c).DZ)) e.symm)

theorem arr_db : (((pl m).rdat m c).withAfter af).arrAt 17 cfg0.N = GB ((ar m c).DB) := by
  refine Pipeline.Dat.arrAt_eq_of_covers _ 17 _ (by decide +kernel) fun t hf (y : S2x128x128.Idx) => ?_
  obtain ⟨Y, _, ha⟩ := hL 17 t hf
  have ha : ∀ p : S2x128x128.Idx, af 17 t p = GB ((ar m c).DB) p := ha
  have e : (((cfg0.win 17).blk t).view.emb y : S2x128x128.Idx) = y := by
    funext a
    apply Fin.ext
    fin_cases a <;> blk_simp [] <;> (try idx_bounds y) <;> (try simp) <;> (try omega) <;> (try rfl)
  exact (ha y).trans (congrArg (GB ((ar m c).DB)) e.symm)

theorem arr_dc : (((pl m).rdat m c).withAfter af).arrAt 18 cfg0.N = GB ((ar m c).DC) := by
  refine Pipeline.Dat.arrAt_eq_of_covers _ 18 _ (by decide +kernel) fun t hf (y : S2x128x128.Idx) => ?_
  obtain ⟨Y, _, ha⟩ := hL 18 t hf
  have ha : ∀ p : S2x128x128.Idx, af 18 t p = GB ((ar m c).DC) p := ha
  have e : (((cfg0.win 18).blk t).view.emb y : S2x128x128.Idx) = y := by
    funext a
    apply Fin.ext
    fin_cases a <;> blk_simp [] <;> (try idx_bounds y) <;> (try simp) <;> (try omega) <;> (try rfl)
  exact (ha y).trans (congrArg (GB ((ar m c).DC)) e.symm)

theorem arr_da : (((pl m).rdat m c).withAfter af).arrAt 19 cfg0.N = GA ((ar m c).cA 8) := by
  refine Pipeline.Dat.arrAt_eq_of_covers _ 19 _ (by decide +kernel) fun t hf (y : S16x5x8x128.Idx) => ?_
  obtain ⟨Y, _, ha⟩ := hL 19 t hf
  have ha : ∀ p : S16x5x8x128.Idx, af 19 t p = GA ((ar m c).cA 8) p := ha
  have e : (((cfg0.win 19).blk t).view.emb y : S16x5x8x128.Idx) = y := by
    funext a
    apply Fin.ext
    fin_cases a <;> blk_simp [] <;> (try idx_bounds y) <;> (try simp) <;> (try omega) <;> (try rfl)
  exact (ha y).trans (congrArg (GA ((ar m c).cA 8)) e.symm)

theorem arr_dd : (((pl m).rdat m c).withAfter af).arrAt 20 cfg0.N = GD ((ar m c).cD 8) := by
  refine Pipeline.Dat.arrAt_eq_of_covers _ 20 _ (by decide +kernel) fun t hf (y : S5x8x128.Idx) => ?_
  obtain ⟨Y, _, ha⟩ := hL 20 t hf
  have ha : ∀ p : S5x8x128.Idx, af 20 t p = GD ((ar m c).cD 8) p := ha
  have e : (((cfg0.win 20).blk t).view.emb y : S5x8x128.Idx) = y := by
    funext a
    apply Fin.ext
    fin_cases a <;> blk_simp [] <;> (try idx_bounds y) <;> (try simp) <;> (try omega) <;> (try rfl)
  exact (ha y).trans (congrArg (GD ((ar m c).cD 8)) e.symm)

end Cert.ReferenceIdeal.Val

end
-- ==== Proof.Algebraic.lean ====
/- The kernel and the reference compute the same: each result of either, over the extended reals, is the same formula of the
   arguments. -/
module

public import proofs.«01_k».proof.Defs
public import proofs.«01_k».proof.Proof.KernelArr
public import proofs.«01_k».proof.Proof.FrameIdeal
public import proofs.«01_k».proof.Proof.RefValue
public import proofs.«01_k».proof.Proof.RefArr
public import proofs.«01_k».proof.Proof.RefFrame

@[expose] public section

set_option maxRecDepth 65536
set_option maxHeartbeats 4000000

noncomputable section

namespace Cert.Proof

open Idealize.ShloMosaic Idealize.SL.Sem Idealize.ShloMosaic.TcCoe
open Idealize.ShloMosaic.Pipeline (RDat)

theorem algebraic : @Cert.algebraic_KernelIdeal_ReferenceIdeal Cert.KernelIdeal.Gen.facts Cert.ReferenceIdeal.Gen.facts := by
  intro m g m' g' _ hargs
  have har : ∀ c : Dev Cert.KernelIdeal.nD, Cert.ReferenceIdeal.Val.ar m' c = Cert.KernelIdeal.Val.ar m c := fun c => by
    obtain ⟨a0, a1, a2, a3, a4, a5, a6, a7, a8, a9, a10, a11, a12, a13⟩ := hargs c
    unfold Cert.ReferenceIdeal.Val.ar Cert.KernelIdeal.Val.ar
    rw [a0, a1, a2, a3, a4, a5, a6, a7, a8, a9, a10, a11, a12, a13]
  refine ⟨fun c => Cert.KernelIdeal.Val.GX (Cert.KernelIdeal.Val.ar m c).DX, fun c => Cert.KernelIdeal.Val.GX (Cert.KernelIdeal.Val.ar m c).DDT,
    fun c => Cert.KernelIdeal.Val.GX (Cert.KernelIdeal.Val.ar m c).DZ, fun c => Cert.KernelIdeal.Val.GB (Cert.KernelIdeal.Val.ar m c).DB,
    fun c => Cert.KernelIdeal.Val.GB (Cert.KernelIdeal.Val.ar m c).DC, fun c => Cert.KernelIdeal.Val.GA ((Cert.KernelIdeal.Val.ar m c).cA 8),
    fun c => Cert.KernelIdeal.Val.GD ((Cert.KernelIdeal.Val.ar m c).cD 8), ?_, ?_⟩
  · refine (θ_run _ _ _).mono (fun r h c => ?_) (Cert.KernelIdeal.Body.run_main g (Cert.KernelIdeal.Val.pl_ok m))
    obtain ⟨af, hL, hA⟩ := h.1.exists_exact c
    exact ⟨(hA 12).trans (Cert.KernelIdeal.Val.arr_dx m c af hL), (hA 13).trans (Cert.KernelIdeal.Val.arr_ddt m c af hL),
      (hA 14).trans (Cert.KernelIdeal.Val.arr_dz m c af hL), (hA 15).trans (Cert.KernelIdeal.Val.arr_db m c af hL),
      (hA 16).trans (Cert.KernelIdeal.Val.arr_dc m c af hL), (hA 17).trans (Cert.KernelIdeal.Val.arr_da m c af hL),
      (hA 18).trans (Cert.KernelIdeal.Val.arr_dd m c af hL), Cert.KernelIdeal.Body.kept h.1 c⟩
  · refine (θ_run _ _ _).mono (fun r h c => ?_) (Cert.ReferenceIdeal.Body.run_main g' (Cert.ReferenceIdeal.Val.pl_ok m'))
    obtain ⟨af, hL, hA⟩ := h.1.exists_exact c
    have e := har c
    exact ⟨(hA 14).trans ((Cert.ReferenceIdeal.Val.arr_dx m' c af hL).trans (by rw [e]; rfl)), (hA 15).trans ((Cert.ReferenceIdeal.Val.arr_ddt m' c af hL).trans (by rw [e]; rfl)),
      (hA 16).trans ((Cert.ReferenceIdeal.Val.arr_dz m' c af hL).trans (by rw [e]; rfl)), (hA 17).trans ((Cert.ReferenceIdeal.Val.arr_db m' c af hL).trans (by rw [e]; rfl)),
      (hA 18).trans ((Cert.ReferenceIdeal.Val.arr_dc m' c af hL).trans (by rw [e]; rfl)), (hA 19).trans ((Cert.ReferenceIdeal.Val.arr_da m' c af hL).trans (by rw [e]; rfl)),
      (hA 20).trans ((Cert.ReferenceIdeal.Val.arr_dd m' c af hL).trans (by rw [e]; rfl)), Cert.ReferenceIdeal.Body.kept h.1 c⟩

end Cert.Proof

end
-- ==== Proof.lean ====
module

public import proofs.«01_k».proof.Defs
public import proofs.«01_k».proof.Proof.FrameBits
public import proofs.«01_k».proof.Proof.FrameIdeal
public import proofs.«01_k».proof.Proof.RefFrame
public import proofs.«01_k».proof.Proof.Algebraic

@[expose] public section

noncomputable section

namespace Cert.Proof

open Idealize.ShloMosaic Idealize.SL.Sem

theorem frame_p : @Cert.quiescent_Kernel Cert.Kernel.Gen.facts := fun m g _ => Cert.Kernel.Body.frame m g

theorem frame_pi : @Cert.quiescent_KernelIdeal Cert.KernelIdeal.Gen.facts := fun m g _ => Cert.KernelIdeal.Body.frame m g

theorem frame_ri : @Cert.quiescent_ReferenceIdeal Cert.ReferenceIdeal.Gen.facts := fun m g _ => Cert.ReferenceIdeal.Body.frame m g

/-- The ledger's one entry: the table gives `"log2e"` the value `(log 2)⁻¹`. -/
theorem preserves : Cert.preserves_Kernel_KernelIdeal :=
  IdealRules.named_const.statement Cert.KernelIdeal.κ "log2e" .f32 0x3FB8AA3B#32 (((Real.log 2)⁻¹ : ℝ) : EReal) rfl

theorem claim : Cert.Claim :=
  ⟨Cert.Kernel.Gen.facts, Cert.KernelIdeal.Gen.facts, Cert.ReferenceIdeal.Gen.facts, frame_p, frame_pi, frame_ri, preserves, algebraic⟩

end Cert.Proof

end
